-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Kernel17Ideal_finite17 [hPre_finite17 : Cert.Pre_finite17.Facts] (m : (ℓ : Loc Cert.Kernel17Ideal.nD Cert.Kernel17Ideal.τ Cert.Kernel17Ideal.sig) → Buf (Elt Ideal) ℓ) : Prop :=
  ∀ c : Dev Cert.Kernel17Ideal.nD,
    (Cert.Pre_finite17.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2))) = (fun _ => 1#1)

def Pre_Reference17Ideal (m : (ℓ : Loc Cert.Reference17Ideal.nD Cert.Reference17Ideal.τ Cert.Reference17Ideal.sig) → Buf (Elt Ideal) ℓ) : Prop :=
  True

def Pre_Reference17Ideal_finite17 [hPre_finite17 : Cert.Pre_finite17.Facts] (m : (ℓ : Loc Cert.Reference17Ideal.nD Cert.Reference17Ideal.τ Cert.Reference17Ideal.sig) → Buf (Elt Ideal) ℓ) : Prop :=
  ∀ c : Dev Cert.Reference17Ideal.nD,
    (Cert.Pre_finite17.fn (F := Ideal) (m ((c.tc : Thread Cert.Reference17Ideal.nD Cert.Reference17Ideal.τ).loc Cert.Reference17Ideal.main_arg0)) (m ((c.tc : Thread Cert.Reference17Ideal.nD Cert.Reference17Ideal.τ).loc Cert.Reference17Ideal.main_arg1)) (m ((c.tc : Thread Cert.Reference17Ideal.nD Cert.Reference17Ideal.τ).loc Cert.Reference17Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Kernel17Ideal_pre_finite17 [hKernel17Ideal : Cert.Kernel17Ideal.Facts] [hPre_finite17 : Cert.Pre_finite17.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal_finite17 m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Reference17Ideal_pre_finite17 [hReference17Ideal : Cert.Reference17Ideal.Facts] [hPre_finite17 : Cert.Pre_finite17.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal_finite17 m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "scale_log2e" .f32 0x3E16C740#32 (((3424635 / 33554432) * (Real.log 2)⁻¹ : ℝ) : EReal)
  ∧ IdealRules.named_const.Statement Cert.KernelIdeal.κ "scale" .f32 0x3DD105EC#32 ((3424635 / 33554432 : ℝ) : EReal)
  ∧ IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v41_0)) (v1 : (c : Dev Cert.KernelIdeal.nD) → Buf (Elt Ideal) ((c.tc : Thread Cert.KernelIdeal.nD Cert.KernelIdeal.τ).loc Cert.KernelIdeal.main_v41_1)) (v2 : (c : Dev Cert.KernelIdeal.nD) → Buf (Elt Ideal) ((c.tc : Thread Cert.KernelIdeal.nD Cert.KernelIdeal.τ).loc Cert.KernelIdeal.main_v41_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41_0) = v0 c
          ∧ r.2.mem ((c.tc : Thread Cert.KernelIdeal.nD Cert.KernelIdeal.τ).loc Cert.KernelIdeal.main_v41_1) = v1 c
          ∧ r.2.mem ((c.tc : Thread Cert.KernelIdeal.nD Cert.KernelIdeal.τ).loc Cert.KernelIdeal.main_v41_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v66) = v1 c
          ∧ r.2.mem ((c.tc : Thread Cert.ReferenceIdeal.nD Cert.ReferenceIdeal.τ).loc Cert.ReferenceIdeal.main_v68) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v12) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v3_0)) (v1 : (c : Dev Cert.Kernel5Ideal.nD) → Buf (Elt Ideal) ((c.tc : Thread Cert.Kernel5Ideal.nD Cert.Kernel5Ideal.τ).loc Cert.Kernel5Ideal.main_v3_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3_0) = v0 c
          ∧ r.2.mem ((c.tc : Thread Cert.Kernel5Ideal.nD Cert.Kernel5Ideal.τ).loc Cert.Kernel5Ideal.main_v3_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v38) = v0 c
          ∧ r.2.mem ((c.tc : Thread Cert.Reference5Ideal.nD Cert.Reference5Ideal.τ).loc Cert.Reference5Ideal.main_v39) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2_0)) (v1 : (c : Dev Cert.Kernel6Ideal.nD) → Buf (Elt Ideal) ((c.tc : Thread Cert.Kernel6Ideal.nD Cert.Kernel6Ideal.τ).loc Cert.Kernel6Ideal.main_v2_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2_0) = v0 c
          ∧ r.2.mem ((c.tc : Thread Cert.Kernel6Ideal.nD Cert.Kernel6Ideal.τ).loc Cert.Kernel6Ideal.main_v2_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_v13) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v5)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v5) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v3_0)) (v1 : (c : Dev Cert.Kernel8Ideal.nD) → Buf (Elt Ideal) ((c.tc : Thread Cert.Kernel8Ideal.nD Cert.Kernel8Ideal.τ).loc Cert.Kernel8Ideal.main_v3_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3_0) = v0 c
          ∧ r.2.mem ((c.tc : Thread Cert.Kernel8Ideal.nD Cert.Kernel8Ideal.τ).loc Cert.Kernel8Ideal.main_v3_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v38) = v0 c
          ∧ r.2.mem ((c.tc : Thread Cert.Reference8Ideal.nD Cert.Reference8Ideal.τ).loc Cert.Reference8Ideal.main_v39) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v2) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v1) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v0) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)) →
    ∃ (v0 : (c : Dev Cert.Kernel15Ideal.nD) → Buf (Elt Ideal) ((c.tc : Thread Cert.Kernel15Ideal.nD Cert.Kernel15Ideal.τ).loc Cert.Kernel15Ideal.main_v3_0)) (v1 : (c : Dev Cert.Kernel15Ideal.nD) → Buf (Elt Ideal) ((c.tc : Thread Cert.Kernel15Ideal.nD Cert.Kernel15Ideal.τ).loc Cert.Kernel15Ideal.main_v3_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v3_0) = v0 c
          ∧ r.2.mem ((c.tc : Thread Cert.Kernel15Ideal.nD Cert.Kernel15Ideal.τ).loc Cert.Kernel15Ideal.main_v3_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v38) = v0 c
          ∧ r.2.mem ((c.tc : Thread Cert.Reference15Ideal.nD Cert.Reference15Ideal.τ).loc Cert.Reference15Ideal.main_v39) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v2) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v1) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  IdealRules.named_const.Statement Cert.Kernel17Ideal.κ "mask" .f32 0xF149F2CA#32 ⊥
  ∧ IdealRules.named_const.Statement Cert.Kernel17Ideal.κ "scale_log2e" .f32 0x3E16C740#32 (((3424635 / 33554432) * (Real.log 2)⁻¹ : ℝ) : EReal)
  ∧ IdealRules.named_const.Statement Cert.Kernel17Ideal.κ "scale" .f32 0x3DD105EC#32 ((3424635 / 33554432 : ℝ) : EReal)

def algebraic_Kernel17Ideal_Reference17Ideal_pre_finite17 [hKernel17Ideal : Cert.Kernel17Ideal.Facts] [hReference17Ideal : Cert.Reference17Ideal.Facts] [hPre_finite17 : Cert.Pre_finite17.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal_finite17 m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v14_0)) (v1 : (c : Dev Cert.Kernel17Ideal.nD) → Buf (Elt Ideal) ((c.tc : Thread Cert.Kernel17Ideal.nD Cert.Kernel17Ideal.τ).loc Cert.Kernel17Ideal.main_v14_1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v14_0) = v0 c
          ∧ r.2.mem ((c.tc : Thread Cert.Kernel17Ideal.nD Cert.Kernel17Ideal.τ).loc Cert.Kernel17Ideal.main_v14_1) = v1 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v43) = v0 c
          ∧ r.2.mem ((c.tc : Thread Cert.Reference17Ideal.nD Cert.Reference17Ideal.τ).loc Cert.Reference17Ideal.main_v44) = v1 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hPre_finite : Cert.Pre_finite.Facts) (hPre_finite17 : Cert.Pre_finite17.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Kernel17Ideal_pre_finite17 (hKernel17Ideal := hKernel17Ideal) (hPre_finite17 := hPre_finite17)
    ∧ quiescent_Reference17Ideal (hReference17Ideal := hReference17Ideal)
    ∧ quiescent_Reference17Ideal_pre_finite17 (hReference17Ideal := hReference17Ideal) (hPre_finite17 := hPre_finite17)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal_pre_finite17 (hKernel17Ideal := hKernel17Ideal) (hReference17Ideal := hReference17Ideal) (hPre_finite17 := hPre_finite17)
-- ==== Pre_finite.lean ====
abbrev S16384x8x96 : Shape := ⟨3, ![16384, 8, 96]⟩
abbrev S16384x8x64 : Shape := ⟨3, ![16384, 8, 64]⟩
abbrev S_ : Shape := ⟨0, ![]⟩
abbrev S1 : Shape := ⟨1, ![1]⟩
abbrev S4 : Shape := ⟨1, ![4]⟩

class Facts : Prop where
  bcast_S_S16384x8x96 : S_.BroadcastsInDim S16384x8x96 (![] : Fin 0 → Fin S16384x8x96.rank)
  reducesTo_S16384x8x96_S_d0_1_2 : S16384x8x96.ReducesTo [0, 1, 2] S_
  h_S_ : 0 < S_.numel
  bcast_S_S16384x8x64 : S_.BroadcastsInDim S16384x8x64 (![] : Fin 0 → Fin S16384x8x64.rank)
  reducesTo_S16384x8x64_S_d0_1_2 : S16384x8x64.ReducesTo [0, 1, 2] S_
  bcast_S_S1 : S_.BroadcastsInDim S1 (![] : Fin 0 → Fin S1.rank)
  concatenates_S1_S1_S1_S1_S4_d0 : Shape.Concatenates [S1, S1, S1, S1] S4 0

variable [Facts]

def fn_part1 {F : FTy → Type} [FloatOps F] (main_v3 : IVec S_ 1) (main_v7 : IVec S_ 1) (main_v11 : IVec S_ 1) (main_v15 : IVec S_ 1) : IVec S4 1 :=
  let main_v16 : IVec S1 1 := broadcastInDim S1 ![] bcast_S_S1 main_v3
  let main_v17 : IVec S1 1 := broadcastInDim S1 ![] bcast_S_S1 main_v7
  let main_v18 : IVec S1 1 := broadcastInDim S1 ![] bcast_S_S1 main_v11
  let main_v19 : IVec S1 1 := broadcastInDim S1 ![] bcast_S_S1 main_v15
  let main_v20 : IVec S4 1 := concatenate S4 0 [⟨S1, main_v16⟩, ⟨S1, main_v17⟩, ⟨S1, main_v18⟩, ⟨S1, main_v19⟩] concatenates_S1_S1_S1_S1_S4_d0
  main_v20

def fn {F : FTy → Type} [FloatOps F] (main_arg0 : FVec F S16384x8x96 .f32) (main_arg1 : FVec F S16384x8x96 .f32) (main_arg2 : FVec F S16384x8x64 .f32) (main_arg3 : FVec F S16384x8x64 .f32) : IVec S4 1 :=
  let main_v0 : FVec F S16384x8x96 .f32 := Host.absf main_arg0
  let main_cst : FVec F S_ .f32 := constant S_ .f32 0x7F800000#32
  let main_v1 : FVec F S16384x8x96 .f32 := broadcastInDim S16384x8x96 ![] bcast_S_S16384x8x96 main_cst
  let main_v2 : IVec S16384x8x96 1 := cmpf .olt main_v0 main_v1
  let main_c : IVec S_ 1 := constantI S_ 1 1#1
  let main_v3 : IVec S_ 1 := (fun x v => Host.reduce IntOp.andi x v reducesTo_S16384x8x96_S_d0_1_2 h_S_) main_v2 main_c
  let main_v4 : FVec F S16384x8x96 .f32 := Host.absf main_arg1
  let main_cst_0 : FVec F S_ .f32 := constant S_ .f32 0x7F800000#32
  let main_v5 : FVec F S16384x8x96 .f32 := broadcastInDim S16384x8x96 ![] bcast_S_S16384x8x96 main_cst_0
  let main_v6 : IVec S16384x8x96 1 := cmpf .olt main_v4 main_v5
  let main_c_1 : IVec S_ 1 := constantI S_ 1 1#1
  let main_v7 : IVec S_ 1 := (fun x v => Host.reduce IntOp.andi x v reducesTo_S16384x8x96_S_d0_1_2 h_S_) main_v6 main_c_1
  let main_v8 : FVec F S16384x8x64 .f32 := Host.absf main_arg2
  let main_cst_2 : FVec F S_ .f32 := constant S_ .f32 0x7F800000#32
  let main_v9 : FVec F S16384x8x64 .f32 := broadcastInDim S16384x8x64 ![] bcast_S_S16384x8x64 main_cst_2
  let main_v10 : IVec S16384x8x64 1 := cmpf .olt main_v8 main_v9
  let main_c_3 : IVec S_ 1 := constantI S_ 1 1#1
  let main_v11 : IVec S_ 1 := (fun x v => Host.reduce IntOp.andi x v reducesTo_S16384x8x64_S_d0_1_2 h_S_) main_v10 main_c_3
  let main_v12 : FVec F S16384x8x64 .f32 := Host.absf main_arg3
  let main_cst_4 : FVec F S_ .f32 := constant S_ .f32 0x7F800000#32
  let main_v13 : FVec F S16384x8x64 .f32 := broadcastInDim S16384x8x64 ![] bcast_S_S16384x8x64 main_cst_4
  let main_v14 : IVec S16384x8x64 1 := cmpf .olt main_v12 main_v13
  let main_c_5 : IVec S_ 1 := constantI S_ 1 1#1
  let main_v15 : IVec S_ 1 := (fun x v => Host.reduce IntOp.andi x v reducesTo_S16384x8x64_S_d0_1_2 h_S_) main_v14 main_c_5
  fn_part1 (F := F) main_v3 main_v7 main_v11 main_v15
-- ==== Pre_finite17.lean ====
abbrev S16384x8x96 : Shape := ⟨3, ![16384, 8, 96]⟩
abbrev S16384x8x64 : Shape := ⟨3, ![16384, 8, 64]⟩
abbrev S_ : Shape := ⟨0, ![]⟩
abbrev S1 : Shape := ⟨1, ![1]⟩
abbrev S3 : Shape := ⟨1, ![3]⟩

class Facts : Prop where
  bcast_S_S16384x8x96 : S_.BroadcastsInDim S16384x8x96 (![] : Fin 0 → Fin S16384x8x96.rank)
  reducesTo_S16384x8x96_S_d0_1_2 : S16384x8x96.ReducesTo [0, 1, 2] S_
  h_S_ : 0 < S_.numel
  bcast_S_S16384x8x64 : S_.BroadcastsInDim S16384x8x64 (![] : Fin 0 → Fin S16384x8x64.rank)
  reducesTo_S16384x8x64_S_d0_1_2 : S16384x8x64.ReducesTo [0, 1, 2] S_
  bcast_S_S1 : S_.BroadcastsInDim S1 (![] : Fin 0 → Fin S1.rank)
  concatenates_S1_S1_S1_S3_d0 : Shape.Concatenates [S1, S1, S1] S3 0

variable [Facts]

def fn {F : FTy → Type} [FloatOps F] (main_arg0 : FVec F S16384x8x96 .f32) (main_arg1 : FVec F S16384x8x96 .f32) (main_arg2 : FVec F S16384x8x64 .f32) : IVec S3 1 :=
  let main_v0 : FVec F S16384x8x96 .f32 := Host.absf main_arg0
  let main_cst : FVec F S_ .f32 := constant S_ .f32 0x7F800000#32
  let main_v1 : FVec F S16384x8x96 .f32 := broadcastInDim S16384x8x96 ![] bcast_S_S16384x8x96 main_cst
  let main_v2 : IVec S16384x8x96 1 := cmpf .olt main_v0 main_v1
  let main_c : IVec S_ 1 := constantI S_ 1 1#1
  let main_v3 : IVec S_ 1 := (fun x v => Host.reduce IntOp.andi x v reducesTo_S16384x8x96_S_d0_1_2 h_S_) main_v2 main_c
  let main_v4 : FVec F S16384x8x96 .f32 := Host.absf main_arg1
  let main_cst_0 : FVec F S_ .f32 := constant S_ .f32 0x7F800000#32
  let main_v5 : FVec F S16384x8x96 .f32 := broadcastInDim S16384x8x96 ![] bcast_S_S16384x8x96 main_cst_0
  let main_v6 : IVec S16384x8x96 1 := cmpf .olt main_v4 main_v5
  let main_c_1 : IVec S_ 1 := constantI S_ 1 1#1
  let main_v7 : IVec S_ 1 := (fun x v => Host.reduce IntOp.andi x v reducesTo_S16384x8x96_S_d0_1_2 h_S_) main_v6 main_c_1
  let main_v8 : FVec F S16384x8x64 .f32 := Host.absf main_arg2
  let main_cst_2 : FVec F S_ .f32 := constant S_ .f32 0x7F800000#32
  let main_v9 : FVec F S16384x8x64 .f32 := broadcastInDim S16384x8x64 ![] bcast_S_S16384x8x64 main_cst_2
  let main_v10 : IVec S16384x8x64 1 := cmpf .olt main_v8 main_v9
  let main_c_3 : IVec S_ 1 := constantI S_ 1 1#1
  let main_v11 : IVec S_ 1 := (fun x v => Host.reduce IntOp.andi x v reducesTo_S16384x8x64_S_d0_1_2 h_S_) main_v10 main_c_3
  let main_v12 : IVec S1 1 := broadcastInDim S1 ![] bcast_S_S1 main_v3
  let main_v13 : IVec S1 1 := broadcastInDim S1 ![] bcast_S_S1 main_v7
  let main_v14 : IVec S1 1 := broadcastInDim S1 ![] bcast_S_S1 main_v11
  let main_v15 : IVec S3 1 := concatenate S3 0 [⟨S1, main_v12⟩, ⟨S1, main_v13⟩, ⟨S1, main_v14⟩] concatenates_S1_S1_S1_S3_d0
  main_v15
-- ==== Kernel.lean ====
abbrev S16384x8x96 : Shape := ⟨3, ![16384, 8, 96]⟩
abbrev S16384x8x64 : Shape := ⟨3, ![16384, 8, 64]⟩
abbrev S8x16384x16384 : Shape := ⟨3, ![8, 16384, 16384]⟩
abbrev S_ : Shape := ⟨0, ![]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S8x16384 : Shape := ⟨2, ![8, 16384]⟩
abbrev S8x16384x1 : Shape := ⟨3, ![8, 16384, 1]⟩
abbrev S8x64x16384 : Shape := ⟨3, ![8, 64, 16384]⟩
abbrev S16384x8 : Shape := ⟨2, ![16384, 8]⟩
abbrev S32x512x8x96 : Shape := ⟨4, ![32, 512, 8, 96]⟩
abbrev S8x32x96x512 : Shape := ⟨4, ![8, 32, 96, 512]⟩
abbrev S32x512x8x64 : Shape := ⟨4, ![32, 512, 8, 64]⟩
abbrev S8x32x64x512 : Shape := ⟨4, ![8, 32, 64, 512]⟩
abbrev S8x16384x96 : Shape := ⟨3, ![8, 16384, 96]⟩
abbrev S8x16384x64 : Shape := ⟨3, ![8, 16384, 64]⟩
abbrev S8x32x1x512 : Shape := ⟨4, ![8, 32, 1, 512]⟩
abbrev S1x32x96x512 : Shape := ⟨4, ![1, 32, 96, 512]⟩
abbrev S1x512x96 : Shape := ⟨3, ![1, 512, 96]⟩
abbrev S1x1x96x512 : Shape := ⟨4, ![1, 1, 96, 512]⟩
abbrev S1x512x64 : Shape := ⟨3, ![1, 512, 64]⟩
abbrev S1x32x64x512 : Shape := ⟨4, ![1, 32, 64, 512]⟩
abbrev S1x32x1x512 : Shape := ⟨4, ![1, 32, 1, 512]⟩
abbrev S1x1x64x512 : Shape := ⟨4, ![1, 1, 64, 512]⟩
abbrev S512x512 : Shape := ⟨2, ![512, 512]⟩
abbrev S512x96 : Shape := ⟨2, ![512, 96]⟩
abbrev S96x512 : Shape := ⟨2, ![96, 512]⟩
abbrev S512x64 : Shape := ⟨2, ![512, 64]⟩
abbrev S64x512 : Shape := ⟨2, ![64, 512]⟩
abbrev S1x1x1x512 : Shape := ⟨4, ![1, 1, 1, 512]⟩
abbrev S1x512 : Shape := ⟨2, ![1, 512]⟩
abbrev S256x512 : Shape := ⟨2, ![256, 512]⟩
abbrev S64x256 : Shape := ⟨2, ![64, 256]⟩
abbrev S96x256 : Shape := ⟨2, ![96, 256]⟩
abbrev S1x1x96x256 : Shape := ⟨4, ![1, 1, 96, 256]⟩

abbrev nBuf : Space → Nat
  | .hbm => 56
  | .vmem => 24
  | .smem => 0
  | _ => 0

abbrev bufTy : (tb : Table) → Fin (tcTables nBuf tb) → BufTy
  | .hbm, ⟨0, _⟩ => ⟨S16384x8x96, .f32⟩
  | .hbm, ⟨1, _⟩ => ⟨S16384x8x96, .f32⟩
  | .hbm, ⟨2, _⟩ => ⟨S16384x8x64, .f32⟩
  | .hbm, ⟨3, _⟩ => ⟨S16384x8x64, .f32⟩
  | .hbm, ⟨4, _⟩ => ⟨S8x16384x16384, .f32⟩
  | .hbm, ⟨5, _⟩ => ⟨S_, .f32⟩
  | .hbm, ⟨6, _⟩ => ⟨S8x16384x16384, .f32⟩
  | .hbm, ⟨7, _⟩ => ⟨S8x16384x16384, .f32⟩
  | .hbm, ⟨8, _⟩ => ⟨S16384, .i32⟩
  | .hbm, ⟨9, _⟩ => ⟨S1x16384, .i32⟩
  | .hbm, ⟨10, _⟩ => ⟨S16384x1, .i32⟩
  | .hbm, ⟨11, _⟩ => ⟨S16384x16384, .i32⟩
  | .hbm, ⟨12, _⟩ => ⟨S16384x16384, .i32⟩
  | .hbm, ⟨13, _⟩ => ⟨S16384x16384, .i1⟩
  | .hbm, ⟨14, _⟩ => ⟨S_, .f32⟩
  | .hbm, ⟨15, _⟩ => ⟨S_, .f32⟩
  | .hbm, ⟨16, _⟩ => ⟨S8x16384x16384, .i1⟩
  | .hbm, ⟨17, _⟩ => ⟨S8x16384x16384, .f32⟩
  | .hbm, ⟨18, _⟩ => ⟨S8x16384x16384, .f32⟩
  | .hbm, ⟨19, _⟩ => ⟨S_, .f32⟩
  | .hbm, ⟨20, _⟩ => ⟨S8x16384, .f32⟩
  | .hbm, ⟨21, _⟩ => ⟨S8x16384x1, .f32⟩
  | .hbm, ⟨22, _⟩ => ⟨S8x16384x16384, .f32⟩
  | .hbm, ⟨23, _⟩ => ⟨S8x16384x16384, .f32⟩
  | .hbm, ⟨24, _⟩ => ⟨S8x16384x16384, .f32⟩
  | .hbm, ⟨25, _⟩ => ⟨S_, .f32⟩
  | .hbm, ⟨26, _⟩ => ⟨S8x16384, .f32⟩
  | .hbm, ⟨27, _⟩ => ⟨S8x16384x1, .f32⟩
  | .hbm, ⟨28, _⟩ => ⟨S8x16384x1, .f32⟩
  | .hbm, ⟨29, _⟩ => ⟨S8x16384x1, .f32⟩
  | .hbm, ⟨30, _⟩ => ⟨S8x16384x16384, .f32⟩
  | .hbm, ⟨31, _⟩ => ⟨S8x16384x16384, .f32⟩
  | .hbm, ⟨32, _⟩ => ⟨S8x16384x16384, .f32⟩
  | .hbm, ⟨33, _⟩ => ⟨S8x64x16384, .f32⟩
  | .hbm, ⟨34, _⟩ => ⟨S16384x8x64, .f32⟩
  | .hbm, ⟨35, _⟩ => ⟨S16384x8x64, .f32⟩
  | .hbm, ⟨36, _⟩ => ⟨S_, .f32⟩
  | .hbm, ⟨37, _⟩ => ⟨S16384x8, .f32⟩
  | .hbm, ⟨38, _⟩ => ⟨S32x512x8x96, .f32⟩
  | .hbm, ⟨39, _⟩ => ⟨S8x32x96x512, .f32⟩
  | .hbm, ⟨40, _⟩ => ⟨S8x32x96x512, .bf16⟩
  | .hbm, ⟨41, _⟩ => ⟨S32x512x8x96, .f32⟩
  | .hbm, ⟨42, _⟩ => ⟨S8x32x96x512, .f32⟩
  | .hbm, ⟨43, _⟩ => ⟨S8x32x96x512, .bf16⟩
  | .hbm, ⟨44, _⟩ => ⟨S32x512x8x64, .f32⟩
  | .hbm, ⟨45, _⟩ => ⟨S8x32x64x512, .f32⟩
  | .hbm, ⟨46, _⟩ => ⟨S8x16384x96, .f32⟩
  | .hbm, ⟨47, _⟩ => ⟨S8x16384x96, .bf16⟩
  | .hbm, ⟨48, _⟩ => ⟨S8x16384x64, .f32⟩
  | .hbm, ⟨49, _⟩ => ⟨S8x16384x64, .bf16⟩
  | .hbm, ⟨50, _⟩ => ⟨S8x32x1x512, .f32⟩
  | .hbm, ⟨51, _⟩ => ⟨S8x16384, .f32⟩
  | .hbm, ⟨52, _⟩ => ⟨S8x32x1x512, .f32⟩
  | .hbm, ⟨53, _⟩ => ⟨S8x32x96x512, .f32⟩
  | .hbm, ⟨54, _⟩ => ⟨S8x32x96x512, .f32⟩
  | .hbm, ⟨55, _⟩ => ⟨S8x32x64x512, .f32⟩
  | .local _ .vmem, ⟨0, _⟩ => ⟨S1x32x96x512, .bf16⟩
  | .local _ .vmem, ⟨1, _⟩ => ⟨S1x32x96x512, .bf16⟩
  | .local _ .vmem, ⟨2, _⟩ => ⟨S1x512x96, .bf16⟩
  | .local _ .vmem, ⟨3, _⟩ => ⟨S1x512x96, .bf16⟩
  | .local _ .vmem, ⟨4, _⟩ => ⟨S1x1x96x512, .bf16⟩
  | .local _ .vmem, ⟨5, _⟩ => ⟨S1x1x96x512, .bf16⟩
  | .local _ .vmem, ⟨6, _⟩ => ⟨S1x512x64, .bf16⟩
  | .local _ .vmem, ⟨7, _⟩ => ⟨S1x512x64, .bf16⟩
  | .local _ .vmem, ⟨8, _⟩ => ⟨S1x32x64x512, .f32⟩
  | .local _ .vmem, ⟨9, _⟩ => ⟨S1x32x64x512, .f32⟩
  | .local _ .vmem, ⟨10, _⟩ => ⟨S1x32x1x512, .f32⟩
  | .local _ .vmem, ⟨11, _⟩ => ⟨S1x32x1x512, .f32⟩
  | .local _ .vmem, ⟨12, _⟩ => ⟨S1x32x1x512, .f32⟩
  | .local _ .vmem, ⟨13, _⟩ => ⟨S1x32x1x512, .f32⟩
  | .local _ .vmem, ⟨14, _⟩ => ⟨S1x32x96x512, .f32⟩
  | .local _ .vmem, ⟨15, _⟩ => ⟨S1x32x96x512, .f32⟩
  | .local _ .vmem, ⟨16, _⟩ => ⟨S1x1x96x512, .f32⟩
  | .local _ .vmem, ⟨17, _⟩ => ⟨S1x1x96x512, .f32⟩
  | .local _ .vmem, ⟨18, _⟩ => ⟨S1x1x64x512, .f32⟩
  | .local _ .vmem, ⟨19, _⟩ => ⟨S1x1x64x512, .f32⟩
  | .local _ .vmem, ⟨20, _⟩ => ⟨S512x512, .f32⟩
  | .local _ .vmem, ⟨21, _⟩ => ⟨S512x512, .f32⟩
  | .local _ .vmem, ⟨22, _⟩ => ⟨S512x512, .f32⟩
  | .local _ .vmem, ⟨23, _⟩ => ⟨S512x512, .f32⟩
  | _, _ => ⟨S16384x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41_0 : Ref sig .tc := ⟨.hbm, 53, rfl⟩
abbrev main_v41_1 : Ref sig .tc := ⟨.hbm, 54, rfl⟩
abbrev main_v41_2 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 32], ![false, false]⟩

def k0_off1 (i : grid0.Coords) : Fin 4 → Nat :=
  let c0_4 : Index := 0#32
  let c31_i32 : BitVec 32 := 31#32
  let arg1 : BitVec 32 := BitVec.ofNat 32 (i 1).val
  let v3 : BitVec 32 := Scalar.subi c31_i32 arg1
  let c0_i32_1 : BitVec 32 := 0#32
  let v4 : BitVec 1 := Scalar.cmpi .sgt v3 c0_i32_1
  let c1_i32 : BitVec 32 := 1#32
  let v5 : BitVec 32 := Scalar.addi arg1 c1_i32
  let v6 : BitVec 32 := Scalar.select v4 v5 arg1
  let v9 : Index := Scalar.indexCast v6
  let c0_5 : Index := 0#32
  let c0_6 : Index := 0#32
  ![0, v9.toNat, 0, 0]
def k0_off2 (i : grid0.Coords) : Fin 4 → Nat :=
  let c0_12 : Index := 0#32
  let c31_i32 : BitVec 32 := 31#32
  let arg1 : BitVec 32 := BitVec.ofNat 32 (i 1).val
  let v3 : BitVec 32 := Scalar.subi c31_i32 arg1
  let c0_i32_1 : BitVec 32 := 0#32
  let v4 : BitVec 1 := Scalar.cmpi .sgt v3 c0_i32_1
  let c1_i32 : BitVec 32 := 1#32
  let v5 : BitVec 32 := Scalar.addi arg1 c1_i32
  let v6 : BitVec 32 := Scalar.select v4 v5 arg1
  let v18 : Index := Scalar.indexCast v6
  let c0_13 : Index := 0#32
  let c0_14 : Index := 0#32
  ![0, v18.toNat, 0, 0]
@[reducible] def k0_t1_loop (i : grid0.Coords) : Scf.Loop 32 :=
  let c0_i32_26 : BitVec 32 := 0#32
  let c31_i32 : BitVec 32 := 31#32
  let arg1 : BitVec 32 := BitVec.ofNat 32 (i 1).val
  let v3 : BitVec 32 := Scalar.subi c31_i32 arg1
  let c0_i32_18 : BitVec 32 := 0#32
  let v27 : BitVec 1 := Scalar.cmpi .sgt v3 c0_i32_18
  let v28 : BitVec 32 := Scalar.extui v27
  let c0_i32_19 : BitVec 32 := 0#32
  let v29 : BitVec 1 := Scalar.cmpi .slt v3 c0_i32_19
  let v30 : BitVec 32 := Scalar.extui v29
  let v31 : BitVec 32 := Scalar.subi v28 v30
  let c2_i32 : BitVec 32 := 2#32
  let c0_i32_20 : BitVec 32 := 0#32
  let v32 : BitVec 1 := Scalar.cmpi .sgt c2_i32 c0_i32_20
  let v33 : BitVec 32 := Scalar.extui v32
  let c0_i32_21 : BitVec 32 := 0#32
  let v34 : BitVec 1 := Scalar.cmpi .slt c2_i32 c0_i32_21
  let v35 : BitVec 32 := Scalar.extui v34
  let v36 : BitVec 32 := Scalar.subi v33 v35
  let v37 : BitVec 1 := Scalar.cmpi .ne v31 v36
  let v38 : BitVec 32 := Scalar.remsi v3 c2_i32
  let c0_i32_22 : BitVec 32 := 0#32
  let v39 : BitVec 1 := Scalar.cmpi .ne v38 c0_i32_22
  let v40 : BitVec 1 := Scalar.andi v37 v39
  let v26 : BitVec 32 := Scalar.divsi v3 c2_i32
  let c1_i32_23 : BitVec 32 := 1#32
  let v41 : BitVec 32 := Scalar.subi v26 c1_i32_23
  let v42 : BitVec 32 := Scalar.select v40 v41 v26
  let v45 : BitVec 32 := Scalar.subi v42 c0_i32_26
  let c1_i32_27 : BitVec 32 := 1#32
  let v47 : BitVec 32 := Scalar.divsi v45 c1_i32_27
  let v48 : BitVec 32 := Scalar.muli v47 c1_i32_27
  let v49 : BitVec 32 := Scalar.addi c0_i32_26 v48
  let c1_i32_28 : BitVec 32 := 1#32
  ⟨c0_i32_26, v49, c1_i32_28⟩
def k0_off3 (i : grid0.Coords) (k0_t1 : Fin (k0_t1_loop i).trips) : Fin 4 → Nat :=
  let c0_53 : Index := 0#32
  let arg1 : BitVec 32 := BitVec.ofNat 32 (i 1).val
  let c1_i32_47 : BitVec 32 := 1#32
  let v74 : BitVec 32 := Scalar.addi arg1 c1_i32_47
  let c2_i32_48 : BitVec 32 := 2#32
  let c0_i32_26 : BitVec 32 := 0#32
  let c1_i32_28 : BitVec 32 := 1#32
  let arg16 : BitVec 32 := Scf.iv c0_i32_26 c1_i32_28 k0_t1
  let v75 : BitVec 32 := Scalar.muli c2_i32_48 arg16
  let v76 : BitVec 32 := Scalar.addi v74 v75
  let c1_i32_49 : BitVec 32 := 1#32
  let v77 : BitVec 32 := Scalar.addi v76 c1_i32_49
  let v80 : Index := Scalar.indexCast v77
  let c0_54 : Index := 0#32
  let c0_55 : Index := 0#32
  ![0, v80.toNat, 0, 0]
def k0_off4 (i : grid0.Coords) (k0_t1 : Fin (k0_t1_loop i).trips) : Fin 4 → Nat :=
  let c0_62 : Index := 0#32
  let arg1 : BitVec 32 := BitVec.ofNat 32 (i 1).val
  let c1_i32_47 : BitVec 32 := 1#32
  let v74 : BitVec 32 := Scalar.addi arg1 c1_i32_47
  let c2_i32_48 : BitVec 32 := 2#32
  let c0_i32_26 : BitVec 32 := 0#32
  let c1_i32_28 : BitVec 32 := 1#32
  let arg16 : BitVec 32 := Scf.iv c0_i32_26 c1_i32_28 k0_t1
  let v75 : BitVec 32 := Scalar.muli c2_i32_48 arg16
  let v76 : BitVec 32 := Scalar.addi v74 v75
  let c1_i32_49 : BitVec 32 := 1#32
  let v77 : BitVec 32 := Scalar.addi v76 c1_i32_49
  let v89 : Index := Scalar.indexCast v77
  let c0_63 : Index := 0#32
  let c0_64 : Index := 0#32
  ![0, v89.toNat, 0, 0]
def k0_off5 (i : grid0.Coords) (k0_t1 : Fin (k0_t1_loop i).trips) : Fin 4 → Nat :=
  let c0_68 : Index := 0#32
  let arg1 : BitVec 32 := BitVec.ofNat 32 (i 1).val
  let c1_i32_47 : BitVec 32 := 1#32
  let v74 : BitVec 32 := Scalar.addi arg1 c1_i32_47
  let c2_i32_48 : BitVec 32 := 2#32
  let c0_i32_26 : BitVec 32 := 0#32
  let c1_i32_28 : BitVec 32 := 1#32
  let arg16 : BitVec 32 := Scf.iv c0_i32_26 c1_i32_28 k0_t1
  let v75 : BitVec 32 := Scalar.muli c2_i32_48 arg16
  let v76 : BitVec 32 := Scalar.addi v74 v75
  let v97 : Index := Scalar.indexCast v76
  let c0_69 : Index := 0#32
  let c0_70 : Index := 0#32
  ![0, v97.toNat, 0, 0]
def k0_off6 (i : grid0.Coords) (k0_t1 : Fin (k0_t1_loop i).trips) : Fin 4 → Nat :=
  let c0_71 : Index := 0#32
  let arg1 : BitVec 32 := BitVec.ofNat 32 (i 1).val
  let c1_i32_47 : BitVec 32 := 1#32
  let v74 : BitVec 32 := Scalar.addi arg1 c1_i32_47
  let c2_i32_48 : BitVec 32 := 2#32
  let c0_i32_26 : BitVec 32 := 0#32
  let c1_i32_28 : BitVec 32 := 1#32
  let arg16 : BitVec 32 := Scf.iv c0_i32_26 c1_i32_28 k0_t1
  let v75 : BitVec 32 := Scalar.muli c2_i32_48 arg16
  let v76 : BitVec 32 := Scalar.addi v74 v75
  let v101 : Index := Scalar.indexCast v76
  let c0_72 : Index := 0#32
  let c0_73 : Index := 0#32
  ![0, v101.toNat, 0, 0]
def k0_off7 (i : grid0.Coords) (k0_t1 : Fin (k0_t1_loop i).trips) : Fin 4 → Nat :=
  let c0_84 : Index := 0#32
  let arg1 : BitVec 32 := BitVec.ofNat 32 (i 1).val
  let c1_i32_47 : BitVec 32 := 1#32
  let v74 : BitVec 32 := Scalar.addi arg1 c1_i32_47
  let c2_i32_48 : BitVec 32 := 2#32
  let c0_i32_26 : BitVec 32 := 0#32
  let c1_i32_28 : BitVec 32 := 1#32
  let arg16 : BitVec 32 := Scf.iv c0_i32_26 c1_i32_28 k0_t1
  let v75 : BitVec 32 := Scalar.muli c2_i32_48 arg16
  let v76 : BitVec 32 := Scalar.addi v74 v75
  let v122 : Index := Scalar.indexCast v76
  let c0_85 : Index := 0#32
  let c0_86 : Index := 0#32
  ![0, v122.toNat, 0, 0]
def k0_off8 (i : grid0.Coords) (k0_t1 : Fin (k0_t1_loop i).trips) : Fin 4 → Nat :=
  let c0_120 : Index := 0#32
  let c2_i32_114 : BitVec 32 := 2#32
  let c0_i32_26 : BitVec 32 := 0#32
  let c1_i32_28 : BitVec 32 := 1#32
  let arg16 : BitVec 32 := Scf.iv c0_i32_26 c1_i32_28 k0_t1
  let v164 : BitVec 32 := Scalar.muli c2_i32_114 arg16
  let c2_i32_115 : BitVec 32 := 2#32
  let v165 : BitVec 32 := Scalar.addi v164 c2_i32_115
  let c31_i32 : BitVec 32 := 31#32
  let arg1 : BitVec 32 := BitVec.ofNat 32 (i 1).val
  let v3 : BitVec 32 := Scalar.subi c31_i32 arg1
  let v166 : BitVec 1 := Scalar.cmpi .slt v165 v3
  let c1_i32_47 : BitVec 32 := 1#32
  let v74 : BitVec 32 := Scalar.addi arg1 c1_i32_47
  let c2_i32_48 : BitVec 32 := 2#32
  let v75 : BitVec 32 := Scalar.muli c2_i32_48 arg16
  let v76 : BitVec 32 := Scalar.addi v74 v75
  let c2_i32_116 : BitVec 32 := 2#32
  let v167 : BitVec 32 := Scalar.addi v76 c2_i32_116
  let v168 : BitVec 32 := Scalar.select v166 v167 arg1
  let v171 : Index := Scalar.indexCast v168
  let c0_121 : Index := 0#32
  let c0_122 : Index := 0#32
  ![0, v171.toNat, 0, 0]
def k0_off9 (i : grid0.Coords) (k0_t1 : Fin (k0_t1_loop i).trips) : Fin 4 → Nat :=
  let c0_129 : Index := 0#32
  let c2_i32_114 : BitVec 32 := 2#32
  let c0_i32_26 : BitVec 32 := 0#32
  let c1_i32_28 : BitVec 32 := 1#32
  let arg16 : BitVec 32 := Scf.iv c0_i32_26 c1_i32_28 k0_t1
  let v164 : BitVec 32 := Scalar.muli c2_i32_114 arg16
  let c2_i32_115 : BitVec 32 := 2#32
  let v165 : BitVec 32 := Scalar.addi v164 c2_i32_115
  let c31_i32 : BitVec 32 := 31#32
  let arg1 : BitVec 32 := BitVec.ofNat 32 (i 1).val
  let v3 : BitVec 32 := Scalar.subi c31_i32 arg1
  let v166 : BitVec 1 := Scalar.cmpi .slt v165 v3
  let c1_i32_47 : BitVec 32 := 1#32
  let v74 : BitVec 32 := Scalar.addi arg1 c1_i32_47
  let c2_i32_48 : BitVec 32 := 2#32
  let v75 : BitVec 32 := Scalar.muli c2_i32_48 arg16
  let v76 : BitVec 32 := Scalar.addi v74 v75
  let c2_i32_116 : BitVec 32 := 2#32
  let v167 : BitVec 32 := Scalar.addi v76 c2_i32_116
  let v168 : BitVec 32 := Scalar.select v166 v167 arg1
  let v180 : Index := Scalar.indexCast v168
  let c0_130 : Index := 0#32
  let c0_131 : Index := 0#32
  ![0, v180.toNat, 0, 0]
def k0_off10 (i : grid0.Coords) (k0_t1 : Fin (k0_t1_loop i).trips) : Fin 4 → Nat :=
  let c0_139 : Index := 0#32
  let arg1 : BitVec 32 := BitVec.ofNat 32 (i 1).val
  let c1_i32_47 : BitVec 32 := 1#32
  let v74 : BitVec 32 := Scalar.addi arg1 c1_i32_47
  let c2_i32_48 : BitVec 32 := 2#32
  let c0_i32_26 : BitVec 32 := 0#32
  let c1_i32_28 : BitVec 32 := 1#32
  let arg16 : BitVec 32 := Scf.iv c0_i32_26 c1_i32_28 k0_t1
  let v75 : BitVec 32 := Scalar.muli c2_i32_48 arg16
  let v76 : BitVec 32 := Scalar.addi v74 v75
  let c1_i32_135 : BitVec 32 := 1#32
  let v188 : BitVec 32 := Scalar.addi v76 c1_i32_135
  let v193 : Index := Scalar.indexCast v188
  let c0_140 : Index := 0#32
  let c0_141 : Index := 0#32
  ![0, v193.toNat, 0, 0]
@[reducible] def k0_t2_loop (i : grid0.Coords) : Scf.Loop 32 :=
  let c0_i32_26 : BitVec 32 := 0#32
  let c31_i32 : BitVec 32 := 31#32
  let arg1 : BitVec 32 := BitVec.ofNat 32 (i 1).val
  let v3 : BitVec 32 := Scalar.subi c31_i32 arg1
  let c0_i32_18 : BitVec 32 := 0#32
  let v27 : BitVec 1 := Scalar.cmpi .sgt v3 c0_i32_18
  let v28 : BitVec 32 := Scalar.extui v27
  let c0_i32_19 : BitVec 32 := 0#32
  let v29 : BitVec 1 := Scalar.cmpi .slt v3 c0_i32_19
  let v30 : BitVec 32 := Scalar.extui v29
  let v31 : BitVec 32 := Scalar.subi v28 v30
  let c2_i32 : BitVec 32 := 2#32
  let c0_i32_20 : BitVec 32 := 0#32
  let v32 : BitVec 1 := Scalar.cmpi .sgt c2_i32 c0_i32_20
  let v33 : BitVec 32 := Scalar.extui v32
  let c0_i32_21 : BitVec 32 := 0#32
  let v34 : BitVec 1 := Scalar.cmpi .slt c2_i32 c0_i32_21
  let v35 : BitVec 32 := Scalar.extui v34
  let v36 : BitVec 32 := Scalar.subi v33 v35
  let v37 : BitVec 1 := Scalar.cmpi .ne v31 v36
  let v38 : BitVec 32 := Scalar.remsi v3 c2_i32
  let c0_i32_22 : BitVec 32 := 0#32
  let v39 : BitVec 1 := Scalar.cmpi .ne v38 c0_i32_22
  let v40 : BitVec 1 := Scalar.andi v37 v39
  let v26 : BitVec 32 := Scalar.divsi v3 c2_i32
  let c1_i32_23 : BitVec 32 := 1#32
  let v41 : BitVec 32 := Scalar.subi v26 c1_i32_23
  let v42 : BitVec 32 := Scalar.select v40 v41 v26
  let v45 : BitVec 32 := Scalar.subi v42 c0_i32_26
  let c1_i32_27 : BitVec 32 := 1#32
  let v47 : BitVec 32 := Scalar.divsi v45 c1_i32_27
  let v48 : BitVec 32 := Scalar.muli v47 c1_i32_27
  let v49 : BitVec 32 := Scalar.addi c0_i32_26 v48
  let v46 : BitVec 32 := Scalar.addi c0_i32_26 v45
  let c1_i32_29 : BitVec 32 := 1#32
  ⟨v49, v46, c1_i32_29⟩
def k0_off11 (i : grid0.Coords) (k0_t2 : Fin (k0_t2_loop i).trips) : Fin 4 → Nat :=
  let c0_53 : Index := 0#32
  let arg1 : BitVec 32 := BitVec.ofNat 32 (i 1).val
  let c1_i32_47 : BitVec 32 := 1#32
  let v74 : BitVec 32 := Scalar.addi arg1 c1_i32_47
  let c2_i32_48 : BitVec 32 := 2#32
  let c0_i32_26 : BitVec 32 := 0#32
  let c31_i32 : BitVec 32 := 31#32
  let v3 : BitVec 32 := Scalar.subi c31_i32 arg1
  let c0_i32_18 : BitVec 32 := 0#32
  let v27 : BitVec 1 := Scalar.cmpi .sgt v3 c0_i32_18
  let v28 : BitVec 32 := Scalar.extui v27
  let c0_i32_19 : BitVec 32 := 0#32
  let v29 : BitVec 1 := Scalar.cmpi .slt v3 c0_i32_19
  let v30 : BitVec 32 := Scalar.extui v29
  let v31 : BitVec 32 := Scalar.subi v28 v30
  let c2_i32 : BitVec 32 := 2#32
  let c0_i32_20 : BitVec 32 := 0#32
  let v32 : BitVec 1 := Scalar.cmpi .sgt c2_i32 c0_i32_20
  let v33 : BitVec 32 := Scalar.extui v32
  let c0_i32_21 : BitVec 32 := 0#32
  let v34 : BitVec 1 := Scalar.cmpi .slt c2_i32 c0_i32_21
  let v35 : BitVec 32 := Scalar.extui v34
  let v36 : BitVec 32 := Scalar.subi v33 v35
  let v37 : BitVec 1 := Scalar.cmpi .ne v31 v36
  let v38 : BitVec 32 := Scalar.remsi v3 c2_i32
  let c0_i32_22 : BitVec 32 := 0#32
  let v39 : BitVec 1 := Scalar.cmpi .ne v38 c0_i32_22
  let v40 : BitVec 1 := Scalar.andi v37 v39
  let v26 : BitVec 32 := Scalar.divsi v3 c2_i32
  let c1_i32_23 : BitVec 32 := 1#32
  let v41 : BitVec 32 := Scalar.subi v26 c1_i32_23
  let v42 : BitVec 32 := Scalar.select v40 v41 v26
  let v45 : BitVec 32 := Scalar.subi v42 c0_i32_26
  let c1_i32_27 : BitVec 32 := 1#32
  let v47 : BitVec 32 := Scalar.divsi v45 c1_i32_27
  let v48 : BitVec 32 := Scalar.muli v47 c1_i32_27
  let v49 : BitVec 32 := Scalar.addi c0_i32_26 v48
  let c1_i32_29 : BitVec 32 := 1#32
  let arg16 : BitVec 32 := Scf.iv v49 c1_i32_29 k0_t2
  let v75 : BitVec 32 := Scalar.muli c2_i32_48 arg16
  let v76 : BitVec 32 := Scalar.addi v74 v75
  let c1_i32_49 : BitVec 32 := 1#32
  let v77 : BitVec 32 := Scalar.addi v76 c1_i32_49
  let v80 : Index := Scalar.indexCast v77
  let c0_54 : Index := 0#32
  let c0_55 : Index := 0#32
  ![0, v80.toNat, 0, 0]
def k0_off12 (i : grid0.Coords) (k0_t2 : Fin (k0_t2_loop i).trips) : Fin 4 → Nat :=
  let c0_62 : Index := 0#32
  let arg1 : BitVec 32 := BitVec.ofNat 32 (i 1).val
  let c1_i32_47 : BitVec 32 := 1#32
  let v74 : BitVec 32 := Scalar.addi arg1 c1_i32_47
  let c2_i32_48 : BitVec 32 := 2#32
  let c0_i32_26 : BitVec 32 := 0#32
  let c31_i32 : BitVec 32 := 31#32
  let v3 : BitVec 32 := Scalar.subi c31_i32 arg1
  let c0_i32_18 : BitVec 32 := 0#32
  let v27 : BitVec 1 := Scalar.cmpi .sgt v3 c0_i32_18
  let v28 : BitVec 32 := Scalar.extui v27
  let c0_i32_19 : BitVec 32 := 0#32
  let v29 : BitVec 1 := Scalar.cmpi .slt v3 c0_i32_19
  let v30 : BitVec 32 := Scalar.extui v29
  let v31 : BitVec 32 := Scalar.subi v28 v30
  let c2_i32 : BitVec 32 := 2#32
  let c0_i32_20 : BitVec 32 := 0#32
  let v32 : BitVec 1 := Scalar.cmpi .sgt c2_i32 c0_i32_20
  let v33 : BitVec 32 := Scalar.extui v32
  let c0_i32_21 : BitVec 32 := 0#32
  let v34 : BitVec 1 := Scalar.cmpi .slt c2_i32 c0_i32_21
  let v35 : BitVec 32 := Scalar.extui v34
  let v36 : BitVec 32 := Scalar.subi v33 v35
  let v37 : BitVec 1 := Scalar.cmpi .ne v31 v36
  let v38 : BitVec 32 := Scalar.remsi v3 c2_i32
  let c0_i32_22 : BitVec 32 := 0#32
  let v39 : BitVec 1 := Scalar.cmpi .ne v38 c0_i32_22
  let v40 : BitVec 1 := Scalar.andi v37 v39
  let v26 : BitVec 32 := Scalar.divsi v3 c2_i32
  let c1_i32_23 : BitVec 32 := 1#32
  let v41 : BitVec 32 := Scalar.subi v26 c1_i32_23
  let v42 : BitVec 32 := Scalar.select v40 v41 v26
  let v45 : BitVec 32 := Scalar.subi v42 c0_i32_26
  let c1_i32_27 : BitVec 32 := 1#32
  let v47 : BitVec 32 := Scalar.divsi v45 c1_i32_27
  let v48 : BitVec 32 := Scalar.muli v47 c1_i32_27
  let v49 : BitVec 32 := Scalar.addi c0_i32_26 v48
  let c1_i32_29 : BitVec 32 := 1#32
  let arg16 : BitVec 32 := Scf.iv v49 c1_i32_29 k0_t2
  let v75 : BitVec 32 := Scalar.muli c2_i32_48 arg16
  let v76 : BitVec 32 := Scalar.addi v74 v75
  let c1_i32_49 : BitVec 32 := 1#32
  let v77 : BitVec 32 := Scalar.addi v76 c1_i32_49
  let v89 : Index := Scalar.indexCast v77
  let c0_63 : Index := 0#32
  let c0_64 : Index := 0#32
  ![0, v89.toNat, 0, 0]
def k0_off13 (i : grid0.Coords) (k0_t2 : Fin (k0_t2_loop i).trips) : Fin 4 → Nat :=
  let c0_68 : Index := 0#32
  let arg1 : BitVec 32 := BitVec.ofNat 32 (i 1).val
  let c1_i32_47 : BitVec 32 := 1#32
  let v74 : BitVec 32 := Scalar.addi arg1 c1_i32_47
  let c2_i32_48 : BitVec 32 := 2#32
  let c0_i32_26 : BitVec 32 := 0#32
  let c31_i32 : BitVec 32 := 31#32
  let v3 : BitVec 32 := Scalar.subi c31_i32 arg1
  let c0_i32_18 : BitVec 32 := 0#32
  let v27 : BitVec 1 := Scalar.cmpi .sgt v3 c0_i32_18
  let v28 : BitVec 32 := Scalar.extui v27
  let c0_i32_19 : BitVec 32 := 0#32
  let v29 : BitVec 1 := Scalar.cmpi .slt v3 c0_i32_19
  let v30 : BitVec 32 := Scalar.extui v29
  let v31 : BitVec 32 := Scalar.subi v28 v30
  let c2_i32 : BitVec 32 := 2#32
  let c0_i32_20 : BitVec 32 := 0#32
  let v32 : BitVec 1 := Scalar.cmpi .sgt c2_i32 c0_i32_20
  let v33 : BitVec 32 := Scalar.extui v32
  let c0_i32_21 : BitVec 32 := 0#32
  let v34 : BitVec 1 := Scalar.cmpi .slt c2_i32 c0_i32_21
  let v35 : BitVec 32 := Scalar.extui v34
  let v36 : BitVec 32 := Scalar.subi v33 v35
  let v37 : BitVec 1 := Scalar.cmpi .ne v31 v36
  let v38 : BitVec 32 := Scalar.remsi v3 c2_i32
  let c0_i32_22 : BitVec 32 := 0#32
  let v39 : BitVec 1 := Scalar.cmpi .ne v38 c0_i32_22
  let v40 : BitVec 1 := Scalar.andi v37 v39
  let v26 : BitVec 32 := Scalar.divsi v3 c2_i32
  let c1_i32_23 : BitVec 32 := 1#32
  let v41 : BitVec 32 := Scalar.subi v26 c1_i32_23
  let v42 : BitVec 32 := Scalar.select v40 v41 v26
  let v45 : BitVec 32 := Scalar.subi v42 c0_i32_26
  let c1_i32_27 : BitVec 32 := 1#32
  let v47 : BitVec 32 := Scalar.divsi v45 c1_i32_27
  let v48 : BitVec 32 := Scalar.muli v47 c1_i32_27
  let v49 : BitVec 32 := Scalar.addi c0_i32_26 v48
  let c1_i32_29 : BitVec 32 := 1#32
  let arg16 : BitVec 32 := Scf.iv v49 c1_i32_29 k0_t2
  let v75 : BitVec 32 := Scalar.muli c2_i32_48 arg16
  let v76 : BitVec 32 := Scalar.addi v74 v75
  let v97 : Index := Scalar.indexCast v76
  let c0_69 : Index := 0#32
  let c0_70 : Index := 0#32
  ![0, v97.toNat, 0, 0]
def k0_off14 (i : grid0.Coords) (k0_t2 : Fin (k0_t2_loop i).trips) : Fin 4 → Nat :=
  let c0_71 : Index := 0#32
  let arg1 : BitVec 32 := BitVec.ofNat 32 (i 1).val
  let c1_i32_47 : BitVec 32 := 1#32
  let v74 : BitVec 32 := Scalar.addi arg1 c1_i32_47
  let c2_i32_48 : BitVec 32 := 2#32
  let c0_i32_26 : BitVec 32 := 0#32
  let c31_i32 : BitVec 32 := 31#32
  let v3 : BitVec 32 := Scalar.subi c31_i32 arg1
  let c0_i32_18 : BitVec 32 := 0#32
  let v27 : BitVec 1 := Scalar.cmpi .sgt v3 c0_i32_18
  let v28 : BitVec 32 := Scalar.extui v27
  let c0_i32_19 : BitVec 32 := 0#32
  let v29 : BitVec 1 := Scalar.cmpi .slt v3 c0_i32_19
  let v30 : BitVec 32 := Scalar.extui v29
  let v31 : BitVec 32 := Scalar.subi v28 v30
  let c2_i32 : BitVec 32 := 2#32
  let c0_i32_20 : BitVec 32 := 0#32
  let v32 : BitVec 1 := Scalar.cmpi .sgt c2_i32 c0_i32_20
  let v33 : BitVec 32 := Scalar.extui v32
  let c0_i32_21 : BitVec 32 := 0#32
  let v34 : BitVec 1 := Scalar.cmpi .slt c2_i32 c0_i32_21
  let v35 : BitVec 32 := Scalar.extui v34
  let v36 : BitVec 32 := Scalar.subi v33 v35
  let v37 : BitVec 1 := Scalar.cmpi .ne v31 v36
  let v38 : BitVec 32 := Scalar.remsi v3 c2_i32
  let c0_i32_22 : BitVec 32 := 0#32
  let v39 : BitVec 1 := Scalar.cmpi .ne v38 c0_i32_22
  let v40 : BitVec 1 := Scalar.andi v37 v39
  let v26 : BitVec 32 := Scalar.divsi v3 c2_i32
  let c1_i32_23 : BitVec 32 := 1#32
  let v41 : BitVec 32 := Scalar.subi v26 c1_i32_23
  let v42 : BitVec 32 := Scalar.select v40 v41 v26
  let v45 : BitVec 32 := Scalar.subi v42 c0_i32_26
  let c1_i32_27 : BitVec 32 := 1#32
  let v47 : BitVec 32 := Scalar.divsi v45 c1_i32_27
  let v48 : BitVec 32 := Scalar.muli v47 c1_i32_27
  let v49 : BitVec 32 := Scalar.addi c0_i32_26 v48
  let c1_i32_29 : BitVec 32 := 1#32
  let arg16 : BitVec 32 := Scf.iv v49 c1_i32_29 k0_t2
  let v75 : BitVec 32 := Scalar.muli c2_i32_48 arg16
  let v76 : BitVec 32 := Scalar.addi v74 v75
  let v101 : Index := Scalar.indexCast v76
  let c0_72 : Index := 0#32
  let c0_73 : Index := 0#32
  ![0, v101.toNat, 0, 0]
def k0_off15 (i : grid0.Coords) (k0_t2 : Fin (k0_t2_loop i).trips) : Fin 4 → Nat :=
  let c0_84 : Index := 0#32
  let arg1 : BitVec 32 := BitVec.ofNat 32 (i 1).val
  let c1_i32_47 : BitVec 32 := 1#32
  let v74 : BitVec 32 := Scalar.addi arg1 c1_i32_47
  let c2_i32_48 : BitVec 32 := 2#32
  let c0_i32_26 : BitVec 32 := 0#32
  let c31_i32 : BitVec 32 := 31#32
  let v3 : BitVec 32 := Scalar.subi c31_i32 arg1
  let c0_i32_18 : BitVec 32 := 0#32
  let v27 : BitVec 1 := Scalar.cmpi .sgt v3 c0_i32_18
  let v28 : BitVec 32 := Scalar.extui v27
  let c0_i32_19 : BitVec 32 := 0#32
  let v29 : BitVec 1 := Scalar.cmpi .slt v3 c0_i32_19
  let v30 : BitVec 32 := Scalar.extui v29
  let v31 : BitVec 32 := Scalar.subi v28 v30
  let c2_i32 : BitVec 32 := 2#32
  let c0_i32_20 : BitVec 32 := 0#32
  let v32 : BitVec 1 := Scalar.cmpi .sgt c2_i32 c0_i32_20
  let v33 : BitVec 32 := Scalar.extui v32
  let c0_i32_21 : BitVec 32 := 0#32
  let v34 : BitVec 1 := Scalar.cmpi .slt c2_i32 c0_i32_21
  let v35 : BitVec 32 := Scalar.extui v34
  let v36 : BitVec 32 := Scalar.subi v33 v35
  let v37 : BitVec 1 := Scalar.cmpi .ne v31 v36
  let v38 : BitVec 32 := Scalar.remsi v3 c2_i32
  let c0_i32_22 : BitVec 32 := 0#32
  let v39 : BitVec 1 := Scalar.cmpi .ne v38 c0_i32_22
  let v40 : BitVec 1 := Scalar.andi v37 v39
  let v26 : BitVec 32 := Scalar.divsi v3 c2_i32
  let c1_i32_23 : BitVec 32 := 1#32
  let v41 : BitVec 32 := Scalar.subi v26 c1_i32_23
  let v42 : BitVec 32 := Scalar.select v40 v41 v26
  let v45 : BitVec 32 := Scalar.subi v42 c0_i32_26
  let c1_i32_27 : BitVec 32 := 1#32
  let v47 : BitVec 32 := Scalar.divsi v45 c1_i32_27
  let v48 : BitVec 32 := Scalar.muli v47 c1_i32_27
  let v49 : BitVec 32 := Scalar.addi c0_i32_26 v48
  let c1_i32_29 : BitVec 32 := 1#32
  let arg16 : BitVec 32 := Scf.iv v49 c1_i32_29 k0_t2
  let v75 : BitVec 32 := Scalar.muli c2_i32_48 arg16
  let v76 : BitVec 32 := Scalar.addi v74 v75
  let v122 : Index := Scalar.indexCast v76
  let c0_85 : Index := 0#32
  let c0_86 : Index := 0#32
  ![0, v122.toNat, 0, 0]
def k0_off16 (i : grid0.Coords) (k0_t2 : Fin (k0_t2_loop i).trips) : Fin 4 → Nat :=
  let c0_120 : Index := 0#32
  let c2_i32_114 : BitVec 32 := 2#32
  let c0_i32_26 : BitVec 32 := 0#32
  let c31_i32 : BitVec 32 := 31#32
  let arg1 : BitVec 32 := BitVec.ofNat 32 (i 1).val
  let v3 : BitVec 32 := Scalar.subi c31_i32 arg1
  let c0_i32_18 : BitVec 32 := 0#32
  let v27 : BitVec 1 := Scalar.cmpi .sgt v3 c0_i32_18
  let v28 : BitVec 32 := Scalar.extui v27
  let c0_i32_19 : BitVec 32 := 0#32
  let v29 : BitVec 1 := Scalar.cmpi .slt v3 c0_i32_19
  let v30 : BitVec 32 := Scalar.extui v29
  let v31 : BitVec 32 := Scalar.subi v28 v30
  let c2_i32 : BitVec 32 := 2#32
  let c0_i32_20 : BitVec 32 := 0#32
  let v32 : BitVec 1 := Scalar.cmpi .sgt c2_i32 c0_i32_20
  let v33 : BitVec 32 := Scalar.extui v32
  let c0_i32_21 : BitVec 32 := 0#32
  let v34 : BitVec 1 := Scalar.cmpi .slt c2_i32 c0_i32_21
  let v35 : BitVec 32 := Scalar.extui v34
  let v36 : BitVec 32 := Scalar.subi v33 v35
  let v37 : BitVec 1 := Scalar.cmpi .ne v31 v36
  let v38 : BitVec 32 := Scalar.remsi v3 c2_i32
  let c0_i32_22 : BitVec 32 := 0#32
  let v39 : BitVec 1 := Scalar.cmpi .ne v38 c0_i32_22
  let v40 : BitVec 1 := Scalar.andi v37 v39
  let v26 : BitVec 32 := Scalar.divsi v3 c2_i32
  let c1_i32_23 : BitVec 32 := 1#32
  let v41 : BitVec 32 := Scalar.subi v26 c1_i32_23
  let v42 : BitVec 32 := Scalar.select v40 v41 v26
  let v45 : BitVec 32 := Scalar.subi v42 c0_i32_26
  let c1_i32_27 : BitVec 32 := 1#32
  let v47 : BitVec 32 := Scalar.divsi v45 c1_i32_27
  let v48 : BitVec 32 := Scalar.muli v47 c1_i32_27
  let v49 : BitVec 32 := Scalar.addi c0_i32_26 v48
  let c1_i32_29 : BitVec 32 := 1#32
  let arg16 : BitVec 32 := Scf.iv v49 c1_i32_29 k0_t2
  let v164 : BitVec 32 := Scalar.muli c2_i32_114 arg16
  let c2_i32_115 : BitVec 32 := 2#32
  let v165 : BitVec 32 := Scalar.addi v164 c2_i32_115
  let v166 : BitVec 1 := Scalar.cmpi .slt v165 v3
  let c1_i32_47 : BitVec 32 := 1#32
  let v74 : BitVec 32 := Scalar.addi arg1 c1_i32_47
  let c2_i32_48 : BitVec 32 := 2#32
  let v75 : BitVec 32 := Scalar.muli c2_i32_48 arg16
  let v76 : BitVec 32 := Scalar.addi v74 v75
  let c2_i32_116 : BitVec 32 := 2#32
  let v167 : BitVec 32 := Scalar.addi v76 c2_i32_116
  let v168 : BitVec 32 := Scalar.select v166 v167 arg1
  let v171 : Index := Scalar.indexCast v168
  let c0_121 : Index := 0#32
  let c0_122 : Index := 0#32
  ![0, v171.toNat, 0, 0]
def k0_off17 (i : grid0.Coords) (k0_t2 : Fin (k0_t2_loop i).trips) : Fin 4 → Nat :=
  let c0_129 : Index := 0#32
  let c2_i32_114 : BitVec 32 := 2#32
  let c0_i32_26 : BitVec 32 := 0#32
  let c31_i32 : BitVec 32 := 31#32
  let arg1 : BitVec 32 := BitVec.ofNat 32 (i 1).val
  let v3 : BitVec 32 := Scalar.subi c31_i32 arg1
  let c0_i32_18 : BitVec 32 := 0#32
  let v27 : BitVec 1 := Scalar.cmpi .sgt v3 c0_i32_18
  let v28 : BitVec 32 := Scalar.extui v27
  let c0_i32_19 : BitVec 32 := 0#32
  let v29 : BitVec 1 := Scalar.cmpi .slt v3 c0_i32_19
  let v30 : BitVec 32 := Scalar.extui v29
  let v31 : BitVec 32 := Scalar.subi v28 v30
  let c2_i32 : BitVec 32 := 2#32
  let c0_i32_20 : BitVec 32 := 0#32
  let v32 : BitVec 1 := Scalar.cmpi .sgt c2_i32 c0_i32_20
  let v33 : BitVec 32 := Scalar.extui v32
  let c0_i32_21 : BitVec 32 := 0#32
  let v34 : BitVec 1 := Scalar.cmpi .slt c2_i32 c0_i32_21
  let v35 : BitVec 32 := Scalar.extui v34
  let v36 : BitVec 32 := Scalar.subi v33 v35
  let v37 : BitVec 1 := Scalar.cmpi .ne v31 v36
  let v38 : BitVec 32 := Scalar.remsi v3 c2_i32
  let c0_i32_22 : BitVec 32 := 0#32
  let v39 : BitVec 1 := Scalar.cmpi .ne v38 c0_i32_22
  let v40 : BitVec 1 := Scalar.andi v37 v39
  let v26 : BitVec 32 := Scalar.divsi v3 c2_i32
  let c1_i32_23 : BitVec 32 := 1#32
  let v41 : BitVec 32 := Scalar.subi v26 c1_i32_23
  let v42 : BitVec 32 := Scalar.select v40 v41 v26
  let v45 : BitVec 32 := Scalar.subi v42 c0_i32_26
  let c1_i32_27 : BitVec 32 := 1#32
  let v47 : BitVec 32 := Scalar.divsi v45 c1_i32_27
  let v48 : BitVec 32 := Scalar.muli v47 c1_i32_27
  let v49 : BitVec 32 := Scalar.addi c0_i32_26 v48
  let c1_i32_29 : BitVec 32 := 1#32
  let arg16 : BitVec 32 := Scf.iv v49 c1_i32_29 k0_t2
  let v164 : BitVec 32 := Scalar.muli c2_i32_114 arg16
  let c2_i32_115 : BitVec 32 := 2#32
  let v165 : BitVec 32 := Scalar.addi v164 c2_i32_115
  let v166 : BitVec 1 := Scalar.cmpi .slt v165 v3
  let c1_i32_47 : BitVec 32 := 1#32
  let v74 : BitVec 32 := Scalar.addi arg1 c1_i32_47
  let c2_i32_48 : BitVec 32 := 2#32
  let v75 : BitVec 32 := Scalar.muli c2_i32_48 arg16
  let v76 : BitVec 32 := Scalar.addi v74 v75
  let c2_i32_116 : BitVec 32 := 2#32
  let v167 : BitVec 32 := Scalar.addi v76 c2_i32_116
  let v168 : BitVec 32 := Scalar.select v166 v167 arg1
  let v180 : Index := Scalar.indexCast v168
  let c0_130 : Index := 0#32
  let c0_131 : Index := 0#32
  ![0, v180.toNat, 0, 0]
def k0_off18 (i : grid0.Coords) (k0_t2 : Fin (k0_t2_loop i).trips) : Fin 4 → Nat :=
  let c0_139 : Index := 0#32
  let arg1 : BitVec 32 := BitVec.ofNat 32 (i 1).val
  let c1_i32_47 : BitVec 32 := 1#32
  let v74 : BitVec 32 := Scalar.addi arg1 c1_i32_47
  let c2_i32_48 : BitVec 32 := 2#32
  let c0_i32_26 : BitVec 32 := 0#32
  let c31_i32 : BitVec 32 := 31#32
  let v3 : BitVec 32 := Scalar.subi c31_i32 arg1
  let c0_i32_18 : BitVec 32 := 0#32
  let v27 : BitVec 1 := Scalar.cmpi .sgt v3 c0_i32_18
  let v28 : BitVec 32 := Scalar.extui v27
  let c0_i32_19 : BitVec 32 := 0#32
  let v29 : BitVec 1 := Scalar.cmpi .slt v3 c0_i32_19
  let v30 : BitVec 32 := Scalar.extui v29
  let v31 : BitVec 32 := Scalar.subi v28 v30
  let c2_i32 : BitVec 32 := 2#32
  let c0_i32_20 : BitVec 32 := 0#32
  let v32 : BitVec 1 := Scalar.cmpi .sgt c2_i32 c0_i32_20
  let v33 : BitVec 32 := Scalar.extui v32
  let c0_i32_21 : BitVec 32 := 0#32
  let v34 : BitVec 1 := Scalar.cmpi .slt c2_i32 c0_i32_21
  let v35 : BitVec 32 := Scalar.extui v34
  let v36 : BitVec 32 := Scalar.subi v33 v35
  let v37 : BitVec 1 := Scalar.cmpi .ne v31 v36
  let v38 : BitVec 32 := Scalar.remsi v3 c2_i32
  let c0_i32_22 : BitVec 32 := 0#32
  let v39 : BitVec 1 := Scalar.cmpi .ne v38 c0_i32_22
  let v40 : BitVec 1 := Scalar.andi v37 v39
  let v26 : BitVec 32 := Scalar.divsi v3 c2_i32
  let c1_i32_23 : BitVec 32 := 1#32
  let v41 : BitVec 32 := Scalar.subi v26 c1_i32_23
  let v42 : BitVec 32 := Scalar.select v40 v41 v26
  let v45 : BitVec 32 := Scalar.subi v42 c0_i32_26
  let c1_i32_27 : BitVec 32 := 1#32
  let v47 : BitVec 32 := Scalar.divsi v45 c1_i32_27
  let v48 : BitVec 32 := Scalar.muli v47 c1_i32_27
  let v49 : BitVec 32 := Scalar.addi c0_i32_26 v48
  let c1_i32_29 : BitVec 32 := 1#32
  let arg16 : BitVec 32 := Scf.iv v49 c1_i32_29 k0_t2
  let v75 : BitVec 32 := Scalar.muli c2_i32_48 arg16
  let v76 : BitVec 32 := Scalar.addi v74 v75
  let c1_i32_135 : BitVec 32 := 1#32
  let v188 : BitVec 32 := Scalar.addi v76 c1_i32_135
  let v193 : Index := Scalar.indexCast v188
  let c0_140 : Index := 0#32
  let c0_141 : Index := 0#32
  ![0, v193.toNat, 0, 0]
def k0_cond2 (i : grid0.Coords) : BitVec 1 :=
  let c31_i32 : BitVec 32 := 31#32
  let arg1 : BitVec 32 := BitVec.ofNat 32 (i 1).val
  let v3 : BitVec 32 := Scalar.subi c31_i32 arg1
  let c2_i32_30 : BitVec 32 := 2#32
  let c0_i32_31 : BitVec 32 := 0#32
  let v52 : BitVec 1 := Scalar.cmpi .eq c2_i32_30 c0_i32_31
  let c1_i32_32 : BitVec 32 := 1#32
  let v53 : BitVec 32 := Scalar.select v52 c1_i32_32 c2_i32_30
  let v54 : BitVec 32 := Scalar.remsi v3 v53
  let c0_i32_34 : BitVec 32 := 0#32
  let v56 : BitVec 1 := Scalar.cmpi .slt v54 c0_i32_34
  let c0_i32_35 : BitVec 32 := 0#32
  let v57 : BitVec 1 := Scalar.cmpi .slt v53 c0_i32_35
  let v58 : BitVec 1 := Scalar.xori v56 v57
  let c0_i32_33 : BitVec 32 := 0#32
  let v55 : BitVec 1 := Scalar.cmpi .ne v54 c0_i32_33
  let v59 : BitVec 1 := Scalar.andi v58 v55
  let v60 : BitVec 32 := Scalar.addi v54 v53
  let v61 : BitVec 32 := Scalar.select v59 v60 v54
  let c0_i32_36 : BitVec 32 := 0#32
  let v62 : BitVec 1 := Scalar.cmpi .eq v61 c0_i32_36
  let v63 : BitVec 32 := Scalar.extui v62
  let c0_i32_37 : BitVec 32 := 0#32
  let v64 : BitVec 1 := Scalar.cmpi .ne v63 c0_i32_37
  v64

def k0_off19 (i : grid0.Coords) : Fin 4 → Nat :=
  let c0_47 : Index := 0#32
  let arg1 : BitVec 32 := BitVec.ofNat 32 (i 1).val
  let v74 : Index := Scalar.indexCast arg1
  let c0_48 : Index := 0#32
  let c0_49 : Index := 0#32
  ![0, v74.toNat, 0, 0]
def k0_off20 (i : grid0.Coords) : Fin 4 → Nat :=
  let c0_50 : Index := 0#32
  let arg1 : BitVec 32 := BitVec.ofNat 32 (i 1).val
  let v78 : Index := Scalar.indexCast arg1
  let c0_51 : Index := 0#32
  let c0_52 : Index := 0#32
  ![0, v78.toNat, 0, 0]
def k0_off21 (i : grid0.Coords) : Fin 4 → Nat :=
  let c0_64 : Index := 0#32
  let arg1 : BitVec 32 := BitVec.ofNat 32 (i 1).val
  let v105 : Index := Scalar.indexCast arg1
  let c0_65 : Index := 0#32
  let c0_66 : Index := 0#32
  ![0, v105.toNat, 0, 0]
def k0_off22 (i : grid0.Coords) : Fin 4 → Nat :=
  let c0_50 : Index := 0#32
  let arg1 : BitVec 32 := BitVec.ofNat 32 (i 1).val
  let v76 : Index := Scalar.indexCast arg1
  let c0_51 : Index := 0#32
  let c0_52 : Index := 0#32
  ![0, v76.toNat, 0, 0]
def k0_off23 (i : grid0.Coords) : Fin 4 → Nat :=
  let c0_59 : Index := 0#32
  let arg1 : BitVec 32 := BitVec.ofNat 32 (i 1).val
  let v85 : Index := Scalar.indexCast arg1
  let c0_60 : Index := 0#32
  let c0_61 : Index := 0#32
  ![0, v85.toNat, 0, 0]
def k0_off24 (i : grid0.Coords) : Fin 4 → Nat :=
  let c0_120 : Index := 0#32
  let arg1 : BitVec 32 := BitVec.ofNat 32 (i 1).val
  let v157 : Index := Scalar.indexCast arg1
  let c0_121 : Index := 0#32
  let c0_122 : Index := 0#32
  ![0, v157.toNat, 0, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x32x96x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x96 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x96x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x32x64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x32x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x32x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x32x96x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x96x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x64x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelIdeal.lean ====
variable {F : FTy → Type} [FloatOps F] [Named F]
def κ : String → Option EReal := fun
  | "log2e" => some (((Real.log 2)⁻¹ : ℝ) : EReal)
  | "mask" => some ⊥
  | "scale" => some ((3424635 / 33554432 : ℝ) : EReal)
  | "scale_log2e" => some (((3424635 / 33554432) * (Real.log 2)⁻¹ : ℝ) : EReal)
  | _ => none
-- ==== ReferenceIdeal.lean ====
abbrev S16384x8x96 : Shape := ⟨3, ![16384, 8, 96]⟩
abbrev S16384x8x64 : Shape := ⟨3, ![16384, 8, 64]⟩
abbrev S8x16384x16384 : Shape := ⟨3, ![8, 16384, 16384]⟩
abbrev S_ : Shape := ⟨0, ![]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S8x16384 : Shape := ⟨2, ![8, 16384]⟩
abbrev S8x16384x1 : Shape := ⟨3, ![8, 16384, 1]⟩
abbrev S8x64x16384 : Shape := ⟨3, ![8, 64, 16384]⟩
abbrev S8x16384x96 : Shape := ⟨3, ![8, 16384, 96]⟩
abbrev S32x512x8x96 : Shape := ⟨4, ![32, 512, 8, 96]⟩
abbrev S8x32x96x512 : Shape := ⟨4, ![8, 32, 96, 512]⟩
abbrev S32x512x8x64 : Shape := ⟨4, ![32, 512, 8, 64]⟩
abbrev S8x32x64x512 : Shape := ⟨4, ![8, 32, 64, 512]⟩

abbrev nBuf : Space → Nat
  | .hbm => 95
  | .vmem => 0
  | .smem => 0
  | _ => 0

abbrev bufTy : (tb : Table) → Fin (tcTables nBuf tb) → BufTy
  | .hbm, ⟨0, _⟩ => ⟨S16384x8x96, .f32⟩
  | .hbm, ⟨1, _⟩ => ⟨S16384x8x96, .f32⟩
  | .hbm, ⟨2, _⟩ => ⟨S16384x8x64, .f32⟩
  | .hbm, ⟨3, _⟩ => ⟨S16384x8x64, .f32⟩
  | .hbm, ⟨4, _⟩ => ⟨S8x16384x16384, .f32⟩
  | .hbm, ⟨5, _⟩ => ⟨S_, .f32⟩
  | .hbm, ⟨6, _⟩ => ⟨S8x16384x16384, .f32⟩
  | .hbm, ⟨7, _⟩ => ⟨S8x16384x16384, .f32⟩
  | .hbm, ⟨8, _⟩ => ⟨S16384, .i32⟩
  | .hbm, ⟨9, _⟩ => ⟨S1x16384, .i32⟩
  | .hbm, ⟨10, _⟩ => ⟨S16384x1, .i32⟩
  | .hbm, ⟨11, _⟩ => ⟨S16384x16384, .i32⟩
  | .hbm, ⟨12, _⟩ => ⟨S16384x16384, .i32⟩
  | .hbm, ⟨13, _⟩ => ⟨S16384x16384, .i1⟩
  | .hbm, ⟨14, _⟩ => ⟨S_, .f32⟩
  | .hbm, ⟨15, _⟩ => ⟨S_, .f32⟩
  | .hbm, ⟨16, _⟩ => ⟨S8x16384x16384, .i1⟩
  | .hbm, ⟨17, _⟩ => ⟨S8x16384x16384, .f32⟩
  | .hbm, ⟨18, _⟩ => ⟨S8x16384x16384, .f32⟩
  | .hbm, ⟨19, _⟩ => ⟨S_, .f32⟩
  | .hbm, ⟨20, _⟩ => ⟨S8x16384x16384, .f32⟩
  | .hbm, ⟨21, _⟩ => ⟨S_, .f32⟩
  | .hbm, ⟨22, _⟩ => ⟨S8x16384, .f32⟩
  | .hbm, ⟨23, _⟩ => ⟨S8x16384x1, .f32⟩
  | .hbm, ⟨24, _⟩ => ⟨S8x16384x16384, .f32⟩
  | .hbm, ⟨25, _⟩ => ⟨S8x16384x16384, .i1⟩
  | .hbm, ⟨26, _⟩ => ⟨S8x16384x16384, .f32⟩
  | .hbm, ⟨27, _⟩ => ⟨S_, .f32⟩
  | .hbm, ⟨28, _⟩ => ⟨S8x16384, .f32⟩
  | .hbm, ⟨29, _⟩ => ⟨S_, .f32⟩
  | .hbm, ⟨30, _⟩ => ⟨S8x16384, .f32⟩
  | .hbm, ⟨31, _⟩ => ⟨S8x16384, .f32⟩
  | .hbm, ⟨32, _⟩ => ⟨S_, .f32⟩
  | .hbm, ⟨33, _⟩ => ⟨S8x16384, .f32⟩
  | .hbm, ⟨34, _⟩ => ⟨S8x16384, .i1⟩
  | .hbm, ⟨35, _⟩ => ⟨S_, .f32⟩
  | .hbm, ⟨36, _⟩ => ⟨S8x16384, .f32⟩
  | .hbm, ⟨37, _⟩ => ⟨S8x16384, .i1⟩
  | .hbm, ⟨38, _⟩ => ⟨S_, .f32⟩
  | .hbm, ⟨39, _⟩ => ⟨S8x16384, .f32⟩
  | .hbm, ⟨40, _⟩ => ⟨S_, .f32⟩
  | .hbm, ⟨41, _⟩ => ⟨S8x16384, .f32⟩
  | .hbm, ⟨42, _⟩ => ⟨S_, .f32⟩
  | .hbm, ⟨43, _⟩ => ⟨S8x16384, .f32⟩
  | .hbm, ⟨44, _⟩ => ⟨S8x16384, .f32⟩
  | .hbm, ⟨45, _⟩ => ⟨S8x16384, .f32⟩
  | .hbm, ⟨46, _⟩ => ⟨S8x16384x1, .f32⟩
  | .hbm, ⟨47, _⟩ => ⟨S8x16384x16384, .f32⟩
  | .hbm, ⟨48, _⟩ => ⟨S8x16384x16384, .f32⟩
  | .hbm, ⟨49, _⟩ => ⟨S8x16384x16384, .f32⟩
  | .hbm, ⟨50, _⟩ => ⟨S_, .f32⟩
  | .hbm, ⟨51, _⟩ => ⟨S8x16384, .f32⟩
  | .hbm, ⟨52, _⟩ => ⟨S8x16384x1, .f32⟩
  | .hbm, ⟨53, _⟩ => ⟨S8x16384x16384, .f32⟩
  | .hbm, ⟨54, _⟩ => ⟨S8x16384x16384, .f32⟩
  | .hbm, ⟨55, _⟩ => ⟨S8x16384x1, .f32⟩
  | .hbm, ⟨56, _⟩ => ⟨S_, .f32⟩
  | .hbm, ⟨57, _⟩ => ⟨S8x16384x1, .f32⟩
  | .hbm, ⟨58, _⟩ => ⟨S8x16384x1, .f32⟩
  | .hbm, ⟨59, _⟩ => ⟨S8x64x16384, .f32⟩
  | .hbm, ⟨60, _⟩ => ⟨S16384x8x64, .f32⟩
  | .hbm, ⟨61, _⟩ => ⟨S8x64x16384, .f32⟩
  | .hbm, ⟨62, _⟩ => ⟨S8x16384x16384, .f32⟩
  | .hbm, ⟨63, _⟩ => ⟨S8x64x16384, .f32⟩
  | .hbm, ⟨64, _⟩ => ⟨S16384x8x64, .f32⟩
  | .hbm, ⟨65, _⟩ => ⟨S8x16384x16384, .f32⟩
  | .hbm, ⟨66, _⟩ => ⟨S8x16384x16384, .f32⟩
  | .hbm, ⟨67, _⟩ => ⟨S8x16384x16384, .f32⟩
  | .hbm, ⟨68, _⟩ => ⟨S_, .f32⟩
  | .hbm, ⟨69, _⟩ => ⟨S8x16384, .f32⟩
  | .hbm, ⟨70, _⟩ => ⟨S8x16384x1, .f32⟩
  | .hbm, ⟨71, _⟩ => ⟨S8x16384x1, .f32⟩
  | .hbm, ⟨72, _⟩ => ⟨S8x16384x16384, .f32⟩
  | .hbm, ⟨73, _⟩ => ⟨S8x16384x16384, .f32⟩
  | .hbm, ⟨74, _⟩ => ⟨S_, .f32⟩
  | .hbm, ⟨75, _⟩ => ⟨S8x16384, .f32⟩
  | .hbm, ⟨76, _⟩ => ⟨S8x16384x16384, .f32⟩
  | .hbm, ⟨77, _⟩ => ⟨S8x16384x16384, .f32⟩
  | .hbm, ⟨78, _⟩ => ⟨S8x16384x16384, .f32⟩
  | .hbm, ⟨79, _⟩ => ⟨S_, .f32⟩
  | .hbm, ⟨80, _⟩ => ⟨S8x16384x16384, .f32⟩
  | .hbm, ⟨81, _⟩ => ⟨S8x16384x16384, .f32⟩
  | .hbm, ⟨82, _⟩ => ⟨S_, .f32⟩
  | .hbm, ⟨83, _⟩ => ⟨S8x16384x16384, .f32⟩
  | .hbm, ⟨84, _⟩ => ⟨S8x16384x16384, .f32⟩
  | .hbm, ⟨85, _⟩ => ⟨S8x16384x96, .f32⟩
  | .hbm, ⟨86, _⟩ => ⟨S16384x8x96, .f32⟩
  | .hbm, ⟨87, _⟩ => ⟨S8x16384x96, .f32⟩
  | .hbm, ⟨88, _⟩ => ⟨S16384x8x96, .f32⟩
  | .hbm, ⟨89, _⟩ => ⟨S32x512x8x96, .f32⟩
  | .hbm, ⟨90, _⟩ => ⟨S8x32x96x512, .f32⟩
  | .hbm, ⟨91, _⟩ => ⟨S32x512x8x96, .f32⟩
  | .hbm, ⟨92, _⟩ => ⟨S8x32x96x512, .f32⟩
  | .hbm, ⟨93, _⟩ => ⟨S32x512x8x64, .f32⟩
  | .hbm, ⟨94, _⟩ => ⟨S8x32x64x512, .f32⟩
  | _, _ => ⟨S16384x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_call0_v0 : Ref sig .tc := ⟨.hbm, 15, rfl⟩
abbrev main_v9_1 : Ref sig .tc := ⟨.hbm, 16, rfl⟩
abbrev main_call0_v2 : Ref sig .tc := ⟨.hbm, 17, rfl⟩
abbrev main_v9_0 : Ref sig .tc := ⟨.hbm, 18, rfl⟩
abbrev main_call0_cst : Ref sig .tc := ⟨.hbm, 19, rfl⟩
abbrev main_v9_2 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_v21 : Ref sig .tc := ⟨.hbm, 37, rfl⟩
abbrev main_cst_6 : Ref sig .tc := ⟨.hbm, 38, rfl⟩
abbrev main_v22 : Ref sig .tc := ⟨.hbm, 39, rfl⟩
abbrev main_cst_7 : Ref sig .tc := ⟨.hbm, 40, rfl⟩
abbrev main_v23 : Ref sig .tc := ⟨.hbm, 41, rfl⟩
abbrev main_cst_8 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_9 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_10 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_11 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_12 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_call1_cst : Ref sig .tc := ⟨.hbm, 79, rfl⟩
abbrev main_call1_v0 : Ref sig .tc := ⟨.hbm, 80, rfl⟩
abbrev main_v56 : Ref sig .tc := ⟨.hbm, 81, rfl⟩
abbrev main_cst_13 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩

abbrev nD : Nat := 1
abbrev τ : Topo := Topo.v7x

variable {F : FTy → Type} [FloatOps F]
-- ==== Kernel2.lean ====
abbrev S16384x4096 : Shape := ⟨2, ![16384, 4096]⟩
abbrev S4096x1024 : Shape := ⟨2, ![4096, 1024]⟩
abbrev S16384x1024 : Shape := ⟨2, ![16384, 1024]⟩
abbrev S_ : Shape := ⟨0, ![]⟩
abbrev S2048x1024 : Shape := ⟨2, ![2048, 1024]⟩
abbrev S512x1024 : Shape := ⟨2, ![512, 1024]⟩
abbrev S2048x512 : Shape := ⟨2, ![2048, 512]⟩

abbrev nBuf : Space → Nat
  | .hbm => 12
  | .vmem => 8
  | .smem => 0
  | _ => 0

abbrev bufTy : (tb : Table) → Fin (tcTables nBuf tb) → BufTy
  | .hbm, ⟨0, _⟩ => ⟨S16384x4096, .f32⟩
  | .hbm, ⟨1, _⟩ => ⟨S4096x1024, .f32⟩
  | .hbm, ⟨2, _⟩ => ⟨S16384x1024, .f32⟩
  | .hbm, ⟨3, _⟩ => ⟨S_, .f32⟩
  | .hbm, ⟨4, _⟩ => ⟨S16384x4096, .f32⟩
  | .hbm, ⟨5, _⟩ => ⟨S16384x4096, .f32⟩
  | .hbm, ⟨6, _⟩ => ⟨S_, .f32⟩
  | .hbm, ⟨7, _⟩ => ⟨S16384x4096, .f32⟩
  | .hbm, ⟨8, _⟩ => ⟨S16384x4096, .f32⟩
  | .hbm, ⟨9, _⟩ => ⟨S16384x4096, .bf16⟩
  | .hbm, ⟨10, _⟩ => ⟨S4096x1024, .bf16⟩
  | .hbm, ⟨11, _⟩ => ⟨S16384x4096, .bf16⟩
  | .local _ .vmem, ⟨0, _⟩ => ⟨S2048x1024, .f32⟩
  | .local _ .vmem, ⟨1, _⟩ => ⟨S2048x1024, .f32⟩
  | .local _ .vmem, ⟨2, _⟩ => ⟨S512x1024, .bf16⟩
  | .local _ .vmem, ⟨3, _⟩ => ⟨S512x1024, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S16384x4096 : Shape := ⟨2, ![16384, 4096]⟩
abbrev S4096x1024 : Shape := ⟨2, ![4096, 1024]⟩
abbrev S16384x1024 : Shape := ⟨2, ![16384, 1024]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x1024, .f32⟩
  | .hbm, ⟨2, _⟩ => ⟨S16384x1024, .f32⟩
  | .hbm, ⟨3, _⟩ => ⟨S_, .f32⟩
  | .hbm, ⟨4, _⟩ => ⟨S16384x4096, .f32⟩
  | .hbm, ⟨5, _⟩ => ⟨S16384x4096, .f32⟩
  | .hbm, ⟨6, _⟩ => ⟨S_, .f32⟩
  | .hbm, ⟨7, _⟩ => ⟨S16384x4096, .f32⟩
  | .hbm, ⟨8, _⟩ => ⟨S16384x4096, .i1⟩
  | .hbm, ⟨9, _⟩ => ⟨S_, .f32⟩
  | .hbm, ⟨10, _⟩ => ⟨S16384x4096, .f32⟩
  | .hbm, ⟨11, _⟩ => ⟨S16384x4096, .f32⟩
  | .hbm, ⟨12, _⟩ => ⟨S16384x1024, .f32⟩
  | .hbm, ⟨13, _⟩ => ⟨S16384x4096, .f32⟩
  | .hbm, ⟨14, _⟩ => ⟨S16384x4096, .f32⟩
  | .hbm, ⟨15, _⟩ => ⟨S16384x4096, .f32⟩
  | .hbm, ⟨16, _⟩ => ⟨S16384x4096, .f32⟩
  | .hbm, ⟨17, _⟩ => ⟨S_, .f32⟩
  | .hbm, ⟨18, _⟩ => ⟨S16384x4096, .f32⟩
  | .hbm, ⟨19, _⟩ => ⟨S16384x4096, .f32⟩
  | .hbm, ⟨20, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩

abbrev nD : Nat := 1
abbrev τ : Topo := Topo.v7x

variable {F : FTy → Type} [FloatOps F]
-- ==== Kernel3.lean ====
abbrev S16384x4096 : Shape := ⟨2, ![16384, 4096]⟩
abbrev S16384x1024 : Shape := ⟨2, ![16384, 1024]⟩
abbrev S_ : Shape := ⟨0, ![]⟩
abbrev S4096x1024 : Shape := ⟨2, ![4096, 1024]⟩
abbrev S1024x2048 : Shape := ⟨2, ![1024, 2048]⟩
abbrev S1024x1024 : Shape := ⟨2, ![1024, 1024]⟩
abbrev S2048x1024 : Shape := ⟨2, ![2048, 1024]⟩

abbrev nBuf : Space → Nat
  | .hbm => 8
  | .vmem => 6
  | .smem => 0
  | _ => 0

abbrev bufTy : (tb : Table) → Fin (tcTables nBuf tb) → BufTy
  | .hbm, ⟨0, _⟩ => ⟨S16384x4096, .f32⟩
  | .hbm, ⟨1, _⟩ => ⟨S16384x1024, .f32⟩
  | .hbm, ⟨2, _⟩ => ⟨S_, .f32⟩
  | .hbm, ⟨3, _⟩ => ⟨S16384x4096, .f32⟩
  | .hbm, ⟨4, _⟩ => ⟨S16384x4096, .f32⟩
  | .hbm, ⟨5, _⟩ => ⟨S16384x4096, .f32⟩
  | .hbm, ⟨6, _⟩ => ⟨S16384x4096, .bf16⟩
  | .hbm, ⟨7, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x1024, .f32⟩
  | .local _ .vmem, ⟨3, _⟩ => ⟨S1024x1024, .f32⟩
  | .local _ .vmem, ⟨4, _⟩ => ⟨S2048x1024, .f32⟩
  | .local _ .vmem, ⟨5, _⟩ => ⟨S2048x1024, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S16384x4096 : Shape := ⟨2, ![16384, 4096]⟩
abbrev S16384x1024 : Shape := ⟨2, ![16384, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 11
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x1024, .f32⟩
  | .hbm, ⟨2, _⟩ => ⟨S_, .f32⟩
  | .hbm, ⟨3, _⟩ => ⟨S4096x1024, .f32⟩
  | .hbm, ⟨4, _⟩ => ⟨S_, .f32⟩
  | .hbm, ⟨5, _⟩ => ⟨S16384x4096, .f32⟩
  | .hbm, ⟨6, _⟩ => ⟨S16384x4096, .f32⟩
  | .hbm, ⟨7, _⟩ => ⟨S16384x4096, .f32⟩
  | .hbm, ⟨8, _⟩ => ⟨S16384x1024, .f32⟩
  | .hbm, ⟨9, _⟩ => ⟨S1024x4096, .f32⟩
  | .hbm, ⟨10, _⟩ => ⟨S4096x1024, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Kernel4.lean ====
abbrev S16384x1024 : Shape := ⟨2, ![16384, 1024]⟩
abbrev S16384x4096 : Shape := ⟨2, ![16384, 4096]⟩
abbrev S1024x4096 : Shape := ⟨2, ![1024, 4096]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S16384x4096, .f32⟩
  | .hbm, ⟨2, _⟩ => ⟨S16384x1024, .bf16⟩
  | .hbm, ⟨3, _⟩ => ⟨S16384x4096, .bf16⟩
  | .hbm, ⟨4, _⟩ => ⟨S1024x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S16384x1024 : Shape := ⟨2, ![16384, 1024]⟩
abbrev S16384x4096 : Shape := ⟨2, ![16384, 4096]⟩
abbrev S_ : Shape := ⟨0, ![]⟩
abbrev S1024x4096 : Shape := ⟨2, ![1024, 4096]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x4096, .f32⟩
  | .hbm, ⟨2, _⟩ => ⟨S_, .f32⟩
  | .hbm, ⟨3, _⟩ => ⟨S1024x4096, .f32⟩
  | .hbm, ⟨4, _⟩ => ⟨S16384x4096, .f32⟩
  | .hbm, ⟨5, _⟩ => ⟨S4096x1024, .f32⟩
  | .hbm, ⟨6, _⟩ => ⟨S1024x4096, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel5.lean ====
abbrev S16384x1024 : Shape := ⟨2, ![16384, 1024]⟩
abbrev S1024 : Shape := ⟨1, ![1024]⟩
abbrev S1024x4096 : Shape := ⟨2, ![1024, 4096]⟩
abbrev S16384x4096 : Shape := ⟨2, ![16384, 4096]⟩
abbrev S1x1024 : Shape := ⟨2, ![1, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4096, .f32⟩
  | .hbm, ⟨3, _⟩ => ⟨S16384x4096, .f32⟩
  | .hbm, ⟨4, _⟩ => ⟨S16384x1024, .f32⟩
  | .hbm, ⟨5, _⟩ => ⟨S16384x4096, .bf16⟩
  | .hbm, ⟨6, _⟩ => ⟨S1024x4096, .bf16⟩
  | .hbm, ⟨7, _⟩ => ⟨S1x1024, .f32⟩
  | .hbm, ⟨8, _⟩ => ⟨S16384x1024, .f32⟩
  | .hbm, ⟨9, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S1024x4096, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference5Ideal.lean ====
abbrev S16384x1024 : Shape := ⟨2, ![16384, 1024]⟩
abbrev S1024 : Shape := ⟨1, ![1024]⟩
abbrev S1024x4096 : Shape := ⟨2, ![1024, 4096]⟩
abbrev S16384x4096 : Shape := ⟨2, ![16384, 4096]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4096, .f32⟩
  | .hbm, ⟨3, _⟩ => ⟨S16384x4096, .f32⟩
  | .hbm, ⟨4, _⟩ => ⟨S16384x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S16384x4096, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S16384x1024, .f32⟩
  | .hbm, ⟨32, _⟩ => ⟨S16384x1024, .f32⟩
  | .hbm, ⟨33, _⟩ => ⟨S_, .f32⟩
  | .hbm, ⟨34, _⟩ => ⟨S1024, .f32⟩
  | .hbm, ⟨35, _⟩ => ⟨S16384x1024, .f32⟩
  | .hbm, ⟨36, _⟩ => ⟨S_, .f32⟩
  | .hbm, ⟨37, _⟩ => ⟨S16384, .f32⟩
  | .hbm, ⟨38, _⟩ => ⟨S16384x1, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S_, .f32⟩
  | .hbm, ⟨47, _⟩ => ⟨S16384, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Kernel6.lean ====
abbrev S16384x1024 : Shape := ⟨2, ![16384, 1024]⟩
abbrev S1024x4096 : Shape := ⟨2, ![1024, 4096]⟩
abbrev S16384x4096 : Shape := ⟨2, ![16384, 4096]⟩
abbrev S2048x1024 : Shape := ⟨2, ![2048, 1024]⟩
abbrev S1024x512 : Shape := ⟨2, ![1024, 512]⟩
abbrev S2048x512 : Shape := ⟨2, ![2048, 512]⟩

abbrev nBuf : Space → Nat
  | .hbm => 6
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1024x4096, .f32⟩
  | .hbm, ⟨2, _⟩ => ⟨S16384x1024, .bf16⟩
  | .hbm, ⟨3, _⟩ => ⟨S1024x4096, .bf16⟩
  | .hbm, ⟨4, _⟩ => ⟨S16384x4096, .bf16⟩
  | .hbm, ⟨5, _⟩ => ⟨S16384x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1024x512, .bf16⟩
  | .local _ .vmem, ⟨3, _⟩ => ⟨S1024x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S16384x1024 : Shape := ⟨2, ![16384, 1024]⟩
abbrev S1024x4096 : Shape := ⟨2, ![1024, 4096]⟩
abbrev S16384x4096 : Shape := ⟨2, ![16384, 4096]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x4096, .f32⟩
  | .hbm, ⟨2, _⟩ => ⟨S16384x4096, .f32⟩
  | .hbm, ⟨3, _⟩ => ⟨S_, .f32⟩
  | .hbm, ⟨4, _⟩ => ⟨S16384x4096, .f32⟩
  | .hbm, ⟨5, _⟩ => ⟨S16384x4096, .f32⟩
  | .hbm, ⟨6, _⟩ => ⟨S_, .f32⟩
  | .hbm, ⟨7, _⟩ => ⟨S16384x4096, .f32⟩
  | .hbm, ⟨8, _⟩ => ⟨S16384x4096, .i1⟩
  | .hbm, ⟨9, _⟩ => ⟨S_, .f32⟩
  | .hbm, ⟨10, _⟩ => ⟨S16384x4096, .f32⟩
  | .hbm, ⟨11, _⟩ => ⟨S16384x4096, .f32⟩
  | .hbm, ⟨12, _⟩ => ⟨S16384x4096, .bf16⟩
  | .hbm, ⟨13, _⟩ => ⟨S_, .f32⟩
  | .hbm, ⟨14, _⟩ => ⟨S16384x4096, .f32⟩
  | .hbm, ⟨15, _⟩ => ⟨S16384x4096, .f32⟩
  | .hbm, ⟨16, _⟩ => ⟨S16384x4096, .f32⟩
  | .hbm, ⟨17, _⟩ => ⟨S16384x4096, .f32⟩
  | .hbm, ⟨18, _⟩ => ⟨S_, .f32⟩
  | .hbm, ⟨19, _⟩ => ⟨S16384x4096, .f32⟩
  | .hbm, ⟨20, _⟩ => ⟨S16384x4096, .f32⟩
  | .hbm, ⟨21, _⟩ => ⟨S16384x4096, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]
-- ==== Kernel7.lean ====
abbrev S16384x4096 : Shape := ⟨2, ![16384, 4096]⟩
abbrev S4096x1024 : Shape := ⟨2, ![4096, 1024]⟩
abbrev S16384x1024 : Shape := ⟨2, ![16384, 1024]⟩
abbrev S_ : Shape := ⟨0, ![]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 10
  | .vmem => 8
  | .smem => 0
  | _ => 0

abbrev bufTy : (tb : Table) → Fin (tcTables nBuf tb) → BufTy
  | .hbm, ⟨0, _⟩ => ⟨S16384x4096, .f32⟩
  | .hbm, ⟨1, _⟩ => ⟨S4096x1024, .f32⟩
  | .hbm, ⟨2, _⟩ => ⟨S16384x1024, .f32⟩
  | .hbm, ⟨3, _⟩ => ⟨S_, .f32⟩
  | .hbm, ⟨4, _⟩ => ⟨S16384x4096, .f32⟩
  | .hbm, ⟨5, _⟩ => ⟨S16384x4096, .f32⟩
  | .hbm, ⟨6, _⟩ => ⟨S16384x4096, .f32⟩
  | .hbm, ⟨7, _⟩ => ⟨S16384x4096, .bf16⟩
  | .hbm, ⟨8, _⟩ => ⟨S4096x1024, .bf16⟩
  | .hbm, ⟨9, _⟩ => ⟨S16384x1024, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S16384x4096 : Shape := ⟨2, ![16384, 4096]⟩
abbrev S4096x1024 : Shape := ⟨2, ![4096, 1024]⟩
abbrev S16384x1024 : Shape := ⟨2, ![16384, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x1024, .f32⟩
  | .hbm, ⟨2, _⟩ => ⟨S16384x1024, .f32⟩
  | .hbm, ⟨3, _⟩ => ⟨S_, .f32⟩
  | .hbm, ⟨4, _⟩ => ⟨S16384x4096, .f32⟩
  | .hbm, ⟨5, _⟩ => ⟨S16384x4096, .f32⟩
  | .hbm, ⟨6, _⟩ => ⟨S16384x4096, .f32⟩
  | .hbm, ⟨7, _⟩ => ⟨S16384x1024, .f32⟩
  | .hbm, ⟨8, _⟩ => ⟨S16384x1024, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩

abbrev nD : Nat := 1
abbrev τ : Topo := Topo.v7x

variable {F : FTy → Type} [FloatOps F]
-- ==== Kernel8.lean ====
abbrev S16384x1024 : Shape := ⟨2, ![16384, 1024]⟩
abbrev S1024 : Shape := ⟨1, ![1024]⟩
abbrev S1024x3072 : Shape := ⟨2, ![1024, 3072]⟩
abbrev S16384x3072 : Shape := ⟨2, ![16384, 3072]⟩
abbrev S1x1024 : Shape := ⟨2, ![1, 1024]⟩
abbrev S512x3072 : Shape := ⟨2, ![512, 3072]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3072, .f32⟩
  | .hbm, ⟨3, _⟩ => ⟨S16384x3072, .f32⟩
  | .hbm, ⟨4, _⟩ => ⟨S16384x1024, .f32⟩
  | .hbm, ⟨5, _⟩ => ⟨S16384x3072, .bf16⟩
  | .hbm, ⟨6, _⟩ => ⟨S1024x3072, .bf16⟩
  | .hbm, ⟨7, _⟩ => ⟨S1x1024, .f32⟩
  | .hbm, ⟨8, _⟩ => ⟨S16384x1024, .f32⟩
  | .hbm, ⟨9, _⟩ => ⟨S1x1024, .f32⟩
  | .local _ .vmem, ⟨0, _⟩ => ⟨S512x3072, .bf16⟩
  | .local _ .vmem, ⟨1, _⟩ => ⟨S512x3072, .bf16⟩
  | .local _ .vmem, ⟨2, _⟩ => ⟨S1024x3072, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference8Ideal.lean ====
abbrev S16384x1024 : Shape := ⟨2, ![16384, 1024]⟩
abbrev S1024 : Shape := ⟨1, ![1024]⟩
abbrev S1024x3072 : Shape := ⟨2, ![1024, 3072]⟩
abbrev S16384x3072 : Shape := ⟨2, ![16384, 3072]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3072, .f32⟩
  | .hbm, ⟨3, _⟩ => ⟨S16384x3072, .f32⟩
  | .hbm, ⟨4, _⟩ => ⟨S16384x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S16384x3072, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S16384x1024, .f32⟩
  | .hbm, ⟨32, _⟩ => ⟨S16384x1024, .f32⟩
  | .hbm, ⟨33, _⟩ => ⟨S_, .f32⟩
  | .hbm, ⟨34, _⟩ => ⟨S1024, .f32⟩
  | .hbm, ⟨35, _⟩ => ⟨S16384x1024, .f32⟩
  | .hbm, ⟨36, _⟩ => ⟨S_, .f32⟩
  | .hbm, ⟨37, _⟩ => ⟨S16384, .f32⟩
  | .hbm, ⟨38, _⟩ => ⟨S16384x1, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S_, .f32⟩
  | .hbm, ⟨47, _⟩ => ⟨S16384, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Kernel9.lean ====
abbrev S16384x1024 : Shape := ⟨2, ![16384, 1024]⟩
abbrev S16384x3072 : Shape := ⟨2, ![16384, 3072]⟩
abbrev S1024x3072 : Shape := ⟨2, ![1024, 3072]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S16384x3072, .f32⟩
  | .hbm, ⟨2, _⟩ => ⟨S16384x1024, .bf16⟩
  | .hbm, ⟨3, _⟩ => ⟨S16384x3072, .bf16⟩
  | .hbm, ⟨4, _⟩ => ⟨S1024x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S16384x1024 : Shape := ⟨2, ![16384, 1024]⟩
abbrev S16384x3072 : Shape := ⟨2, ![16384, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x3072, .f32⟩
  | .hbm, ⟨2, _⟩ => ⟨S_, .f32⟩
  | .hbm, ⟨3, _⟩ => ⟨S1024x3072, .f32⟩
  | .hbm, ⟨4, _⟩ => ⟨S16384x3072, .f32⟩
  | .hbm, ⟨5, _⟩ => ⟨S3072x1024, .f32⟩
  | .hbm, ⟨6, _⟩ => ⟨S1024x3072, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel10.lean ====
abbrev S768x1024 : Shape := ⟨2, ![768, 1024]⟩
abbrev S16384x1024 : Shape := ⟨2, ![16384, 1024]⟩
abbrev S16384x768 : Shape := ⟨2, ![16384, 768]⟩
abbrev S1024x1024 : Shape := ⟨2, ![1024, 1024]⟩
abbrev S1024x768 : Shape := ⟨2, ![1024, 768]⟩

abbrev nBuf : Space → Nat
  | .hbm => 4
  | .vmem => 5
  | .smem => 0
  | _ => 0

abbrev bufTy : (tb : Table) → Fin (tcTables nBuf tb) → BufTy
  | .hbm, ⟨0, _⟩ => ⟨S768x1024, .f32⟩
  | .hbm, ⟨1, _⟩ => ⟨S16384x1024, .f32⟩
  | .hbm, ⟨2, _⟩ => ⟨S768x1024, .bf16⟩
  | .hbm, ⟨3, _⟩ => ⟨S16384x768, .f32⟩
  | .local _ .vmem, ⟨0, _⟩ => ⟨S1024x1024, .f32⟩
  | .local _ .vmem, ⟨1, _⟩ => ⟨S1024x1024, .f32⟩
  | .local _ .vmem, ⟨2, _⟩ => ⟨S768x1024, .bf16⟩
  | .local _ .vmem, ⟨3, _⟩ => ⟨S1024x768, .f32⟩
  | .local _ .vmem, ⟨4, _⟩ => ⟨S1024x768, .f32⟩
  | _, _ => ⟨S768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S768x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S768x1024 : Shape := ⟨2, ![768, 1024]⟩
abbrev S16384x1024 : Shape := ⟨2, ![16384, 1024]⟩
abbrev S_ : Shape := ⟨0, ![]⟩
abbrev S16384x768 : Shape := ⟨2, ![16384, 768]⟩

abbrev nBuf : Space → Nat
  | .hbm => 6
  | .vmem => 0
  | .smem => 0
  | _ => 0

abbrev bufTy : (tb : Table) → Fin (tcTables nBuf tb) → BufTy
  | .hbm, ⟨0, _⟩ => ⟨S768x1024, .f32⟩
  | .hbm, ⟨1, _⟩ => ⟨S16384x1024, .f32⟩
  | .hbm, ⟨2, _⟩ => ⟨S_, .f32⟩
  | .hbm, ⟨3, _⟩ => ⟨S16384x768, .f32⟩
  | .hbm, ⟨4, _⟩ => ⟨S16384x1024, .f32⟩
  | .hbm, ⟨5, _⟩ => ⟨S16384x768, .f32⟩
  | _, _ => ⟨S768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel11.lean ====
abbrev S16384x768 : Shape := ⟨2, ![16384, 768]⟩
abbrev S16384x1024 : Shape := ⟨2, ![16384, 1024]⟩
abbrev S768x1024 : Shape := ⟨2, ![768, 1024]⟩
abbrev S1024x768 : Shape := ⟨2, ![1024, 768]⟩
abbrev S1024x512 : Shape := ⟨2, ![1024, 512]⟩
abbrev S768x512 : Shape := ⟨2, ![768, 512]⟩

abbrev nBuf : Space → Nat
  | .hbm => 4
  | .vmem => 6
  | .smem => 0
  | _ => 0

abbrev bufTy : (tb : Table) → Fin (tcTables nBuf tb) → BufTy
  | .hbm, ⟨0, _⟩ => ⟨S16384x768, .f32⟩
  | .hbm, ⟨1, _⟩ => ⟨S16384x1024, .f32⟩
  | .hbm, ⟨2, _⟩ => ⟨S16384x768, .bf16⟩
  | .hbm, ⟨3, _⟩ => ⟨S768x1024, .f32⟩
  | .local _ .vmem, ⟨0, _⟩ => ⟨S1024x768, .bf16⟩
  | .local _ .vmem, ⟨1, _⟩ => ⟨S1024x768, .bf16⟩
  | .local _ .vmem, ⟨2, _⟩ => ⟨S1024x512, .f32⟩
  | .local _ .vmem, ⟨3, _⟩ => ⟨S1024x512, .f32⟩
  | .local _ .vmem, ⟨4, _⟩ => ⟨S768x512, .f32⟩
  | .local _ .vmem, ⟨5, _⟩ => ⟨S768x512, .f32⟩
  | _, _ => ⟨S16384x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S16384x768 : Shape := ⟨2, ![16384, 768]⟩
abbrev S16384x1024 : Shape := ⟨2, ![16384, 1024]⟩
abbrev S_ : Shape := ⟨0, ![]⟩
abbrev S768x1024 : Shape := ⟨2, ![768, 1024]⟩
abbrev S1024x768 : Shape := ⟨2, ![1024, 768]⟩

abbrev nBuf : Space → Nat
  | .hbm => 7
  | .vmem => 0
  | .smem => 0
  | _ => 0

abbrev bufTy : (tb : Table) → Fin (tcTables nBuf tb) → BufTy
  | .hbm, ⟨0, _⟩ => ⟨S16384x768, .f32⟩
  | .hbm, ⟨1, _⟩ => ⟨S16384x1024, .f32⟩
  | .hbm, ⟨2, _⟩ => ⟨S_, .f32⟩
  | .hbm, ⟨3, _⟩ => ⟨S768x1024, .f32⟩
  | .hbm, ⟨4, _⟩ => ⟨S16384x1024, .f32⟩
  | .hbm, ⟨5, _⟩ => ⟨S1024x768, .f32⟩
  | .hbm, ⟨6, _⟩ => ⟨S768x1024, .f32⟩
  | _, _ => ⟨S16384x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel12.lean ====
abbrev S16384x768 : Shape := ⟨2, ![16384, 768]⟩
abbrev S768x1024 : Shape := ⟨2, ![768, 1024]⟩
abbrev S16384x1024 : Shape := ⟨2, ![16384, 1024]⟩
abbrev S1024x768 : Shape := ⟨2, ![1024, 768]⟩
abbrev S768x512 : Shape := ⟨2, ![768, 512]⟩
abbrev S1024x512 : Shape := ⟨2, ![1024, 512]⟩

abbrev nBuf : Space → Nat
  | .hbm => 6
  | .vmem => 8
  | .smem => 0
  | _ => 0

abbrev bufTy : (tb : Table) → Fin (tcTables nBuf tb) → BufTy
  | .hbm, ⟨0, _⟩ => ⟨S16384x768, .f32⟩
  | .hbm, ⟨1, _⟩ => ⟨S768x1024, .f32⟩
  | .hbm, ⟨2, _⟩ => ⟨S16384x1024, .f32⟩
  | .hbm, ⟨3, _⟩ => ⟨S16384x768, .bf16⟩
  | .hbm, ⟨4, _⟩ => ⟨S768x1024, .bf16⟩
  | .hbm, ⟨5, _⟩ => ⟨S16384x1024, .f32⟩
  | .local _ .vmem, ⟨0, _⟩ => ⟨S1024x768, .bf16⟩
  | .local _ .vmem, ⟨1, _⟩ => ⟨S1024x768, .bf16⟩
  | .local _ .vmem, ⟨2, _⟩ => ⟨S768x512, .bf16⟩
  | .local _ .vmem, ⟨3, _⟩ => ⟨S768x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S16384x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S768x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference12Ideal.lean ====
abbrev S16384x768 : Shape := ⟨2, ![16384, 768]⟩
abbrev S768x1024 : Shape := ⟨2, ![768, 1024]⟩
abbrev S16384x1024 : Shape := ⟨2, ![16384, 1024]⟩

abbrev nBuf : Space → Nat
  | .hbm => 5
  | .vmem => 0
  | .smem => 0
  | _ => 0

abbrev bufTy : (tb : Table) → Fin (tcTables nBuf tb) → BufTy
  | .hbm, ⟨0, _⟩ => ⟨S16384x768, .f32⟩
  | .hbm, ⟨1, _⟩ => ⟨S768x1024, .f32⟩
  | .hbm, ⟨2, _⟩ => ⟨S16384x1024, .f32⟩
  | .hbm, ⟨3, _⟩ => ⟨S16384x1024, .f32⟩
  | .hbm, ⟨4, _⟩ => ⟨S16384x1024, .f32⟩
  | _, _ => ⟨S16384x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel13.lean ====
abbrev S16384x1024 : Shape := ⟨2, ![16384, 1024]⟩
abbrev S1024x768 : Shape := ⟨2, ![1024, 768]⟩
abbrev S16384x768 : Shape := ⟨2, ![16384, 768]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024x768, .f32⟩
  | .hbm, ⟨2, _⟩ => ⟨S16384x1024, .bf16⟩
  | .hbm, ⟨3, _⟩ => ⟨S1024x768, .bf16⟩
  | .hbm, ⟨4, _⟩ => ⟨S16384x768, .f32⟩
  | .local _ .vmem, ⟨0, _⟩ => ⟨S1024x1024, .bf16⟩
  | .local _ .vmem, ⟨1, _⟩ => ⟨S1024x1024, .bf16⟩
  | .local _ .vmem, ⟨2, _⟩ => ⟨S1024x768, .bf16⟩
  | .local _ .vmem, ⟨3, _⟩ => ⟨S1024x768, .f32⟩
  | .local _ .vmem, ⟨4, _⟩ => ⟨S1024x768, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference13Ideal.lean ====
abbrev S16384x1024 : Shape := ⟨2, ![16384, 1024]⟩
abbrev S1024x768 : Shape := ⟨2, ![1024, 768]⟩
abbrev S16384x768 : Shape := ⟨2, ![16384, 768]⟩

abbrev nBuf : Space → Nat
  | .hbm => 3
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x768, .f32⟩
  | .hbm, ⟨2, _⟩ => ⟨S16384x768, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel14.lean ====
abbrev S16384x1024 : Shape := ⟨2, ![16384, 1024]⟩
abbrev S16384x768 : Shape := ⟨2, ![16384, 768]⟩
abbrev S1024x768 : Shape := ⟨2, ![1024, 768]⟩
abbrev S1024x512 : Shape := ⟨2, ![1024, 512]⟩
abbrev S512x768 : Shape := ⟨2, ![512, 768]⟩

abbrev nBuf : Space → Nat
  | .hbm => 5
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S16384x768, .f32⟩
  | .hbm, ⟨2, _⟩ => ⟨S16384x1024, .bf16⟩
  | .hbm, ⟨3, _⟩ => ⟨S16384x768, .bf16⟩
  | .hbm, ⟨4, _⟩ => ⟨S1024x768, .f32⟩
  | .local _ .vmem, ⟨0, _⟩ => ⟨S1024x512, .bf16⟩
  | .local _ .vmem, ⟨1, _⟩ => ⟨S1024x512, .bf16⟩
  | .local _ .vmem, ⟨2, _⟩ => ⟨S1024x768, .bf16⟩
  | .local _ .vmem, ⟨3, _⟩ => ⟨S1024x768, .bf16⟩
  | .local _ .vmem, ⟨4, _⟩ => ⟨S512x768, .f32⟩
  | .local _ .vmem, ⟨5, _⟩ => ⟨S512x768, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S16384x1024 : Shape := ⟨2, ![16384, 1024]⟩
abbrev S16384x768 : Shape := ⟨2, ![16384, 768]⟩
abbrev S_ : Shape := ⟨0, ![]⟩
abbrev S1024x768 : Shape := ⟨2, ![1024, 768]⟩
abbrev S768x1024 : Shape := ⟨2, ![768, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x768, .f32⟩
  | .hbm, ⟨2, _⟩ => ⟨S_, .f32⟩
  | .hbm, ⟨3, _⟩ => ⟨S1024x768, .f32⟩
  | .hbm, ⟨4, _⟩ => ⟨S16384x768, .f32⟩
  | .hbm, ⟨5, _⟩ => ⟨S768x1024, .f32⟩
  | .hbm, ⟨6, _⟩ => ⟨S1024x768, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel15.lean ====
abbrev S16384x1024 : Shape := ⟨2, ![16384, 1024]⟩
abbrev S1024 : Shape := ⟨1, ![1024]⟩
abbrev S1024x768 : Shape := ⟨2, ![1024, 768]⟩
abbrev S16384x768 : Shape := ⟨2, ![16384, 768]⟩
abbrev S1x1024 : Shape := ⟨2, ![1, 1024]⟩
abbrev S512x768 : Shape := ⟨2, ![512, 768]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x768, .f32⟩
  | .hbm, ⟨3, _⟩ => ⟨S16384x768, .f32⟩
  | .hbm, ⟨4, _⟩ => ⟨S16384x1024, .f32⟩
  | .hbm, ⟨5, _⟩ => ⟨S16384x768, .bf16⟩
  | .hbm, ⟨6, _⟩ => ⟨S1024x768, .bf16⟩
  | .hbm, ⟨7, _⟩ => ⟨S1x1024, .f32⟩
  | .hbm, ⟨8, _⟩ => ⟨S16384x1024, .f32⟩
  | .hbm, ⟨9, _⟩ => ⟨S1x1024, .f32⟩
  | .local _ .vmem, ⟨0, _⟩ => ⟨S512x768, .bf16⟩
  | .local _ .vmem, ⟨1, _⟩ => ⟨S512x768, .bf16⟩
  | .local _ .vmem, ⟨2, _⟩ => ⟨S1024x768, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference15Ideal.lean ====
abbrev S16384x1024 : Shape := ⟨2, ![16384, 1024]⟩
abbrev S1024 : Shape := ⟨1, ![1024]⟩
abbrev S1024x768 : Shape := ⟨2, ![1024, 768]⟩
abbrev S16384x768 : Shape := ⟨2, ![16384, 768]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x768, .f32⟩
  | .hbm, ⟨3, _⟩ => ⟨S16384x768, .f32⟩
  | .hbm, ⟨4, _⟩ => ⟨S16384x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S16384x768, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S16384x1024, .f32⟩
  | .hbm, ⟨32, _⟩ => ⟨S16384x1024, .f32⟩
  | .hbm, ⟨33, _⟩ => ⟨S_, .f32⟩
  | .hbm, ⟨34, _⟩ => ⟨S1024, .f32⟩
  | .hbm, ⟨35, _⟩ => ⟨S16384x1024, .f32⟩
  | .hbm, ⟨36, _⟩ => ⟨S_, .f32⟩
  | .hbm, ⟨37, _⟩ => ⟨S16384, .f32⟩
  | .hbm, ⟨38, _⟩ => ⟨S16384x1, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S_, .f32⟩
  | .hbm, ⟨47, _⟩ => ⟨S16384, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Kernel16.lean ====
abbrev S16384x1024 : Shape := ⟨2, ![16384, 1024]⟩
abbrev S1024x1536 : Shape := ⟨2, ![1024, 1536]⟩
abbrev S16384x1536 : Shape := ⟨2, ![16384, 1536]⟩
abbrev S1024x1024 : Shape := ⟨2, ![1024, 1024]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024x1536, .f32⟩
  | .hbm, ⟨2, _⟩ => ⟨S16384x1024, .bf16⟩
  | .hbm, ⟨3, _⟩ => ⟨S1024x1536, .bf16⟩
  | .hbm, ⟨4, _⟩ => ⟨S16384x1536, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference16Ideal.lean ====
abbrev S16384x1024 : Shape := ⟨2, ![16384, 1024]⟩
abbrev S1024x1536 : Shape := ⟨2, ![1024, 1536]⟩
abbrev S16384x1536 : Shape := ⟨2, ![16384, 1536]⟩

abbrev nBuf : Space → Nat
  | .hbm => 4
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1536, .f32⟩
  | .hbm, ⟨2, _⟩ => ⟨S16384x1536, .f32⟩
  | .hbm, ⟨3, _⟩ => ⟨S16384x1536, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel17.lean ====
abbrev S16384x8x96 : Shape := ⟨3, ![16384, 8, 96]⟩
abbrev S16384x8x64 : Shape := ⟨3, ![16384, 8, 64]⟩
abbrev S8x32x16x512 : Shape := ⟨4, ![8, 32, 16, 512]⟩
abbrev S_ : Shape := ⟨0, ![]⟩
abbrev S32x512x8x64 : Shape := ⟨4, ![32, 512, 8, 64]⟩
abbrev S8x32x64x512 : Shape := ⟨4, ![8, 32, 64, 512]⟩
abbrev S8x32x80x512 : Shape := ⟨4, ![8, 32, 80, 512]⟩
abbrev S32x512x8x96 : Shape := ⟨4, ![32, 512, 8, 96]⟩
abbrev S8x32x96x512 : Shape := ⟨4, ![8, 32, 96, 512]⟩
abbrev S8x16384x96 : Shape := ⟨3, ![8, 16384, 96]⟩
abbrev S8x32x1x512 : Shape := ⟨4, ![8, 32, 1, 512]⟩
abbrev S1x1x96x512 : Shape := ⟨4, ![1, 1, 96, 512]⟩
abbrev S1x16384x96 : Shape := ⟨3, ![1, 16384, 96]⟩
abbrev S1x32x80x512 : Shape := ⟨4, ![1, 32, 80, 512]⟩
abbrev S1x1x64x512 : Shape := ⟨4, ![1, 1, 64, 512]⟩
abbrev S1x1x1x512 : Shape := ⟨4, ![1, 1, 1, 512]⟩
abbrev S512x512 : Shape := ⟨2, ![512, 512]⟩
abbrev S1x512x96 : Shape := ⟨3, ![1, 512, 96]⟩
abbrev S512x96 : Shape := ⟨2, ![512, 96]⟩
abbrev S96x512 : Shape := ⟨2, ![96, 512]⟩
abbrev S1x512 : Shape := ⟨2, ![1, 512]⟩
abbrev S80x512 : Shape := ⟨2, ![80, 512]⟩
abbrev S512 : Shape := ⟨1, ![512]⟩
abbrev S1x1x80x512 : Shape := ⟨4, ![1, 1, 80, 512]⟩
abbrev S64x512 : Shape := ⟨2, ![64, 512]⟩

abbrev nBuf : Space → Nat
  | .hbm => 24
  | .vmem => 12
  | .smem => 0
  | _ => 0

abbrev bufTy : (tb : Table) → Fin (tcTables nBuf tb) → BufTy
  | .hbm, ⟨0, _⟩ => ⟨S16384x8x96, .f32⟩
  | .hbm, ⟨1, _⟩ => ⟨S16384x8x96, .f32⟩
  | .hbm, ⟨2, _⟩ => ⟨S16384x8x64, .f32⟩
  | .hbm, ⟨3, _⟩ => ⟨S8x32x16x512, .i32⟩
  | .hbm, ⟨4, _⟩ => ⟨S_, .i32⟩
  | .hbm, ⟨5, _⟩ => ⟨S8x32x16x512, .i32⟩
  | .hbm, ⟨6, _⟩ => ⟨S8x32x16x512, .i1⟩
  | .hbm, ⟨7, _⟩ => ⟨S_, .f32⟩
  | .hbm, ⟨8, _⟩ => ⟨S_, .f32⟩
  | .hbm, ⟨9, _⟩ => ⟨S8x32x16x512, .f32⟩
  | .hbm, ⟨10, _⟩ => ⟨S8x32x16x512, .f32⟩
  | .hbm, ⟨11, _⟩ => ⟨S8x32x16x512, .f32⟩
  | .hbm, ⟨12, _⟩ => ⟨S32x512x8x64, .f32⟩
  | .hbm, ⟨13, _⟩ => ⟨S8x32x64x512, .f32⟩
  | .hbm, ⟨14, _⟩ => ⟨S8x32x16x512, .f32⟩
  | .hbm, ⟨15, _⟩ => ⟨S8x32x80x512, .f32⟩
  | .hbm, ⟨16, _⟩ => ⟨S8x32x80x512, .bf16⟩
  | .hbm, ⟨17, _⟩ => ⟨S32x512x8x96, .f32⟩
  | .hbm, ⟨18, _⟩ => ⟨S8x32x96x512, .f32⟩
  | .hbm, ⟨19, _⟩ => ⟨S8x32x96x512, .bf16⟩
  | .hbm, ⟨20, _⟩ => ⟨S8x16384x96, .f32⟩
  | .hbm, ⟨21, _⟩ => ⟨S8x16384x96, .bf16⟩
  | .hbm, ⟨22, _⟩ => ⟨S8x32x64x512, .f32⟩
  | .hbm, ⟨23, _⟩ => ⟨S8x32x1x512, .f32⟩
  | .local _ .vmem, ⟨0, _⟩ => ⟨S1x1x96x512, .bf16⟩
  | .local _ .vmem, ⟨1, _⟩ => ⟨S1x1x96x512, .bf16⟩
  | .local _ .vmem, ⟨2, _⟩ => ⟨S1x16384x96, .bf16⟩
  | .local _ .vmem, ⟨3, _⟩ => ⟨S1x16384x96, .bf16⟩
  | .local _ .vmem, ⟨4, _⟩ => ⟨S1x32x80x512, .bf16⟩
  | .local _ .vmem, ⟨5, _⟩ => ⟨S1x32x80x512, .bf16⟩
  | .local _ .vmem, ⟨6, _⟩ => ⟨S1x1x64x512, .f32⟩
  | .local _ .vmem, ⟨7, _⟩ => ⟨S1x1x64x512, .f32⟩
  | .local _ .vmem, ⟨8, _⟩ => ⟨S1x1x1x512, .f32⟩
  | .local _ .vmem, ⟨9, _⟩ => ⟨S1x1x1x512, .f32⟩
  | .local _ .vmem, ⟨10, _⟩ => ⟨S512x512, .f32⟩
  | .local _ .vmem, ⟨11, _⟩ => ⟨S512x512, .f32⟩
  | _, _ => ⟨S16384x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_cst_0 : Ref sig .tc := ⟨.hbm, 8, rfl⟩
abbrev main_call0_v0 : Ref sig .tc := ⟨.hbm, 9, rfl⟩
abbrev main_call0_v1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14_0 : Ref sig .tc := ⟨.hbm, 22, rfl⟩
abbrev main_v14_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 32], ![false, false]⟩

def k0_mult1 : BitVec 32 :=
  let c0_i32 : BitVec 32 := 0#32
  c0_i32
@[reducible] def k0_t1_loop (i : grid0.Coords) : Scf.Loop 32 :=
  let c0_i32_14 : BitVec 32 := 0#32
  let arg1 : BitVec 32 := BitVec.ofNat 32 (i 1).val
  let c0_i32_7 : BitVec 32 := 0#32
  let v11 : BitVec 1 := Scalar.cmpi .sgt arg1 c0_i32_7
  let v12 : BitVec 32 := Scalar.extui v11
  let c0_i32_8 : BitVec 32 := 0#32
  let v13 : BitVec 1 := Scalar.cmpi .slt arg1 c0_i32_8
  let v14 : BitVec 32 := Scalar.extui v13
  let v15 : BitVec 32 := Scalar.subi v12 v14
  let c2_i32 : BitVec 32 := 2#32
  let c0_i32_9 : BitVec 32 := 0#32
  let v16 : BitVec 1 := Scalar.cmpi .sgt c2_i32 c0_i32_9
  let v17 : BitVec 32 := Scalar.extui v16
  let c0_i32_10 : BitVec 32 := 0#32
  let v18 : BitVec 1 := Scalar.cmpi .slt c2_i32 c0_i32_10
  let v19 : BitVec 32 := Scalar.extui v18
  let v20 : BitVec 32 := Scalar.subi v17 v19
  let v21 : BitVec 1 := Scalar.cmpi .ne v15 v20
  let v22 : BitVec 32 := Scalar.remsi arg1 c2_i32
  let c0_i32_11 : BitVec 32 := 0#32
  let v23 : BitVec 1 := Scalar.cmpi .ne v22 c0_i32_11
  let v24 : BitVec 1 := Scalar.andi v21 v23
  let v10 : BitVec 32 := Scalar.divsi arg1 c2_i32
  let c1_i32 : BitVec 32 := 1#32
  let v25 : BitVec 32 := Scalar.subi v10 c1_i32
  let v26 : BitVec 32 := Scalar.select v24 v25 v10
  let v29 : BitVec 32 := Scalar.subi v26 c0_i32_14
  let c1_i32_15 : BitVec 32 := 1#32
  let v31 : BitVec 32 := Scalar.divsi v29 c1_i32_15
  let v32 : BitVec 32 := Scalar.muli v31 c1_i32_15
  let v33 : BitVec 32 := Scalar.addi c0_i32_14 v32
  let c1_i32_16 : BitVec 32 := 1#32
  ⟨c0_i32_14, v33, c1_i32_16⟩
def k0_mult2 (i : grid0.Coords) (k0_t1 : Fin (k0_t1_loop i).trips) : BitVec 32 :=
  let c2_i32_35 : BitVec 32 := 2#32
  let c0_i32_14 : BitVec 32 := 0#32
  let c1_i32_16 : BitVec 32 := 1#32
  let arg9 : BitVec 32 := Scf.iv c0_i32_14 c1_i32_16 k0_t1
  let v64 : BitVec 32 := Scalar.muli c2_i32_35 arg9
  let c1_i32_36 : BitVec 32 := 1#32
  let v65 : BitVec 32 := Scalar.addi v64 c1_i32_36
  let c512_i32 : BitVec 32 := 512#32
  let v66 : BitVec 32 := Scalar.muli v65 c512_i32
  v66
def k0_off1 (i : grid0.Coords) (k0_t1 : Fin (k0_t1_loop i).trips) (c1_i32_36 : BitVec 32) : Fin 3 → Nat :=
  let c0_37 : Index := 0#32
  let c2_i32_35 : BitVec 32 := 2#32
  let c0_i32_14 : BitVec 32 := 0#32
  let c1_i32_16 : BitVec 32 := 1#32
  let arg9 : BitVec 32 := Scf.iv c0_i32_14 c1_i32_16 k0_t1
  let v64 : BitVec 32 := Scalar.muli c2_i32_35 arg9
  let v65 : BitVec 32 := Scalar.addi v64 c1_i32_36
  let c512_i32 : BitVec 32 := 512#32
  let v66 : BitVec 32 := Scalar.muli v65 c512_i32
  let v67 : BitVec 32 := v66
  let v68 : Index := Scalar.indexCast v67
  let c0_38 : Index := 0#32
  ![0, v68.toNat, 0]
def k0_off2 (i : grid0.Coords) (k0_t1 : Fin (k0_t1_loop i).trips) : Fin 4 → Nat :=
  let c0_51 : Index := 0#32
  let c2_i32_35 : BitVec 32 := 2#32
  let c0_i32_14 : BitVec 32 := 0#32
  let c1_i32_16 : BitVec 32 := 1#32
  let arg9 : BitVec 32 := Scf.iv c0_i32_14 c1_i32_16 k0_t1
  let v64 : BitVec 32 := Scalar.muli c2_i32_35 arg9
  let v93 : Index := Scalar.indexCast v64
  let c0_52 : Index := 0#32
  let c0_53 : Index := 0#32
  ![0, v93.toNat, 0, 0]
def k0_mult3 (i : grid0.Coords) (k0_t1 : Fin (k0_t1_loop i).trips) : BitVec 32 :=
  let c2_i32_35 : BitVec 32 := 2#32
  let c0_i32_14 : BitVec 32 := 0#32
  let c1_i32_16 : BitVec 32 := 1#32
  let arg9 : BitVec 32 := Scf.iv c0_i32_14 c1_i32_16 k0_t1
  let v64 : BitVec 32 := Scalar.muli c2_i32_35 arg9
  let c2_i32_55 : BitVec 32 := 2#32
  let v98 : BitVec 32 := Scalar.addi v64 c2_i32_55
  let c512_i32_56 : BitVec 32 := 512#32
  let v99 : BitVec 32 := Scalar.muli v98 c512_i32_56
  v99
def k0_off3 (i : grid0.Coords) (k0_t1 : Fin (k0_t1_loop i).trips) : Fin 4 → Nat :=
  let c0_72 : Index := 0#32
  let c2_i32_35 : BitVec 32 := 2#32
  let c0_i32_14 : BitVec 32 := 0#32
  let c1_i32_16 : BitVec 32 := 1#32
  let arg9 : BitVec 32 := Scf.iv c0_i32_14 c1_i32_16 k0_t1
  let v64 : BitVec 32 := Scalar.muli c2_i32_35 arg9
  let c1_i32_66 : BitVec 32 := 1#32
  let v110 : BitVec 32 := Scalar.addi v64 c1_i32_66
  let v127 : Index := Scalar.indexCast v110
  let c0_73 : Index := 0#32
  let c0_74 : Index := 0#32
  ![0, v127.toNat, 0, 0]
@[reducible] def k0_t2_loop (i : grid0.Coords) : Scf.Loop 32 :=
  let c0_i32_14 : BitVec 32 := 0#32
  let arg1 : BitVec 32 := BitVec.ofNat 32 (i 1).val
  let c0_i32_7 : BitVec 32 := 0#32
  let v11 : BitVec 1 := Scalar.cmpi .sgt arg1 c0_i32_7
  let v12 : BitVec 32 := Scalar.extui v11
  let c0_i32_8 : BitVec 32 := 0#32
  let v13 : BitVec 1 := Scalar.cmpi .slt arg1 c0_i32_8
  let v14 : BitVec 32 := Scalar.extui v13
  let v15 : BitVec 32 := Scalar.subi v12 v14
  let c2_i32 : BitVec 32 := 2#32
  let c0_i32_9 : BitVec 32 := 0#32
  let v16 : BitVec 1 := Scalar.cmpi .sgt c2_i32 c0_i32_9
  let v17 : BitVec 32 := Scalar.extui v16
  let c0_i32_10 : BitVec 32 := 0#32
  let v18 : BitVec 1 := Scalar.cmpi .slt c2_i32 c0_i32_10
  let v19 : BitVec 32 := Scalar.extui v18
  let v20 : BitVec 32 := Scalar.subi v17 v19
  let v21 : BitVec 1 := Scalar.cmpi .ne v15 v20
  let v22 : BitVec 32 := Scalar.remsi arg1 c2_i32
  let c0_i32_11 : BitVec 32 := 0#32
  let v23 : BitVec 1 := Scalar.cmpi .ne v22 c0_i32_11
  let v24 : BitVec 1 := Scalar.andi v21 v23
  let v10 : BitVec 32 := Scalar.divsi arg1 c2_i32
  let c1_i32 : BitVec 32 := 1#32
  let v25 : BitVec 32 := Scalar.subi v10 c1_i32
  let v26 : BitVec 32 := Scalar.select v24 v25 v10
  let v29 : BitVec 32 := Scalar.subi v26 c0_i32_14
  let c1_i32_15 : BitVec 32 := 1#32
  let v31 : BitVec 32 := Scalar.divsi v29 c1_i32_15
  let v32 : BitVec 32 := Scalar.muli v31 c1_i32_15
  let v33 : BitVec 32 := Scalar.addi c0_i32_14 v32
  let v30 : BitVec 32 := Scalar.addi c0_i32_14 v29
  let c1_i32_17 : BitVec 32 := 1#32
  ⟨v33, v30, c1_i32_17⟩
def k0_mult4 (i : grid0.Coords) (k0_t2 : Fin (k0_t2_loop i).trips) : BitVec 32 :=
  let c2_i32_35 : BitVec 32 := 2#32
  let c0_i32_14 : BitVec 32 := 0#32
  let arg1 : BitVec 32 := BitVec.ofNat 32 (i 1).val
  let c0_i32_7 : BitVec 32 := 0#32
  let v11 : BitVec 1 := Scalar.cmpi .sgt arg1 c0_i32_7
  let v12 : BitVec 32 := Scalar.extui v11
  let c0_i32_8 : BitVec 32 := 0#32
  let v13 : BitVec 1 := Scalar.cmpi .slt arg1 c0_i32_8
  let v14 : BitVec 32 := Scalar.extui v13
  let v15 : BitVec 32 := Scalar.subi v12 v14
  let c2_i32 : BitVec 32 := 2#32
  let c0_i32_9 : BitVec 32 := 0#32
  let v16 : BitVec 1 := Scalar.cmpi .sgt c2_i32 c0_i32_9
  let v17 : BitVec 32 := Scalar.extui v16
  let c0_i32_10 : BitVec 32 := 0#32
  let v18 : BitVec 1 := Scalar.cmpi .slt c2_i32 c0_i32_10
  let v19 : BitVec 32 := Scalar.extui v18
  let v20 : BitVec 32 := Scalar.subi v17 v19
  let v21 : BitVec 1 := Scalar.cmpi .ne v15 v20
  let v22 : BitVec 32 := Scalar.remsi arg1 c2_i32
  let c0_i32_11 : BitVec 32 := 0#32
  let v23 : BitVec 1 := Scalar.cmpi .ne v22 c0_i32_11
  let v24 : BitVec 1 := Scalar.andi v21 v23
  let v10 : BitVec 32 := Scalar.divsi arg1 c2_i32
  let c1_i32 : BitVec 32 := 1#32
  let v25 : BitVec 32 := Scalar.subi v10 c1_i32
  let v26 : BitVec 32 := Scalar.select v24 v25 v10
  let v29 : BitVec 32 := Scalar.subi v26 c0_i32_14
  let c1_i32_15 : BitVec 32 := 1#32
  let v31 : BitVec 32 := Scalar.divsi v29 c1_i32_15
  let v32 : BitVec 32 := Scalar.muli v31 c1_i32_15
  let v33 : BitVec 32 := Scalar.addi c0_i32_14 v32
  let c1_i32_17 : BitVec 32 := 1#32
  let arg9 : BitVec 32 := Scf.iv v33 c1_i32_17 k0_t2
  let v64 : BitVec 32 := Scalar.muli c2_i32_35 arg9
  let c1_i32_36 : BitVec 32 := 1#32
  let v65 : BitVec 32 := Scalar.addi v64 c1_i32_36
  let c512_i32 : BitVec 32 := 512#32
  let v66 : BitVec 32 := Scalar.muli v65 c512_i32
  v66
def k0_off4 (i : grid0.Coords) (k0_t2 : Fin (k0_t2_loop i).trips) (c1_i32_36 : BitVec 32) : Fin 3 → Nat :=
  let c0_37 : Index := 0#32
  let c2_i32_35 : BitVec 32 := 2#32
  let c0_i32_14 : BitVec 32 := 0#32
  let arg1 : BitVec 32 := BitVec.ofNat 32 (i 1).val
  let c0_i32_7 : BitVec 32 := 0#32
  let v11 : BitVec 1 := Scalar.cmpi .sgt arg1 c0_i32_7
  let v12 : BitVec 32 := Scalar.extui v11
  let c0_i32_8 : BitVec 32 := 0#32
  let v13 : BitVec 1 := Scalar.cmpi .slt arg1 c0_i32_8
  let v14 : BitVec 32 := Scalar.extui v13
  let v15 : BitVec 32 := Scalar.subi v12 v14
  let c2_i32 : BitVec 32 := 2#32
  let c0_i32_9 : BitVec 32 := 0#32
  let v16 : BitVec 1 := Scalar.cmpi .sgt c2_i32 c0_i32_9
  let v17 : BitVec 32 := Scalar.extui v16
  let c0_i32_10 : BitVec 32 := 0#32
  let v18 : BitVec 1 := Scalar.cmpi .slt c2_i32 c0_i32_10
  let v19 : BitVec 32 := Scalar.extui v18
  let v20 : BitVec 32 := Scalar.subi v17 v19
  let v21 : BitVec 1 := Scalar.cmpi .ne v15 v20
  let v22 : BitVec 32 := Scalar.remsi arg1 c2_i32
  let c0_i32_11 : BitVec 32 := 0#32
  let v23 : BitVec 1 := Scalar.cmpi .ne v22 c0_i32_11
  let v24 : BitVec 1 := Scalar.andi v21 v23
  let v10 : BitVec 32 := Scalar.divsi arg1 c2_i32
  let c1_i32 : BitVec 32 := 1#32
  let v25 : BitVec 32 := Scalar.subi v10 c1_i32
  let v26 : BitVec 32 := Scalar.select v24 v25 v10
  let v29 : BitVec 32 := Scalar.subi v26 c0_i32_14
  let c1_i32_15 : BitVec 32 := 1#32
  let v31 : BitVec 32 := Scalar.divsi v29 c1_i32_15
  let v32 : BitVec 32 := Scalar.muli v31 c1_i32_15
  let v33 : BitVec 32 := Scalar.addi c0_i32_14 v32
  let c1_i32_17 : BitVec 32 := 1#32
  let arg9 : BitVec 32 := Scf.iv v33 c1_i32_17 k0_t2
  let v64 : BitVec 32 := Scalar.muli c2_i32_35 arg9
  let v65 : BitVec 32 := Scalar.addi v64 c1_i32_36
  let c512_i32 : BitVec 32 := 512#32
  let v66 : BitVec 32 := Scalar.muli v65 c512_i32
  let v67 : BitVec 32 := v66
  let v68 : Index := Scalar.indexCast v67
  let c0_38 : Index := 0#32
  ![0, v68.toNat, 0]
def k0_off5 (i : grid0.Coords) (k0_t2 : Fin (k0_t2_loop i).trips) : Fin 4 → Nat :=
  let c0_51 : Index := 0#32
  let c2_i32_35 : BitVec 32 := 2#32
  let c0_i32_14 : BitVec 32 := 0#32
  let arg1 : BitVec 32 := BitVec.ofNat 32 (i 1).val
  let c0_i32_7 : BitVec 32 := 0#32
  let v11 : BitVec 1 := Scalar.cmpi .sgt arg1 c0_i32_7
  let v12 : BitVec 32 := Scalar.extui v11
  let c0_i32_8 : BitVec 32 := 0#32
  let v13 : BitVec 1 := Scalar.cmpi .slt arg1 c0_i32_8
  let v14 : BitVec 32 := Scalar.extui v13
  let v15 : BitVec 32 := Scalar.subi v12 v14
  let c2_i32 : BitVec 32 := 2#32
  let c0_i32_9 : BitVec 32 := 0#32
  let v16 : BitVec 1 := Scalar.cmpi .sgt c2_i32 c0_i32_9
  let v17 : BitVec 32 := Scalar.extui v16
  let c0_i32_10 : BitVec 32 := 0#32
  let v18 : BitVec 1 := Scalar.cmpi .slt c2_i32 c0_i32_10
  let v19 : BitVec 32 := Scalar.extui v18
  let v20 : BitVec 32 := Scalar.subi v17 v19
  let v21 : BitVec 1 := Scalar.cmpi .ne v15 v20
  let v22 : BitVec 32 := Scalar.remsi arg1 c2_i32
  let c0_i32_11 : BitVec 32 := 0#32
  let v23 : BitVec 1 := Scalar.cmpi .ne v22 c0_i32_11
  let v24 : BitVec 1 := Scalar.andi v21 v23
  let v10 : BitVec 32 := Scalar.divsi arg1 c2_i32
  let c1_i32 : BitVec 32 := 1#32
  let v25 : BitVec 32 := Scalar.subi v10 c1_i32
  let v26 : BitVec 32 := Scalar.select v24 v25 v10
  let v29 : BitVec 32 := Scalar.subi v26 c0_i32_14
  let c1_i32_15 : BitVec 32 := 1#32
  let v31 : BitVec 32 := Scalar.divsi v29 c1_i32_15
  let v32 : BitVec 32 := Scalar.muli v31 c1_i32_15
  let v33 : BitVec 32 := Scalar.addi c0_i32_14 v32
  let c1_i32_17 : BitVec 32 := 1#32
  let arg9 : BitVec 32 := Scf.iv v33 c1_i32_17 k0_t2
  let v64 : BitVec 32 := Scalar.muli c2_i32_35 arg9
  let v93 : Index := Scalar.indexCast v64
  let c0_52 : Index := 0#32
  let c0_53 : Index := 0#32
  ![0, v93.toNat, 0, 0]
def k0_mult5 (i : grid0.Coords) (k0_t2 : Fin (k0_t2_loop i).trips) : BitVec 32 :=
  let c2_i32_35 : BitVec 32 := 2#32
  let c0_i32_14 : BitVec 32 := 0#32
  let arg1 : BitVec 32 := BitVec.ofNat 32 (i 1).val
  let c0_i32_7 : BitVec 32 := 0#32
  let v11 : BitVec 1 := Scalar.cmpi .sgt arg1 c0_i32_7
  let v12 : BitVec 32 := Scalar.extui v11
  let c0_i32_8 : BitVec 32 := 0#32
  let v13 : BitVec 1 := Scalar.cmpi .slt arg1 c0_i32_8
  let v14 : BitVec 32 := Scalar.extui v13
  let v15 : BitVec 32 := Scalar.subi v12 v14
  let c2_i32 : BitVec 32 := 2#32
  let c0_i32_9 : BitVec 32 := 0#32
  let v16 : BitVec 1 := Scalar.cmpi .sgt c2_i32 c0_i32_9
  let v17 : BitVec 32 := Scalar.extui v16
  let c0_i32_10 : BitVec 32 := 0#32
  let v18 : BitVec 1 := Scalar.cmpi .slt c2_i32 c0_i32_10
  let v19 : BitVec 32 := Scalar.extui v18
  let v20 : BitVec 32 := Scalar.subi v17 v19
  let v21 : BitVec 1 := Scalar.cmpi .ne v15 v20
  let v22 : BitVec 32 := Scalar.remsi arg1 c2_i32
  let c0_i32_11 : BitVec 32 := 0#32
  let v23 : BitVec 1 := Scalar.cmpi .ne v22 c0_i32_11
  let v24 : BitVec 1 := Scalar.andi v21 v23
  let v10 : BitVec 32 := Scalar.divsi arg1 c2_i32
  let c1_i32 : BitVec 32 := 1#32
  let v25 : BitVec 32 := Scalar.subi v10 c1_i32
  let v26 : BitVec 32 := Scalar.select v24 v25 v10
  let v29 : BitVec 32 := Scalar.subi v26 c0_i32_14
  let c1_i32_15 : BitVec 32 := 1#32
  let v31 : BitVec 32 := Scalar.divsi v29 c1_i32_15
  let v32 : BitVec 32 := Scalar.muli v31 c1_i32_15
  let v33 : BitVec 32 := Scalar.addi c0_i32_14 v32
  let c1_i32_17 : BitVec 32 := 1#32
  let arg9 : BitVec 32 := Scf.iv v33 c1_i32_17 k0_t2
  let v64 : BitVec 32 := Scalar.muli c2_i32_35 arg9
  let c2_i32_55 : BitVec 32 := 2#32
  let v98 : BitVec 32 := Scalar.addi v64 c2_i32_55
  let c512_i32_56 : BitVec 32 := 512#32
  let v99 : BitVec 32 := Scalar.muli v98 c512_i32_56
  v99
def k0_off6 (i : grid0.Coords) (k0_t2 : Fin (k0_t2_loop i).trips) : Fin 4 → Nat :=
  let c0_72 : Index := 0#32
  let c2_i32_35 : BitVec 32 := 2#32
  let c0_i32_14 : BitVec 32 := 0#32
  let arg1 : BitVec 32 := BitVec.ofNat 32 (i 1).val
  let c0_i32_7 : BitVec 32 := 0#32
  let v11 : BitVec 1 := Scalar.cmpi .sgt arg1 c0_i32_7
  let v12 : BitVec 32 := Scalar.extui v11
  let c0_i32_8 : BitVec 32 := 0#32
  let v13 : BitVec 1 := Scalar.cmpi .slt arg1 c0_i32_8
  let v14 : BitVec 32 := Scalar.extui v13
  let v15 : BitVec 32 := Scalar.subi v12 v14
  let c2_i32 : BitVec 32 := 2#32
  let c0_i32_9 : BitVec 32 := 0#32
  let v16 : BitVec 1 := Scalar.cmpi .sgt c2_i32 c0_i32_9
  let v17 : BitVec 32 := Scalar.extui v16
  let c0_i32_10 : BitVec 32 := 0#32
  let v18 : BitVec 1 := Scalar.cmpi .slt c2_i32 c0_i32_10
  let v19 : BitVec 32 := Scalar.extui v18
  let v20 : BitVec 32 := Scalar.subi v17 v19
  let v21 : BitVec 1 := Scalar.cmpi .ne v15 v20
  let v22 : BitVec 32 := Scalar.remsi arg1 c2_i32
  let c0_i32_11 : BitVec 32 := 0#32
  let v23 : BitVec 1 := Scalar.cmpi .ne v22 c0_i32_11
  let v24 : BitVec 1 := Scalar.andi v21 v23
  let v10 : BitVec 32 := Scalar.divsi arg1 c2_i32
  let c1_i32 : BitVec 32 := 1#32
  let v25 : BitVec 32 := Scalar.subi v10 c1_i32
  let v26 : BitVec 32 := Scalar.select v24 v25 v10
  let v29 : BitVec 32 := Scalar.subi v26 c0_i32_14
  let c1_i32_15 : BitVec 32 := 1#32
  let v31 : BitVec 32 := Scalar.divsi v29 c1_i32_15
  let v32 : BitVec 32 := Scalar.muli v31 c1_i32_15
  let v33 : BitVec 32 := Scalar.addi c0_i32_14 v32
  let c1_i32_17 : BitVec 32 := 1#32
  let arg9 : BitVec 32 := Scf.iv v33 c1_i32_17 k0_t2
  let v64 : BitVec 32 := Scalar.muli c2_i32_35 arg9
  let c1_i32_66 : BitVec 32 := 1#32
  let v110 : BitVec 32 := Scalar.addi v64 c1_i32_66
  let v127 : Index := Scalar.indexCast v110
  let c0_73 : Index := 0#32
  let c0_74 : Index := 0#32
  ![0, v127.toNat, 0, 0]
def k0_cond1 (i : grid0.Coords) : BitVec 1 :=
  let arg1 : BitVec 32 := BitVec.ofNat 32 (i 1).val
  let c2_i32_18 : BitVec 32 := 2#32
  let c0_i32_19 : BitVec 32 := 0#32
  let v36 : BitVec 1 := Scalar.cmpi .eq c2_i32_18 c0_i32_19
  let c1_i32_20 : BitVec 32 := 1#32
  let v37 : BitVec 32 := Scalar.select v36 c1_i32_20 c2_i32_18
  let v38 : BitVec 32 := Scalar.remsi arg1 v37
  let c0_i32_22 : BitVec 32 := 0#32
  let v40 : BitVec 1 := Scalar.cmpi .slt v38 c0_i32_22
  let c0_i32_23 : BitVec 32 := 0#32
  let v41 : BitVec 1 := Scalar.cmpi .slt v37 c0_i32_23
  let v42 : BitVec 1 := Scalar.xori v40 v41
  let c0_i32_21 : BitVec 32 := 0#32
  let v39 : BitVec 1 := Scalar.cmpi .ne v38 c0_i32_21
  let v43 : BitVec 1 := Scalar.andi v42 v39
  let v44 : BitVec 32 := Scalar.addi v38 v37
  let v45 : BitVec 32 := Scalar.select v43 v44 v38
  let c0_i32_24 : BitVec 32 := 0#32
  let v46 : BitVec 1 := Scalar.cmpi .eq v45 c0_i32_24
  let v47 : BitVec 32 := Scalar.extui v46
  let c0_i32_25 : BitVec 32 := 0#32
  let v48 : BitVec 1 := Scalar.cmpi .ne v47 c0_i32_25
  v48

def k0_off7 (i : grid0.Coords) : Fin 4 → Nat :=
  let c0_41 : Index := 0#32
  let arg1 : BitVec 32 := BitVec.ofNat 32 (i 1).val
  let v85 : Index := Scalar.indexCast arg1
  let c0_42 : Index := 0#32
  let c0_43 : Index := 0#32
  ![0, v85.toNat, 0, 0]
def k0_mult6 (i : grid0.Coords) : BitVec 32 :=
  let arg1 : BitVec 32 := BitVec.ofNat 32 (i 1).val
  let c512_i32 : BitVec 32 := 512#32
  let v64 : BitVec 32 := Scalar.muli arg1 c512_i32
  v64
def k0_off8 (i : grid0.Coords) : Fin 3 → Nat :=
  let c0_35 : Index := 0#32
  let arg1 : BitVec 32 := BitVec.ofNat 32 (i 1).val
  let c512_i32 : BitVec 32 := 512#32
  let v64 : BitVec 32 := Scalar.muli arg1 c512_i32
  let v65 : BitVec 32 := v64
  let v66 : Index := Scalar.indexCast v65
  let c0_36 : Index := 0#32
  ![0, v66.toNat, 0]
def k0_off9 (i : grid0.Coords) : Fin 4 → Nat :=
  let c0_50 : Index := 0#32
  let arg1 : BitVec 32 := BitVec.ofNat 32 (i 1).val
  let c1_i32_44 : BitVec 32 := 1#32
  let v75 : BitVec 32 := Scalar.subi arg1 c1_i32_44
  let v92 : Index := Scalar.indexCast v75
  let c0_51 : Index := 0#32
  let c0_52 : Index := 0#32
  ![0, v92.toNat, 0, 0]
def k0_off10 (i : grid0.Coords) : Fin 4 → Nat :=
  let c0_60 : Index := 0#32
  let arg1 : BitVec 32 := BitVec.ofNat 32 (i 1).val
  let v118 : Index := Scalar.indexCast arg1
  let c0_61 : Index := 0#32
  let c0_62 : Index := 0#32
  ![0, v118.toNat, 0, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x96x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16384x96 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x32x80x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel17Ideal.lean ====
variable {F : FTy → Type} [FloatOps F] [Named F]
def κ : String → Option EReal := fun
  | "log2e" => some (((Real.log 2)⁻¹ : ℝ) : EReal)
  | "mask" => some ⊥
  | "scale" => some ((3424635 / 33554432 : ℝ) : EReal)
  | "scale_log2e" => some (((3424635 / 33554432) * (Real.log 2)⁻¹ : ℝ) : EReal)
  | _ => none
-- ==== Reference17Ideal.lean ====
abbrev S16384x8x96 : Shape := ⟨3, ![16384, 8, 96]⟩
abbrev S16384x8x64 : Shape := ⟨3, ![16384, 8, 64]⟩
abbrev S8x16384x16384 : Shape := ⟨3, ![8, 16384, 16384]⟩
abbrev S_ : Shape := ⟨0, ![]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S8x16384 : Shape := ⟨2, ![8, 16384]⟩
abbrev S8x16384x1 : Shape := ⟨3, ![8, 16384, 1]⟩
abbrev S8x64x16384 : Shape := ⟨3, ![8, 64, 16384]⟩
abbrev S32x512x8x64 : Shape := ⟨4, ![32, 512, 8, 64]⟩
abbrev S8x32x64x512 : Shape := ⟨4, ![8, 32, 64, 512]⟩
abbrev S8x32x1x512 : Shape := ⟨4, ![8, 32, 1, 512]⟩

abbrev nBuf : Space → Nat
  | .hbm => 63
  | .vmem => 0
  | .smem => 0
  | _ => 0

abbrev bufTy : (tb : Table) → Fin (tcTables nBuf tb) → BufTy
  | .hbm, ⟨0, _⟩ => ⟨S16384x8x96, .f32⟩
  | .hbm, ⟨1, _⟩ => ⟨S16384x8x96, .f32⟩
  | .hbm, ⟨2, _⟩ => ⟨S16384x8x64, .f32⟩
  | .hbm, ⟨3, _⟩ => ⟨S8x16384x16384, .f32⟩
  | .hbm, ⟨4, _⟩ => ⟨S_, .f32⟩
  | .hbm, ⟨5, _⟩ => ⟨S8x16384x16384, .f32⟩
  | .hbm, ⟨6, _⟩ => ⟨S8x16384x16384, .f32⟩
  | .hbm, ⟨7, _⟩ => ⟨S16384, .i32⟩
  | .hbm, ⟨8, _⟩ => ⟨S1x16384, .i32⟩
  | .hbm, ⟨9, _⟩ => ⟨S16384x1, .i32⟩
  | .hbm, ⟨10, _⟩ => ⟨S16384x16384, .i32⟩
  | .hbm, ⟨11, _⟩ => ⟨S16384x16384, .i32⟩
  | .hbm, ⟨12, _⟩ => ⟨S16384x16384, .i1⟩
  | .hbm, ⟨13, _⟩ => ⟨S_, .f32⟩
  | .hbm, ⟨14, _⟩ => ⟨S_, .f32⟩
  | .hbm, ⟨15, _⟩ => ⟨S8x16384x16384, .i1⟩
  | .hbm, ⟨16, _⟩ => ⟨S8x16384x16384, .f32⟩
  | .hbm, ⟨17, _⟩ => ⟨S8x16384x16384, .f32⟩
  | .hbm, ⟨18, _⟩ => ⟨S_, .f32⟩
  | .hbm, ⟨19, _⟩ => ⟨S8x16384, .f32⟩
  | .hbm, ⟨20, _⟩ => ⟨S8x16384x1, .f32⟩
  | .hbm, ⟨21, _⟩ => ⟨S8x16384x16384, .f32⟩
  | .hbm, ⟨22, _⟩ => ⟨S8x16384x16384, .f32⟩
  | .hbm, ⟨23, _⟩ => ⟨S8x16384x16384, .f32⟩
  | .hbm, ⟨24, _⟩ => ⟨S_, .f32⟩
  | .hbm, ⟨25, _⟩ => ⟨S8x16384, .f32⟩
  | .hbm, ⟨26, _⟩ => ⟨S8x16384x1, .f32⟩
  | .hbm, ⟨27, _⟩ => ⟨S8x16384x1, .f32⟩
  | .hbm, ⟨28, _⟩ => ⟨S8x16384x1, .f32⟩
  | .hbm, ⟨29, _⟩ => ⟨S8x16384x16384, .f32⟩
  | .hbm, ⟨30, _⟩ => ⟨S_, .f32⟩
  | .hbm, ⟨31, _⟩ => ⟨S8x16384x16384, .f32⟩
  | .hbm, ⟨32, _⟩ => ⟨S8x16384x16384, .f32⟩
  | .hbm, ⟨33, _⟩ => ⟨S16384, .i32⟩
  | .hbm, ⟨34, _⟩ => ⟨S1x16384, .i32⟩
  | .hbm, ⟨35, _⟩ => ⟨S16384x1, .i32⟩
  | .hbm, ⟨36, _⟩ => ⟨S16384x16384, .i32⟩
  | .hbm, ⟨37, _⟩ => ⟨S16384x16384, .i32⟩
  | .hbm, ⟨38, _⟩ => ⟨S16384x16384, .i1⟩
  | .hbm, ⟨39, _⟩ => ⟨S_, .f32⟩
  | .hbm, ⟨40, _⟩ => ⟨S_, .f32⟩
  | .hbm, ⟨41, _⟩ => ⟨S8x16384x16384, .i1⟩
  | .hbm, ⟨42, _⟩ => ⟨S8x16384x16384, .f32⟩
  | .hbm, ⟨43, _⟩ => ⟨S8x16384x16384, .f32⟩
  | .hbm, ⟨44, _⟩ => ⟨S_, .f32⟩
  | .hbm, ⟨45, _⟩ => ⟨S8x16384, .f32⟩
  | .hbm, ⟨46, _⟩ => ⟨S_, .f32⟩
  | .hbm, ⟨47, _⟩ => ⟨S8x16384, .f32⟩
  | .hbm, ⟨48, _⟩ => ⟨S8x16384, .f32⟩
  | .hbm, ⟨49, _⟩ => ⟨S8x16384x1, .f32⟩
  | .hbm, ⟨50, _⟩ => ⟨S8x16384x16384, .f32⟩
  | .hbm, ⟨51, _⟩ => ⟨S8x16384x16384, .f32⟩
  | .hbm, ⟨52, _⟩ => ⟨S8x16384x16384, .f32⟩
  | .hbm, ⟨53, _⟩ => ⟨S_, .f32⟩
  | .hbm, ⟨54, _⟩ => ⟨S8x16384, .f32⟩
  | .hbm, ⟨55, _⟩ => ⟨S8x16384x1, .f32⟩
  | .hbm, ⟨56, _⟩ => ⟨S8x16384x16384, .f32⟩
  | .hbm, ⟨57, _⟩ => ⟨S8x16384x16384, .f32⟩
  | .hbm, ⟨58, _⟩ => ⟨S8x64x16384, .f32⟩
  | .hbm, ⟨59, _⟩ => ⟨S16384x8x64, .f32⟩
  | .hbm, ⟨60, _⟩ => ⟨S32x512x8x64, .f32⟩
  | .hbm, ⟨61, _⟩ => ⟨S8x32x64x512, .f32⟩
  | .hbm, ⟨62, _⟩ => ⟨S8x32x1x512, .f32⟩
  | _, _ => ⟨S16384x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v28 : Ref sig .tc := ⟨.hbm, 43, rfl⟩
abbrev main_cst_5 : Ref sig .tc := ⟨.hbm, 44, rfl⟩
abbrev main_v29 : Ref sig .tc := ⟨.hbm, 45, rfl⟩
abbrev main_cst_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩

abbrev nD : Nat := 1
abbrev τ : Topo := Topo.v7x

variable {F : FTy → Type} [FloatOps F]
-- ==== Proof.Bwd.OffKernelIdeal.lean ====
module

public import proofs.«01_k».proof.Proof.Gen.KernelIdeal

@[expose] public section

namespace Cert.Proof.KernelIdeal

open Cert.KernelIdeal Cert.KernelIdeal.Gen
open Idealize.ShloMosaic Idealize.ShloMosaic.TcCoe Idealize.ShloMosaic.Tactic

/-- The offsets of the second row block of a pair. -/
theorem k0_off3_eq : ∀ i t, k0_off3 i t = ![0, (i 1).val + 2 * t.val + 2, 0, 0] := by decide +kernel
/-- The offsets of the first row block of a pair. -/
theorem k0_off7_eq : ∀ i t, k0_off7 i t = ![0, (i 1).val + 2 * t.val + 1, 0, 0] := by decide +kernel
/-- The offsets of the row block whose products a pair prepares for its successor. -/
theorem k0_off8_eq : ∀ i t, k0_off8 i t = ![0, (if 31 - (i 1).val > 2 * (t.val + 1) then (i 1).val + 2 * (t.val + 1) + 1 else (i 1).val), 0, 0] := by decide +kernel
theorem k0_off4_eq (i t) : k0_off4 i t = ![0, (i 1).val + 2 * t.val + 2, 0, 0] := k0_off3_eq i t
theorem k0_off5_eq (i t) : k0_off5 i t = ![0, (i 1).val + 2 * t.val + 1, 0, 0] := k0_off7_eq i t
theorem k0_off6_eq (i t) : k0_off6 i t = ![0, (i 1).val + 2 * t.val + 1, 0, 0] := k0_off7_eq i t
theorem k0_off9_eq (i t) : k0_off9 i t = ![0, (if 31 - (i 1).val > 2 * (t.val + 1) then (i 1).val + 2 * (t.val + 1) + 1 else (i 1).val), 0, 0] := k0_off8_eq i t
theorem k0_off10_eq (i t) : k0_off10 i t = ![0, (i 1).val + 2 * t.val + 2, 0, 0] := k0_off3_eq i t
/-- The number of pairs. -/
theorem trips_t1 : ∀ i, (k0_t1_loop i).trips = (31 - (i 1).val) / 2 := by decide +kernel
instance (i : grid0.Coords) (t : Fin (k0_t1_loop i).trips) : ClosedOff (k0_off3 i t) := ⟨_, k0_off3_eq i t⟩
instance (i : grid0.Coords) (t : Fin (k0_t1_loop i).trips) : ClosedOff (k0_off7 i t) := ⟨_, k0_off7_eq i t⟩

end Cert.Proof.KernelIdeal
end
-- ==== Proof.Bwd.ModelIdeal.lean ====
module

public import proofs.«01_k».proof.Proof.Gen.KernelIdeal.Skeleton
public import Idealize.ShloMosaic.Lib.VecWindow
public import Idealize.ShloMosaic.Lib.ValueIdxCore

@[expose] public section

/-! # The backward call's body as plain functions of the blocks it reads

At the grid point `(h, j)` the body goes through the row blocks `j + 1, …, 31` and then through the block `j` itself,
whose scores it masks. Each block adds one product to the row block's part of `dqt` and one to each of the two carried
sums. -/

noncomputable section

namespace Cert.Proof.KernelIdeal

open Cert.KernelIdeal Cert.KernelIdeal.Gen
open Idealize.ShloMosaic Idealize.ShloMosaic.TcCoe Idealize.SL.Sem

/-- Row block `i` of an array of 32 row blocks. -/
def blk {α : Type} {D : ℕ} (x : (⟨4, ![1, 32, D, 512]⟩ : Shape).Idx → α) (i : ℕ) : (⟨4, ![1, 1, D, 512]⟩ : Shape).Idx → α :=
  fun y => x (ValueIdx.ix4 (n0 := 1) (n1 := 32) (n2 := D) (n3 := 512) 0 (Fin.ofNat 32 i) (y 2) (y 3))

/-- The upper and the lower half of a square tile. -/
def upper {α : Type} (x : S512x512.Idx → α) : S256x512.Idx → α :=
  VecWindow.window x ![0, 0] S256x512.size inb_S512x512_S256x512_0_0
@[inherit_doc upper] def lower {α : Type} (x : S512x512.Idx → α) : S256x512.Idx → α :=
  VecWindow.window x ![256, 0] S256x512.size inb_S512x512_S256x512_256_0

/-- The left and the right half of the transposed key tile. -/
def leftK {α : Type} (x : S1x1x96x512.Idx → α) : S1x1x96x256.Idx → α :=
  VecWindow.window x ![0, 0, 0, 0] S1x1x96x256.size inb_S1x1x96x512_S1x1x96x256_0_0_0_0
@[inherit_doc leftK] def rightK {α : Type} (x : S1x1x96x512.Idx → α) : S1x1x96x256.Idx → α :=
  VecWindow.window x ![0, 0, 0, 256] S1x1x96x256.size inb_S1x1x96x512_S1x1x96x256_0_0_0_256

variable {F : FTy → Type} [FloatOps F] [Named F]

/-- The raw scores of a key tile against a row block, keys along the rows. -/
def scores (x3 : Vec F S1x512x96 .bf16) (qb : Vec F S1x1x96x512 .bf16) : Vec F S512x512 .f32 := k0_pay108 x3 qb
/-- The products of a value tile with the output gradient's row block. -/
def prods (x5 : Vec F S1x512x64 .bf16) (ob : Vec F S1x1x64x512 .f32) : Vec F S512x512 .f32 := k0_pay109 x5 ob

/-- The upper half of the scores, a key above the row's own position replaced by the mask. -/
def maskU (r : Vec F S256x512 .f32) : Vec F S256x512 .f32 :=
  select (extractStridedSlice S256x512 ![0, 0] (cmpi .sle (iota .tc S512x512 32 [0] iota_S512x512_d0_w32)
    (iota .tc S512x512 32 [1] iota_S512x512_d1_w32)) slices_S512x512_o0_0_S256x512) r
    (broadcast S256x512 (Named.named κ "mask" 0xF149F2CA#32 : F .f32))
/-- The lower half likewise. -/
def maskL (r : Vec F S256x512 .f32) : Vec F S256x512 .f32 :=
  select (extractStridedSlice S256x512 ![256, 0] (cmpi .sle (iota .tc S512x512 32 [0] iota_S512x512_d0_w32)
    (iota .tc S512x512 32 [1] iota_S512x512_d1_w32)) slices_S512x512_o256_0_S256x512) r
    (broadcast S256x512 (Named.named κ "mask" 0xF149F2CA#32 : F .f32))

/-- A row block of `dqt` after one tile's product is added to it. -/
def addDq (x4 : Vec F S1x1x96x512 .bf16) (l d : Vec F S1x1x1x512 .f32) (su sl pu pl : Vec F S256x512 .f32)
    (old : Vec F S1x1x96x512 .f32) : Vec F S1x1x96x512 .f32 :=
  k0_pay16 (k0_pay13 (k0_pay6 l) d su pu (leftK x4)) (k0_pay15 (k0_pay6 l) d sl pl) (rightK x4) old
/-- The carried sum of the key gradient after one row block. -/
def addDk (qb : Vec F S1x1x96x512 .bf16) (l d : Vec F S1x1x1x512 .f32) (su sl pu pl : Vec F S256x512 .f32)
    (old : FVec F S96x512 .f32) : FVec F S96x512 .f32 :=
  k0_pay17 old (k0_pay12 (k0_pay6 l) d su pu qb) (k0_pay15 (k0_pay6 l) d sl pl) qb
/-- The carried sum of the value gradient after one row block. -/
def addDv (ob : Vec F S1x1x64x512 .f32) (l : Vec F S1x1x1x512 .f32) (su sl : Vec F S256x512 .f32)
    (old : FVec F S64x512 .f32) : FVec F S64x512 .f32 :=
  k0_pay18 old (k0_pay5 ob) (k0_pay11 (k0_pay5 ob) (k0_pay6 l) su) (k0_pay14 (k0_pay6 l) sl)

/-- What the body holds between two row blocks: `dqt`, and the carried sums. -/
abbrev St (F : FTy → Type) : Type := Vec F S1x32x96x512 .f32 × FVec F S96x512 .f32 × FVec F S64x512 .f32

/-- `x` with row block `i` replaced. -/
def setBlk {α : Type} (x : S1x32x96x512.Idx → α) (i : ℕ) (w : S1x1x96x512.Idx → α) : S1x32x96x512.Idx → α :=
  VecWindow.put x ![0, i, 0, 0] S1x1x96x512.size w

section
variable (x2 : Vec F S1x32x96x512 .bf16) (x3 : Vec F S1x512x96 .bf16) (x4 : Vec F S1x1x96x512 .bf16) (x5 : Vec F S1x512x64 .bf16)
  (x6 : Vec F S1x32x64x512 .f32) (x7 x8 : Vec F S1x32x1x512 .f32)

/-- One row block below the diagonal. -/
def stepU (i : ℕ) (s : St F) : St F :=
  let sc := scores x3 (blk x2 i)
  let pr := prods x5 (blk x6 i)
  (setBlk s.1 i (addDq x4 (blk x7 i) (blk x8 i) (upper sc) (lower sc) (upper pr) (lower pr) (blk s.1 i)),
    addDk (blk x2 i) (blk x7 i) (blk x8 i) (upper sc) (lower sc) (upper pr) (lower pr) s.2.1,
    addDv (blk x6 i) (blk x7 i) (upper sc) (lower sc) s.2.2)

/-- The row block on the diagonal. -/
def stepM (i : ℕ) (s : St F) : St F :=
  let sc := scores x3 (blk x2 i)
  let pr := prods x5 (blk x6 i)
  (setBlk s.1 i (addDq x4 (blk x7 i) (blk x8 i) (maskU (upper sc)) (maskL (lower sc)) (upper pr) (lower pr) (blk s.1 i)),
    addDk (blk x2 i) (blk x7 i) (blk x8 i) (maskU (upper sc)) (maskL (lower sc)) (upper pr) (lower pr) s.2.1,
    addDv (blk x6 i) (blk x7 i) (maskU (upper sc)) (maskL (lower sc)) s.2.2)

/-- The row blocks `j + 1, …, j + n`, from a given `dqt` and empty sums. -/
def runU (j : ℕ) (x9 : Vec F S1x32x96x512 .f32) : ℕ → St F
  | 0 => (x9, k0_pay110, k0_pay111)
  | n + 1 => stepU x2 x3 x4 x5 x6 x7 x8 (j + 1 + n) (runU j x9 n)

/-- The whole point: the blocks below the diagonal, then the diagonal one. -/
def point (j : ℕ) (x9 : Vec F S1x32x96x512 .f32) : St F :=
  stepM x2 x3 x4 x5 x6 x7 x8 j (runU x2 x3 x4 x5 x6 x7 x8 j x9 (31 - j))

/-- The row block whose products are ready before pair `k`. -/
def ready (j k : ℕ) : ℕ := if 31 - j > 2 * k then j + 2 * k + 1 else j

end

/-! ## Loads and stores -/

section Views
variable {sig : RefSig} {κ : Kind} {sp : Space} {e : EltTy} {Val : EltTy → Type}

/-- A load of row block `i` reads that row block. -/
theorem readAt_blk [∀ e, Nonempty (Val e)] {D : ℕ} (v : View sig κ sp ⟨4, ![1, 32, D, 512]⟩ e) (x : (⟨4, ![1, 32, D, 512]⟩ : Shape).Idx → Val e)
    {off : Fin 4 → ℕ} (inb : ∀ a, off a + (![1, 1, D, 512] : Fin 4 → ℕ) a ≤ (![1, 32, D, 512] : Fin 4 → ℕ) a) {i : ℕ}
    (h : off = ![0, i, 0, 0]) :
    v.readAt Val (Rect.unit (s := ⟨4, ![1, 32, D, 512]⟩) off ![1, 1, D, 512] inb).toLoadRect (v.rep x) = blk x i := by
  subst h
  rw [View.readAt_rep_unit v x inb rfl inb]
  funext y
  have hi : i + 1 ≤ 32 := inb 1
  refine congrArg x (funext fun a => Fin.ext ?_)
  have e : ((Rect.unit (s := ⟨4, ![1, 32, D, 512]⟩) ![0, i, 0, 0] ![1, 1, D, 512] inb).emb y a).val = (![0, i, 0, 0] : Fin 4 → ℕ) a + 1 * (y a).val := rfl
  rw [e]
  have h0 : (y 0).val < 1 := (y 0).isLt
  have h1 : (y 1).val < 1 := (y 1).isLt
  fin_cases a
  · show 0 + 1 * (y 0).val = 0; omega
  · show i + 1 * (y 1).val = i % 32; omega
  · show 0 + 1 * (y 2).val = (y 2).val; omega
  · show 0 + 1 * (y 3).val = (y 3).val; omega

/-- A load of a window of what one whole store left reads that window of the payload. -/
theorem readCov_window [∀ e, Nonempty (Val e)] {s : Shape} (v : View sig κ sp s e) {off off' size : Fin s.rank → ℕ}
    (inb : ∀ a, off a + s.size a ≤ s.size a) (w : (Rect.unit off s.size inb).shape.Idx → Val e) (L : List (View.Piece Val s e))
    (inb' : ∀ a, off' a + size a ≤ s.size a) :
    v.readCov (⟨Rect.unit off s.size inb, w⟩ :: L) (Rect.unit off' size inb').toLoadRect = VecWindow.window (s := s) w off' size inb' := by
  show v.readAt Val _ (v.writes Val v.junk _) = _
  rw [View.readAt_unit v _ inb' rfl inb', View.read_writes_full]

end Views

/-- Row block `i` after another was replaced. -/
theorem blk_setBlk_ne {α : Type} (x : S1x32x96x512.Idx → α) {i k : ℕ} (hi : i < 32) (h : i ≠ k) (w : S1x1x96x512.Idx → α) :
    blk (setBlk x k w) i = blk x i := by
  funext y
  refine dif_neg fun hall => h ?_
  have := hall 1
  change k ≤ i % 32 ∧ i % 32 < k + 1 at this
  omega

end Cert.Proof.KernelIdeal
end
-- ==== Proof.Bwd.T1.lean ====
module

public import proofs.«01_k».proof.Proof.Gen.KernelIdeal.Frame
public import proofs.«01_k».proof.Proof.Gen.KernelIdeal.Loops
public import proofs.«01_k».proof.Proof.Bwd.OffKernelIdeal
public import Idealize.ShloMosaic.Lib.LoopRemainder
public import proofs.«01_k».proof.Proof.Bwd.ModelIdeal
public import Idealize.ShloMosaic.Lib.Tactic.RunNames

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

abbrev 𝒱₀ : Variants := Variants.none
local notation "𝕄" => MT nD τ sig Unit (Elt F) ℕ (UR sig nD τ) ℕ

/-- A buffer whose contents read as `X` holds `X`. -/
theorem rep_intro (c : Thread nD τ) {sp : Space} {s : Shape} {e : EltTy} (M : Memref sig c.2.kind sp s e) (X : Vec F s e) :
    (iprop(∃ g, ⌜M.view.read (Elt F) g = X⌝ ∗ (M.view.loc c ↦[M.view.set]{fullShare} g)) : sProp 𝕄)
      ⊢ M.view.loc c ↦[M.view.set]{fullShare} M.view.rep X := by
  iintro ⟨%g, %h, H⟩
  iapply pointsTo_rep_of_read c M g fullShare X h
  iexact H

/-- The second row block of a pair adds the same product. -/
theorem second_dq (l d : Vec F S1x1x1x512 .f32) (su sl pu pl : Vec F S256x512 .f32) (kl kr : Vec F S1x1x96x256 .bf16)
    (old : Vec F S1x1x96x512 .f32) :
    k0_pay112 (k0_pay31 (k0_pay24 d) (k0_pay25 su) (k0_pay26 l) pu kl) (k0_pay33 (k0_pay23 l) (k0_pay24 d) sl pl) kr old
      = k0_pay16 (k0_pay13 (k0_pay6 l) d su pu kl) (k0_pay15 (k0_pay6 l) d sl pl) kr old := rfl
@[inherit_doc second_dq] theorem second_dk (qb : Vec F S1x1x96x512 .bf16) (l d : Vec F S1x1x1x512 .f32) (su sl pu pl : Vec F S256x512 .f32)
    (old : FVec F S96x512 .f32) :
    k0_pay113 old (k0_pay30 (k0_pay24 d) (k0_pay25 su) (k0_pay26 l) pu qb) (k0_pay35 (k0_pay23 l) (k0_pay24 d) sl pl qb)
      = addDk qb l d su sl pu pl old := rfl
@[inherit_doc second_dq] theorem second_dv (ob : Vec F S1x1x64x512 .f32) (l : Vec F S1x1x1x512 .f32) (su sl : Vec F S256x512 .f32)
    (old : FVec F S64x512 .f32) :
    k0_pay114 old (k0_pay29 (k0_pay22 ob) (k0_pay25 su) (k0_pay26 l)) (k0_pay34 (k0_pay22 ob) (k0_pay23 l) sl)
      = addDv ob l su sl old := rfl

set_option maxHeartbeats 4000000 in
/-- One pair of row blocks. -/
theorem pair_step (c : Dev nD) (i : grid0.Coords) (arg2 : Memref sig .tc .vmem S1x32x96x512 .bf16) (harg2 : arg2.IsWhole) (arg3 : Memref sig .tc .vmem S1x512x96 .bf16) (harg3 : arg3.IsWhole) (arg4 : Memref sig .tc .vmem S1x1x96x512 .bf16) (harg4 : arg4.IsWhole) (arg5 : Memref sig .tc .vmem S1x512x64 .bf16) (harg5 : arg5.IsWhole) (arg6 : Memref sig .tc .vmem S1x32x64x512 .f32) (harg6 : arg6.IsWhole) (arg7 : Memref sig .tc .vmem S1x32x1x512 .f32) (harg7 : arg7.IsWhole) (arg8 : Memref sig .tc .vmem S1x32x1x512 .f32) (harg8 : arg8.IsWhole) (arg9 : Memref sig .tc .vmem S1x32x96x512 .f32) (harg9 : arg9.IsWhole) (arg10 : Memref sig .tc .vmem S1x1x96x512 .f32) (harg10 : arg10.IsWhole) (arg11 : Memref sig .tc .vmem S1x1x64x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S512x512 .f32) (harg15 : arg15.IsWhole) (arg1 v3 c2_i32 v26 v28 c0_i32_19 : BitVec 32)
    (x2 : Vec F S1x32x96x512 .bf16) (x3 : Vec F S1x512x96 .bf16) (x4 : Vec F S1x1x96x512 .bf16) (x5 : Vec F S1x512x64 .bf16)
    (x6 : Vec F S1x32x64x512 .f32) (x7 x8 : Vec F S1x32x1x512 .f32) (x9 : Vec F S1x32x96x512 .f32)
    (k : Fin (k0_t1_loop i).trips) (acc : FVec F S96x512 .f32 × FVec F S64x512 .f32) :
    iprop((arg2.view.loc c ↦[arg2.view.set]{fullShare} arg2.view.rep x2) ∗ (arg3.view.loc c ↦[arg3.view.set]{fullShare} arg3.view.rep x3)
      ∗ (arg4.view.loc c ↦[arg4.view.set]{fullShare} arg4.view.rep x4) ∗ (arg5.view.loc c ↦[arg5.view.set]{fullShare} arg5.view.rep x5)
      ∗ (arg6.view.loc c ↦[arg6.view.set]{fullShare} arg6.view.rep x6) ∗ (arg7.view.loc c ↦[arg7.view.set]{fullShare} arg7.view.rep x7)
      ∗ (arg8.view.loc c ↦[arg8.view.set]{fullShare} arg8.view.rep x8)
      ∗ (arg9.view.loc c ↦[arg9.view.set]{fullShare} arg9.view.rep (runU x2 x3 x4 x5 x6 x7 x8 (i 1).val x9 (2 * k.val)).1)
      ∗ (arg12.view.loc c ↦[arg12.view.set]{fullShare} arg12.view.rep (scores x3 (blk x2 (ready (i 1).val k.val))))
      ∗ (arg13.view.loc c ↦[arg13.view.set]{fullShare} arg13.view.rep (prods x5 (blk x6 (ready (i 1).val k.val))))
      ∗ (∃ f, arg14.view.loc c ↦[arg14.view.set]{fullShare} f) ∗ (∃ f, arg15.view.loc c ↦[arg15.view.set]{fullShare} f)
      ∗ ⌜acc = (runU x2 x3 x4 x5 x6 x7 x8 (i 1).val x9 (2 * k.val)).2⌝)
    ⊢ wp (M := 𝕄) frame (wpE (defs₀ (F := F)) 𝒱₀ c none) Set.univ (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg1 v3 c2_i32 v26 v28 c0_i32_19 k acc)
      fun acc' => iprop((arg2.view.loc c ↦[arg2.view.set]{fullShare} arg2.view.rep x2) ∗ (arg3.view.loc c ↦[arg3.view.set]{fullShare} arg3.view.rep x3)
      ∗ (arg4.view.loc c ↦[arg4.view.set]{fullShare} arg4.view.rep x4) ∗ (arg5.view.loc c ↦[arg5.view.set]{fullShare} arg5.view.rep x5)
      ∗ (arg6.view.loc c ↦[arg6.view.set]{fullShare} arg6.view.rep x6) ∗ (arg7.view.loc c ↦[arg7.view.set]{fullShare} arg7.view.rep x7)
      ∗ (arg8.view.loc c ↦[arg8.view.set]{fullShare} arg8.view.rep x8)
      ∗ (arg9.view.loc c ↦[arg9.view.set]{fullShare} arg9.view.rep (runU x2 x3 x4 x5 x6 x7 x8 (i 1).val x9 (2 * (k.val + 1))).1)
      ∗ (arg12.view.loc c ↦[arg12.view.set]{fullShare} arg12.view.rep (scores x3 (blk x2 (ready (i 1).val (k.val + 1)))))
      ∗ (arg13.view.loc c ↦[arg13.view.set]{fullShare} arg13.view.rep (prods x5 (blk x6 (ready (i 1).val (k.val + 1)))))
      ∗ (∃ f, arg14.view.loc c ↦[arg14.view.set]{fullShare} f) ∗ (∃ f, arg15.view.loc c ↦[arg15.view.set]{fullShare} f)
      ∗ ⌜acc' = (runU x2 x3 x4 x5 x6 x7 x8 (i 1).val x9 (2 * (k.val + 1))).2⌝) := by
  have hk : k.val < (31 - (i 1).val) / 2 := lt_of_lt_of_eq k.isLt (trips_t1 i)
  have hi : (i 1).val < 32 := (i 1).isLt
  have hr : ready (i 1).val k.val = (i 1).val + 2 * k.val + 1 := if_pos (by omega)
  rw [hr]
  generalize hs : runU x2 x3 x4 x5 x6 x7 x8 (i 1).val x9 (2 * k.val) = s
  have hs' : runU x2 x3 x4 x5 x6 x7 x8 (i 1).val x9 (2 * (k.val + 1))
      = stepU x2 x3 x4 x5 x6 x7 x8 ((i 1).val + 2 * k.val + 2) (stepU x2 x3 x4 x5 x6 x7 x8 ((i 1).val + 2 * k.val + 1) s) := by
    subst hs
    rw [show (i 1).val + 2 * k.val + 2 = (i 1).val + 1 + (2 * k.val + 1) by omega, show (i 1).val + 2 * k.val + 1 = (i 1).val + 1 + 2 * k.val by omega]
    rfl
  rw [hs']
  obtain ⟨s9, sacc⟩ := s
  unfold k0_t1_body
  iintro ⟨H2, H3, H4, H5, H6, H7, H8, H9, H12, H13, ⟨%f14, H14⟩, ⟨%f15, H15⟩, %hacc⟩
  subst hacc
  sl_exec
  sl_step
  have L2a := readAt_blk (Val := Elt F) arg2.view x2 (k0_off7_inb i k) (k0_off7_eq i k)
  have L2b := readAt_blk (Val := Elt F) arg2.view x2 (k0_off3_inb i k) (k0_off3_eq i k)
  have L2c := readAt_blk (Val := Elt F) arg2.view x2 (k0_off8_inb i k) (k0_off8_eq i k)
  have L6a := readAt_blk (Val := Elt F) arg6.view x6 (k0_off5_inb i k) (k0_off5_eq i k)
  have L6b := readAt_blk (Val := Elt F) arg6.view x6 (k0_off4_inb i k) (k0_off4_eq i k)
  have L6c := readAt_blk (Val := Elt F) arg6.view x6 (k0_off9_inb i k) (k0_off9_eq i k)
  have L7a := readAt_blk (Val := Elt F) arg7.view x7 (k0_off6_inb i k) (k0_off6_eq i k)
  have L7b := readAt_blk (Val := Elt F) arg7.view x7 (k0_off10_inb i k) (k0_off10_eq i k)
  have L8a := readAt_blk (Val := Elt F) arg8.view x8 (k0_off6_inb i k) (k0_off6_eq i k)
  have L8b := readAt_blk (Val := Elt F) arg8.view x8 (k0_off10_inb i k) (k0_off10_eq i k)
  have L9a := readAt_blk (Val := Elt F) arg9.view s9 (k0_off7_inb i k) (k0_off7_eq i k)
  have L9b := readAt_blk (Val := Elt F) arg9.view s9 (k0_off3_inb i k) (k0_off3_eq i k)
  have L3 := View.readAt_rep_full (Val := Elt F) arg3.view x3 inb_S1x512x96_S1x512x96_0_0_0
  have L5 := View.readAt_rep_full (Val := Elt F) arg5.view x5 inb_S1x512x64_S1x512x64_0_0_0
  have L4a := View.readAt_rep_unit (Val := Elt F) arg4.view x4 inb_S1x1x96x512_S1x1x96x256_0_0_0_0 rfl inb_S1x1x96x512_S1x1x96x256_0_0_0_0
  have L4b := View.readAt_rep_unit (Val := Elt F) arg4.view x4 inb_S1x1x96x512_S1x1x96x256_0_0_0_256 rfl inb_S1x1x96x512_S1x1x96x256_0_0_0_256
  have L12a := View.readAt_rep_unit (Val := Elt F) arg12.view (scores x3 (blk x2 ((i 1).val + 2 * k.val + 1))) inb_S512x512_S256x512_0_0 rfl inb_S512x512_S256x512_0_0
  have L12b := View.readAt_rep_unit (Val := Elt F) arg12.view (scores x3 (blk x2 ((i 1).val + 2 * k.val + 1))) inb_S512x512_S256x512_256_0 rfl inb_S512x512_S256x512_256_0
  have L13a := View.readAt_rep_unit (Val := Elt F) arg13.view (prods x5 (blk x6 ((i 1).val + 2 * k.val + 1))) inb_S512x512_S256x512_0_0 rfl inb_S512x512_S256x512_0_0
  have L13b := View.readAt_rep_unit (Val := Elt F) arg13.view (prods x5 (blk x6 ((i 1).val + 2 * k.val + 1))) inb_S512x512_S256x512_256_0 rfl inb_S512x512_S256x512_256_0
  have L14a := fun w => readCov_window (Val := Elt F) arg14.view inb_S512x512_S512x512_0_0 w [] inb_S512x512_S256x512_0_0
  have L14b := fun w => readCov_window (Val := Elt F) arg14.view inb_S512x512_S512x512_0_0 w [] inb_S512x512_S256x512_256_0
  have L15a := fun w => readCov_window (Val := Elt F) arg15.view inb_S512x512_S512x512_0_0 w [] inb_S512x512_S256x512_0_0
  have L15b := fun w => readCov_window (Val := Elt F) arg15.view inb_S512x512_S512x512_0_0 w [] inb_S512x512_S256x512_256_0
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · iapply rep_intro
    iexists _
    isplitr
    rotate_left
    · iexact H9
    · ipureintro
      rw [View.read_writes_cons_put arg9.view _ _ _ _ (k0_off3_eq i k), View.read_writes_cons_put arg9.view _ _ _ _ (k0_off7_eq i k), View.writes_nil, View.read_rep]
      sl_unfold_run_values
      unfold pair_step.sl.H14_1 pair_step.sl.H15_1
      sl_unfold_run_values
      simp only [L2a, L2b, L3, L5, L4a, L4b, L6a, L6b, L7a, L7b, L8a, L8b, L9a, L9b, L12a, L12b, L13a, L13b, L14a, L14b, L15a, L15b, second_dq, second_dk, second_dv]
      have e : blk (setBlk s9 ((i 1).val + 2 * k.val + 1) (addDq x4 (blk x7 ((i 1).val + 2 * k.val + 1)) (blk x8 ((i 1).val + 2 * k.val + 1)) (upper (scores x3 (blk x2 ((i 1).val + 2 * k.val + 1)))) (lower (scores x3 (blk x2 ((i 1).val + 2 * k.val + 1)))) (upper (prods x5 (blk x6 ((i 1).val + 2 * k.val + 1)))) (lower (prods x5 (blk x6 ((i 1).val + 2 * k.val + 1)))) (blk s9 ((i 1).val + 2 * k.val + 1)))) ((i 1).val + 2 * k.val + 2)
          = blk s9 ((i 1).val + 2 * k.val + 2) := blk_setBlk_ne _ (by omega) (by omega) _
      unfold stepU
      dsimp only
      rw [e]
      rfl
  isplitl [H12]
  · iapply rep_intro
    iexists _
    isplitr
    rotate_left
    · iexact H12
    · ipureintro
      rw [View.read_writes_full]
      sl_unfold_run_values
      simp only [L2c, L3]
      rfl
  isplitl [H13]
  · iapply rep_intro
    iexists _
    isplitr
    rotate_left
    · iexact H13
    · ipureintro
      rw [View.read_writes_full]
      sl_unfold_run_values
      simp only [L6c, L5]
      rfl
  isplitl [H14]; · iexists _; iexact H14
  isplitl [H15]; · iexists _; iexact H15
  ipureintro
  sl_unfold_run_values
  unfold pair_step.sl.H14_1 pair_step.sl.H15_1
  sl_unfold_run_values
  simp only [L2a, L2b, L3, L5, L4a, L4b, L6a, L6b, L7a, L7b, L8a, L8b, L9a, L9b, L12a, L12b, L13a, L13b, L14a, L14b, L15a, L15b, second_dq, second_dk, second_dv]
  rfl

end Cert.Proof.KernelIdeal
end
-- ==== Proof.Bwd.T2.lean ====
module

public import proofs.«01_k».proof.Proof.Bwd.T1
public import Idealize.ShloMosaic.Lib.Tactic.RunNames

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (c : Dev nD) (i : grid0.Coords) (arg2 : Memref sig .tc .vmem S1x32x96x512 .bf16) (harg2 : arg2.IsWhole) (arg3 : Memref sig .tc .vmem S1x512x96 .bf16) (harg3 : arg3.IsWhole) (arg4 : Memref sig .tc .vmem S1x1x96x512 .bf16) (harg4 : arg4.IsWhole) (arg5 : Memref sig .tc .vmem S1x512x64 .bf16) (harg5 : arg5.IsWhole) (arg6 : Memref sig .tc .vmem S1x32x64x512 .f32) (harg6 : arg6.IsWhole) (arg7 : Memref sig .tc .vmem S1x32x1x512 .f32) (harg7 : arg7.IsWhole) (arg8 : Memref sig .tc .vmem S1x32x1x512 .f32) (harg8 : arg8.IsWhole) (arg9 : Memref sig .tc .vmem S1x32x96x512 .f32) (harg9 : arg9.IsWhole) (arg10 : Memref sig .tc .vmem S1x1x96x512 .f32) (harg10 : arg10.IsWhole) (arg11 : Memref sig .tc .vmem S1x1x64x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S512x512 .f32) (harg15 : arg15.IsWhole)
  (x2 : Vec F S1x32x96x512 .bf16) (x3 : Vec F S1x512x96 .bf16) (x4 : Vec F S1x1x96x512 .bf16) (x5 : Vec F S1x512x64 .bf16)
  (x6 : Vec F S1x32x64x512 .f32) (x7 x8 : Vec F S1x32x1x512 .f32) (x9 : Vec F S1x32x96x512 .f32)

/-- A load of row block `i` after another block was stored reads what lay there before the store. -/
theorem readAt_blk_put {sp : Space} (v : View sig .tc sp S1x32x96x512 .f32) (x : Vec F S1x32x96x512 .f32) {off₁ off : Fin 4 → ℕ} {j n : ℕ}
    (inb₁ : ∀ a, off₁ a + S1x1x96x512.size a ≤ S1x32x96x512.size a) (w : Vec F S1x1x96x512 .f32)
    (inb : ∀ a, off a + S1x1x96x512.size a ≤ S1x32x96x512.size a) (h : off = ![0, n, 0, 0]) (h₁ : off₁ = ![0, j, 0, 0])
    (hn : n < 32) (hne : n ≠ j) :
    v.readAt (Elt F) (Rect.unit (s := S1x32x96x512) off S1x1x96x512.size inb).toLoadRect (v.writes (Elt F) (v.rep x) [⟨Rect.unit (s := S1x32x96x512) off₁ S1x1x96x512.size inb₁, w⟩])
      = blk x n := by
  rw [View.readAt_unit v _ inb rfl inb, View.read_writes_cons_put v _ _ _ _ h₁, View.writes_nil, View.read_rep]
  exact ((View.readAt_rep_unit v _ inb rfl inb).symm.trans (readAt_blk v _ inb h)).trans (blk_setBlk_ne x hn hne w)

/-- What the body holds before pair `k` of row blocks. -/
abbrev invAt (k : ℕ) (acc : FVec F S96x512 .f32 × FVec F S64x512 .f32) : sProp 𝕄 :=
  iprop((arg2.view.loc (c : Thread nD τ) ↦[arg2.view.set]{fullShare} arg2.view.rep x2) ∗ (arg3.view.loc (c : Thread nD τ) ↦[arg3.view.set]{fullShare} arg3.view.rep x3)
      ∗ (arg4.view.loc (c : Thread nD τ) ↦[arg4.view.set]{fullShare} arg4.view.rep x4) ∗ (arg5.view.loc (c : Thread nD τ) ↦[arg5.view.set]{fullShare} arg5.view.rep x5)
      ∗ (arg6.view.loc (c : Thread nD τ) ↦[arg6.view.set]{fullShare} arg6.view.rep x6) ∗ (arg7.view.loc (c : Thread nD τ) ↦[arg7.view.set]{fullShare} arg7.view.rep x7)
      ∗ (arg8.view.loc (c : Thread nD τ) ↦[arg8.view.set]{fullShare} arg8.view.rep x8)
      ∗ (arg9.view.loc (c : Thread nD τ) ↦[arg9.view.set]{fullShare} arg9.view.rep (runU x2 x3 x4 x5 x6 x7 x8 (i 1).val x9 (2 * k)).1)
      ∗ (arg12.view.loc (c : Thread nD τ) ↦[arg12.view.set]{fullShare} arg12.view.rep (scores x3 (blk x2 (ready (i 1).val k))))
      ∗ (arg13.view.loc (c : Thread nD τ) ↦[arg13.view.set]{fullShare} arg13.view.rep (prods x5 (blk x6 (ready (i 1).val k))))
      ∗ (∃ f, arg14.view.loc (c : Thread nD τ) ↦[arg14.view.set]{fullShare} f) ∗ (∃ f, arg15.view.loc (c : Thread nD τ) ↦[arg15.view.set]{fullShare} f)
      ∗ ⌜acc = (runU x2 x3 x4 x5 x6 x7 x8 (i 1).val x9 (2 * k)).2⌝)

/-- The loop over the pairs of row blocks. -/
@[sl_loop, instance_reducible] def loopInv_k0_t1 (arg1 v3 c2_i32 v26 v28 c0_i32_19 : BitVec 32) (init : FVec F S96x512 .f32 × FVec F S64x512 .f32) :
    LoopInvTy_k0_t1 (F := F) Unit ℕ (UR sig nD τ) ℕ 𝒱₀ c none Set.univ i arg2 harg2 arg3 harg3 arg4 harg4 arg5 harg5 arg6 harg6 arg7 harg7 arg8 harg8 arg9 harg9 arg10 harg10 arg11 harg11 arg12 harg12 arg13 harg13 arg14 harg14 arg15 harg15 arg1 v3 c2_i32 v26 v28 c0_i32_19 init where
  inv k acc := invAt c i arg2 arg3 arg4 arg5 arg6 arg7 arg8 arg9 arg12 arg13 arg14 arg15 x2 x3 x4 x5 x6 x7 x8 x9 k acc
  step k acc := pair_step c i arg2 harg2 arg3 harg3 arg4 harg4 arg5 harg5 arg6 harg6 arg7 harg7 arg8 harg8 arg9 harg9 arg10 harg10 arg11 harg11 arg12 harg12 arg13 harg13 arg14 harg14 arg15 harg15 arg1 v3 c2_i32 v26 v28 c0_i32_19 x2 x3 x4 x5 x6 x7 x8 x9 k acc

theorem cond2_even : ∀ i : grid0.Coords, k0_cond2 i = 1#1 → 2 * ((31 - (i 1).val) / 2) = 31 - (i 1).val := by decide +kernel
theorem cond2_odd : ∀ i : grid0.Coords, ¬ (k0_cond2 i = 1#1) → 2 * ((31 - (i 1).val) / 2) + 1 = 31 - (i 1).val := by decide +kernel

theorem cond2_lt : ∀ i : grid0.Coords, ¬ (k0_cond2 i = 1#1) → (i 1).val < 31 := by decide +kernel

/-- The diagonal block after an even number of row blocks adds the products of the masked scores. -/
theorem even_dq (l d : Vec F S1x1x1x512 .f32) (su sl pu pl : Vec F S256x512 .f32) (kl kr : Vec F S1x1x96x256 .bf16)
    (old : Vec F S1x1x96x512 .f32) :
    k0_pay118 (k0_pay80 (k0_pay70 l) (k0_pay71 d) (k0_pay73 l d su pu) kl sl pl kr old)
      = k0_pay16 (k0_pay13 (k0_pay6 l) d (maskU su) pu kl) (k0_pay15 (k0_pay6 l) d (maskL sl) pl) kr old := rfl
@[inherit_doc even_dq] theorem even_dk (qb : Vec F S1x1x96x512 .bf16) (l d : Vec F S1x1x1x512 .f32) (su sl pu pl : Vec F S256x512 .f32)
    (old : FVec F S96x512 .f32) :
    k0_pay119 old (k0_pay75 l d su pu qb) (k0_pay79 (k0_pay70 l) (k0_pay71 d) sl pl qb)
      = addDk qb l d (maskU su) (maskL sl) pu pl old := rfl
@[inherit_doc even_dq] theorem even_dv (ob : Vec F S1x1x64x512 .f32) (l : Vec F S1x1x1x512 .f32) (su sl : Vec F S256x512 .f32)
    (old : FVec F S64x512 .f32) :
    k0_pay120 old (k0_pay74 ob l su) (k0_pay78 (k0_pay69 ob) (k0_pay70 l) sl) = addDv ob l (maskU su) (maskL sl) old := rfl

/-- The last row block below the diagonal, when their number is odd, adds the same product as any other. -/
theorem last_dq (l d : Vec F S1x1x1x512 .f32) (su sl pu pl : Vec F S256x512 .f32) (kl kr : Vec F S1x1x96x256 .bf16)
    (old : Vec F S1x1x96x512 .f32) :
    k0_pay94 (k0_pay90 (k0_pay84 l) d su pu kl) (k0_pay92 (k0_pay84 l) d sl pl) kr old
      = k0_pay16 (k0_pay13 (k0_pay6 l) d su pu kl) (k0_pay15 (k0_pay6 l) d sl pl) kr old := rfl
@[inherit_doc last_dq] theorem last_dk (qb : Vec F S1x1x96x512 .bf16) (l d : Vec F S1x1x1x512 .f32) (su sl pu pl : Vec F S256x512 .f32)
    (old : FVec F S96x512 .f32) :
    k0_pay95 old (k0_pay89 (k0_pay84 l) d su pu qb) (k0_pay92 (k0_pay84 l) d sl pl) qb = addDk qb l d su sl pu pl old := rfl
@[inherit_doc last_dq] theorem last_dv (ob : Vec F S1x1x64x512 .f32) (l : Vec F S1x1x1x512 .f32) (su sl : Vec F S256x512 .f32)
    (old : FVec F S64x512 .f32) :
    k0_pay96 old (k0_pay88 (k0_pay83 ob) (k0_pay84 l) su) (k0_pay93 (k0_pay83 ob) (k0_pay84 l) sl) = addDv ob l su sl old := rfl

theorem odd_scores (x3 : Vec F S1x512x96 .bf16) (qb : Vec F S1x1x96x512 .bf16) : k0_pay81 x3 qb = scores x3 qb := rfl
theorem odd_prods (x5 : Vec F S1x512x64 .bf16) (ob : Vec F S1x1x64x512 .f32) : k0_pay82 x5 ob = prods x5 ob := rfl

/-- The diagonal block after an odd number of row blocks adds the products of the masked scores. -/
theorem odd_dq (l d : Vec F S1x1x1x512 .f32) (su sl pu pl : Vec F S256x512 .f32) (kl kr : Vec F S1x1x96x256 .bf16)
    (old : Vec F S1x1x96x512 .f32)
    (w : IVec S512x512 32) (hw : w = iota .tc S512x512 32 [0] iota_S512x512_d0_w32) :
    k0_pay122 (k0_pay104 (k0_pay98 l) (k0_pay99 d) su w pu kl)
        (k0_pay106 (k0_pay98 l) (k0_pay99 d) sl pl) kr old
      = k0_pay16 (k0_pay13 (k0_pay6 l) d (maskU su) pu kl) (k0_pay15 (k0_pay6 l) d (maskL sl) pl) kr old := by subst hw; rfl
@[inherit_doc odd_dq] theorem odd_dk (qb : Vec F S1x1x96x512 .bf16) (l d : Vec F S1x1x1x512 .f32) (su sl pu pl : Vec F S256x512 .f32)
    (old : FVec F S96x512 .f32)
    (w : IVec S512x512 32) (hw : w = iota .tc S512x512 32 [0] iota_S512x512_d0_w32) :
    k0_pay123 old (k0_pay103 (k0_pay98 l) (k0_pay99 d) su w pu qb)
        (k0_pay106 (k0_pay98 l) (k0_pay99 d) sl pl) qb
      = addDk qb l d (maskU su) (maskL sl) pu pl old := by subst hw; rfl
@[inherit_doc odd_dq] theorem odd_dv (ob : Vec F S1x1x64x512 .f32) (l : Vec F S1x1x1x512 .f32) (su sl : Vec F S256x512 .f32)
    (old : FVec F S64x512 .f32)
    (w : IVec S512x512 32) (hw : w = iota .tc S512x512 32 [0] iota_S512x512_d0_w32) :
    k0_pay124 old (k0_pay97 ob) (k0_pay102 (k0_pay97 ob) (k0_pay98 l) su w)
        (k0_pay105 (k0_pay98 l) sl)
      = addDv ob l (maskU su) (maskL sl) old := by subst hw; rfl

set_option maxHeartbeats 4000000 in
/-- The loop and, where an even number of row blocks lies below the diagonal, the diagonal block after it. -/
theorem tail_even (hc : k0_cond2 i = 1#1) (arg1 v3 c2_i32 v26 v28 c0_i32_19 : BitVec 32) (K : (Σ' (v65_1 : FVec F S64x512 .f32), FVec F S96x512 .f32) → sProp 𝕄) :
    iprop(invAt c i arg2 arg3 arg4 arg5 arg6 arg7 arg8 arg9 arg12 arg13 arg14 arg15 x2 x3 x4 x5 x6 x7 x8 x9 0 (k0_pay110, k0_pay111)
      ∗ (iprop((arg2.view.loc (c : Thread nD τ) ↦[arg2.view.set]{fullShare} arg2.view.rep x2) ∗ (arg3.view.loc (c : Thread nD τ) ↦[arg3.view.set]{fullShare} arg3.view.rep x3)
      ∗ (arg4.view.loc (c : Thread nD τ) ↦[arg4.view.set]{fullShare} arg4.view.rep x4) ∗ (arg5.view.loc (c : Thread nD τ) ↦[arg5.view.set]{fullShare} arg5.view.rep x5)
      ∗ (arg6.view.loc (c : Thread nD τ) ↦[arg6.view.set]{fullShare} arg6.view.rep x6) ∗ (arg7.view.loc (c : Thread nD τ) ↦[arg7.view.set]{fullShare} arg7.view.rep x7)
      ∗ (arg8.view.loc (c : Thread nD τ) ↦[arg8.view.set]{fullShare} arg8.view.rep x8)
      ∗ (arg9.view.loc (c : Thread nD τ) ↦[arg9.view.set]{fullShare} arg9.view.rep (point x2 x3 x4 x5 x6 x7 x8 (i 1).val x9).1)
      ∗ (∃ f, arg12.view.loc (c : Thread nD τ) ↦[arg12.view.set]{fullShare} f) ∗ (∃ f, arg13.view.loc (c : Thread nD τ) ↦[arg13.view.set]{fullShare} f) ∗ (∃ f, arg14.view.loc (c : Thread nD τ) ↦[arg14.view.set]{fullShare} f) ∗ (∃ f, arg15.view.loc (c : Thread nD τ) ↦[arg15.view.set]{fullShare} f)) -∗ K ⟨(point x2 x3 x4 x5 x6 x7 x8 (i 1).val x9).2.2, k0_pay125 (point x2 x3 x4 x5 x6 x7 x8 (i 1).val x9).2.1⟩))
    ⊢ wp (M := 𝕄) frame (wpE (defs₀ (F := F)) 𝒱₀ c none) Set.univ (k0_part18 (F := F) i arg2 harg2 arg3 harg3 arg4 harg4 arg5 harg5 arg6 harg6 arg7 harg7 arg8 harg8 arg9 harg9 arg10 harg10 arg11 harg11 arg12 harg12 arg13 harg13 arg14 harg14 arg15 harg15 arg1 v3 c2_i32 v26 v28 c0_i32_19) K := by
  have he := cond2_even i hc
  have hT : Scf.trips (k0_t1_loop i).lb (k0_t1_loop i).ub (k0_t1_loop i).st = (31 - (i 1).val) / 2 := trips_t1 i
  have hr : ready (i 1).val ((31 - (i 1).val) / 2) = (i 1).val := if_neg (by omega)
  iintro ⟨⟨H2, H3, H4, H5, H6, H7, H8, H9, H12, H13, ⟨%f14, H14⟩, ⟨%f15, H15⟩, %hacc⟩, Hk⟩
  sl_exec (disch := sl_exact hc)
  sl_step
  sl_unfold_run_values
  simp only [hT, he, hr]
  generalize hs : runU x2 x3 x4 x5 x6 x7 x8 (i 1).val x9 (31 - (i 1).val) = s
  have hp : point x2 x3 x4 x5 x6 x7 x8 (i 1).val x9 = stepM x2 x3 x4 x5 x6 x7 x8 (i 1).val s := congrArg (stepM x2 x3 x4 x5 x6 x7 x8 (i 1).val) hs
  obtain ⟨s9, sacc⟩ := s
  rw [hp]
  have L2 := readAt_blk (Val := Elt F) arg2.view x2 (k0_off21_inb i hc) (k0_off21_eq i)
  have L6 := readAt_blk (Val := Elt F) arg6.view x6 (k0_off19_inb i hc) (k0_off19_eq i)
  have L7 := readAt_blk (Val := Elt F) arg7.view x7 (k0_off20_inb i hc) (k0_off20_eq i)
  have L8 := readAt_blk (Val := Elt F) arg8.view x8 (k0_off20_inb i hc) (k0_off20_eq i)
  have L9 := readAt_blk (Val := Elt F) arg9.view s9 (k0_off21_inb i hc) (k0_off21_eq i)
  have L3 := View.readAt_rep_full (Val := Elt F) arg3.view x3 inb_S1x512x96_S1x512x96_0_0_0
  have L5 := View.readAt_rep_full (Val := Elt F) arg5.view x5 inb_S1x512x64_S1x512x64_0_0_0
  have L4a := View.readAt_rep_unit (Val := Elt F) arg4.view x4 inb_S1x1x96x512_S1x1x96x256_0_0_0_0 rfl inb_S1x1x96x512_S1x1x96x256_0_0_0_0
  have L4b := View.readAt_rep_unit (Val := Elt F) arg4.view x4 inb_S1x1x96x512_S1x1x96x256_0_0_0_256 rfl inb_S1x1x96x512_S1x1x96x256_0_0_0_256
  have L12a := View.readAt_rep_unit (Val := Elt F) arg12.view (scores x3 (blk x2 (i 1).val)) inb_S512x512_S256x512_0_0 rfl inb_S512x512_S256x512_0_0
  have L12b := View.readAt_rep_unit (Val := Elt F) arg12.view (scores x3 (blk x2 (i 1).val)) inb_S512x512_S256x512_256_0 rfl inb_S512x512_S256x512_256_0
  have L13a := View.readAt_rep_unit (Val := Elt F) arg13.view (prods x5 (blk x6 (i 1).val)) inb_S512x512_S256x512_0_0 rfl inb_S512x512_S256x512_0_0
  have L13b := View.readAt_rep_unit (Val := Elt F) arg13.view (prods x5 (blk x6 (i 1).val)) inb_S512x512_S256x512_256_0 rfl inb_S512x512_S256x512_256_0
  simp only [L2, L3, L5, L4a, L4b, L6, L7, L8, L9, L12a, L12b, L13a, L13b, even_dq, even_dk, even_dv, stepM, upper, lower, leftK, rightK]
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · iapply rep_intro
    iexists _
    isplitr
    rotate_left
    · iexact H9
    · ipureintro
      rw [View.read_writes_cons_put arg9.view _ _ _ _ (k0_off21_eq i), View.writes_nil, View.read_rep]
      rfl
  isplitl [H12]; · iexists _; iexact H12
  isplitl [H13]; · iexists _; iexact H13
  isplitl [H14]; · iexists _; iexact H14
  iexists _; iexact H15

set_option maxHeartbeats 4000000 in
/-- The loop and, where an odd number of row blocks lies below the diagonal, the last of them and the diagonal block after it. -/
theorem tail_odd (hc : ¬ (k0_cond2 i = 1#1)) (arg1 v3 c2_i32 v26 v28 c0_i32_19 : BitVec 32) (K : (Σ' (v65_1 : FVec F S64x512 .f32), FVec F S96x512 .f32) → sProp 𝕄) :
    iprop(invAt c i arg2 arg3 arg4 arg5 arg6 arg7 arg8 arg9 arg12 arg13 arg14 arg15 x2 x3 x4 x5 x6 x7 x8 x9 0 (k0_pay110, k0_pay111)
      ∗ (iprop((arg2.view.loc (c : Thread nD τ) ↦[arg2.view.set]{fullShare} arg2.view.rep x2) ∗ (arg3.view.loc (c : Thread nD τ) ↦[arg3.view.set]{fullShare} arg3.view.rep x3)
      ∗ (arg4.view.loc (c : Thread nD τ) ↦[arg4.view.set]{fullShare} arg4.view.rep x4) ∗ (arg5.view.loc (c : Thread nD τ) ↦[arg5.view.set]{fullShare} arg5.view.rep x5)
      ∗ (arg6.view.loc (c : Thread nD τ) ↦[arg6.view.set]{fullShare} arg6.view.rep x6) ∗ (arg7.view.loc (c : Thread nD τ) ↦[arg7.view.set]{fullShare} arg7.view.rep x7)
      ∗ (arg8.view.loc (c : Thread nD τ) ↦[arg8.view.set]{fullShare} arg8.view.rep x8)
      ∗ (arg9.view.loc (c : Thread nD τ) ↦[arg9.view.set]{fullShare} arg9.view.rep (point x2 x3 x4 x5 x6 x7 x8 (i 1).val x9).1)
      ∗ (∃ f, arg12.view.loc (c : Thread nD τ) ↦[arg12.view.set]{fullShare} f) ∗ (∃ f, arg13.view.loc (c : Thread nD τ) ↦[arg13.view.set]{fullShare} f) ∗ (∃ f, arg14.view.loc (c : Thread nD τ) ↦[arg14.view.set]{fullShare} f) ∗ (∃ f, arg15.view.loc (c : Thread nD τ) ↦[arg15.view.set]{fullShare} f)) -∗ K ⟨(point x2 x3 x4 x5 x6 x7 x8 (i 1).val x9).2.2, k0_pay125 (point x2 x3 x4 x5 x6 x7 x8 (i 1).val x9).2.1⟩))
    ⊢ wp (M := 𝕄) frame (wpE (defs₀ (F := F)) 𝒱₀ c none) Set.univ (k0_part18 (F := F) i arg2 harg2 arg3 harg3 arg4 harg4 arg5 harg5 arg6 harg6 arg7 harg7 arg8 harg8 arg9 harg9 arg10 harg10 arg11 harg11 arg12 harg12 arg13 harg13 arg14 harg14 arg15 harg15 arg1 v3 c2_i32 v26 v28 c0_i32_19) K := by
  have he := cond2_odd i hc
  have hj := cond2_lt i hc
  have hT : Scf.trips (k0_t1_loop i).lb (k0_t1_loop i).ub (k0_t1_loop i).st = (31 - (i 1).val) / 2 := trips_t1 i
  have hr : ready (i 1).val ((31 - (i 1).val) / 2) = 31 := (if_pos (by omega)).trans (by omega)
  iintro ⟨⟨H2, H3, H4, H5, H6, H7, H8, H9, H12, H13, ⟨%f14, H14⟩, ⟨%f15, H15⟩, %hacc⟩, Hk⟩
  sl_exec (disch := sl_exact hc)
  sl_step
  sl_unfold_run_values
  unfold tail_odd.sl.H9_1 tail_odd.sl.H14_1 tail_odd.sl.H15_1
  sl_unfold_run_values
  simp only [hT, hr]
  generalize hs : runU x2 x3 x4 x5 x6 x7 x8 (i 1).val x9 (2 * ((31 - (i 1).val) / 2)) = s
  have hp : point x2 x3 x4 x5 x6 x7 x8 (i 1).val x9 = stepM x2 x3 x4 x5 x6 x7 x8 (i 1).val (stepU x2 x3 x4 x5 x6 x7 x8 31 s) := by
    have key : ∀ n, 2 * n + 1 = 31 - (i 1).val → point x2 x3 x4 x5 x6 x7 x8 (i 1).val x9
        = stepM x2 x3 x4 x5 x6 x7 x8 (i 1).val (stepU x2 x3 x4 x5 x6 x7 x8 31 (runU x2 x3 x4 x5 x6 x7 x8 (i 1).val x9 (2 * n))) := by
      intro n hn
      show stepM x2 x3 x4 x5 x6 x7 x8 (i 1).val (runU x2 x3 x4 x5 x6 x7 x8 (i 1).val x9 (31 - (i 1).val)) = _
      rw [← hn]
      show stepM x2 x3 x4 x5 x6 x7 x8 (i 1).val (stepU x2 x3 x4 x5 x6 x7 x8 ((i 1).val + 1 + 2 * n) _) = _
      rw [show (i 1).val + 1 + 2 * n = 31 by omega]
    exact (key _ he).trans (congrArg (fun s => stepM x2 x3 x4 x5 x6 x7 x8 (i 1).val (stepU x2 x3 x4 x5 x6 x7 x8 31 s)) hs)
  obtain ⟨s9, sacc⟩ := s
  rw [hp]
  have L2 := readAt_blk (Val := Elt F) arg2.view x2 (k0_off22_inb i hc) (k0_off22_eq i)
  have L6 := readAt_blk (Val := Elt F) arg6.view x6 (k0_off23_inb i hc) (k0_off23_eq i)
  have L7 := readAt_blk (Val := Elt F) arg7.view x7 (k0_off24_inb i hc) (k0_off24_eq i)
  have L8 := readAt_blk (Val := Elt F) arg8.view x8 (k0_off24_inb i hc) (k0_off24_eq i)
  have M2 := readAt_blk (Val := Elt F) arg2.view x2 inb_S1x32x96x512_S1x1x96x512_0_31_0_0 (i := 31) rfl
  have M6 := readAt_blk (Val := Elt F) arg6.view x6 inb_S1x32x64x512_S1x1x64x512_0_31_0_0 (i := 31) rfl
  have M7 := readAt_blk (Val := Elt F) arg7.view x7 inb_S1x32x1x512_S1x1x1x512_0_31_0_0 (i := 31) rfl
  have M8 := readAt_blk (Val := Elt F) arg8.view x8 inb_S1x32x1x512_S1x1x1x512_0_31_0_0 (i := 31) rfl
  have M9 := readAt_blk (Val := Elt F) arg9.view s9 inb_S1x32x96x512_S1x1x96x512_0_31_0_0 (i := 31) rfl
  have L3 := View.readAt_rep_full (Val := Elt F) arg3.view x3 inb_S1x512x96_S1x512x96_0_0_0
  have L5 := View.readAt_rep_full (Val := Elt F) arg5.view x5 inb_S1x512x64_S1x512x64_0_0_0
  have L4a := View.readAt_rep_unit (Val := Elt F) arg4.view x4 inb_S1x1x96x512_S1x1x96x256_0_0_0_0 rfl inb_S1x1x96x512_S1x1x96x256_0_0_0_0
  have L4b := View.readAt_rep_unit (Val := Elt F) arg4.view x4 inb_S1x1x96x512_S1x1x96x256_0_0_0_256 rfl inb_S1x1x96x512_S1x1x96x256_0_0_0_256
  have L12a := View.readAt_rep_unit (Val := Elt F) arg12.view (scores x3 (blk x2 31)) inb_S512x512_S256x512_0_0 rfl inb_S512x512_S256x512_0_0
  have L12b := View.readAt_rep_unit (Val := Elt F) arg12.view (scores x3 (blk x2 31)) inb_S512x512_S256x512_256_0 rfl inb_S512x512_S256x512_256_0
  have L13a := View.readAt_rep_unit (Val := Elt F) arg13.view (prods x5 (blk x6 31)) inb_S512x512_S256x512_0_0 rfl inb_S512x512_S256x512_0_0
  have L13b := View.readAt_rep_unit (Val := Elt F) arg13.view (prods x5 (blk x6 31)) inb_S512x512_S256x512_256_0 rfl inb_S512x512_S256x512_256_0
  have L14a := fun w => readCov_window (Val := Elt F) arg14.view inb_S512x512_S512x512_0_0 w [] inb_S512x512_S256x512_0_0
  have L14b := fun w => readCov_window (Val := Elt F) arg14.view inb_S512x512_S512x512_0_0 w [] inb_S512x512_S256x512_256_0
  have L15a := fun w => readCov_window (Val := Elt F) arg15.view inb_S512x512_S512x512_0_0 w [] inb_S512x512_S256x512_0_0
  have L15b := fun w => readCov_window (Val := Elt F) arg15.view inb_S512x512_S512x512_0_0 w [] inb_S512x512_S256x512_256_0
  have L9 := fun w => readAt_blk_put arg9.view s9 inb_S1x32x96x512_S1x1x96x512_0_31_0_0 w (k0_off22_inb i hc) (k0_off22_eq i) (j := 31) rfl (by omega) (by omega)
  simp only [L2, L3, L5, L4a, L4b, L6, L7, L8, L12a, L12b, L13a, L13b, L14a, L14b, L15a, L15b, M2, M6, M7, M8, M9, L9, last_dq, last_dk, last_dv, odd_dq, odd_dk, odd_dv, odd_scores, odd_prods,
    stepM, stepU, blk_setBlk_ne _ (show (i 1).val < 32 by omega) (show (i 1).val ≠ 31 by omega), upper, lower, leftK, rightK]
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · iapply rep_intro
    iexists _
    isplitr
    rotate_left
    · iexact H9
    · ipureintro
      rw [View.read_writes_cons_put arg9.view _ _ _ _ (k0_off22_eq i), View.read_writes_cons_put arg9.view _ _ _ _ rfl, View.writes_nil, View.read_rep]
      rfl
  isplitl [H12]; · iexists _; iexact H12
  isplitl [H13]; · iexists _; iexact H13
  isplitl [H14]; · iexists _; iexact H14
  iexists _; iexact H15

end Cert.Proof.KernelIdeal
end
-- ==== Proof.Bwd.T3.lean ====
module

public import proofs.«01_k».proof.Proof.Bwd.T2

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The row block whose products the body prepares first. -/
theorem k0_off1_eq : ∀ i, k0_off1 i = ![0, ready (i 1).val 0, 0, 0] := by decide +kernel
@[inherit_doc k0_off1_eq] theorem k0_off2_eq : ∀ i, k0_off2 i = ![0, ready (i 1).val 0, 0, 0] := k0_off1_eq

/-- The body clears `dqt` at the first key tile, and at no other. -/
theorem first_tile : ∀ i : grid0.Coords, (i 1).val = 0 → Scalar.cmpi .ne (Scalar.extui (Scalar.cmpi .eq (BitVec.ofNat 32 (i 1).val) 0#32)) 0#32 = 1#1 := by decide +kernel
@[inherit_doc first_tile] theorem later_tile : ∀ i : grid0.Coords, ¬ (i 1).val = 0 → ¬ Scalar.cmpi .ne (Scalar.extui (Scalar.cmpi .eq (BitVec.ofNat 32 (i 1).val) 0#32)) 0#32 = 1#1 := by decide +kernel

/-- What `dqt` holds when the row blocks begin. -/
def begin9 (j : ℕ) (x9 : Vec F S1x32x96x512 .f32) : Vec F S1x32x96x512 .f32 := if j = 0 then k0_pay107 else x9

variable (c : Dev nD) (i : grid0.Coords) (arg2 : Memref sig .tc .vmem S1x32x96x512 .bf16) (harg2 : arg2.IsWhole) (arg3 : Memref sig .tc .vmem S1x512x96 .bf16) (harg3 : arg3.IsWhole) (arg4 : Memref sig .tc .vmem S1x1x96x512 .bf16) (harg4 : arg4.IsWhole) (arg5 : Memref sig .tc .vmem S1x512x64 .bf16) (harg5 : arg5.IsWhole) (arg6 : Memref sig .tc .vmem S1x32x64x512 .f32) (harg6 : arg6.IsWhole) (arg7 : Memref sig .tc .vmem S1x32x1x512 .f32) (harg7 : arg7.IsWhole) (arg8 : Memref sig .tc .vmem S1x32x1x512 .f32) (harg8 : arg8.IsWhole) (arg9 : Memref sig .tc .vmem S1x32x96x512 .f32) (harg9 : arg9.IsWhole) (arg10 : Memref sig .tc .vmem S1x1x96x512 .f32) (harg10 : arg10.IsWhole) (arg11 : Memref sig .tc .vmem S1x1x64x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S512x512 .f32) (harg15 : arg15.IsWhole)
  (x2 : Vec F S1x32x96x512 .bf16) (x3 : Vec F S1x512x96 .bf16) (x4 : Vec F S1x1x96x512 .bf16) (x5 : Vec F S1x512x64 .bf16)
  (x6 : Vec F S1x32x64x512 .f32) (x7 x8 : Vec F S1x32x1x512 .f32) (x9 : Vec F S1x32x96x512 .f32)

set_option maxHeartbeats 4000000 in
/-- Before the row blocks: `dqt` cleared at the first key tile, and the first products prepared. -/
theorem head_step (K : (Σ' (arg1 : BitVec 32) (v3 : BitVec 32) (c2_i32 : BitVec 32) (v26 : BitVec 32) (v28 : BitVec 32), BitVec 32) → sProp 𝕄) :
    iprop((arg2.view.loc (c : Thread nD τ) ↦[arg2.view.set]{fullShare} arg2.view.rep x2) ∗ (arg3.view.loc (c : Thread nD τ) ↦[arg3.view.set]{fullShare} arg3.view.rep x3)
      ∗ (arg5.view.loc (c : Thread nD τ) ↦[arg5.view.set]{fullShare} arg5.view.rep x5)
      ∗ (arg6.view.loc (c : Thread nD τ) ↦[arg6.view.set]{fullShare} arg6.view.rep x6)
      ∗ (arg9.view.loc (c : Thread nD τ) ↦[arg9.view.set]{fullShare} arg9.view.rep x9)
      ∗ (∃ f, arg12.view.loc (c : Thread nD τ) ↦[arg12.view.set]{fullShare} f) ∗ (∃ f, arg13.view.loc (c : Thread nD τ) ↦[arg13.view.set]{fullShare} f)
      ∗ (∀ r, iprop((arg2.view.loc (c : Thread nD τ) ↦[arg2.view.set]{fullShare} arg2.view.rep x2) ∗ (arg3.view.loc (c : Thread nD τ) ↦[arg3.view.set]{fullShare} arg3.view.rep x3)
      ∗ (arg5.view.loc (c : Thread nD τ) ↦[arg5.view.set]{fullShare} arg5.view.rep x5)
      ∗ (arg6.view.loc (c : Thread nD τ) ↦[arg6.view.set]{fullShare} arg6.view.rep x6)
      ∗ (arg9.view.loc (c : Thread nD τ) ↦[arg9.view.set]{fullShare} arg9.view.rep (begin9 (i 1).val x9))
      ∗ (arg12.view.loc (c : Thread nD τ) ↦[arg12.view.set]{fullShare} arg12.view.rep (scores x3 (blk x2 (ready (i 1).val 0))))
      ∗ (arg13.view.loc (c : Thread nD τ) ↦[arg13.view.set]{fullShare} arg13.view.rep (prods x5 (blk x6 (ready (i 1).val 0))))) -∗ K r))
    ⊢ wp (M := 𝕄) frame (wpE (defs₀ (F := F)) 𝒱₀ c none) Set.univ (k0_part17 (F := F) i arg2 harg2 arg3 harg3 arg4 harg4 arg5 harg5 arg6 harg6 arg7 harg7 arg8 harg8 arg9 harg9 arg10 harg10 arg11 harg11 arg12 harg12 arg13 harg13 arg14 harg14 arg15 harg15) K := by
  have L2 := readAt_blk (Val := Elt F) arg2.view x2 (k0_off1_inb i) (k0_off1_eq i)
  have L6 := readAt_blk (Val := Elt F) arg6.view x6 (k0_off2_inb i) (k0_off2_eq i)
  have L3 := View.readAt_rep_full (Val := Elt F) arg3.view x3 inb_S1x512x96_S1x512x96_0_0_0
  have L5 := View.readAt_rep_full (Val := Elt F) arg5.view x5 inb_S1x512x64_S1x512x64_0_0_0
  by_cases hj : (i 1).val = 0
  all_goals
    iintro ⟨H2, H3, H5, H6, H9, ⟨%f12, H12⟩, ⟨%f13, H13⟩, Hk⟩
    first
      | sl_exec (disch := sl_exact first_tile i hj)
      | sl_exec (disch := sl_exact later_tile i hj)
    sl_step
    sl_unfold_run_values
    simp only [L2, L3, L5, L6]
    iapply Hk
    isplitl [H2]; · iexact H2
    isplitl [H3]; · iexact H3
    isplitl [H5]; · iexact H5
    isplitl [H6]; · iexact H6
    isplitl [H9]
    · iapply rep_intro
      iexists _
      isplitr
      rotate_left
      · iexact H9
      · ipureintro
        unfold begin9
        first
          | rw [if_neg hj, dif_neg (later_tile i hj), View.read_rep]
          | (rw [if_pos hj, View.read_writes_full]; rfl)
    isplitl [H12]
    · iapply rep_intro
      iexists _
      isplitr
      rotate_left
      · iexact H12
      · ipureintro
        rw [View.read_writes_full]
        rfl
    · iapply rep_intro
      iexists _
      isplitr
      rotate_left
      · iexact H13
      · ipureintro
        rw [View.read_writes_full]
        rfl

set_option maxHeartbeats 4000000 in
/-- The whole body at one grid point: `dqt` moves on by the key tile's products, and the two tile outputs are stored. -/
theorem body_sound (K : PUnit → sProp 𝕄) :
    iprop((arg2.view.loc (c : Thread nD τ) ↦[arg2.view.set]{fullShare} arg2.view.rep x2) ∗ (arg3.view.loc (c : Thread nD τ) ↦[arg3.view.set]{fullShare} arg3.view.rep x3) ∗ (arg4.view.loc (c : Thread nD τ) ↦[arg4.view.set]{fullShare} arg4.view.rep x4) ∗ (arg5.view.loc (c : Thread nD τ) ↦[arg5.view.set]{fullShare} arg5.view.rep x5) ∗ (arg6.view.loc (c : Thread nD τ) ↦[arg6.view.set]{fullShare} arg6.view.rep x6) ∗ (arg7.view.loc (c : Thread nD τ) ↦[arg7.view.set]{fullShare} arg7.view.rep x7) ∗ (arg8.view.loc (c : Thread nD τ) ↦[arg8.view.set]{fullShare} arg8.view.rep x8)
      ∗ (arg9.view.loc (c : Thread nD τ) ↦[arg9.view.set]{fullShare} arg9.view.rep x9) ∗ (∃ f, arg10.view.loc (c : Thread nD τ) ↦[arg10.view.set]{fullShare} f) ∗ (∃ f, arg11.view.loc (c : Thread nD τ) ↦[arg11.view.set]{fullShare} f)
      ∗ (∃ f, arg12.view.loc (c : Thread nD τ) ↦[arg12.view.set]{fullShare} f) ∗ (∃ f, arg13.view.loc (c : Thread nD τ) ↦[arg13.view.set]{fullShare} f) ∗ (∃ f, arg14.view.loc (c : Thread nD τ) ↦[arg14.view.set]{fullShare} f) ∗ (∃ f, arg15.view.loc (c : Thread nD τ) ↦[arg15.view.set]{fullShare} f)
      ∗ (iprop((arg2.view.loc (c : Thread nD τ) ↦[arg2.view.set]{fullShare} arg2.view.rep x2) ∗ (arg3.view.loc (c : Thread nD τ) ↦[arg3.view.set]{fullShare} arg3.view.rep x3) ∗ (arg4.view.loc (c : Thread nD τ) ↦[arg4.view.set]{fullShare} arg4.view.rep x4) ∗ (arg5.view.loc (c : Thread nD τ) ↦[arg5.view.set]{fullShare} arg5.view.rep x5) ∗ (arg6.view.loc (c : Thread nD τ) ↦[arg6.view.set]{fullShare} arg6.view.rep x6) ∗ (arg7.view.loc (c : Thread nD τ) ↦[arg7.view.set]{fullShare} arg7.view.rep x7) ∗ (arg8.view.loc (c : Thread nD τ) ↦[arg8.view.set]{fullShare} arg8.view.rep x8)
      ∗ (arg9.view.loc (c : Thread nD τ) ↦[arg9.view.set]{fullShare} arg9.view.rep (point x2 x3 x4 x5 x6 x7 x8 (i 1).val (begin9 (i 1).val x9)).1)
      ∗ (arg10.view.loc (c : Thread nD τ) ↦[arg10.view.set]{fullShare} arg10.view.rep (k0_pay1 (k0_pay125 (point x2 x3 x4 x5 x6 x7 x8 (i 1).val (begin9 (i 1).val x9)).2.1)))
      ∗ (arg11.view.loc (c : Thread nD τ) ↦[arg11.view.set]{fullShare} arg11.view.rep (k0_pay2 (point x2 x3 x4 x5 x6 x7 x8 (i 1).val (begin9 (i 1).val x9)).2.2))
      ∗ (∃ f, arg12.view.loc (c : Thread nD τ) ↦[arg12.view.set]{fullShare} f) ∗ (∃ f, arg13.view.loc (c : Thread nD τ) ↦[arg13.view.set]{fullShare} f) ∗ (∃ f, arg14.view.loc (c : Thread nD τ) ↦[arg14.view.set]{fullShare} f) ∗ (∃ f, arg15.view.loc (c : Thread nD τ) ↦[arg15.view.set]{fullShare} f)) -∗ K ⟨⟩))
    ⊢ wp (M := 𝕄) frame (wpE (defs₀ (F := F)) 𝒱₀ c none) Set.univ (cc0_flash_bwd (F := F) i arg2 harg2 arg3 harg3 arg4 harg4 arg5 harg5 arg6 harg6 arg7 harg7 arg8 harg8 arg9 harg9 arg10 harg10 arg11 harg11 arg12 harg12 arg13 harg13 arg14 harg14 arg15 harg15) K := by
  rw [cc0_flash_bwd_eq_skeleton]
  unfold cc0_flash_bwd_skel
  rw [wp_bind]
  iintro ⟨H2, H3, H4, H5, H6, H7, H8, H9, H10, H11, H12, H13, H14, H15, Hk⟩
  iapply head_step c i arg2 harg2 arg3 harg3 arg4 harg4 arg5 harg5 arg6 harg6 arg7 harg7 arg8 harg8 arg9 harg9 arg10 harg10 arg11 harg11 arg12 harg12 arg13 harg13 arg14 harg14 arg15 harg15 x2 x3 x5 x6 x9
  isplitl [H2]; · iexact H2
  isplitl [H3]; · iexact H3
  isplitl [H5]; · iexact H5
  isplitl [H6]; · iexact H6
  isplitl [H9]; · iexact H9
  isplitl [H12]; · iexact H12
  isplitl [H13]; · iexact H13
  iintro %r ⟨H2, H3, H5, H6, H9, H12, H13⟩
  obtain ⟨arg1, v3, c2_i32, v26, v28, c0_i32_19⟩ := r
  dsimp only
  rw [wp_bind]
  by_cases hc : k0_cond2 i = 1#1
  all_goals
    first
      | iapply tail_even c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 (begin9 (i 1).val x9) hc
      | iapply tail_odd c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 (begin9 (i 1).val x9) hc
    isplitl [H2 H3 H4 H5 H6 H7 H8 H9 H12 H13 H14 H15]
    · isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H12]; · iexact H12
      isplitl [H13]; · iexact H13
      isplitl [H14]; · iexact H14
      isplitl [H15]; · iexact H15
      ipureintro
      rfl
    iintro ⟨H2, H3, H4, H5, H6, H7, H8, H9, H12, H13, H14, H15⟩
    icases H10 with ⟨%f10, H10⟩
    icases H11 with ⟨%f11, H11⟩
    dsimp only
    sl_exec
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · iapply rep_intro
      iexists _
      isplitr
      rotate_left
      · iexact H10
      · ipureintro
        rw [View.read_writes_full]
    isplitl [H11]
    · iapply rep_intro
      iexists _
      isplitr
      rotate_left
      · iexact H11
      · ipureintro
        rw [View.read_writes_full]
    isplitl [H12]; · iexact H12
    isplitl [H13]; · iexact H13
    isplitl [H14]; · iexact H14
    iexact H15

end Cert.Proof.KernelIdeal
end
-- ==== Proof.Bwd.T4.lean ====
module

public import proofs.«01_k».proof.Proof.Bwd.T3
public import Idealize.ShloMosaic.Lib.Pipeline.TableIdle

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The key tile of a grid point. -/
theorem tile_val : ∀ t : Fin grid0.N, ((grid0.coords t) 1).val = t.val % 32 := by decide +kernel

/-- What the body computes at point `t` from the blocks it reads there. -/
def ptAt (c : Dev nD) (t : Fin cfg0.N) (x9 : Vec F S1x32x96x512 .f32) : St F :=
  point (iblk m c 0 t) (iblk m c 1 t) (iblk m c 2 t) (iblk m c 3 t) (iblk m c 4 t) (iblk m c 5 t) (iblk m c 6 t)
    ((grid0.coords t) 1).val (begin9 ((grid0.coords t) 1).val x9)

/-- What `dqt`'s buffer holds after point `n`. -/
def acc9 (c : Dev nD) : (n : ℕ) → n < cfg0.N → Vec F S1x32x96x512 .f32
  | 0, h => (ptAt m c ⟨0, h⟩ k0_pay107).1
  | n + 1, h => (ptAt m c ⟨n + 1, h⟩ (acc9 c n (Nat.lt_of_succ_lt h))).1

/-- What `dqt`'s buffer holds when point `t` begins, of no importance where a head begins. -/
def prev9 (c : Dev nD) (t : Fin cfg0.N) : Vec F S1x32x96x512 .f32 :=
  match t with
  | ⟨0, _⟩ => k0_pay107
  | ⟨n + 1, h⟩ => acc9 m c n (Nat.lt_of_succ_lt h)

theorem acc9_eq (c : Dev nD) (t : Fin cfg0.N) : acc9 m c t.val t.isLt = (ptAt m c t (prev9 m c t)).1 := by
  obtain ⟨n, h⟩ := t
  cases n <;> rfl

/-- Where a head begins the earlier contents of `dqt`'s buffer do not matter. -/
theorem ptAt_begin (c : Dev nD) (t : Fin cfg0.N) (h : t.val % 32 = 0) (x y : Vec F S1x32x96x512 .f32) : ptAt m c t x = ptAt m c t y := by
  unfold ptAt begin9
  rw [tile_val, if_pos h, if_pos h]

/-- The arrays as the region finds them; after the body each input's buffer at its block, `dqt`'s at what has been added
    up, the two tile outputs at the point's sums. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (ptAt m c t (prev9 m c t)).1
    | ⟨8, _⟩ => k0_pay1 (k0_pay125 (ptAt m c t (prev9 m c t)).2.1)
    | ⟨9, _⟩ => k0_pay2 (ptAt m c t (prev9 m c t)).2.2
  Φ _ := Pipeline.ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (ptAt m c t (prev9 m c t)).1 := by dsimp only [dats]
theorem after0_8 (c : Dev nD) (t : Fin cfg0.N) : (dats m 0 c).after 8 t = k0_pay1 (k0_pay125 (ptAt m c t (prev9 m c t)).2.1) := by dsimp only [dats]
theorem after0_9 (c : Dev nD) (t : Fin cfg0.N) : (dats m 0 c).after 9 t = k0_pay2 (ptAt m c t (prev9 m c t)).2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- `dqt`'s buffer goes on from point to point within a head. -/
theorem before0_7 (c : Dev nD) (t : Fin cfg0.N) (h : t.val % 32 ≠ 0) (d) : (dats m 0 c).before 7 t d = prev9 m c t := by
  obtain ⟨n, hn⟩ := t
  cases n with
  | zero => exact absurd rfl h
  | succ n =>
    rw [(dats m 0 c).before_out_kept 7 rfl ⟨n + 1, hn⟩ (Nat.succ_ne_zero n)
      (Bool.eq_false_iff.mpr fun hf => h (by have := (flush0_7 _).mp hf; dsimp only at this ⊢; omega)) (fun _ => rfl) (fun _ _ => rfl) d, after0_7]
    exact (acc9_eq m c ⟨n, _⟩).symm

/-- The point's value from whatever `dqt`'s buffer holds. -/
theorem ptAt_before (c : Dev nD) (t : Fin cfg0.N) (d) : ptAt m c t ((dats m 0 c).before 7 t d) = ptAt m c t (prev9 m c t) := by
  by_cases h : t.val % 32 = 0
  · exact ptAt_begin m c t h _ _
  · rw [before0_7 m c t h]

theorem body_row (t : Fin cfg0.N) : defs₀ (F := F) .tc cfg0.body (cfg0.bodyArgs t (cfg0.slots t)) = bodyAt0 t := by
  unfold defs₀
  rw [Defs.onTc_tc]

set_option maxHeartbeats 1000000 in
/-- The body at every point: from the buffers as the pipeline hands them over to the contents named in `dats`. -/
theorem body_obligation (c : Dev nD) : BodyObligation (dats (F := F) m 0 c) (defs₀ (F := F)) 𝒱₀ () Set.univ := fun t => by
  rw [bigSep_W0, bigSep_W0, body_row]
  simp only [before0_0, before0_1, before0_2, before0_3, before0_4, before0_5, before0_6]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, after0_0, after0_1, after0_2, after0_3, after0_4,
    after0_5, after0_6, after0_7, after0_8, after0_9]
  unfold Pipeline.ΦA
  rw [scopedRest0_eq]
  simp only [owns_eq_rep]
  iintro ⟨⟨⟨⟨%f12, H12⟩, ⟨%f13, H13⟩, ⟨%f14, H14⟩, ⟨%f15, H15⟩⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  rw [← ptAt_before m c t d7]
  iapply body_sound c (grid0.coords t) _ _ _ _ _ _ _ _ _ _ _ _ _ _ _ _ _ _ _ _ _ _ _ _ _ _ _ _
    (iblk m c 0 t) (iblk m c 1 t) (iblk m c 2 t) (iblk m c 3 t) (iblk m c 4 t) (iblk m c 5 t) (iblk m c 6 t) ((dats m 0 c).before 7 t d7)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  simp only [Memref.view_whole, View.set_whole]
  isplitl [H12]; · iexists _; iexact H12
  isplitl [H13]; · iexists _; iexact H13
  isplitl [H14]; · iexists _; iexact H14
  isplitl [H15]; · iexists _; iexact H15
  iintro ⟨H0, H1, H2, H3, H4, H5, H6, H7, H8, H9, H12, H13, H14, H15⟩
  isplitl [Hr H12 H13 H14 H15]
  · isplitr [Hr]
    · isplitl [H12]; · iexact H12
      isplitl [H13]; · iexact H13
      isplitl [H14]; · iexact H14
      iexact H15
    · iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

set_option backward.isDefEq.respectTransparency.types false in
/-- From any memory with zero counters every fair execution of the program ends, every array of the pipeline then at
    what the proof data compute and every counter at zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := fun _ _ => rfl) (hΦ := fun _ _ => rfl)

end Cert.Proof.KernelIdeal
end
-- ==== Proof.Bwd.Frames.lean ====
module

public import proofs.«01_k».proof.Proof.Bwd.T4
public import proofs.«01_k».proof.Proof.Gen.Kernel
public import proofs.«01_k».proof.Proof.Gen.ReferenceIdeal.Run
public import proofs.«01_k».proof.Defs

@[expose] public section

noncomputable section

namespace Cert.Proof

open Idealize.ShloMosaic Idealize.ShloMosaic.TcCoe Idealize.SL.Sem

/-- The frame of the ideal program: the run with the values dropped. -/
theorem frame_ideal : Cert.quiescent_KernelIdeal (hKernelIdeal := Cert.KernelIdeal.Gen.facts) := fun m ρ _ =>
  θ_run_with_sems (Cert.KernelIdeal.Gen.frame_of m ρ (KernelIdeal.dats m) fun _ _ => rfl) (KernelIdeal.run_main (F := Ideal) m ρ)

/-- Each named constant read as the word that the program prints for it. -/
@[instance_reducible] def printedConsts : Named Bits := ⟨fun _ _ _ b => FloatOps.ofBits _ b⟩

attribute [local instance] printedConsts Cert.Kernel.Gen.facts Cert.KernelIdeal.Gen.facts

set_option maxHeartbeats 8000000 in
/-- The printed kernel and the ideal one have the same host program once the names are read as words. -/
theorem same_main : Cert.Kernel.main (F := Bits) = Cert.KernelIdeal.main (F := Bits) := by
  unfold Cert.Kernel.main Cert.KernelIdeal.main
  rfl

set_option maxHeartbeats 8000000 in
/-- The same for the kernel body. -/
theorem same_body : Cert.Kernel.defs₀ (F := Bits) = Cert.KernelIdeal.defs₀ (F := Bits) := by
  funext p ℓ a
  cases p with
  | tc =>
    match ℓ, a with
    | 0, (t, s) => exact rfl
  | scScalar _ => exact rfl
  | scVector _ _ => exact rfl

set_option maxHeartbeats 8000000 in
/-- The same for the table of calls. -/
theorem same_defs : Cert.Kernel.defs (F := Bits) = Cert.KernelIdeal.defs (F := Bits) :=
  congrArg (Idealize.ShloMosaic.Pipeline.defs (Cert.KernelIdeal.pcfgs (F := Bits))) same_body

/-- The frame of the kernel as printed. It differs from the ideal program in the constants' names alone, so the
    run serves both. -/
theorem frame_kernel : Cert.quiescent_Kernel (hKernel := Cert.Kernel.Gen.facts) := fun m ρ _ => by
  rw [same_main, same_defs]
  exact θ_run_with_sems (Cert.KernelIdeal.Gen.frame_of m ρ (KernelIdeal.dats m) fun _ _ => rfl) (KernelIdeal.run_main (F := Bits) m ρ)

/-- The frame of the reference: its generated run read at the arguments. It declares no counter. -/
theorem frame_reference : Cert.quiescent_ReferenceIdeal (hReferenceIdeal := Cert.ReferenceIdeal.Gen.facts) := fun m ρ _ =>
  (θ_run Cert.ReferenceIdeal.defs _ _).mono
    (fun r h => ⟨fun c => (h c).2.2.2, Idealize.ShloMosaic.sem_eq_zero_of_no_sems (by decide) r.2⟩)
    (Cert.ReferenceIdeal.Value.run (F := Ideal) m ρ)

/-- Each named constant is what its name says. -/
theorem preserves_kernel : Cert.preserves_Kernel_KernelIdeal :=
  ⟨IdealRules.named_const.statement Cert.KernelIdeal.κ "log2e" .f32 0x3FB8AA3B#32 _ rfl,
   IdealRules.named_const.statement Cert.KernelIdeal.κ "scale_log2e" .f32 0x3E16C740#32 _ rfl,
   IdealRules.named_const.statement Cert.KernelIdeal.κ "scale" .f32 0x3DD105EC#32 _ rfl,
   IdealRules.named_const.statement Cert.KernelIdeal.κ "mask" .f32 0xF149F2CA#32 _ rfl⟩

end Cert.Proof
end
-- ==== Proof.Val.Consts.lean ====
module

public import proofs.«01_k».proof.Proof.Gen.KernelIdeal.Skeleton
public import Idealize.ShloMosaic.PureOps.IdealRules

@[expose] public section

/-! # The constants of the two programs as extended reals -/

noncomputable section

namespace Cert.Proof.Val

open Idealize.ShloMosaic

/-- The scale that the programs multiply the scores by. -/
def s0 : ℝ := 3424635 / 33554432

theorem ofBits_scale : Ideal.ofBits .f32 0x3DD105EC#32 = ((s0 : ℝ) : EReal) := by
  simp [Ideal.ofBits, Ideal.ieee, s0, -EReal.coe_mul]; norm_num

theorem ofBits_neg_inf : Ideal.ofBits .f32 0xFF800000#32 = (⊥ : EReal) := by
  simp [Ideal.ofBits, Ideal.ieee, -EReal.coe_mul]

theorem ofBits_inf : Ideal.ofBits .f32 0x7F800000#32 = (⊤ : EReal) := by
  simp [Ideal.ofBits, Ideal.ieee, -EReal.coe_mul]

theorem ofBits_one : Ideal.ofBits .f32 0x3F800000#32 = ((1 : ℝ) : EReal) := by
  simp [Ideal.ofBits, Ideal.ieee, -EReal.coe_mul]; try norm_num

theorem ofBits_zero : Ideal.ofBits .f32 0x00000000#32 = ((0 : ℝ) : EReal) := by
  simp [Ideal.ofBits, Ideal.ieee, -EReal.coe_mul]

theorem named_scale : Named.named (F := Ideal) Cert.KernelIdeal.κ "scale" (φ := .f32) 0x3DD105EC#32 = ((s0 : ℝ) : EReal) :=
  (IdealRules.named_const.ideal_named_scalar _ _ _ _ rfl).trans (by unfold s0; rfl)

theorem named_log2e : Named.named (F := Ideal) Cert.KernelIdeal.κ "log2e" (φ := .f32) 0x3FB8AA3B#32 = (((Real.log 2)⁻¹ : ℝ) : EReal) :=
  (IdealRules.named_const.ideal_named_scalar _ _ _ _ rfl)

theorem named_scale_log2e : Named.named (F := Ideal) Cert.KernelIdeal.κ "scale_log2e" (φ := .f32) 0x3E16C740#32 = ((s0 * (Real.log 2)⁻¹ : ℝ) : EReal) :=
  (IdealRules.named_const.ideal_named_scalar _ _ _ _ rfl).trans (by unfold s0; rfl)

theorem named_mask : Named.named (F := Ideal) Cert.KernelIdeal.κ "mask" (φ := .f32) 0xF149F2CA#32 = (⊥ : EReal) :=
  (IdealRules.named_const.ideal_named_scalar _ _ _ _ rfl)

end Cert.Proof.Val
end
-- ==== Proof.Val.Coe.lean ====
module

public import Idealize.ShloMosaic.PureOps.Ideal
public import Idealize.ShloMosaic.Lib.WordCmp
public import proofs.«01_k».proof.Proof.Val.Consts

@[expose] public section

/-! # Reals among the extended reals -/

noncomputable section

namespace Cert.Proof.Val

open Idealize.ShloMosaic

theorem coe_sum {ι : Type} (s : Finset ι) (f : ι → ℝ) : ∑ x ∈ s, ((f x : ℝ) : EReal) = ((∑ x ∈ s, f x : ℝ) : EReal) := by
  classical
  induction s using Finset.induction_on with
  | empty => simp
  | insert a s ha ih => rw [Finset.sum_insert ha, Finset.sum_insert ha, ih, EReal.coe_add]

/-- A sum of extended reals that are all real is the sum of the reals. -/
theorem sum_eq_coe {ι : Type} [Fintype ι] {f : ι → EReal} {g : ι → ℝ} (h : ∀ x, f x = ((g x : ℝ) : EReal)) :
    ∑ x, f x = ((∑ x, g x : ℝ) : EReal) := by
  rw [← coe_sum]; exact Finset.sum_congr rfl fun x _ => h x

/-- A choice by comparing two positions is a choice by their order. -/
theorem select_sle {α : Type} {a b : ℕ} (ha : a < 2 ^ 31) (hb : b < 2 ^ 31) (x y : α) :
    Scalar.select (IntOp.cmpi .sle (BitVec.ofNat 32 a) (BitVec.ofNat 32 b)) x y = if a ≤ b then x else y := by
  have := WordCmp.cmpi_sle_ofNat (w := 32) ha hb
  rw [this]
  simp [WordCmp.select_ofBool]

/-- The power of two of a scaled score less the scaled log-sum is the exponential of their difference. -/
theorem exp2_scaled (s l : ℝ) :
    Ideal.exp2 (((s : ℝ) : EReal) * ((s0 * (Real.log 2)⁻¹ : ℝ) : EReal) - ((l : ℝ) : EReal) * (((Real.log 2)⁻¹ : ℝ) : EReal))
      = ((Real.exp (s * s0 - l) : ℝ) : EReal) := by
  rw [← EReal.coe_mul, ← EReal.coe_mul, ← EReal.coe_sub, Ideal.exp2_coe]
  congr 1
  have h2 : Real.log 2 ≠ 0 := (Real.log_pos (by norm_num)).ne'
  show (2 : ℝ) ^ (_ : ℝ) = _
  rw [Real.rpow_def_of_pos (by norm_num)]
  congr 1
  field_simp

/-- The masked score's power of two is zero. -/
theorem exp2_masked (l : ℝ) :
    Ideal.exp2 ((⊥ : EReal) * ((s0 * (Real.log 2)⁻¹ : ℝ) : EReal) - ((l : ℝ) : EReal) * (((Real.log 2)⁻¹ : ℝ) : EReal)) = 0 := by
  have hp : 0 < s0 * (Real.log 2)⁻¹ := mul_pos (by norm_num [s0]) (inv_pos.mpr (Real.log_pos (by norm_num)))
  rw [EReal.bot_mul_coe_of_pos hp, ← EReal.coe_mul, EReal.bot_sub, Ideal.exp2_bot]

/-- The first and the second half of a tile's 512 positions. -/
def lo (x : Fin 256) : Fin 512 := ⟨x.val, by omega⟩
@[inherit_doc lo] def hi (x : Fin 256) : Fin 512 := ⟨256 + x.val, by omega⟩

theorem sum_lo_hi (f : Fin 512 → ℝ) : ∑ x, f x = ∑ x, f (lo x) + ∑ x, f (hi x) :=
  Fin.sum_univ_add (a := 256) (b := 256) f

end Cert.Proof.Val
end
-- ==== Proof.Val.Spec.lean ====
module

public import proofs.«01_k».proof.Proof.Val.Coe

@[expose] public section

/-! # The attention's gradients over the reals

Causal attention over 16384 positions and eight heads: `P` the probabilities, and the gradients of queries, keys and values
for an output gradient `g`. -/

noncomputable section

namespace Cert.Proof.Val

/-- Position `t` of row block `i`. -/
def pos (i : ℕ) (t : Fin 512) : Fin 16384 := Fin.ofNat 16384 (512 * i + t.val)

theorem pos_val {i : ℕ} (hi : i < 32) (t : Fin 512) : (pos i t).val = 512 * i + t.val := by
  show (512 * i + t.val) % 16384 = _
  exact Nat.mod_eq_of_lt (by omega)

/-- A sum over all positions, row block by row block. -/
theorem sum_pos (f : Fin 16384 → ℝ) : ∑ x, f x = ∑ i : Fin 32, ∑ t : Fin 512, f (pos i.val t) := by
  rw [← Fintype.sum_prod_type' (f := fun (i : Fin 32) (t : Fin 512) => f (pos i.val t))]
  refine (Equiv.sum_comp (finProdFinEquiv (m := 32) (n := 512)) f).symm.trans ?_
  refine Finset.sum_congr rfl fun x _ => congrArg f (Fin.ext ?_)
  rw [pos_val x.1.isLt]
  show x.2.val + 512 * x.1.val = _
  omega

/-- The queries, keys, values and output gradients: position, head, coordinate. -/
structure Ins where
  q : Fin 16384 → Fin 8 → Fin 96 → ℝ
  k : Fin 16384 → Fin 8 → Fin 96 → ℝ
  v : Fin 16384 → Fin 8 → Fin 64 → ℝ
  g : Fin 16384 → Fin 8 → Fin 64 → ℝ

namespace Ins
variable (x : Ins) (h : Fin 8) (i j : Fin 16384)

/-- The scaled score of key `j` for query `i`. -/
def L : ℝ := (∑ a, x.q i h a * x.k j h a) * s0
def E : ℝ := if j.val ≤ i.val then Real.exp (x.L h i j) else 0
def Z : ℝ := ∑ j, x.E h i j
/-- The probability. -/
def P : ℝ := x.E h i j / x.Z h i
def DP : ℝ := ∑ a, x.g i h a * x.v j h a
/-- The output's product with its gradient. -/
def delta : ℝ := ∑ a, (∑ j, x.v j h a * x.P h i j) * x.g i h a
/-- The gradient of the unscaled score. -/
def DS : ℝ := x.P h i j * (x.DP h i j - x.delta h i)
def dq (a : Fin 96) : ℝ := (∑ j, x.k j h a * x.DS h i j) * s0
def dk (a : Fin 96) : ℝ := (∑ i, x.q i h a * x.DS h i j) * s0
def dv (a : Fin 64) : ℝ := ∑ i, x.g i h a * x.P h i j

variable {x h i j}

theorem E_nonneg : 0 ≤ x.E h i j := by unfold E; split <;> positivity

theorem Z_pos : 0 < x.Z h i := by
  refine Finset.sum_pos' (fun j _ => E_nonneg) ⟨i, Finset.mem_univ _, ?_⟩
  unfold E; rw [if_pos le_rfl]; exact Real.exp_pos _

variable (x h i j)

/-- The exponentials less any number `M`, and their sum. -/
def EM (M : ℝ) : ℝ := if j.val ≤ i.val then Real.exp (x.L h i j - M) else 0
def ZM (M : ℝ) : ℝ := ∑ j, x.EM h i j M

variable {x h i j}

theorem EM_eq (M : ℝ) : x.EM h i j M = x.E h i j * Real.exp (-M) := by
  unfold EM E; split
  · rw [← Real.exp_add]; rfl
  · rw [zero_mul]

theorem ZM_eq (M : ℝ) : x.ZM h i M = x.Z h i * Real.exp (-M) := by
  unfold ZM Z; rw [Finset.sum_mul]; exact Finset.sum_congr rfl fun j _ => EM_eq M

theorem ZM_pos (M : ℝ) : 0 < x.ZM h i M := by rw [ZM_eq]; exact mul_pos Z_pos (Real.exp_pos _)

theorem EM_div (M : ℝ) : x.EM h i j M / x.ZM h i M = x.P h i j := by
  rw [EM_eq, ZM_eq, P, mul_div_mul_right _ _ (Real.exp_pos _).ne']

/-- The log-sum does not depend on the number subtracted. -/
theorem lse_eq (M : ℝ) : M + Real.log (x.ZM h i M) = Real.log (x.Z h i) := by
  rw [ZM_eq, Real.log_mul Z_pos.ne' (Real.exp_pos _).ne', Real.log_exp]; ring

theorem exp_lse : (if j.val ≤ i.val then Real.exp (x.L h i j - Real.log (x.Z h i)) else 0) = x.P h i j := by
  unfold P E
  split
  · rw [Real.exp_sub, Real.exp_log Z_pos]
  · rw [zero_div]

/-- The probabilities' sum with the score gradients is the output's product with its gradient. -/
theorem sum_P_DP : ∑ j, x.P h i j * x.DP h i j = x.delta h i := by
  unfold DP delta
  simp only [Finset.mul_sum, Finset.sum_mul]
  rw [Finset.sum_comm]
  exact Finset.sum_congr rfl fun a _ => Finset.sum_congr rfl fun j _ => by ring

/-- The softmax's gradient as its own rule writes it. -/
theorem softmax_grad (M : ℝ) :
    (x.DP h i j / x.ZM h i M + -(∑ j, x.DP h i j * (1 / (x.ZM h i M * x.ZM h i M)) * x.EM h i j M)) * x.EM h i j M = x.DS h i j := by
  have hz := (ZM_pos (x := x) (h := h) (i := i) M).ne'
  have e : ∑ j, x.DP h i j * (1 / (x.ZM h i M * x.ZM h i M)) * x.EM h i j M = x.delta h i / x.ZM h i M := by
    rw [← sum_P_DP, Finset.sum_div]
    refine Finset.sum_congr rfl fun j _ => ?_
    rw [← EM_div M]; field_simp
  rw [e, DS, ← EM_div M]; field_simp; ring

end Ins

end Cert.Proof.Val
end
-- ==== Proof.Val.Host.lean ====
module

public import proofs.«01_k».proof.Proof.Val.Spec
public import proofs.«01_k».proof.Proof.Gen.KernelIdeal.Frame
public import Idealize.ShloMosaic.Lib.Pointwise
public import Idealize.ShloMosaic.Lib.Claim

@[expose] public section

/-! # What the region finds: the host operations before the call -/

noncomputable section

namespace Cert.Proof.Val

open Cert.KernelIdeal Cert.KernelIdeal.Gen
open Idealize.ShloMosaic Idealize.ShloMosaic.TcCoe

variable {F : FTy → Type} [FloatOps F]

/-- The masked scores. -/
def hS (x0 x1 : FVec F S16384x8x96 .f32) : FVec F S8x16384x16384 .f32 :=
  select (broadcastInDim S8x16384x16384 ![1, 2] bcast_S16384x16384_S8x16384x16384_1_2
      (cmpi .sle (broadcastInDim S16384x16384 ![0, 1] bcast_S1x16384_S16384x16384_0_1 (broadcastInDim S1x16384 ![1] bcast_S16384_S1x16384_1 (iotaInDim S16384 32 0)))
        (broadcastInDim S16384x16384 ![0, 1] bcast_S16384x1_S16384x16384_0_1 (broadcastInDim S16384x1 ![0] bcast_S16384_S16384x1_0 (iotaInDim S16384 32 0)))))
    (mulf (Host.dotGeneral dot_S16384x8x96_S16384x8x96_S8x16384x16384_2_2_0_0_1_1 none x0 x1)
      (broadcastInDim S8x16384x16384 ![] bcast_S_S8x16384x16384 (constant S_ .f32 0x3DD105EC#32)))
    (broadcastInDim S8x16384x16384 ![] bcast_S_S8x16384x16384 (constant S_ .f32 0xFF800000#32))

/-- The rows' greatest scores. -/
def hM (s : FVec F S8x16384x16384 .f32) : FVec F S8x16384 .f32 :=
  Host.reduce FloatOps.maximumf s (constant S_ .f32 0xFF800000#32) reducesTo_S8x16384x16384_S8x16384_d2 h_S_

/-- The rows' log-sums. -/
def hLse (s : FVec F S8x16384x16384 .f32) (mx : FVec F S8x16384 .f32) : FVec F S8x16384x1 .f32 :=
  addf (broadcastInDim S8x16384x1 ![0, 1] bcast_S8x16384_S8x16384x1_0_1 mx)
    (Host.log (broadcastInDim S8x16384x1 ![0, 1] bcast_S8x16384_S8x16384x1_0_1
      (Host.reduceAdd (Host.exp (subf s (broadcastInDim S8x16384x16384 ![0, 1, 2] bcast_S8x16384x1_S8x16384x16384_0_1_2
        (broadcastInDim S8x16384x1 ![0, 1] bcast_S8x16384_S8x16384x1_0_1 mx)))) (constant S_ .f32 0x00000000#32)
        reducesTo_S8x16384x16384_S8x16384_d2 h_S_)))

/-- The probabilities from the log-sums. -/
def hP (s : FVec F S8x16384x16384 .f32) (l : FVec F S8x16384x1 .f32) : FVec F S8x16384x16384 .f32 :=
  Host.exp (subf s (broadcastInDim S8x16384x16384 ![0, 1, 2] bcast_S8x16384x1_S8x16384x16384_0_1_2 l))

/-- The rows' products of output and output gradient. -/
def hDelta (p : FVec F S8x16384x16384 .f32) (x2 x3 : FVec F S16384x8x64 .f32) : FVec F S16384x8 .f32 :=
  Host.reduceAdd (mulf (transpose S16384x8x64 [2, 0, 1]
    (Host.dotGeneral dot_S16384x8x64_S8x16384x16384_S8x64x16384_0_2_2_1_1_0 none x2 p) transposes_S8x64x16384_S16384x8x64_2_0_1) x3)
    (constant S_ .f32 0x00000000#32) reducesTo_S16384x8x64_S16384x8_d2 h_S_

def hTiles96 (x : FVec F S16384x8x96 .f32) : FVec F S8x32x96x512 .f32 :=
  transpose S8x32x96x512 [2, 0, 3, 1] (shapeCast S32x512x8x96 x shapeCasts_S16384x8x96_S32x512x8x96) transposes_S32x512x8x96_S8x32x96x512_2_0_3_1
def hTiles64 (x : FVec F S16384x8x64 .f32) : FVec F S8x32x64x512 .f32 :=
  transpose S8x32x64x512 [2, 0, 3, 1] (shapeCast S32x512x8x64 x shapeCasts_S16384x8x64_S32x512x8x64) transposes_S32x512x8x64_S8x32x64x512_2_0_3_1
def hRows96 (x : FVec F S16384x8x96 .f32) : FVec F S8x16384x96 .f32 :=
  transpose S8x16384x96 [1, 0, 2] x transposes_S16384x8x96_S8x16384x96_1_0_2
def hRows64 (x : FVec F S16384x8x64 .f32) : FVec F S8x16384x64 .f32 :=
  transpose S8x16384x64 [1, 0, 2] x transposes_S16384x8x64_S8x16384x64_1_0_2
def hRow (l : FVec F S8x16384x1 .f32) : FVec F S8x32x1x512 .f32 := shapeCast S8x32x1x512 l shapeCasts_S8x16384x1_S8x32x1x512
def hCol (d : FVec F S16384x8 .f32) : FVec F S8x32x1x512 .f32 :=
  shapeCast S8x32x1x512 (transpose S8x16384 [1, 0] d transposes_S16384x8_S8x16384_1_0) shapeCasts_S8x16384_S8x32x1x512

section
variable [Named F] (m : (ℓ : Loc nD τ sig) → Buf (Elt F) ℓ) (c : Dev nD)

/-- The arguments. -/
abbrev a0 : FVec F S16384x8x96 .f32 := m ((c : Thread nD τ).loc main_arg0)
abbrev a1 : FVec F S16384x8x96 .f32 := m ((c : Thread nD τ).loc main_arg1)
abbrev a2 : FVec F S16384x8x64 .f32 := m ((c : Thread nD τ).loc main_arg2)
abbrev a3 : FVec F S16384x8x64 .f32 := m ((c : Thread nD τ).loc main_arg3)

theorem V_q : V m c main_v28 = truncf .bf16 (hTiles96 (a0 m c)) bitsLt_bf16_f32 := by
  unfold V
  simp only [hostOps0, hostOps0_1, hostOps0_2, List.flatten_cons, List.flatten_nil, List.append_nil, List.cons_append, List.nil_append,
    StableHlo.TRef.unary, StableHlo.TRef.ternary, StableHlo.TRef.toBuf, StableHlo.TRef.ofBuf, cast_eq]
  after_results_simp <;> rfl
theorem V_k : V m c main_v35 = truncf .bf16 (hRows96 (a1 m c)) bitsLt_bf16_f32 := by
  unfold V
  simp only [hostOps0, hostOps0_1, hostOps0_2, List.flatten_cons, List.flatten_nil, List.append_nil, List.cons_append, List.nil_append,
    StableHlo.TRef.unary, StableHlo.TRef.ternary, StableHlo.TRef.toBuf, StableHlo.TRef.ofBuf, cast_eq]
  after_results_simp <;> rfl
theorem V_kt : V m c main_v31 = truncf .bf16 (hTiles96 (a1 m c)) bitsLt_bf16_f32 := by
  unfold V
  simp only [hostOps0, hostOps0_1, hostOps0_2, List.flatten_cons, List.flatten_nil, List.append_nil, List.cons_append, List.nil_append,
    StableHlo.TRef.unary, StableHlo.TRef.ternary, StableHlo.TRef.toBuf, StableHlo.TRef.ofBuf, cast_eq]
  after_results_simp <;> rfl
theorem V_v : V m c main_v37 = truncf .bf16 (hRows64 (a2 m c)) bitsLt_bf16_f32 := by
  unfold V
  simp only [hostOps0, hostOps0_1, hostOps0_2, List.flatten_cons, List.flatten_nil, List.append_nil, List.cons_append, List.nil_append,
    StableHlo.TRef.unary, StableHlo.TRef.ternary, StableHlo.TRef.toBuf, StableHlo.TRef.ofBuf, cast_eq]
  after_results_simp <;> rfl
theorem V_g : V m c main_v33 = hTiles64 (a3 m c) := by
  unfold V
  simp only [hostOps0, hostOps0_1, hostOps0_2, List.flatten_cons, List.flatten_nil, List.append_nil, List.cons_append, List.nil_append,
    StableHlo.TRef.unary, StableHlo.TRef.ternary, StableHlo.TRef.toBuf, StableHlo.TRef.ofBuf, cast_eq]
  after_results_simp <;> rfl
theorem V_l : V m c main_v38 = hRow (hLse (hS (a0 m c) (a1 m c)) (hM (hS (a0 m c) (a1 m c)))) := by
  unfold V
  simp only [hostOps0, hostOps0_1, hostOps0_2, List.flatten_cons, List.flatten_nil, List.append_nil, List.cons_append, List.nil_append,
    StableHlo.TRef.unary, StableHlo.TRef.ternary, StableHlo.TRef.toBuf, StableHlo.TRef.ofBuf, cast_eq]
  after_results_simp <;> rfl
theorem V_d : V m c main_v40 = hCol (hDelta (hP (hS (a0 m c) (a1 m c)) (hLse (hS (a0 m c) (a1 m c)) (hM (hS (a0 m c) (a1 m c))))) (a2 m c) (a3 m c)) := by
  unfold V
  simp only [hostOps0, hostOps0_1, hostOps0_2, List.flatten_cons, List.flatten_nil, List.append_nil, List.cons_append, List.nil_append,
    StableHlo.TRef.unary, StableHlo.TRef.ternary, StableHlo.TRef.toBuf, StableHlo.TRef.ofBuf, cast_eq]
  after_results_simp <;> rfl

end

end Cert.Proof.Val
end
-- ==== Proof.Val.HostReal.lean ====
module

public import proofs.«01_k».proof.Proof.Val.Host

@[expose] public section

/-! # The region's arrays in real numbers -/

noncomputable section

namespace Cert.Proof.Val

open Cert.KernelIdeal Cert.KernelIdeal.Gen
open Idealize.ShloMosaic Idealize.ShloMosaic.TcCoe

local notation "𝕀" => Idealize.ShloMosaic.Ideal

/-- The arguments hold the reals `x`. -/
structure Args (x : Ins) (x0 x1 : FVec 𝕀 S16384x8x96 .f32) (x2 x3 : FVec 𝕀 S16384x8x64 .f32) : Prop where
  q : ∀ i h a, x0 (ix3 i h a) = ((x.q i h a : ℝ) : EReal)
  k : ∀ i h a, x1 (ix3 i h a) = ((x.k i h a : ℝ) : EReal)
  v : ∀ i h a, x2 (ix3 i h a) = ((x.v i h a : ℝ) : EReal)
  g : ∀ i h a, x3 (ix3 i h a) = ((x.g i h a : ℝ) : EReal)

/-- The greatest of numbers that are real or `-∞`, one of them real, is real. -/
theorem fold_max_real {n : ℕ} (f : Fin n → EReal) (ht : ∀ x, f x ≠ ⊤) (x₀ : Fin n) (hb : f x₀ ≠ ⊥) :
    ∃ M : ℝ, (Finset.univ : Finset (Fin n)).fold max ⊥ f = ((M : ℝ) : EReal) := by
  have h1 : (Finset.univ : Finset (Fin n)).fold max ⊥ f < ⊤ :=
    (Finset.fold_max_lt _).mpr ⟨bot_lt_top, fun x _ => lt_top_iff_ne_top.mpr (ht x)⟩
  have h2 : ⊥ < (Finset.univ : Finset (Fin n)).fold max ⊥ f :=
    (Finset.lt_fold_max _).mpr (.inr ⟨x₀, Finset.mem_univ _, bot_lt_iff_ne_bot.mpr hb⟩)
  exact ⟨_, (EReal.coe_toReal h1.ne h2.ne').symm⟩

/-- A masked score. -/
def mS (x : Ins) (h : Fin 8) (i j : Fin 16384) : EReal := if j.val ≤ i.val then ((x.L h i j : ℝ) : EReal) else ⊥

theorem exp_mS (x : Ins) (h : Fin 8) (i j : Fin 16384) (M : ℝ) : Ideal.exp (mS x h i j - ((M : ℝ) : EReal)) = ((x.EM h i j M : ℝ) : EReal) := by
  unfold mS Ins.EM
  split
  · rw [← EReal.coe_sub, Ideal.exp_coe]
  · rw [EReal.bot_sub, Ideal.exp_bot]; rfl

variable {x : Ins} {x0 x1 : FVec 𝕀 S16384x8x96 .f32} {x2 x3 : FVec 𝕀 S16384x8x64 .f32}

theorem hS_real (A : Args x x0 x1 x2 x3) (h : Fin 8) (i j : Fin 16384) : hS x0 x1 (ix3 h i j) = mS x h i j := by
  have e : hS x0 x1 (ix3 h i j) = if j.val ≤ i.val then (∑ a, x0 (ix3 i h a) * x1 (ix3 j h a)) * ((s0 : ℝ) : EReal) else ⊥ := by
    rw [← select_sle (by omega) (by omega), ← ofBits_scale, ← ofBits_neg_inf]
    pointwise [hS]
  rw [e, sum_eq_coe (fun a => by rw [A.q, A.k, ← EReal.coe_mul]), ← EReal.coe_mul]
  rfl

theorem hM_real {s : FVec 𝕀 S8x16384x16384 .f32} (hs : ∀ h i j, s (ix3 h i j) = mS x h i j) :
    ∃ M : Fin 8 → Fin 16384 → ℝ, ∀ h i, hM s (ix2 h i) = ((M h i : ℝ) : EReal) := by
  have hex : ∀ h i, ∃ M : ℝ, hM s (ix2 h i) = ((M : ℝ) : EReal) := fun h i => by
    obtain ⟨M, hM'⟩ := fold_max_real (fun j => mS x h i j) (fun j => by unfold mS; split <;> simp) i (by unfold mS; simp)
    refine ⟨M, ?_⟩
    rw [← hM', ← ofBits_neg_inf]
    simp only [← hs]
    pointwise [hM]
  exact ⟨fun h i => (hex h i).choose, fun h i => (hex h i).choose_spec⟩

theorem hLse_real {s : FVec 𝕀 S8x16384x16384 .f32} (hs : ∀ h i j, s (ix3 h i j) = mS x h i j) {mx : FVec 𝕀 S8x16384 .f32}
    {M : Fin 8 → Fin 16384 → ℝ} (hm : ∀ h i, mx (ix2 h i) = ((M h i : ℝ) : EReal)) (h : Fin 8) (i : Fin 16384) :
    hLse s mx (ix3 h i 0) = ((Real.log (x.Z h i) : ℝ) : EReal) := by
  have e : hLse s mx (ix3 h i 0) = mx (ix2 h i) + Ideal.log (∑ j, Ideal.exp (s (ix3 h i j) - mx (ix2 h i))) := by
    pointwise [hLse]
  rw [e, sum_eq_coe (fun j => by rw [hs, hm, exp_mS]), hm, show (∑ j, x.EM h i j (M h i)) = x.ZM h i (M h i) from rfl, Ideal.log_coe, if_neg (not_le.mpr (Ins.ZM_pos (M h i))), ← EReal.coe_add]
  exact congrArg _ (Ins.lse_eq (M h i))

theorem hP_real {s : FVec 𝕀 S8x16384x16384 .f32} (hs : ∀ h i j, s (ix3 h i j) = mS x h i j) {l : FVec 𝕀 S8x16384x1 .f32}
    (hl : ∀ h i, l (ix3 h i 0) = ((Real.log (x.Z h i) : ℝ) : EReal)) (h : Fin 8) (i j : Fin 16384) :
    hP s l (ix3 h i j) = ((x.P h i j : ℝ) : EReal) := by
  have e : hP s l (ix3 h i j) = Ideal.exp (s (ix3 h i j) - l (ix3 h i 0)) := by
    pointwise [hP]
  rw [e, hs, hl, exp_mS, ← Ins.exp_lse]
  rfl

theorem hDelta_real (A : Args x x0 x1 x2 x3) {p : FVec 𝕀 S8x16384x16384 .f32} (hp : ∀ h i j, p (ix3 h i j) = ((x.P h i j : ℝ) : EReal))
    (h : Fin 8) (i : Fin 16384) : hDelta p x2 x3 (ix2 i h) = ((x.delta h i : ℝ) : EReal) := by
  have e : hDelta p x2 x3 (ix2 i h) = ∑ a, (∑ j, x2 (ix3 j h a) * p (ix3 h i j)) * x3 (ix3 i h a) := by
    pointwise [hDelta]
  rw [e, sum_eq_coe (fun a => by
    rw [sum_eq_coe (fun j => by rw [A.v, hp, ← EReal.coe_mul]), A.g, ← EReal.coe_mul])]
  rfl

theorem pos_mk (b : Fin 32) (t : Fin 512) (hb : b.val * 512 + t.val < 16384) : (⟨b.val * 512 + t.val, hb⟩ : Fin 16384) = pos b.val t :=
  Fin.ext (by rw [pos_val b.isLt]; show b.val * 512 + t.val = _; omega)

theorem hTiles96_apply (y : FVec 𝕀 S16384x8x96 .f32) (h : Fin 8) (b : Fin 32) (a : Fin 96) (t : Fin 512) :
    hTiles96 y (ix4 h b a t) = y (ix3 (pos b.val t) h a) := by
  pointwise [hTiles96]
  rw [pos_mk]
theorem hTiles64_apply (y : FVec 𝕀 S16384x8x64 .f32) (h : Fin 8) (b : Fin 32) (a : Fin 64) (t : Fin 512) :
    hTiles64 y (ix4 h b a t) = y (ix3 (pos b.val t) h a) := by
  pointwise [hTiles64]
  rw [pos_mk]
theorem hRows96_apply (y : FVec 𝕀 S16384x8x96 .f32) (h : Fin 8) (i : Fin 16384) (a : Fin 96) :
    hRows96 y (ix3 h i a) = y (ix3 i h a) := by
  pointwise [hRows96]
theorem hRows64_apply (y : FVec 𝕀 S16384x8x64 .f32) (h : Fin 8) (i : Fin 16384) (a : Fin 64) :
    hRows64 y (ix3 h i a) = y (ix3 i h a) := by
  pointwise [hRows64]
theorem hRow_apply (l : FVec 𝕀 S8x16384x1 .f32) (h : Fin 8) (b : Fin 32) (t : Fin 512) :
    hRow l (ix4 h b 0 t) = l (ix3 h (pos b.val t) 0) := by
  pointwise [hRow]
  rw [pos_mk]
theorem hCol_apply (d : FVec 𝕀 S16384x8 .f32) (h : Fin 8) (b : Fin 32) (t : Fin 512) :
    hCol d (ix4 h b 0 t) = d (ix2 (pos b.val t) h) := by
  pointwise [hCol]
  rw [pos_mk]

end Cert.Proof.Val
end
-- ==== Proof.Val.Payload.lean ====
module

public import proofs.«01_k».proof.Proof.Val.Coe
public import proofs.«01_k».proof.Proof.Bwd.ModelIdeal
public import Idealize.ShloMosaic.Lib.Pointwise

@[expose] public section

noncomputable section

namespace Cert.Proof.Val

open Cert.KernelIdeal Cert.KernelIdeal.Gen Cert.Proof.KernelIdeal
open Idealize.ShloMosaic Idealize.ShloMosaic.TcCoe

local notation "𝕀" => Idealize.ShloMosaic.Ideal

/-- What the body takes for the probability of a raw score. -/
def prob (s l : EReal) : EReal :=
  Ideal.exp2 (s * ((s0 * (Real.log 2)⁻¹ : ℝ) : EReal) - l * (((Real.log 2)⁻¹ : ℝ) : EReal))

theorem leftK_apply (x : Vec 𝕀 S1x1x96x512 .bf16) (a : Fin 96) (k : Fin 256) : leftK x (ix4 0 0 a k) = x (ix4 0 0 a (lo k)) := by
  unfold leftK VecWindow.window
  refine congrArg x (funext fun i => Fin.ext ?_)
  fin_cases i <;> simp [ix4, lo]

theorem rightK_apply (x : Vec 𝕀 S1x1x96x512 .bf16) (a : Fin 96) (k : Fin 256) : rightK x (ix4 0 0 a k) = x (ix4 0 0 a (hi k)) := by
  unfold rightK VecWindow.window
  refine congrArg x (funext fun i => Fin.ext ?_)
  fin_cases i <;> simp [ix4, hi]

theorem upper_apply (x : Vec 𝕀 S512x512 .f32) (k : Fin 256) (t : Fin 512) : upper x (ix2 k t) = x (ix2 (lo k) t) := by
  unfold upper VecWindow.window
  refine congrArg x (funext fun i => Fin.ext ?_)
  fin_cases i <;> simp [ix2, lo]

theorem lower_apply (x : Vec 𝕀 S512x512 .f32) (k : Fin 256) (t : Fin 512) : lower x (ix2 k t) = x (ix2 (hi k) t) := by
  unfold lower VecWindow.window
  refine congrArg x (funext fun i => Fin.ext ?_)
  fin_cases i <;> simp [ix2, hi]

section
variable {l d : Vec 𝕀 S1x1x1x512 .f32} {su sl pu pl : Vec 𝕀 S256x512 .f32} {P D : Fin 512 → Fin 512 → ℝ} {dl : Fin 512 → ℝ}

theorem addDq_real {x4 : Vec 𝕀 S1x1x96x512 .bf16} {old : Vec 𝕀 S1x1x96x512 .f32} {K : Fin 512 → Fin 96 → ℝ} {o : Fin 96 → Fin 512 → ℝ}
    (hx4 : ∀ a k, x4 (ix4 0 0 a k) = ((K k a : ℝ) : EReal))
    (hsu : ∀ k t, prob (su (ix2 k t)) (l (ix4 0 0 0 t)) = ((P (lo k) t : ℝ) : EReal))
    (hsl : ∀ k t, prob (sl (ix2 k t)) (l (ix4 0 0 0 t)) = ((P (hi k) t : ℝ) : EReal))
    (hpu : ∀ k t, pu (ix2 k t) = ((D (lo k) t : ℝ) : EReal)) (hpl : ∀ k t, pl (ix2 k t) = ((D (hi k) t : ℝ) : EReal))
    (hd : ∀ t, d (ix4 0 0 0 t) = ((dl t : ℝ) : EReal)) (ho : ∀ a t, old (ix4 0 0 a t) = ((o a t : ℝ) : EReal)) (a : Fin 96) (t : Fin 512) :
    addDq x4 l d su sl pu pl old (ix4 0 0 a t) = ((o a t + (∑ k, K k a * (P k t * (D k t - dl t))) * s0 : ℝ) : EReal) := by
  have e : addDq x4 l d su sl pu pl old (ix4 0 0 a t) = old (ix4 0 0 a t) +
      (∑ x, leftK x4 (ix4 0 0 a x) * (prob (su (ix2 x t)) (l (ix4 0 0 0 t)) * (pu (ix2 x t) - d (ix4 0 0 0 t))) +
        ∑ x, rightK x4 (ix4 0 0 a x) * (prob (sl (ix2 x t)) (l (ix4 0 0 0 t)) * (pl (ix2 x t) - d (ix4 0 0 0 t)))) * ((s0 : ℝ) : EReal) := by
    unfold prob
    rw [← named_scale, ← named_log2e, ← named_scale_log2e]
    pointwise [addDq, k0_pay16, k0_pay13, k0_pay15, k0_pay6, k0_pay10, k0_pay9, k0_pay7, k0_pay8, k0_pay14]
    rfl
  rw [e, sum_eq_coe (g := fun x => K (lo x) a * (P (lo x) t * (D (lo x) t - dl t))) (fun x => by
      rw [leftK_apply, hx4, hsu, hpu, hd]; push_cast; rfl),
    sum_eq_coe (g := fun x => K (hi x) a * (P (hi x) t * (D (hi x) t - dl t))) (fun x => by
      rw [rightK_apply, hx4, hsl, hpl, hd]; push_cast; rfl), ho, sum_lo_hi]
  push_cast; rfl

theorem addDk_real {qb : Vec 𝕀 S1x1x96x512 .bf16} {old : FVec 𝕀 S96x512 .f32} {Q : Fin 96 → Fin 512 → ℝ} {o : Fin 96 → Fin 512 → ℝ}
    (hq : ∀ a t, qb (ix4 0 0 a t) = ((Q a t : ℝ) : EReal))
    (hsu : ∀ k t, prob (su (ix2 k t)) (l (ix4 0 0 0 t)) = ((P (lo k) t : ℝ) : EReal))
    (hsl : ∀ k t, prob (sl (ix2 k t)) (l (ix4 0 0 0 t)) = ((P (hi k) t : ℝ) : EReal))
    (hpu : ∀ k t, pu (ix2 k t) = ((D (lo k) t : ℝ) : EReal)) (hpl : ∀ k t, pl (ix2 k t) = ((D (hi k) t : ℝ) : EReal))
    (hd : ∀ t, d (ix4 0 0 0 t) = ((dl t : ℝ) : EReal)) (ho : ∀ a t, old (ix2 a t) = ((o a t : ℝ) : EReal)) (a : Fin 96) (k : Fin 512) :
    addDk qb l d su sl pu pl old (ix2 a k) = ((o a k + ∑ t, Q a t * (P k t * (D k t - dl t)) : ℝ) : EReal) := by
  have e : addDk qb l d su sl pu pl old (ix2 a k) = old (ix2 a k) + if h : k.val < 256 then
      ∑ x, qb (ix4 0 0 a x) * (prob (su (ix2 ⟨k.val, h⟩ x)) (l (ix4 0 0 0 x)) * (pu (ix2 ⟨k.val, h⟩ x) - d (ix4 0 0 0 x)))
      else ∑ x, qb (ix4 0 0 a x) * (prob (sl (ix2 ⟨k.val - 256, by omega⟩ x)) (l (ix4 0 0 0 x))
        * (pl (ix2 ⟨k.val - 256, by omega⟩ x) - d (ix4 0 0 0 x))) := by
    unfold prob
    rw [← named_log2e, ← named_scale_log2e]
    pointwise [addDk, k0_pay17, k0_pay12, k0_pay15, k0_pay6, k0_pay10, k0_pay9, k0_pay7, k0_pay8, k0_pay14]
    rfl
  rw [e, ho]
  split
  · rename_i h
    have hk : lo ⟨k.val, h⟩ = k := rfl
    rw [sum_eq_coe (g := fun x => Q a x * (P k x * (D k x - dl x))) (fun x => by rw [hq, hsu, hpu, hd, hk]; push_cast; rfl)]
    push_cast; rfl
  · rename_i h
    have hk : hi ⟨k.val - 256, by omega⟩ = k := Fin.ext (by show 256 + (k.val - 256) = k.val; omega)
    rw [sum_eq_coe (g := fun x => Q a x * (P k x * (D k x - dl x))) (fun x => by rw [hq, hsl, hpl, hd, hk]; push_cast; rfl)]
    push_cast; rfl

theorem addDv_real {ob : Vec 𝕀 S1x1x64x512 .f32} {old : FVec 𝕀 S64x512 .f32} {G : Fin 64 → Fin 512 → ℝ} {o : Fin 64 → Fin 512 → ℝ}
    (hg : ∀ a t, ob (ix4 0 0 a t) = ((G a t : ℝ) : EReal))
    (hsu : ∀ k t, prob (su (ix2 k t)) (l (ix4 0 0 0 t)) = ((P (lo k) t : ℝ) : EReal))
    (hsl : ∀ k t, prob (sl (ix2 k t)) (l (ix4 0 0 0 t)) = ((P (hi k) t : ℝ) : EReal))
    (ho : ∀ a t, old (ix2 a t) = ((o a t : ℝ) : EReal)) (a : Fin 64) (k : Fin 512) :
    addDv ob l su sl old (ix2 a k) = ((o a k + ∑ t, G a t * P k t : ℝ) : EReal) := by
  have e : addDv ob l su sl old (ix2 a k) = old (ix2 a k) + if h : k.val < 256 then
      ∑ x, ob (ix4 0 0 a x) * prob (su (ix2 ⟨k.val, h⟩ x)) (l (ix4 0 0 0 x))
      else ∑ x, ob (ix4 0 0 a x) * prob (sl (ix2 ⟨k.val - 256, by omega⟩ x)) (l (ix4 0 0 0 x)) := by
    unfold prob
    rw [← named_log2e, ← named_scale_log2e]
    pointwise [addDv, k0_pay18, k0_pay5, k0_pay11, k0_pay6, k0_pay10, k0_pay9, k0_pay7, k0_pay8, k0_pay14]
    rfl
  rw [e, ho]
  split
  · rename_i h
    have hk : lo ⟨k.val, h⟩ = k := rfl
    rw [sum_eq_coe (g := fun x => G a x * P k x) (fun x => by rw [hg, hsu, hk]; push_cast; rfl)]
    push_cast; rfl
  · rename_i h
    have hk : hi ⟨k.val - 256, by omega⟩ = k := Fin.ext (by show 256 + (k.val - 256) = k.val; omega)
    rw [sum_eq_coe (g := fun x => G a x * P k x) (fun x => by rw [hg, hsl, hk]; push_cast; rfl)]
    push_cast; rfl

end

theorem maskU_apply (r : Vec 𝕀 S256x512 .f32) (a : Fin 256) (t : Fin 512) :
    maskU r (ix2 a t) = if (lo a).val ≤ t.val then r (ix2 a t) else ⊥ := by
  rw [← select_sle (a := (lo a).val) (b := t.val) (by have := (lo a).isLt; omega) (by omega), ← named_mask]
  pointwise [maskU]
  rfl

theorem maskL_apply (r : Vec 𝕀 S256x512 .f32) (a : Fin 256) (t : Fin 512) :
    maskL r (ix2 a t) = if (hi a).val ≤ t.val then r (ix2 a t) else ⊥ := by
  rw [← select_sle (a := (hi a).val) (b := t.val) (by have := (hi a).isLt; omega) (by omega), ← named_mask]
  pointwise [maskL]
  rfl

theorem scores_real {x3 : Vec 𝕀 S1x512x96 .bf16} {qb : Vec 𝕀 S1x1x96x512 .bf16} {K : Fin 512 → Fin 96 → ℝ} {Q : Fin 96 → Fin 512 → ℝ}
    (hk : ∀ k a, x3 (ix3 0 k a) = ((K k a : ℝ) : EReal)) (hq : ∀ a t, qb (ix4 0 0 a t) = ((Q a t : ℝ) : EReal)) (k t : Fin 512) :
    scores x3 qb (ix2 k t) = ((∑ a, K k a * Q a t : ℝ) : EReal) := by
  rw [← sum_eq_coe (f := fun a => x3 (ix3 0 k a) * qb (ix4 0 0 a t)) (fun a => by rw [hk, hq]; push_cast; rfl)]
  pointwise [scores, k0_pay108]

theorem prods_real {x5 : Vec 𝕀 S1x512x64 .bf16} {ob : Vec 𝕀 S1x1x64x512 .f32} {W : Fin 512 → Fin 64 → ℝ} {G : Fin 64 → Fin 512 → ℝ}
    (hk : ∀ k a, x5 (ix3 0 k a) = ((W k a : ℝ) : EReal)) (hq : ∀ a t, ob (ix4 0 0 a t) = ((G a t : ℝ) : EReal)) (k t : Fin 512) :
    prods x5 ob (ix2 k t) = ((∑ a, W k a * G a t : ℝ) : EReal) := by
  rw [← sum_eq_coe (f := fun a => x5 (ix3 0 k a) * ob (ix4 0 0 a t)) (fun a => by rw [hk, hq]; push_cast; rfl)]
  pointwise [prods, k0_pay109]

theorem outDk_apply (x : FVec 𝕀 S96x512 .f32) (a : Fin 96) (t : Fin 512) :
    k0_pay1 (k0_pay125 x) (ix4 0 0 a t) = x (ix2 a t) * ((s0 : ℝ) : EReal) := by
  rw [← named_scale]
  pointwise [k0_pay1, k0_pay125]

theorem outDv_apply (x : FVec 𝕀 S64x512 .f32) (a : Fin 64) (t : Fin 512) :
    k0_pay2 x (ix4 0 0 a t) = x (ix2 a t) := by
  pointwise [k0_pay2]

theorem zeroDq_apply (i : S1x32x96x512.Idx) : (k0_pay107 : FVec 𝕀 S1x32x96x512 .f32) i = 0 := by
  pointwise [k0_pay107]

theorem zeroDk_apply (i : S96x512.Idx) : (k0_pay110 : FVec 𝕀 S96x512 .f32) i = 0 := by
  pointwise [k0_pay110]

theorem zeroDv_apply (i : S64x512.Idx) : (k0_pay111 : FVec 𝕀 S64x512 .f32) i = 0 := by
  pointwise [k0_pay111]

end Cert.Proof.Val
end
-- ==== Proof.Val.Point.lean ====
module

public import proofs.«01_k».proof.Proof.Val.Payload

@[expose] public section

/-! # The body at a grid point in real numbers

Where every block the body reads holds reals, what it adds to `dqt` and to its two sums are the sums over the key tile and
over the row blocks of the gradients' terms. -/

noncomputable section

namespace Cert.Proof.Val

open Cert.KernelIdeal Cert.KernelIdeal.Gen Cert.Proof.KernelIdeal
open Idealize.ShloMosaic Idealize.ShloMosaic.TcCoe

local notation "𝕀" => Idealize.ShloMosaic.Ideal

/-- One head's reals as the body finds them: a tile of keys and values, and the row blocks of queries, output gradients,
    log-sums and row products. -/
structure Reals where
  K : Fin 512 → Fin 96 → ℝ
  W : Fin 512 → Fin 64 → ℝ
  Q : ℕ → Fin 96 → Fin 512 → ℝ
  G : ℕ → Fin 64 → Fin 512 → ℝ
  LS : ℕ → Fin 512 → ℝ
  DL : ℕ → Fin 512 → ℝ

namespace Reals
variable (r : Reals) (j i : ℕ)

/-- The probability of key `k` of tile `j` for row `t` of row block `i`. -/
def pr (k t : Fin 512) : ℝ := if 512 * j + k.val ≤ 512 * i + t.val then Real.exp ((∑ a, r.K k a * r.Q i a t) * s0 - r.LS i t) else 0
def dp (k t : Fin 512) : ℝ := ∑ a, r.W k a * r.G i a t
def ds (k t : Fin 512) : ℝ := r.pr j i k t * (r.dp i k t - r.DL i t)
/-- What tile `j` adds to row block `i` of `dqt`. -/
def cq (a : Fin 96) (t : Fin 512) : ℝ := (∑ k, r.K k a * r.ds j i k t) * s0
/-- What row block `i` adds to the key gradient's sum. -/
def ck (a : Fin 96) (k : Fin 512) : ℝ := ∑ t, r.Q i a t * r.ds j i k t
/-- What row block `i` adds to the value gradient's sum. -/
def cv (a : Fin 64) (k : Fin 512) : ℝ := ∑ t, r.G i a t * r.pr j i k t

variable {r j i}

theorem pr_zero (h : i < j) (k t : Fin 512) : r.pr j i k t = 0 := if_neg (by omega)
theorem cq_zero (h : i < j) (a : Fin 96) (t : Fin 512) : r.cq j i a t = 0 := by simp [cq, ds, pr_zero h]
theorem ck_zero (h : i < j) (a : Fin 96) (k : Fin 512) : r.ck j i a k = 0 := by simp [ck, ds, pr_zero h]
theorem cv_zero (h : i < j) (a : Fin 64) (k : Fin 512) : r.cv j i a k = 0 := by simp [cv, pr_zero h]

end Reals

/-- A replaced row block reads as what replaced it. -/
theorem blk_setBlk_self {α : Type} (x : S1x32x96x512.Idx → α) {i : ℕ} (hi : i < 32) (w : S1x1x96x512.Idx → α) (a : Fin 96) (t : Fin 512) :
    blk (setBlk x i w) i (ix4 0 0 a t) = w (ix4 0 0 a t) := by
  have e : i % 32 = i := Nat.mod_eq_of_lt hi
  unfold blk setBlk VecWindow.put
  rw [dif_pos]
  · refine congrArg w (funext fun b => Fin.ext ?_)
    fin_cases b
    · rfl
    · show i % 32 - i = 0; omega
    · rfl
    · rfl
  · intro b
    fin_cases b
    · exact ⟨Nat.zero_le _, Nat.zero_lt_one⟩
    · show i ≤ i % 32 ∧ i % 32 < i + 1; omega
    · exact ⟨Nat.zero_le _, by show a.val < 0 + 96; omega⟩
    · exact ⟨Nat.zero_le _, by show t.val < 0 + 512; omega⟩

variable (r : Reals)
variable (x2 : Vec 𝕀 S1x32x96x512 .bf16) (x3 : Vec 𝕀 S1x512x96 .bf16) (x4 : Vec 𝕀 S1x1x96x512 .bf16) (x5 : Vec 𝕀 S1x512x64 .bf16)
  (x6 : Vec 𝕀 S1x32x64x512 .f32) (x7 x8 : Vec 𝕀 S1x32x1x512 .f32)

/-- The blocks hold the reals. -/
structure Holds : Prop where
  q : ∀ i < 32, ∀ a t, blk x2 i (ix4 0 0 a t) = ((r.Q i a t : ℝ) : EReal)
  k : ∀ k a, x3 (ix3 0 k a) = ((r.K k a : ℝ) : EReal)
  kt : ∀ a k, x4 (ix4 0 0 a k) = ((r.K k a : ℝ) : EReal)
  v : ∀ k a, x5 (ix3 0 k a) = ((r.W k a : ℝ) : EReal)
  g : ∀ i < 32, ∀ a t, blk x6 i (ix4 0 0 a t) = ((r.G i a t : ℝ) : EReal)
  l : ∀ i < 32, ∀ t, blk x7 i (ix4 0 0 0 t) = ((r.LS i t : ℝ) : EReal)
  d : ∀ i < 32, ∀ t, blk x8 i (ix4 0 0 0 t) = ((r.DL i t : ℝ) : EReal)

/-- A state of the body holds the reals `A`, `B`, `C`. -/
structure Rep (s : St 𝕀) (A : ℕ → Fin 96 → Fin 512 → ℝ) (B : Fin 96 → Fin 512 → ℝ) (C : Fin 64 → Fin 512 → ℝ) : Prop where
  q : ∀ i < 32, ∀ a t, blk s.1 i (ix4 0 0 a t) = ((A i a t : ℝ) : EReal)
  k : ∀ a k, s.2.1 (ix2 a k) = ((B a k : ℝ) : EReal)
  v : ∀ a k, s.2.2 (ix2 a k) = ((C a k : ℝ) : EReal)

variable {r x2 x3 x4 x5 x6 x7 x8} {s : St 𝕀} {A : ℕ → Fin 96 → Fin 512 → ℝ} {B : Fin 96 → Fin 512 → ℝ} {C : Fin 64 → Fin 512 → ℝ}

/-- Both steps, by what they take for the probabilities. -/
theorem step_rep (H : Holds r x2 x3 x4 x5 x6 x7 x8) (R : Rep s A B C) {j i : ℕ} (hi32 : i < 32) {su sl : Vec 𝕀 S256x512 .f32}
    (hsu : ∀ k t, prob (su (ix2 k t)) (blk x7 i (ix4 0 0 0 t)) = ((r.pr j i (lo k) t : ℝ) : EReal))
    (hsl : ∀ k t, prob (sl (ix2 k t)) (blk x7 i (ix4 0 0 0 t)) = ((r.pr j i (hi k) t : ℝ) : EReal)) :
    Rep (setBlk s.1 i (addDq x4 (blk x7 i) (blk x8 i) su sl (upper (prods x5 (blk x6 i))) (lower (prods x5 (blk x6 i))) (blk s.1 i)),
        addDk (blk x2 i) (blk x7 i) (blk x8 i) su sl (upper (prods x5 (blk x6 i))) (lower (prods x5 (blk x6 i))) s.2.1,
        addDv (blk x6 i) (blk x7 i) su sl s.2.2)
      (fun i' a t => A i' a t + if i' = i then r.cq j i' a t else 0) (fun a k => B a k + r.ck j i a k) (fun a k => C a k + r.cv j i a k) where
  q i' hi' a t := by
    by_cases h : i' = i
    · subst h
      rw [if_pos rfl]
      show blk (setBlk s.1 i' _) i' _ = _
      rw [blk_setBlk_self _ hi32]
      exact addDq_real H.kt hsu hsl (fun k t => by rw [upper_apply, prods_real H.v (H.g i' hi32)]; rfl)
        (fun k t => by rw [lower_apply, prods_real H.v (H.g i' hi32)]; rfl) (H.d i' hi32) (R.q i' hi32) a t
    · rw [if_neg h, add_zero]
      show blk (setBlk s.1 i _) i' _ = _
      rw [blk_setBlk_ne _ hi' h]
      exact R.q i' hi' a t
  k a k := addDk_real (H.q i hi32) hsu hsl (fun k t => by rw [upper_apply, prods_real H.v (H.g i hi32)]; rfl)
        (fun k t => by rw [lower_apply, prods_real H.v (H.g i hi32)]; rfl) (H.d i hi32) R.k a k
  v a k := addDv_real (H.g i hi32) hsu hsl R.v a k

theorem stepU_rep (H : Holds r x2 x3 x4 x5 x6 x7 x8) (R : Rep s A B C) {j i : ℕ} (hi32 : i < 32) (hj : j < i) :
    Rep (stepU x2 x3 x4 x5 x6 x7 x8 i s)
      (fun i' a t => A i' a t + if i' = i then r.cq j i' a t else 0) (fun a k => B a k + r.ck j i a k) (fun a k => C a k + r.cv j i a k) := by
  have hp : ∀ k t, prob (scores x3 (blk x2 i) (ix2 k t)) (blk x7 i (ix4 0 0 0 t)) = ((r.pr j i k t : ℝ) : EReal) := fun k t => by
    rw [scores_real H.k (H.q i hi32), H.l i hi32, prob, exp2_scaled, Reals.pr, if_pos (by omega)]
  exact step_rep H R hi32 (fun k t => by rw [upper_apply, hp]) (fun k t => by rw [lower_apply, hp])

theorem stepM_rep (H : Holds r x2 x3 x4 x5 x6 x7 x8) (R : Rep s A B C) {j : ℕ} (hi32 : j < 32) :
    Rep (stepM x2 x3 x4 x5 x6 x7 x8 j s)
      (fun i' a t => A i' a t + if i' = j then r.cq j i' a t else 0) (fun a k => B a k + r.ck j j a k) (fun a k => C a k + r.cv j j a k) := by
  have hp : ∀ k t : Fin 512, prob (if k.val ≤ t.val then scores x3 (blk x2 j) (ix2 k t) else ⊥) (blk x7 j (ix4 0 0 0 t))
      = ((r.pr j j k t : ℝ) : EReal) := fun k t => by
    rw [scores_real H.k (H.q j hi32), H.l j hi32, prob, Reals.pr]
    split
    · rw [exp2_scaled, if_pos (by omega)]
    · rw [exp2_masked, if_neg (by omega)]; rfl
  exact step_rep H R hi32 (fun k t => by rw [maskU_apply, upper_apply, hp]) (fun k t => by rw [maskL_apply, lower_apply, hp])

theorem runU_rep (H : Holds r x2 x3 x4 x5 x6 x7 x8) {x9 : Vec 𝕀 S1x32x96x512 .f32}
    (h9 : ∀ i < 32, ∀ a t, blk x9 i (ix4 0 0 a t) = ((A i a t : ℝ) : EReal)) (j : ℕ) : ∀ n, j + n < 32 →
    Rep (runU x2 x3 x4 x5 x6 x7 x8 j x9 n) (fun i a t => A i a t + if j < i ∧ i ≤ j + n then r.cq j i a t else 0)
      (fun a k => ∑ m ∈ Finset.range n, r.ck j (j + (m + 1)) a k) (fun a k => ∑ m ∈ Finset.range n, r.cv j (j + (m + 1)) a k)
  | 0, _ => by
    refine ⟨fun i hi a t => ?_, fun a k => ?_, fun a k => ?_⟩
    · rw [if_neg (by omega), add_zero]; exact h9 i hi a t
    · simp only [Finset.range_zero, Finset.sum_empty]; exact zeroDk_apply (ix2 a k)
    · simp only [Finset.range_zero, Finset.sum_empty]; exact zeroDv_apply (ix2 a k)
  | n + 1, h => by
    have R := stepU_rep (j := j) (i := j + 1 + n) H (runU_rep H h9 j n (by omega)) (by omega) (by omega)
    have e : j + 1 + n = j + (n + 1) := by omega
    refine ⟨fun i hi a t => (R.q i hi a t).trans ?_, fun a k => (R.k a k).trans ?_, fun a k => (R.v a k).trans ?_⟩
    · congr 1
      rw [add_assoc]
      congr 1
      by_cases h1 : i = j + 1 + n
      · rw [if_neg (by omega), if_pos h1, if_pos (by omega), zero_add]
      · rw [if_neg h1, add_zero]
        by_cases h2 : j < i ∧ i ≤ j + n
        · rw [if_pos h2, if_pos (by omega)]
        · rw [if_neg h2, if_neg (by omega)]
    · rw [Finset.sum_range_succ, e]
    · rw [Finset.sum_range_succ, e]

theorem sum_from {f : ℕ → ℝ} {j : ℕ} (hj : j < 32) (h0 : ∀ i < j, f i = 0) :
    ∑ m ∈ Finset.range (31 - j), f (j + (m + 1)) + f j = ∑ i : Fin 32, f i := by
  rw [← Finset.sum_range f, show 32 = j + (31 - j + 1) by omega, Finset.sum_range_add, Finset.sum_range_succ',
    Finset.sum_eq_zero fun i hi => h0 i (Finset.mem_range.mp hi), zero_add, add_zero]

/-- The whole point: the tile's part of every row block of `dqt`, and the sums over all row blocks. -/
theorem point_rep (H : Holds r x2 x3 x4 x5 x6 x7 x8) {x9 : Vec 𝕀 S1x32x96x512 .f32}
    (h9 : ∀ i < 32, ∀ a t, blk x9 i (ix4 0 0 a t) = ((A i a t : ℝ) : EReal)) {j : ℕ} (hj : j < 32) :
    Rep (point x2 x3 x4 x5 x6 x7 x8 j x9) (fun i a t => A i a t + r.cq j i a t)
      (fun a k => ∑ i : Fin 32, r.ck j i a k) (fun a k => ∑ i : Fin 32, r.cv j i a k) := by
  have R := stepM_rep (j := j) H (runU_rep H h9 j (31 - j) (by omega)) hj
  refine ⟨fun i hi a t => (R.q i hi a t).trans ?_, fun a k => (R.k a k).trans ?_, fun a k => (R.v a k).trans ?_⟩
  · congr 1
    rw [add_assoc]
    congr 1
    rcases lt_trichotomy i j with h | h | h
    · rw [if_neg (by omega), if_neg (by omega), Reals.cq_zero h, zero_add]
    · rw [if_neg (by omega), if_pos h, zero_add]
    · rw [if_pos (by omega), if_neg (by omega), add_zero]
  · rw [sum_from (f := fun i => r.ck j i a k) hj fun i hi => Reals.ck_zero hi a k]
  · rw [sum_from (f := fun i => r.cv j i a k) hj fun i hi => Reals.cv_zero hi a k]

end Cert.Proof.Val
end
-- ==== Proof.Val.Tiles.lean ====
module

public import proofs.«01_k».proof.Proof.Val.Spec
public import proofs.«01_k».proof.Proof.Val.Point

@[expose] public section

/-! # The gradients tile by tile -/

noncomputable section

namespace Cert.Proof.Val

namespace Ins
variable (x : Ins) (h : Fin 8)

/-- What the body finds of head `h` at key tile `j`. -/
def tile (j : ℕ) : Reals where
  K k a := x.k (pos j k) h a
  W k a := x.v (pos j k) h a
  Q i a t := x.q (pos i t) h a
  G i a t := x.g (pos i t) h a
  LS i t := Real.log (x.Z h (pos i t))
  DL i t := x.delta h (pos i t)

variable {x h} {i j : ℕ}

theorem tile_pr (hi : i < 32) (hj : j < 32) (k t : Fin 512) : (x.tile h j).pr j i k t = x.P h (pos i t) (pos j k) := by
  rw [← exp_lse, pos_val hi, pos_val hj, Ins.L]
  unfold Reals.pr tile
  simp only [mul_comm]

theorem tile_ds (hi : i < 32) (hj : j < 32) (k t : Fin 512) : (x.tile h j).ds j i k t = x.DS h (pos i t) (pos j k) := by
  rw [Reals.ds, tile_pr hi hj, DS, DP]
  unfold Reals.dp tile
  simp only [mul_comm]

theorem sum_cq (hi : i < 32) (a : Fin 96) (t : Fin 512) : ∑ j ∈ Finset.range 32, (x.tile h j).cq j i a t = x.dq h (pos i t) a := by
  rw [Finset.sum_range, dq, sum_pos, Finset.sum_mul]
  refine Finset.sum_congr rfl fun j _ => ?_
  unfold Reals.cq
  simp only [tile_ds hi j.isLt]
  rfl

theorem sum_ck (hj : j < 32) (a : Fin 96) (k : Fin 512) : (∑ i : Fin 32, (x.tile h j).ck j i a k) * s0 = x.dk h (pos j k) a := by
  rw [dk, sum_pos]
  refine congrArg (· * s0) (Finset.sum_congr rfl fun i _ => ?_)
  unfold Reals.ck
  simp only [tile_ds i.isLt hj]
  rfl

theorem sum_cv (hj : j < 32) (a : Fin 64) (k : Fin 512) : ∑ i : Fin 32, (x.tile h j).cv j i a k = x.dv h (pos j k) a := by
  rw [dv, sum_pos]
  refine Finset.sum_congr rfl fun i _ => ?_
  unfold Reals.cv
  simp only [tile_pr i.isLt hj]
  rfl

end Ins

end Cert.Proof.Val
end
-- ==== Proof.Val.Blocks.lean ====
module

public import proofs.«01_k».proof.Proof.Val.HostReal
public import proofs.«01_k».proof.Proof.Val.Tiles
public import proofs.«01_k».proof.Proof.Bwd.T4

@[expose] public section

/-! # The blocks the body reads at a grid point -/

noncomputable section

namespace Cert.Proof.Val

open Cert.KernelIdeal Cert.KernelIdeal.Gen Cert.Proof.KernelIdeal
open Idealize.ShloMosaic Idealize.ShloMosaic.TcCoe
open Idealize.ShloMosaic.Pipeline (Window)

local notation "𝕀" => Idealize.ShloMosaic.Ideal

theorem index0 : ∀ t : Fin grid0.N, win0_0.index t = ![t.val / 32, 0, 0, 0] := by decide +kernel
theorem index1 : ∀ t : Fin grid0.N, win0_1.index t = ![t.val / 32, t.val % 32, 0] := by decide +kernel
theorem index2 : ∀ t : Fin grid0.N, win0_2.index t = ![t.val / 32, t.val % 32, 0, 0] := by decide +kernel
theorem index3 : ∀ t : Fin grid0.N, win0_3.index t = ![t.val / 32, t.val % 32, 0] := by decide +kernel
theorem index4 : ∀ t : Fin grid0.N, win0_4.index t = ![t.val / 32, 0, 0, 0] := by decide +kernel
theorem index5 : ∀ t : Fin grid0.N, win0_5.index t = ![t.val / 32, 0, 0, 0] := by decide +kernel
theorem index6 : ∀ t : Fin grid0.N, win0_6.index t = ![t.val / 32, 0, 0, 0] := by decide +kernel
theorem index7 : ∀ t : Fin grid0.N, win0_7.index t = ![t.val / 32, 0, 0, 0] := by decide +kernel
theorem index8 : ∀ t : Fin grid0.N, win0_8.index t = ![t.val / 32, t.val % 32, 0, 0] := by decide +kernel
theorem index9 : ∀ t : Fin grid0.N, win0_9.index t = ![t.val / 32, t.val % 32, 0, 0] := by decide +kernel

variable (m : (ℓ : Loc nD τ sig) → Buf (Elt 𝕀) ℓ) (c : Dev nD)

theorem read0 (Y : Vec 𝕀 S8x32x96x512 .bf16) (t : Fin grid0.N) (h : Fin 8) (hh : h.val = t.val / 32) (b : Fin 32) (a : Fin 96) (s : Fin 512) :
    (((cfg0.win 0).blk t).view.read (Elt 𝕀) Y : Vec 𝕀 S1x32x96x512 .bf16) (ix4 0 b a s) = Y (ix4 h b a s) := by
  show Y ((win0_0.rect t).emb (ix4 (n0 := 1) (n1 := 32) (n2 := 96) (n3 := 512) 0 b a s)) = _
  refine congrArg Y (funext fun ax => Fin.ext ?_)
  rw [Window.rect_emb_val win0_0, index0]
  fin_cases ax
  · show t.val / 32 * 1 + 0 = h.val; omega
  · show 0 * 32 + b.val = b.val; omega
  · show 0 * 96 + a.val = a.val; omega
  · show 0 * 512 + s.val = s.val; omega

theorem iblk0 (t : Fin grid0.N) (h : Fin 8) (hh : h.val = t.val / 32) (b : Fin 32) (a : Fin 96) (s : Fin 512) :
    (iblk m c 0 t : Vec 𝕀 S1x32x96x512 .bf16) (ix4 0 b a s) = (V m c main_v28 : Vec 𝕀 S8x32x96x512 .bf16) (ix4 h b a s) :=
  read0 (V m c main_v28) t h hh b a s

theorem read1 (Y : Vec 𝕀 S8x16384x96 .bf16) (t : Fin grid0.N) (h : Fin 8) (hh : h.val = t.val / 32) (s : Fin 512) (a : Fin 96) :
    (((cfg0.win 1).blk t).view.read (Elt 𝕀) Y : Vec 𝕀 S1x512x96 .bf16) (ix3 0 s a) = Y (ix3 h (pos (t.val % 32) s) a) := by
  show Y ((win0_1.rect t).emb (ix3 (n0 := 1) (n1 := 512) (n2 := 96) 0 s a)) = _
  refine congrArg Y (funext fun ax => Fin.ext ?_)
  rw [Window.rect_emb_val win0_1, index1]
  fin_cases ax
  · show t.val / 32 * 1 + 0 = h.val; omega
  · show t.val % 32 * 512 + s.val = (pos (t.val % 32) s).val
    rw [pos_val (Nat.mod_lt _ (by norm_num))]; omega
  · show 0 * 96 + a.val = a.val; omega

theorem iblk1 (t : Fin grid0.N) (h : Fin 8) (hh : h.val = t.val / 32) (s : Fin 512) (a : Fin 96) :
    (iblk m c 1 t : Vec 𝕀 S1x512x96 .bf16) (ix3 0 s a) = (V m c main_v35 : Vec 𝕀 S8x16384x96 .bf16) (ix3 h (pos (t.val % 32) s) a) :=
  read1 (V m c main_v35) t h hh s a

theorem read2 (Y : Vec 𝕀 S8x32x96x512 .bf16) (t : Fin grid0.N) (h : Fin 8) (hh : h.val = t.val / 32) (b : Fin 32) (hb : b.val = t.val % 32) (a : Fin 96) (s : Fin 512) :
    (((cfg0.win 2).blk t).view.read (Elt 𝕀) Y : Vec 𝕀 S1x1x96x512 .bf16) (ix4 0 0 a s) = Y (ix4 h b a s) := by
  show Y ((win0_2.rect t).emb (ix4 (n0 := 1) (n1 := 1) (n2 := 96) (n3 := 512) 0 0 a s)) = _
  refine congrArg Y (funext fun ax => Fin.ext ?_)
  rw [Window.rect_emb_val win0_2, index2]
  fin_cases ax
  · show t.val / 32 * 1 + 0 = h.val; omega
  · show t.val % 32 * 1 + 0 = b.val; omega
  · show 0 * 96 + a.val = a.val; omega
  · show 0 * 512 + s.val = s.val; omega

theorem iblk2 (t : Fin grid0.N) (h : Fin 8) (hh : h.val = t.val / 32) (b : Fin 32) (hb : b.val = t.val % 32) (a : Fin 96) (s : Fin 512) :
    (iblk m c 2 t : Vec 𝕀 S1x1x96x512 .bf16) (ix4 0 0 a s) = (V m c main_v31 : Vec 𝕀 S8x32x96x512 .bf16) (ix4 h b a s) :=
  read2 (V m c main_v31) t h hh b hb a s

theorem read3 (Y : Vec 𝕀 S8x16384x64 .bf16) (t : Fin grid0.N) (h : Fin 8) (hh : h.val = t.val / 32) (s : Fin 512) (a : Fin 64) :
    (((cfg0.win 3).blk t).view.read (Elt 𝕀) Y : Vec 𝕀 S1x512x64 .bf16) (ix3 0 s a) = Y (ix3 h (pos (t.val % 32) s) a) := by
  show Y ((win0_3.rect t).emb (ix3 (n0 := 1) (n1 := 512) (n2 := 64) 0 s a)) = _
  refine congrArg Y (funext fun ax => Fin.ext ?_)
  rw [Window.rect_emb_val win0_3, index3]
  fin_cases ax
  · show t.val / 32 * 1 + 0 = h.val; omega
  · show t.val % 32 * 512 + s.val = (pos (t.val % 32) s).val
    rw [pos_val (Nat.mod_lt _ (by norm_num))]; omega
  · show 0 * 64 + a.val = a.val; omega

theorem iblk3 (t : Fin grid0.N) (h : Fin 8) (hh : h.val = t.val / 32) (s : Fin 512) (a : Fin 64) :
    (iblk m c 3 t : Vec 𝕀 S1x512x64 .bf16) (ix3 0 s a) = (V m c main_v37 : Vec 𝕀 S8x16384x64 .bf16) (ix3 h (pos (t.val % 32) s) a) :=
  read3 (V m c main_v37) t h hh s a

theorem read4 (Y : Vec 𝕀 S8x32x64x512 .f32) (t : Fin grid0.N) (h : Fin 8) (hh : h.val = t.val / 32) (b : Fin 32) (a : Fin 64) (s : Fin 512) :
    (((cfg0.win 4).blk t).view.read (Elt 𝕀) Y : Vec 𝕀 S1x32x64x512 .f32) (ix4 0 b a s) = Y (ix4 h b a s) := by
  show Y ((win0_4.rect t).emb (ix4 (n0 := 1) (n1 := 32) (n2 := 64) (n3 := 512) 0 b a s)) = _
  refine congrArg Y (funext fun ax => Fin.ext ?_)
  rw [Window.rect_emb_val win0_4, index4]
  fin_cases ax
  · show t.val / 32 * 1 + 0 = h.val; omega
  · show 0 * 32 + b.val = b.val; omega
  · show 0 * 64 + a.val = a.val; omega
  · show 0 * 512 + s.val = s.val; omega

theorem iblk4 (t : Fin grid0.N) (h : Fin 8) (hh : h.val = t.val / 32) (b : Fin 32) (a : Fin 64) (s : Fin 512) :
    (iblk m c 4 t : Vec 𝕀 S1x32x64x512 .f32) (ix4 0 b a s) = (V m c main_v33 : Vec 𝕀 S8x32x64x512 .f32) (ix4 h b a s) :=
  read4 (V m c main_v33) t h hh b a s

theorem read5 (Y : Vec 𝕀 S8x32x1x512 .f32) (t : Fin grid0.N) (h : Fin 8) (hh : h.val = t.val / 32) (b : Fin 32) (s : Fin 512) :
    (((cfg0.win 5).blk t).view.read (Elt 𝕀) Y : Vec 𝕀 S1x32x1x512 .f32) (ix4 0 b 0 s) = Y (ix4 h b 0 s) := by
  show Y ((win0_5.rect t).emb (ix4 (n0 := 1) (n1 := 32) (n2 := 1) (n3 := 512) 0 b 0 s)) = _
  refine congrArg Y (funext fun ax => Fin.ext ?_)
  rw [Window.rect_emb_val win0_5, index5]
  fin_cases ax
  · show t.val / 32 * 1 + 0 = h.val; omega
  · show 0 * 32 + b.val = b.val; omega
  · show 0 * 1 + 0 = 0; omega
  · show 0 * 512 + s.val = s.val; omega

theorem iblk5 (t : Fin grid0.N) (h : Fin 8) (hh : h.val = t.val / 32) (b : Fin 32) (s : Fin 512) :
    (iblk m c 5 t : Vec 𝕀 S1x32x1x512 .f32) (ix4 0 b 0 s) = (V m c main_v38 : Vec 𝕀 S8x32x1x512 .f32) (ix4 h b 0 s) :=
  read5 (V m c main_v38) t h hh b s

theorem read6 (Y : Vec 𝕀 S8x32x1x512 .f32) (t : Fin grid0.N) (h : Fin 8) (hh : h.val = t.val / 32) (b : Fin 32) (s : Fin 512) :
    (((cfg0.win 6).blk t).view.read (Elt 𝕀) Y : Vec 𝕀 S1x32x1x512 .f32) (ix4 0 b 0 s) = Y (ix4 h b 0 s) := by
  show Y ((win0_6.rect t).emb (ix4 (n0 := 1) (n1 := 32) (n2 := 1) (n3 := 512) 0 b 0 s)) = _
  refine congrArg Y (funext fun ax => Fin.ext ?_)
  rw [Window.rect_emb_val win0_6, index6]
  fin_cases ax
  · show t.val / 32 * 1 + 0 = h.val; omega
  · show 0 * 32 + b.val = b.val; omega
  · show 0 * 1 + 0 = 0; omega
  · show 0 * 512 + s.val = s.val; omega

theorem iblk6 (t : Fin grid0.N) (h : Fin 8) (hh : h.val = t.val / 32) (b : Fin 32) (s : Fin 512) :
    (iblk m c 6 t : Vec 𝕀 S1x32x1x512 .f32) (ix4 0 b 0 s) = (V m c main_v40 : Vec 𝕀 S8x32x1x512 .f32) (ix4 h b 0 s) :=
  read6 (V m c main_v40) t h hh b s

theorem blk_eq {D : ℕ} {α : Type} (x : (⟨4, ![1, 32, D, 512]⟩ : Shape).Idx → α) {i : ℕ} (hi : i < 32) (a : Fin D) (s : Fin 512) :
    blk x i (ix4 0 0 a s) = x (ix4 0 (⟨i, hi⟩ : Fin 32) a s) := by
  have e : (Fin.ofNat 32 i : Fin 32) = ⟨i, hi⟩ := Fin.ext (Nat.mod_eq_of_lt hi)
  show x (ix4 0 (Fin.ofNat 32 i) a s) = _
  rw [e]

theorem truncf_at {sh : Shape} (y : FVec 𝕀 sh .f32) (i : sh.Idx) : (truncf .bf16 y bitsLt_bf16_f32 : FVec 𝕀 sh .bf16) i = y i := rfl

end Cert.Proof.Val
end
-- ==== Proof.Val.Holds.lean ====
module

public import proofs.«01_k».proof.Proof.Val.Blocks

@[expose] public section

/-! # The blocks at a grid point in real numbers -/

noncomputable section

namespace Cert.Proof.Val

open Cert.KernelIdeal Cert.KernelIdeal.Gen Cert.Proof.KernelIdeal
open Idealize.ShloMosaic Idealize.ShloMosaic.TcCoe
open Idealize.ShloMosaic.Pipeline (Window)

local notation "𝕀" => Idealize.ShloMosaic.Ideal

variable (m : (ℓ : Loc nD τ sig) → Buf (Elt 𝕀) ℓ) (c : Dev nD)

/-- The blocks at a point hold the head's reals at the key tile. -/
theorem holds {x : Ins} (A : Args x (a0 m c) (a1 m c) (a2 m c) (a3 m c)) (t : Fin grid0.N) (h : Fin 8) (hh : h.val = t.val / 32) :
    Holds (x.tile h (t.val % 32)) (iblk m c 0 t) (iblk m c 1 t) (iblk m c 2 t) (iblk m c 3 t) (iblk m c 4 t) (iblk m c 5 t) (iblk m c 6 t) := by
  have hS := hS_real A
  obtain ⟨M, hM⟩ := hM_real hS
  have hl := hLse_real hS hM
  have hp := hP_real hS hl
  have hd := hDelta_real A hp
  have hj : t.val % 32 < 32 := Nat.mod_lt _ (by norm_num)
  exact {
    q := fun i hi a s => by
      rw [blk_eq _ hi, iblk0 m c t h hh, V_q, truncf_at, hTiles96_apply]
      exact A.q _ _ _
    k := fun s a => by
      rw [iblk1 m c t h hh, V_k, truncf_at, hRows96_apply]
      exact A.k _ _ _
    kt := fun a s => by
      rw [iblk2 m c t h hh ⟨_, hj⟩ rfl, V_kt, truncf_at, hTiles96_apply]
      exact A.k _ _ _
    v := fun s a => by
      rw [iblk3 m c t h hh, V_v, truncf_at, hRows64_apply]
      exact A.v _ _ _
    g := fun i hi a s => by
      rw [blk_eq _ hi, iblk4 m c t h hh, V_g, hTiles64_apply]
      exact A.g _ _ _
    l := fun i hi s => by
      rw [blk_eq _ hi, iblk5 m c t h hh, V_l, hRow_apply]
      exact hl _ _
    d := fun i hi s => by
      rw [blk_eq _ hi, iblk6 m c t h hh, V_d, hCol_apply]
      exact hd _ _ }

end Cert.Proof.Val
end
-- ==== Proof.Val.Sums.lean ====
module

public import proofs.«01_k».proof.Proof.Val.Holds

@[expose] public section

/-! # What the kernel writes, in real numbers -/

noncomputable section

namespace Cert.Proof.Val

open Cert.KernelIdeal Cert.KernelIdeal.Gen Cert.Proof.KernelIdeal
open Idealize.ShloMosaic Idealize.ShloMosaic.TcCoe
open Idealize.ShloMosaic.Pipeline (Window Dat)

local notation "𝕀" => Idealize.ShloMosaic.Ideal

variable (m : (ℓ : Loc nD τ sig) → Buf (Elt 𝕀) ℓ) (c : Dev nD)

variable {x : Ins}

/-- What `dqt`'s row blocks hold after point `t`: the key tiles so far. -/
def partQ (x : Ins) (t : ℕ) (i : ℕ) (a : Fin 96) (s : Fin 512) : ℝ :=
  ∑ j ∈ Finset.range (t % 32 + 1), (x.tile (Fin.ofNat 8 (t / 32)) j).cq j i a s

theorem head_val (t : Fin grid0.N) : (Fin.ofNat 8 (t.val / 32)).val = t.val / 32 := by
  have h : t.val < 256 := t.isLt
  show t.val / 32 % 8 = _
  omega

theorem pt_rep (A : Args x (a0 m c) (a1 m c) (a2 m c) (a3 m c)) (t : Fin grid0.N) (x9 : Vec 𝕀 S1x32x96x512 .f32)
    (h9 : t.val % 32 ≠ 0 → ∀ i < 32, ∀ a s, blk x9 i (ix4 0 0 a s) = ((partQ x (t.val - 1) i a s : ℝ) : EReal)) :
    Rep (ptAt m c t x9) (partQ x t.val) (fun a k => ∑ i : Fin 32, (x.tile (Fin.ofNat 8 (t.val / 32)) (t.val % 32)).ck (t.val % 32) i a k)
      (fun a k => ∑ i : Fin 32, (x.tile (Fin.ofNat 8 (t.val / 32)) (t.val % 32)).cv (t.val % 32) i a k) := by
  have hj : t.val % 32 < 32 := Nat.mod_lt _ (by norm_num)
  have H := holds m c A t (Fin.ofNat 8 (t.val / 32)) (head_val t)
  unfold ptAt
  rw [tile_val]
  by_cases h0 : t.val % 32 = 0
  · have R := point_rep H (A := fun _ _ _ => 0) (x9 := begin9 (t.val % 32) x9) (fun i hi a s => by
      rw [begin9, if_pos h0]
      exact zeroDq_apply _) hj
    refine ⟨fun i hi a s => (R.q i hi a s).trans (congrArg _ ?_), R.k, R.v⟩
    rw [partQ, h0, zero_add, zero_add, Finset.sum_range_one]
  · have R := point_rep H (A := partQ x (t.val - 1)) (x9 := begin9 (t.val % 32) x9) (fun i hi a s => by
      rw [begin9, if_neg h0]
      exact h9 h0 i hi a s) hj
    refine ⟨fun i hi a s => (R.q i hi a s).trans (congrArg _ ?_), R.k, R.v⟩
    have e1 : (t.val - 1) % 32 + 1 = t.val % 32 := by omega
    have e2 : (t.val - 1) / 32 = t.val / 32 := by omega
    rw [partQ, partQ, e1, e2, Finset.sum_range_succ]

/-- What the body holds after every point. -/
theorem run_rep (A : Args x (a0 m c) (a1 m c) (a2 m c) (a3 m c)) : ∀ (n : ℕ) (hn : n < grid0.N),
    Rep (ptAt m c ⟨n, hn⟩ (prev9 m c ⟨n, hn⟩)) (partQ x n) (fun a k => ∑ i : Fin 32, (x.tile (Fin.ofNat 8 (n / 32)) (n % 32)).ck (n % 32) i a k)
      (fun a k => ∑ i : Fin 32, (x.tile (Fin.ofNat 8 (n / 32)) (n % 32)).cv (n % 32) i a k)
  | 0, hn => pt_rep m c A ⟨0, hn⟩ _ fun h => absurd rfl h
  | n + 1, hn => pt_rep m c A ⟨n + 1, hn⟩ _ fun _ i hi a s => by
    have hn' : n < grid0.N := Nat.lt_of_succ_lt hn
    have e : prev9 m c ⟨n + 1, hn⟩ = (ptAt m c ⟨n, hn'⟩ (prev9 m c ⟨n, hn'⟩)).1 := acc9_eq m c ⟨n, hn'⟩
    rw [e]
    exact (run_rep A n hn').q i hi a s

theorem after_q (A : Args x (a0 m c) (a1 m c) (a2 m c) (a3 m c)) (t : Fin grid0.N) (ht : t.val % 32 = 31) (b : Fin 32) (a : Fin 96) (s : Fin 512) :
    (ptAt m c t (prev9 m c t)).1 (ix4 0 b a s) = ((x.dq (Fin.ofNat 8 (t.val / 32)) (pos b.val s) a : ℝ) : EReal) := by
  have e := (run_rep m c A t.val t.isLt).q b.val b.isLt a s
  rw [blk_eq _ b.isLt, partQ, ht, Ins.sum_cq b.isLt] at e
  exact e

theorem after_k (A : Args x (a0 m c) (a1 m c) (a2 m c) (a3 m c)) (t : Fin grid0.N) (a : Fin 96) (s : Fin 512) :
    k0_pay1 (k0_pay125 (ptAt m c t (prev9 m c t)).2.1) (ix4 0 0 a s) = ((x.dk (Fin.ofNat 8 (t.val / 32)) (pos (t.val % 32) s) a : ℝ) : EReal) := by
  rw [outDk_apply, (run_rep m c A t.val t.isLt).k a s, ← EReal.coe_mul, Ins.sum_ck (Nat.mod_lt _ (by norm_num))]

theorem after_v (A : Args x (a0 m c) (a1 m c) (a2 m c) (a3 m c)) (t : Fin grid0.N) (a : Fin 64) (s : Fin 512) :
    k0_pay2 (ptAt m c t (prev9 m c t)).2.2 (ix4 0 0 a s) = ((x.dv (Fin.ofNat 8 (t.val / 32)) (pos (t.val % 32) s) a : ℝ) : EReal) := by
  rw [outDv_apply, (run_rep m c A t.val t.isLt).v a s, Ins.sum_cv (Nat.mod_lt _ (by norm_num))]

/-- The arrays that hold the gradients. -/
def GQ (x : Ins) : Vec 𝕀 S8x32x96x512 .f32 := fun y => ((x.dq (y 0) (pos (y 1).val (y 3)) (y 2) : ℝ) : EReal)
@[inherit_doc GQ] def GK (x : Ins) : Vec 𝕀 S8x32x96x512 .f32 := fun y => ((x.dk (y 0) (pos (y 1).val (y 3)) (y 2) : ℝ) : EReal)
@[inherit_doc GQ] def GV (x : Ins) : Vec 𝕀 S8x32x64x512 .f32 := fun y => ((x.dv (y 0) (pos (y 1).val (y 3)) (y 2) : ℝ) : EReal)

end Cert.Proof.Val
end
-- ==== Proof.Val.Arrays.lean ====
module

public import proofs.«01_k».proof.Proof.Val.Sums
public import Idealize.ShloMosaic.Lib.Pipeline.ValueKit.Geometry

@[expose] public section

/-! # The kernel's three result arrays -/

noncomputable section

namespace Cert.Proof.Val

open Cert.KernelIdeal Cert.KernelIdeal.Gen Cert.Proof.KernelIdeal
open Idealize.ShloMosaic Idealize.ShloMosaic.TcCoe
open Idealize.ShloMosaic.Pipeline (Window Dat)

local notation "𝕀" => Idealize.ShloMosaic.Ideal

variable (m : (ℓ : Loc nD τ sig) → Buf (Elt 𝕀) ℓ) (c : Dev nD)

variable {x : Ins}

theorem ix4_eta {n0 n1 n2 n3 : ℕ} (y : (⟨4, ![n0, n1, n2, n3]⟩ : Shape).Idx) : y = ix4 (y 0) (y 1) (y 2) (y 3) := by
  funext ax
  fin_cases ax <;> rfl

theorem emb7 (t : Fin grid0.N) (b : Fin 32) (a : Fin 96) (s : Fin 512) :
    ((win0_7.rect t).emb (ix4 (n0 := 1) (n1 := 32) (n2 := 96) (n3 := 512) 0 b a s) : S8x32x96x512.Idx) = ix4 (Fin.ofNat 8 (t.val / 32)) b a s := by
  have hh := head_val t
  refine funext fun ax => Fin.ext ?_
  rw [Window.rect_emb_val win0_7, index7]
  fin_cases ax
  · show t.val / 32 * 1 + 0 = (Fin.ofNat 8 (t.val / 32)).val; omega
  · show 0 * 32 + b.val = b.val; omega
  · show 0 * 96 + a.val = a.val; omega
  · show 0 * 512 + s.val = s.val; omega

theorem emb8 (t : Fin grid0.N) (b : Fin 32) (hb : b.val = t.val % 32) (a : Fin 96) (s : Fin 512) :
    ((win0_8.rect t).emb (ix4 (n0 := 1) (n1 := 1) (n2 := 96) (n3 := 512) 0 0 a s) : S8x32x96x512.Idx) = ix4 (Fin.ofNat 8 (t.val / 32)) b a s := by
  have hh := head_val t
  refine funext fun ax => Fin.ext ?_
  rw [Window.rect_emb_val win0_8, index8]
  fin_cases ax
  · show t.val / 32 * 1 + 0 = (Fin.ofNat 8 (t.val / 32)).val; omega
  · show t.val % 32 * 1 + 0 = b.val; omega
  · show 0 * 96 + a.val = a.val; omega
  · show 0 * 512 + s.val = s.val; omega

theorem emb9 (t : Fin grid0.N) (b : Fin 32) (hb : b.val = t.val % 32) (a : Fin 64) (s : Fin 512) :
    ((win0_9.rect t).emb (ix4 (n0 := 1) (n1 := 1) (n2 := 64) (n3 := 512) 0 0 a s) : S8x32x64x512.Idx) = ix4 (Fin.ofNat 8 (t.val / 32)) b a s := by
  have hh := head_val t
  refine funext fun ax => Fin.ext ?_
  rw [Window.rect_emb_val win0_9, index9]
  fin_cases ax
  · show t.val / 32 * 1 + 0 = (Fin.ofNat 8 (t.val / 32)).val; omega
  · show t.val % 32 * 1 + 0 = b.val; omega
  · show 0 * 64 + a.val = a.val; omega
  · show 0 * 512 + s.val = s.val; omega

/-- If a block holds `dq` for every row of a head, it is that block of `dq`'s array; the same for the other two. -/
theorem read7 (Y : Vec 𝕀 S1x32x96x512 .f32) (t : Fin grid0.N)
    (h : ∀ b a s, Y (ix4 0 b a s) = ((x.dq (Fin.ofNat 8 (t.val / 32)) (pos b.val s) a : ℝ) : EReal)) (y : S1x32x96x512.Idx) :
    Y y = GQ x ((win0_7.rect t).emb y) := by
  obtain ⟨z, b, a, s, rfl⟩ : ∃ z b a s, y = ix4 (n0 := 1) (n1 := 32) (n2 := 96) (n3 := 512) z b a s := ⟨_, _, _, _, ix4_eta y⟩
  obtain rfl : z = 0 := Subsingleton.elim _ _
  rw [h, congrArg (GQ x) (emb7 t b a s)]
  rfl

@[inherit_doc read7] theorem read8 (Y : Vec 𝕀 S1x1x96x512 .f32) (t : Fin grid0.N)
    (h : ∀ a s, Y (ix4 0 0 a s) = ((x.dk (Fin.ofNat 8 (t.val / 32)) (pos (t.val % 32) s) a : ℝ) : EReal)) (y : S1x1x96x512.Idx) :
    Y y = GK x ((win0_8.rect t).emb y) := by
  obtain ⟨z, b, a, s, rfl⟩ : ∃ z b a s, y = ix4 (n0 := 1) (n1 := 1) (n2 := 96) (n3 := 512) z b a s := ⟨_, _, _, _, ix4_eta y⟩
  obtain rfl : z = 0 := Subsingleton.elim _ _
  obtain rfl : b = 0 := Subsingleton.elim _ _
  rw [h, congrArg (GK x) (emb8 t ⟨t.val % 32, Nat.mod_lt _ (by norm_num)⟩ rfl a s)]
  rfl

@[inherit_doc read7] theorem read9 (Y : Vec 𝕀 S1x1x64x512 .f32) (t : Fin grid0.N)
    (h : ∀ a s, Y (ix4 0 0 a s) = ((x.dv (Fin.ofNat 8 (t.val / 32)) (pos (t.val % 32) s) a : ℝ) : EReal)) (y : S1x1x64x512.Idx) :
    Y y = GV x ((win0_9.rect t).emb y) := by
  obtain ⟨z, b, a, s, rfl⟩ : ∃ z b a s, y = ix4 (n0 := 1) (n1 := 1) (n2 := 64) (n3 := 512) z b a s := ⟨_, _, _, _, ix4_eta y⟩
  obtain rfl : z = 0 := Subsingleton.elim _ _
  obtain rfl : b = 0 := Subsingleton.elim _ _
  rw [h, congrArg (GV x) (emb9 t ⟨t.val % 32, Nat.mod_lt _ (by norm_num)⟩ rfl a s)]
  rfl

theorem covers7 : win0_7.Covers := by decide +kernel
theorem covers8 : win0_8.Covers := by decide +kernel
theorem covers9 : win0_9.Covers := by decide +kernel

theorem final7 (A : Args x (a0 m c) (a1 m c) (a2 m c) (a3 m c)) : (dats m 0 c).arrAt 7 cfg0.N = GQ x := by
  refine (dats m 0 c).arrAt_eq_of_covers 7 _ covers7 fun t hf y => ?_
  have e := read7 (x := x) ((dats m 0 c).after 7 t) t (fun b a s => by
    rw [after0_7]
    exact after_q m c A t ((flush0_7 t).mp hf) b a s)
  exact e y

theorem final8 (A : Args x (a0 m c) (a1 m c) (a2 m c) (a3 m c)) : (dats m 0 c).arrAt 8 cfg0.N = GK x := by
  refine (dats m 0 c).arrAt_eq_of_covers 8 _ covers8 fun t hf y => ?_
  have e := read8 (x := x) ((dats m 0 c).after 8 t) t (fun a s => by
    rw [after0_8]
    exact after_k m c A t a s)
  exact e y

theorem final9 (A : Args x (a0 m c) (a1 m c) (a2 m c) (a3 m c)) : (dats m 0 c).arrAt 9 cfg0.N = GV x := by
  refine (dats m 0 c).arrAt_eq_of_covers 9 _ covers9 fun t hf y => ?_
  have e := read9 (x := x) ((dats m 0 c).after 9 t) t (fun a s => by
    rw [after0_9]
    exact after_v m c A t a s)
  exact e y

end Cert.Proof.Val
end
-- ==== Proof.Val.Ref.lean ====
module

public import proofs.«01_k».proof.Proof.Val.HostReal
public import proofs.«01_k».proof.Proof.Gen.ReferenceIdeal.Read

@[expose] public section

/-! # The reference in real numbers -/

noncomputable section

namespace Cert.Proof.Val

open Cert.ReferenceIdeal Cert.ReferenceIdeal.Gen Cert.ReferenceIdeal.Read
open Idealize.ShloMosaic Idealize.ShloMosaic.TcCoe

local notation "𝕀" => Idealize.ShloMosaic.Ideal

variable {x : Ins} {x0 x1 : FVec 𝕀 S16384x8x96 .f32} {x2 x3 : FVec 𝕀 S16384x8x64 .f32}

theorem ref_mask (i j : Fin 16384) (p q : EReal) (h : Fin 8) :
    Scalar.select (val_main_v9_1 (F := 𝕀) (ix3 h i j)) p q = if j.val ≤ i.val then p else q := by
  rw [← select_sle (by omega) (by omega)]
  pointwise [val_main_v9_1, val_main_v8, val_main_v7, val_main_v6, val_main_v5, val_main_v4, val_main_v3]

theorem div_real {p q : ℝ} (h : q ≠ 0) : Ideal.div ((p : ℝ) : EReal) ((q : ℝ) : EReal) = ((p / q : ℝ) : EReal) := by
  rw [Ideal.div_coe h, ← EReal.coe_mul]; congr 1; ring

theorem ref_s (A : Args x x0 x1 x2 x3) (h : Fin 8) (i j : Fin 16384) : val_main_v9_0 (F := 𝕀) x0 x1 (ix3 h i j) = mS x h i j := by
  have e : val_main_v9_0 (F := 𝕀) x0 x1 (ix3 h i j) = if j.val ≤ i.val then (∑ a, x0 (ix3 i h a) * x1 (ix3 j h a)) * ((s0 : ℝ) : EReal) else ⊥ := by
    rw [← ref_mask i j _ _ h, ← ofBits_scale, ← ofBits_neg_inf]
    unfold val_main_v9_0 val_main_call0_v2 val_main_call0_v0
    show Scalar.select (val_main_v9_1 (F := 𝕀) (ix3 h i j)) (val_main_v2 (F := 𝕀) x0 x1 (ix3 h i j)) (broadcastInDim S8x16384x16384 ![] bcast_S_S8x16384x16384 (val_main_cst_0 (F := 𝕀)) (ix3 h i j)) = _
    pointwise [val_main_v2, val_main_v1, val_main_v0, val_main_cst, val_main_cst_0]
  rw [e, sum_eq_coe (fun a => by rw [A.q, A.k, ← EReal.coe_mul]), ← EReal.coe_mul]
  rfl

theorem fold_v10 (s : FVec 𝕀 S8x16384x16384 .f32) (h : Fin 8) (i : Fin 16384) :
    Host.reduce FloatOps.maximumf s (constant S_ .f32 0xFF800000#32) reducesTo_S8x16384x16384_S8x16384_d2 h_S_ (ix2 h i)
      = (Finset.univ : Finset (Fin 16384)).fold max (Ideal.ofBits .f32 0xFF800000#32) fun j => s (ix3 h i j) := by
  pointwise []

theorem max_v17 (s : FVec 𝕀 S8x16384 .f32) (h : Fin 8) (i : Fin 16384) :
    maximumf (broadcastInDim S8x16384 ![] bcast_S_S8x16384 (constant S_ .f32 0xFF800000#32)) s (ix2 h i)
      = max (Ideal.ofBits .f32 0xFF800000#32) (s (ix2 h i)) := by
  pointwise []

theorem ref_v17 (h : Fin 8) (i : Fin 16384) :
    val_main_v17 (F := 𝕀) x0 x1 (ix2 h i) = max (Ideal.ofBits .f32 0xFF800000#32) (val_main_v10 (F := 𝕀) x0 x1 (ix2 h i)) := by
  unfold val_main_v17 val_main_v16 val_main_cst_3
  exact max_v17 _ h i

theorem ref_v10 (h : Fin 8) (i : Fin 16384) : val_main_v10 (F := 𝕀) x0 x1 (ix2 h i)
    = (Finset.univ : Finset (Fin 16384)).fold max (Ideal.ofBits .f32 0xFF800000#32) fun j => val_main_v9_0 (F := 𝕀) x0 x1 (ix3 h i j) := by
  unfold val_main_v10 val_main_cst_1
  exact fold_v10 _ h i

theorem ref_m (A : Args x x0 x1 x2 x3) : ∃ M : Fin 8 → Fin 16384 → ℝ, ∀ h i, val_main_v17 (F := 𝕀) x0 x1 (ix2 h i) = ((M h i : ℝ) : EReal) := by
  have hex : ∀ h i, ∃ M : ℝ, val_main_v17 (F := 𝕀) x0 x1 (ix2 h i) = ((M : ℝ) : EReal) := fun h i => by
    obtain ⟨M, hM'⟩ := fold_max_real (fun j => mS x h i j) (fun j => by unfold mS; split <;> simp) i (by unfold mS; simp)
    refine ⟨M, ?_⟩
    rw [ref_v17, ref_v10, ofBits_neg_inf, ← hM']
    simp only [ref_s A]
    exact max_eq_right bot_le
  exact ⟨fun h i => (hex h i).choose, fun h i => (hex h i).choose_spec⟩

end Cert.Proof.Val
end
-- ==== Proof.Val.RefGrad.lean ====
module

public import proofs.«01_k».proof.Proof.Val.Ref

@[expose] public section

/-! # The reference's gradients in real numbers -/

noncomputable section

namespace Cert.Proof.Val

open Cert.ReferenceIdeal Cert.ReferenceIdeal.Gen Cert.ReferenceIdeal.Read
open Idealize.ShloMosaic Idealize.ShloMosaic.TcCoe

local notation "𝕀" => Idealize.ShloMosaic.Ideal

variable {x : Ins} {x0 x1 : FVec 𝕀 S16384x8x96 .f32} {x2 x3 : FVec 𝕀 S16384x8x64 .f32}

theorem ref_e (A : Args x x0 x1 x2 x3) {M : Fin 8 → Fin 16384 → ℝ} (hM : ∀ h i, val_main_v17 (F := 𝕀) x0 x1 (ix2 h i) = ((M h i : ℝ) : EReal))
    (h : Fin 8) (i j : Fin 16384) : val_main_v30 (F := 𝕀) x0 x1 (ix3 h i j) = ((x.EM h i j (M h i) : ℝ) : EReal) := by
  have e : val_main_v30 (F := 𝕀) x0 x1 (ix3 h i j) = Ideal.exp (val_main_v9_0 (F := 𝕀) x0 x1 (ix3 h i j) - val_main_v17 (F := 𝕀) x0 x1 (ix2 h i)) := by
    unfold val_main_v30 val_main_v29 val_main_v28 val_main_v27
    generalize val_main_v9_0 (F := 𝕀) x0 x1 = s
    generalize val_main_v17 (F := 𝕀) x0 x1 = mx
    pointwise []
  rw [e, ref_s A, hM, exp_mS]

theorem ref_l {M : Fin 8 → Fin 16384 → ℝ} (he : ∀ h i j, val_main_v30 (F := 𝕀) x0 x1 (ix3 h i j) = ((x.EM h i j (M h i) : ℝ) : EReal))
    (h : Fin 8) (i : Fin 16384) : val_main_v32 (F := 𝕀) x0 x1 (ix3 h i 0) = ((x.ZM h i (M h i) : ℝ) : EReal) := by
  have e : val_main_v32 (F := 𝕀) x0 x1 (ix3 h i 0) = ∑ j, val_main_v30 (F := 𝕀) x0 x1 (ix3 h i j) := by
    unfold val_main_v32 val_main_v31
    generalize val_main_v30 (F := 𝕀) x0 x1 = s
    pointwise [val_main_cst_9]
  rw [e, sum_eq_coe (fun j => he h i j)]; rfl

theorem ref_p {M : Fin 8 → Fin 16384 → ℝ} (he : ∀ h i j, val_main_v30 (F := 𝕀) x0 x1 (ix3 h i j) = ((x.EM h i j (M h i) : ℝ) : EReal))
    (h : Fin 8) (i j : Fin 16384) : val_main_v34 (F := 𝕀) x0 x1 (ix3 h i j) = ((x.P h i j : ℝ) : EReal) := by
  have hl := ref_l he
  have e : val_main_v34 (F := 𝕀) x0 x1 (ix3 h i j) = Ideal.div (val_main_v30 (F := 𝕀) x0 x1 (ix3 h i j)) (val_main_v32 (F := 𝕀) x0 x1 (ix3 h i 0)) := by
    unfold val_main_v34 val_main_v33
    generalize val_main_v30 (F := 𝕀) x0 x1 = s
    generalize val_main_v32 (F := 𝕀) x0 x1 = l
    pointwise []
  rw [e, he, hl, div_real (Ins.ZM_pos _).ne', Ins.EM_div]

theorem ref_dp (A : Args x x0 x1 x2 x3) (h : Fin 8) (i j : Fin 16384) : val_main_v41 (F := 𝕀) x2 x3 (ix3 h i j) = ((x.DP h i j : ℝ) : EReal) := by
  have e : val_main_v41 (F := 𝕀) x2 x3 (ix3 h i j) = ∑ a, x3 (ix3 i h a) * x2 (ix3 j h a) := by
    pointwise [val_main_v41, val_main_v40]
  rw [e, sum_eq_coe (fun a => by rw [A.g, A.v, ← EReal.coe_mul])]; rfl

theorem ref_dv (A : Args x x0 x1 x2 x3) (h : Fin 8) (b : Fin 32) (a : Fin 64) (t : Fin 512) :
    val_main_v68 (F := 𝕀) x0 x1 x3 (ix4 h b a t) = ((x.dv h (pos b.val t) a : ℝ) : EReal) := by
  obtain ⟨M, hM⟩ := ref_m A
  have hp := ref_p (ref_e A hM)
  have e : ∀ j, val_main_v42 (F := 𝕀) x0 x1 x3 (ix3 h a j) = ((x.dv h j a : ℝ) : EReal) := fun j => by
    have e : val_main_v42 (F := 𝕀) x0 x1 x3 (ix3 h a j) = ∑ i, x3 (ix3 i h a) * val_main_v34 (F := 𝕀) x0 x1 (ix3 h i j) := by
      unfold val_main_v42
      generalize val_main_v34 (F := 𝕀) x0 x1 = s
      pointwise [val_main_v40]
    rw [e, sum_eq_coe (fun i => by rw [A.g, hp, ← EReal.coe_mul])]; rfl
  rw [← e]
  unfold val_main_v68 val_main_v67 val_main_v43
  generalize val_main_v42 (F := 𝕀) x0 x1 x3 = s
  pointwise []
  rw [pos_mk]

theorem ref_ds (A : Args x x0 x1 x2 x3) (h : Fin 8) (i j : Fin 16384) :
    val_main_v58 (F := 𝕀) x0 x1 x2 x3 (ix3 h i j) = ((x.DS h i j * s0 : ℝ) : EReal) := by
  obtain ⟨M, hM⟩ := ref_m A
  have he := ref_e A hM
  have hl := ref_l he
  have hd := ref_dp A
  have e47 : val_main_v47 (F := 𝕀) x0 x1 x2 x3 (ix2 h i)
      = ∑ j, val_main_v41 (F := 𝕀) x2 x3 (ix3 h i j) * Ideal.div (Ideal.ofBits .f32 0x3F800000#32) (val_main_v32 (F := 𝕀) x0 x1 (ix3 h i 0) * val_main_v32 (F := 𝕀) x0 x1 (ix3 h i 0))
          * val_main_v30 (F := 𝕀) x0 x1 (ix3 h i j) := by
    unfold val_main_v47 val_main_v46 val_main_v45 val_main_v44 val_main_v37 val_main_v35
    generalize val_main_v30 (F := 𝕀) x0 x1 = s
    generalize val_main_v32 (F := 𝕀) x0 x1 = l
    generalize val_main_v41 (F := 𝕀) x2 x3 = d
    pointwise [val_main_cst_11, val_main_v36, val_main_cst_10]
  have e55 : val_main_v55 (F := 𝕀) x0 x1 x2 x3 (ix3 h i j)
      = (Ideal.div (val_main_v41 (F := 𝕀) x2 x3 (ix3 h i j)) (val_main_v32 (F := 𝕀) x0 x1 (ix3 h i 0)) + -val_main_v47 (F := 𝕀) x0 x1 x2 x3 (ix2 h i))
          * val_main_v30 (F := 𝕀) x0 x1 (ix3 h i j) := by
    unfold val_main_v55 val_main_v54 val_main_v53 val_main_v52 val_main_v51 val_main_v50 val_main_v49 val_main_v48
    generalize val_main_v30 (F := 𝕀) x0 x1 = s
    generalize val_main_v32 (F := 𝕀) x0 x1 = l
    generalize val_main_v41 (F := 𝕀) x2 x3 = d
    generalize val_main_v47 (F := 𝕀) x0 x1 x2 x3 = z
    pointwise [val_main_cst_12]
    simp
  have r55 : val_main_v55 (F := 𝕀) x0 x1 x2 x3 (ix3 h i j) = ((x.DS h i j : ℝ) : EReal) := by
    have hz : x.ZM h i (M h i) ≠ 0 := (Ins.ZM_pos _).ne'
    rw [e55, e47, sum_eq_coe (fun j => by rw [hd, hl, he, ofBits_one, ← EReal.coe_mul, div_real (mul_ne_zero hz hz), ← EReal.coe_mul, ← EReal.coe_mul]),
      hd, hl, he, div_real hz, ← EReal.coe_neg, ← EReal.coe_add, ← EReal.coe_mul, Ins.softmax_grad]
  have e58 : val_main_v58 (F := 𝕀) x0 x1 x2 x3 (ix3 h i j)
      = (if j.val ≤ i.val then val_main_v55 (F := 𝕀) x0 x1 x2 x3 (ix3 h i j) else Ideal.ofBits .f32 0x00000000#32) * ((s0 : ℝ) : EReal) := by
    rw [← ref_mask i j _ _ h, ← ofBits_scale]
    unfold val_main_v58 val_main_v56
    generalize val_main_v55 (F := 𝕀) x0 x1 x2 x3 = s
    pointwise [val_main_call1_v0, val_main_call1_cst, val_main_v57, val_main_cst_13]
  rw [e58, r55, ofBits_zero]
  split
  · rw [← EReal.coe_mul]
  · next hij =>
    rw [← EReal.coe_mul, Ins.DS, Ins.P, Ins.E, if_neg hij, zero_div, zero_mul, zero_mul, zero_mul]

theorem ref_dk (A : Args x x0 x1 x2 x3) (h : Fin 8) (b : Fin 32) (a : Fin 96) (t : Fin 512) :
    val_main_v66 (F := 𝕀) x0 x1 x2 x3 (ix4 h b a t) = ((x.dk h (pos b.val t) a : ℝ) : EReal) := by
  have e : ∀ j, val_main_v59 (F := 𝕀) x0 x1 x2 x3 (ix3 h j a) = ((x.dk h j a : ℝ) : EReal) := fun j => by
    have e : val_main_v59 (F := 𝕀) x0 x1 x2 x3 (ix3 h j a) = ∑ i, val_main_v58 (F := 𝕀) x0 x1 x2 x3 (ix3 h i j) * x0 (ix3 i h a) := by
      unfold val_main_v59
      generalize val_main_v58 (F := 𝕀) x0 x1 x2 x3 = s
      pointwise []
    rw [e, sum_eq_coe (fun i => by rw [A.q, ref_ds A, ← EReal.coe_mul]), Ins.dk, Finset.sum_mul]
    exact congrArg _ (Finset.sum_congr rfl fun i _ => by ring)
  rw [← e]
  unfold val_main_v66 val_main_v65 val_main_v60
  generalize val_main_v59 (F := 𝕀) x0 x1 x2 x3 = s
  pointwise []
  rw [pos_mk]

theorem ref_dq (A : Args x x0 x1 x2 x3) (h : Fin 8) (b : Fin 32) (a : Fin 96) (t : Fin 512) :
    val_main_v64 (F := 𝕀) x0 x1 x2 x3 (ix4 h b a t) = ((x.dq h (pos b.val t) a : ℝ) : EReal) := by
  have e : ∀ i, val_main_v61 (F := 𝕀) x0 x1 x2 x3 (ix3 h i a) = ((x.dq h i a : ℝ) : EReal) := fun i => by
    have e : val_main_v61 (F := 𝕀) x0 x1 x2 x3 (ix3 h i a) = ∑ j, val_main_v58 (F := 𝕀) x0 x1 x2 x3 (ix3 h i j) * x1 (ix3 j h a) := by
      unfold val_main_v61
      generalize val_main_v58 (F := 𝕀) x0 x1 x2 x3 = s
      pointwise []
    rw [e, sum_eq_coe (fun j => by rw [A.k, ref_ds A, ← EReal.coe_mul]), Ins.dq, Finset.sum_mul]
    exact congrArg _ (Finset.sum_congr rfl fun j _ => by ring)
  rw [← e]
  unfold val_main_v64 val_main_v63 val_main_v62
  generalize val_main_v61 (F := 𝕀) x0 x1 x2 x3 = s
  pointwise []
  rw [pos_mk]

end Cert.Proof.Val
end
-- ==== Proof.Val.Pre.lean ====
module

public import proofs.«01_k».proof.Proof.Val.HostReal
public import proofs.«01_k».proof.Pre_finite
public import Idealize.ShloMosaic.Lib.ReduceAll

@[expose] public section

/-! # The precondition read: every argument holds reals -/

noncomputable section

namespace Cert.Proof.Val

open Cert.Pre_finite
open Idealize.ShloMosaic Idealize.ShloMosaic.TcCoe

local notation "𝕀" => Idealize.ShloMosaic.Ideal

instance pre_facts : Cert.Pre_finite.Facts where
  bcast_S_S16384x8x96 := by decide
  reducesTo_S16384x8x96_S_d0_1_2 := by decide
  h_S_ := by decide
  bcast_S_S16384x8x64 := by decide
  reducesTo_S16384x8x64_S_d0_1_2 := by decide
  bcast_S_S1 := by decide
  concatenates_S1_S1_S1_S1_S4_d0 := by decide

/-- A number below `+∞` in absolute value is a real. -/
theorem real_of_lt (y : EReal) (h : Ideal.cmp .olt (max y (-y)) (Ideal.ofBits .f32 0x7F800000#32) = 1#1) : y = ((y.toReal : ℝ) : EReal) := by
  have hi : Ideal.ofBits .f32 0x7F800000#32 = ⊤ := by decide
  rw [hi] at h
  have hlt : max y (-y) < ⊤ := by
    by_contra hn
    rw [Ideal.cmp, decide_eq_false hn] at h
    exact absurd h (by decide)
  refine (EReal.coe_toReal ?_ ?_).symm
  · rintro rfl
    exact absurd hlt (by simp)
  · rintro rfl
    exact absurd hlt (by simp)

theorem parts (p q r s : IVec S_ 1) (h : fn_part1 (F := 𝕀) p q r s = fun _ => 1#1) :
    p ix0 = 1#1 ∧ q ix0 = 1#1 ∧ r ix0 = 1#1 ∧ s ix0 = 1#1 := by
  have e0 : fn_part1 (F := 𝕀) p q r s (ix1 0) = p ix0 := by
    pointwise [fn_part1]
  have e1 : fn_part1 (F := 𝕀) p q r s (ix1 1) = q ix0 := by
    pointwise [fn_part1]
  have e2 : fn_part1 (F := 𝕀) p q r s (ix1 2) = r ix0 := by
    pointwise [fn_part1]
  have e3 : fn_part1 (F := 𝕀) p q r s (ix1 3) = s ix0 := by
    pointwise [fn_part1]
  rw [← e0, ← e1, ← e2, ← e3, h]
  exact ⟨rfl, rfl, rfl, rfl⟩

theorem real96 (y : FVec 𝕀 S16384x8x96 .f32) (o : S_.Idx)
    (h : Host.reduce IntOp.andi (cmpf .olt (Host.absf y) (broadcastInDim S16384x8x96 ![] Facts.bcast_S_S16384x8x96 (constant S_ .f32 0x7F800000#32)))
      (constantI S_ 1 1#1) Facts.reducesTo_S16384x8x96_S_d0_1_2 Facts.h_S_ o = 1#1) (i : S16384x8x96.Idx) :
    y i = (((y i : EReal).toReal : ℝ) : EReal) :=
  real_of_lt _ (Host.reduce_andi_all _ _ _ _ o h i)

theorem real64 (y : FVec 𝕀 S16384x8x64 .f32) (o : S_.Idx)
    (h : Host.reduce IntOp.andi (cmpf .olt (Host.absf y) (broadcastInDim S16384x8x64 ![] Facts.bcast_S_S16384x8x64 (constant S_ .f32 0x7F800000#32)))
      (constantI S_ 1 1#1) Facts.reducesTo_S16384x8x64_S_d0_1_2 Facts.h_S_ o = 1#1) (i : S16384x8x64.Idx) :
    y i = (((y i : EReal).toReal : ℝ) : EReal) :=
  real_of_lt _ (Host.reduce_andi_all _ _ _ _ o h i)

/-- The reals that the arguments hold. -/
theorem args_of_finite (x0 x1 : FVec 𝕀 S16384x8x96 .f32) (x2 x3 : FVec 𝕀 S16384x8x64 .f32) (h : fn x0 x1 x2 x3 = fun _ => 1#1) :
    ∃ x : Ins, Args x x0 x1 x2 x3 := by
  obtain ⟨h0, h1, h2, h3⟩ := parts _ _ _ _ h
  exact ⟨⟨fun i h a => EReal.toReal (x0 (ix3 i h a)), fun i h a => EReal.toReal (x1 (ix3 i h a)),
    fun i h a => EReal.toReal (x2 (ix3 i h a)), fun i h a => EReal.toReal (x3 (ix3 i h a))⟩,
    ⟨fun i h a => real96 x0 _ h0 _, fun i h a => real96 x1 _ h1 _, fun i h a => real64 x2 _ h2 _, fun i h a => real64 x3 _ h3 _⟩⟩

end Cert.Proof.Val
end
-- ==== Proof.Val.Algebraic.lean ====
module

public import proofs.«01_k».proof.Defs
public import proofs.«01_k».proof.Proof.Bwd.Frames
public import proofs.«01_k».proof.Proof.Val.Arrays
public import proofs.«01_k».proof.Proof.Val.RefGrad
public import proofs.«01_k».proof.Proof.Val.Pre

@[expose] public section

/-! # The kernel's results are the reference's -/

noncomputable section

namespace Cert.Proof.Val

open Idealize.ShloMosaic Idealize.ShloMosaic.TcCoe Idealize.SL.Sem

local notation "𝕀" => Idealize.ShloMosaic.Ideal

section Kernel

open Cert.KernelIdeal Cert.KernelIdeal.Gen Cert.Proof.KernelIdeal

/-- The kernel's run: the three arrays and the arguments at its end. -/
theorem kernel_run (m : (ℓ : Loc nD τ sig) → Buf (Elt 𝕀) ℓ) (ρ : Dev nD → PrngReg) (x : Dev nD → Ins)
    (A : ∀ c, Args (x c) (a0 m c) (a1 m c) (a2 m c) (a3 m c)) :
    θ_run (defs (F := 𝕀)) (onTc (τ := τ) (main (F := 𝕀))) ⟨m, fun _ => 0, ρ⟩ (fun r => ∀ c : Dev nD,
      r.2.mem ((c.tc : Thread nD τ).loc main_v41_0) = GQ (x c)
      ∧ r.2.mem ((c.tc : Thread nD τ).loc main_v41_1) = GK (x c)
      ∧ r.2.mem ((c.tc : Thread nD τ).loc main_v41_2) = GV (x c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).1 7).trans (final7 m c (A c)), ((h.1 c).1 8).trans (final8 m c (A c)),
      ((h.1 c).1 9).trans (final9 m c (A c)),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩)
    (run_main (F := 𝕀) m ρ)

end Kernel

section Reference

open Cert.ReferenceIdeal Cert.ReferenceIdeal.Read

variable {x : Ins} {x0 x1 : FVec 𝕀 S16384x8x96 .f32} {x2 x3 : FVec 𝕀 S16384x8x64 .f32}

theorem ref_GQ (A : Args x x0 x1 x2 x3) : val_main_v64 (F := 𝕀) x0 x1 x2 x3 = GQ x := funext fun y => by
  obtain ⟨h, b, a, s, rfl⟩ : ∃ h b a s, y = ix4 (n0 := 8) (n1 := 32) (n2 := 96) (n3 := 512) h b a s := ⟨_, _, _, _, ix4_eta y⟩
  rw [ref_dq A]
  rfl

theorem ref_GK (A : Args x x0 x1 x2 x3) : val_main_v66 (F := 𝕀) x0 x1 x2 x3 = GK x := funext fun y => by
  obtain ⟨h, b, a, s, rfl⟩ : ∃ h b a s, y = ix4 (n0 := 8) (n1 := 32) (n2 := 96) (n3 := 512) h b a s := ⟨_, _, _, _, ix4_eta y⟩
  rw [ref_dk A]
  rfl

theorem ref_GV (A : Args x x0 x1 x2 x3) : val_main_v68 (F := 𝕀) x0 x1 x3 = GV x := funext fun y => by
  obtain ⟨h, b, a, s, rfl⟩ : ∃ h b a s, y = ix4 (n0 := 8) (n1 := 32) (n2 := 64) (n3 := 512) h b a s := ⟨_, _, _, _, ix4_eta y⟩
  rw [ref_dv A]
  rfl

/-- The reference's run, read at the same reals. -/
theorem reference_run (m : (ℓ : Loc nD τ sig) → Buf (Elt 𝕀) ℓ) (ρ : Dev nD → PrngReg) (x : Dev nD → Ins)
    (A : ∀ c : Dev nD, Args (x c) (m ((c.tc : Thread nD τ).loc main_arg0)) (m ((c.tc : Thread nD τ).loc main_arg1))
      (m ((c.tc : Thread nD τ).loc main_arg2)) (m ((c.tc : Thread nD τ).loc main_arg3))) :
    θ_run (defs (F := 𝕀)) (onTc (τ := τ) (main (F := 𝕀))) ⟨m, fun _ => 0, ρ⟩ (fun r => ∀ c : Dev nD,
      r.2.mem ((c.tc : Thread nD τ).loc main_v64) = GQ (x c)
      ∧ r.2.mem ((c.tc : Thread nD τ).loc main_v66) = GK (x c)
      ∧ r.2.mem ((c.tc : Thread nD τ).loc main_v68) = GV (x c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1.trans (val_main_v64_eq m c)).trans (ref_GQ (A c)),
      ((h c).2.1.trans (val_main_v66_eq m c)).trans (ref_GK (A c)),
      ((h c).2.2.1.trans (val_main_v68_eq m c)).trans (ref_GV (A c)), (h c).2.2.2⟩)
    (Cert.ReferenceIdeal.Value.run (F := 𝕀) m ρ)

end Reference

attribute [local instance] Cert.KernelIdeal.Gen.facts Cert.ReferenceIdeal.Gen.facts

/-- The two programs end with the same three arrays. -/
theorem algebraic : Cert.algebraic_KernelIdeal_ReferenceIdeal_pre_finite := fun m g m' g' hpre hargs => by
  have hx : ∀ c : Dev Cert.KernelIdeal.nD, ∃ x : Ins, Args x (a0 m c) (a1 m c) (a2 m c) (a3 m c) :=
    fun c => args_of_finite _ _ _ _ (hpre c)
  obtain ⟨x, A⟩ := Classical.skolem.mp hx
  refine ⟨fun c => GQ (x c), fun c => GK (x c), fun c => GV (x c), kernel_run m g x A, reference_run m' g' x fun c => ?_⟩
  obtain ⟨h0, h1, h2, h3⟩ := hargs c
  rw [h0, h1, h2, h3]
  exact A c

end Cert.Proof.Val
end
-- ==== Proof.Mlp.Frames.lean ====
module

public import proofs.«01_k».proof.Defs
public import proofs.«01_k».proof.Proof.Gen.Kernel2
public import proofs.«01_k».proof.Proof.Gen.Kernel2Ideal.Frame
public import proofs.«01_k».proof.Proof.Gen.Reference2Ideal.Run
public import proofs.«01_k».proof.Proof.Gen.Kernel3
public import proofs.«01_k».proof.Proof.Gen.Kernel3Ideal.Frame
public import proofs.«01_k».proof.Proof.Gen.Reference3Ideal.Run
public import proofs.«01_k».proof.Proof.Gen.Kernel4
public import proofs.«01_k».proof.Proof.Gen.Kernel4Ideal.Frame
public import proofs.«01_k».proof.Proof.Gen.Reference4Ideal.Run
public import proofs.«01_k».proof.Proof.Gen.Kernel5
public import proofs.«01_k».proof.Proof.Gen.Kernel5Ideal.Frame
public import proofs.«01_k».proof.Proof.Gen.Reference5Ideal.Run
public import proofs.«01_k».proof.Proof.Gen.Kernel6
public import proofs.«01_k».proof.Proof.Gen.Kernel6Ideal.Frame
public import proofs.«01_k».proof.Proof.Gen.Reference6Ideal.Run
public import proofs.«01_k».proof.Proof.Gen.Kernel7
public import proofs.«01_k».proof.Proof.Gen.Kernel7Ideal.Frame
public import proofs.«01_k».proof.Proof.Gen.Reference7Ideal.Run

@[expose] public section

/-! # The frames of the products of the block's second half

The ideal pass rewrote nothing in these programs, so one run serves the printed program and the ideal one. -/

noncomputable section

namespace Cert.Proof.Mlp

open Idealize.ShloMosaic Idealize.ShloMosaic.TcCoe Idealize.SL.Sem

section

attribute [local instance] Cert.Kernel2.Gen.facts Cert.Kernel2Ideal.Gen.facts

/-- For the hidden layer's gradient: the ideal program's frame. -/
theorem frame_ideal2 : Cert.quiescent_Kernel2Ideal := fun m ρ _ => Cert.Kernel2Ideal.Gen.frame (F := Ideal) m ρ

theorem same_main2 : Cert.Kernel2.main (F := Bits) = Cert.Kernel2Ideal.main (F := Bits) := by
  unfold Cert.Kernel2.main Cert.Kernel2Ideal.main
  rfl

theorem same_body2 : Cert.Kernel2.defs₀ (F := Bits) = Cert.Kernel2Ideal.defs₀ (F := Bits) := by
  funext p ℓ a
  cases p with
  | tc =>
    match ℓ, a with
    | 0, (t, s) => exact rfl
  | scScalar _ => exact rfl
  | scVector _ _ => exact rfl

theorem same_defs2 : Cert.Kernel2.defs (F := Bits) = Cert.Kernel2Ideal.defs (F := Bits) :=
  congrArg (Idealize.ShloMosaic.Pipeline.defs (Cert.Kernel2Ideal.pcfgs (F := Bits))) same_body2

/-- The printed program's frame. -/
theorem frame_kernel2 : Cert.quiescent_Kernel2 := fun m ρ _ => by
  rw [same_main2, same_defs2]
  exact Cert.Kernel2Ideal.Gen.frame (F := Bits) m ρ

end

/-- The reference's frame. -/
theorem frame_reference2 : Cert.quiescent_Reference2Ideal (hReference2Ideal := Cert.Reference2Ideal.Gen.facts) := fun m ρ _ =>
  (θ_run Cert.Reference2Ideal.defs _ _).mono
    (fun r h => ⟨fun c => (h c).2, Idealize.ShloMosaic.sem_eq_zero_of_no_sems (by decide) r.2⟩)
    (Cert.Reference2Ideal.Value.run (F := Ideal) m ρ)

section

attribute [local instance] Cert.Kernel3.Gen.facts Cert.Kernel3Ideal.Gen.facts

/-- For the narrowing weight's gradient: the ideal program's frame. -/
theorem frame_ideal3 : Cert.quiescent_Kernel3Ideal := fun m ρ _ => Cert.Kernel3Ideal.Gen.frame (F := Ideal) m ρ

theorem same_main3 : Cert.Kernel3.main (F := Bits) = Cert.Kernel3Ideal.main (F := Bits) := by
  unfold Cert.Kernel3.main Cert.Kernel3Ideal.main
  rfl

theorem same_body3 : Cert.Kernel3.defs₀ (F := Bits) = Cert.Kernel3Ideal.defs₀ (F := Bits) := by
  funext p ℓ a
  cases p with
  | tc =>
    match ℓ, a with
    | 0, (t, s) => exact rfl
  | scScalar _ => exact rfl
  | scVector _ _ => exact rfl

theorem same_defs3 : Cert.Kernel3.defs (F := Bits) = Cert.Kernel3Ideal.defs (F := Bits) :=
  congrArg (Idealize.ShloMosaic.Pipeline.defs (Cert.Kernel3Ideal.pcfgs (F := Bits))) same_body3

/-- The printed program's frame. -/
theorem frame_kernel3 : Cert.quiescent_Kernel3 := fun m ρ _ => by
  rw [same_main3, same_defs3]
  exact Cert.Kernel3Ideal.Gen.frame (F := Bits) m ρ

end

/-- The reference's frame. -/
theorem frame_reference3 : Cert.quiescent_Reference3Ideal (hReference3Ideal := Cert.Reference3Ideal.Gen.facts) := fun m ρ _ =>
  (θ_run Cert.Reference3Ideal.defs _ _).mono
    (fun r h => ⟨fun c => (h c).2, Idealize.ShloMosaic.sem_eq_zero_of_no_sems (by decide) r.2⟩)
    (Cert.Reference3Ideal.Value.run (F := Ideal) m ρ)

section

attribute [local instance] Cert.Kernel4.Gen.facts Cert.Kernel4Ideal.Gen.facts

/-- For the widening weight's gradient: the ideal program's frame. -/
theorem frame_ideal4 : Cert.quiescent_Kernel4Ideal := fun m ρ _ => Cert.Kernel4Ideal.Gen.frame (F := Ideal) m ρ

theorem same_main4 : Cert.Kernel4.main (F := Bits) = Cert.Kernel4Ideal.main (F := Bits) := by
  unfold Cert.Kernel4.main Cert.Kernel4Ideal.main
  rfl

theorem same_body4 : Cert.Kernel4.defs₀ (F := Bits) = Cert.Kernel4Ideal.defs₀ (F := Bits) := by
  funext p ℓ a
  cases p with
  | tc =>
    match ℓ, a with
    | 0, (t, s) => exact rfl
  | scScalar _ => exact rfl
  | scVector _ _ => exact rfl

theorem same_defs4 : Cert.Kernel4.defs (F := Bits) = Cert.Kernel4Ideal.defs (F := Bits) :=
  congrArg (Idealize.ShloMosaic.Pipeline.defs (Cert.Kernel4Ideal.pcfgs (F := Bits))) same_body4

/-- The printed program's frame. -/
theorem frame_kernel4 : Cert.quiescent_Kernel4 := fun m ρ _ => by
  rw [same_main4, same_defs4]
  exact Cert.Kernel4Ideal.Gen.frame (F := Bits) m ρ

end

/-- The reference's frame. -/
theorem frame_reference4 : Cert.quiescent_Reference4Ideal (hReference4Ideal := Cert.Reference4Ideal.Gen.facts) := fun m ρ _ =>
  (θ_run Cert.Reference4Ideal.defs _ _).mono
    (fun r h => ⟨fun c => (h c).2, Idealize.ShloMosaic.sem_eq_zero_of_no_sems (by decide) r.2⟩)
    (Cert.Reference4Ideal.Value.run (F := Ideal) m ρ)

section

attribute [local instance] Cert.Kernel5.Gen.facts Cert.Kernel5Ideal.Gen.facts

/-- For the input's gradient and the gain's: the ideal program's frame. -/
theorem frame_ideal5 : Cert.quiescent_Kernel5Ideal := fun m ρ _ => Cert.Kernel5Ideal.Gen.frame (F := Ideal) m ρ

theorem same_main5 : Cert.Kernel5.main (F := Bits) = Cert.Kernel5Ideal.main (F := Bits) := by
  unfold Cert.Kernel5.main Cert.Kernel5Ideal.main
  rfl

theorem same_body5 : Cert.Kernel5.defs₀ (F := Bits) = Cert.Kernel5Ideal.defs₀ (F := Bits) := by
  funext p ℓ a
  cases p with
  | tc =>
    match ℓ, a with
    | 0, (t, s) => exact rfl
  | scScalar _ => exact rfl
  | scVector _ _ => exact rfl

theorem same_defs5 : Cert.Kernel5.defs (F := Bits) = Cert.Kernel5Ideal.defs (F := Bits) :=
  congrArg (Idealize.ShloMosaic.Pipeline.defs (Cert.Kernel5Ideal.pcfgs (F := Bits))) same_body5

/-- The printed program's frame. -/
theorem frame_kernel5 : Cert.quiescent_Kernel5 := fun m ρ _ => by
  rw [same_main5, same_defs5]
  exact Cert.Kernel5Ideal.Gen.frame (F := Bits) m ρ

end

/-- The reference's frame. -/
theorem frame_reference5 : Cert.quiescent_Reference5Ideal (hReference5Ideal := Cert.Reference5Ideal.Gen.facts) := fun m ρ _ =>
  (θ_run Cert.Reference5Ideal.defs _ _).mono
    (fun r h => ⟨fun c => (h c).2.2, Idealize.ShloMosaic.sem_eq_zero_of_no_sems (by decide) r.2⟩)
    (Cert.Reference5Ideal.Value.run (F := Ideal) m ρ)

section

attribute [local instance] Cert.Kernel6.Gen.facts Cert.Kernel6Ideal.Gen.facts

/-- For the activation and its slope: the ideal program's frame. -/
theorem frame_ideal6 : Cert.quiescent_Kernel6Ideal := fun m ρ _ => Cert.Kernel6Ideal.Gen.frame (F := Ideal) m ρ

theorem same_main6 : Cert.Kernel6.main (F := Bits) = Cert.Kernel6Ideal.main (F := Bits) := by
  unfold Cert.Kernel6.main Cert.Kernel6Ideal.main
  rfl

theorem same_body6 : Cert.Kernel6.defs₀ (F := Bits) = Cert.Kernel6Ideal.defs₀ (F := Bits) := by
  funext p ℓ a
  cases p with
  | tc =>
    match ℓ, a with
    | 0, (t, s) => exact rfl
  | scScalar _ => exact rfl
  | scVector _ _ => exact rfl

theorem same_defs6 : Cert.Kernel6.defs (F := Bits) = Cert.Kernel6Ideal.defs (F := Bits) :=
  congrArg (Idealize.ShloMosaic.Pipeline.defs (Cert.Kernel6Ideal.pcfgs (F := Bits))) same_body6

/-- The printed program's frame. -/
theorem frame_kernel6 : Cert.quiescent_Kernel6 := fun m ρ _ => by
  rw [same_main6, same_defs6]
  exact Cert.Kernel6Ideal.Gen.frame (F := Bits) m ρ

end

/-- The reference's frame. -/
theorem frame_reference6 : Cert.quiescent_Reference6Ideal (hReference6Ideal := Cert.Reference6Ideal.Gen.facts) := fun m ρ _ =>
  (θ_run Cert.Reference6Ideal.defs _ _).mono
    (fun r h => ⟨fun c => (h c).2.2, Idealize.ShloMosaic.sem_eq_zero_of_no_sems (by decide) r.2⟩)
    (Cert.Reference6Ideal.Value.run (F := Ideal) m ρ)

section

attribute [local instance] Cert.Kernel7.Gen.facts Cert.Kernel7Ideal.Gen.facts

/-- For the second product with the residual: the ideal program's frame. -/
theorem frame_ideal7 : Cert.quiescent_Kernel7Ideal := fun m ρ _ => Cert.Kernel7Ideal.Gen.frame (F := Ideal) m ρ

theorem same_main7 : Cert.Kernel7.main (F := Bits) = Cert.Kernel7Ideal.main (F := Bits) := by
  unfold Cert.Kernel7.main Cert.Kernel7Ideal.main
  rfl

theorem same_body7 : Cert.Kernel7.defs₀ (F := Bits) = Cert.Kernel7Ideal.defs₀ (F := Bits) := by
  funext p ℓ a
  cases p with
  | tc =>
    match ℓ, a with
    | 0, (t, s) => exact rfl
  | scScalar _ => exact rfl
  | scVector _ _ => exact rfl

theorem same_defs7 : Cert.Kernel7.defs (F := Bits) = Cert.Kernel7Ideal.defs (F := Bits) :=
  congrArg (Idealize.ShloMosaic.Pipeline.defs (Cert.Kernel7Ideal.pcfgs (F := Bits))) same_body7

/-- The printed program's frame. -/
theorem frame_kernel7 : Cert.quiescent_Kernel7 := fun m ρ _ => by
  rw [same_main7, same_defs7]
  exact Cert.Kernel7Ideal.Gen.frame (F := Bits) m ρ

end

/-- The reference's frame. -/
theorem frame_reference7 : Cert.quiescent_Reference7Ideal (hReference7Ideal := Cert.Reference7Ideal.Gen.facts) := fun m ρ _ =>
  (θ_run Cert.Reference7Ideal.defs _ _).mono
    (fun r h => ⟨fun c => (h c).2, Idealize.ShloMosaic.sem_eq_zero_of_no_sems (by decide) r.2⟩)
    (Cert.Reference7Ideal.Value.run (F := Ideal) m ρ)

end Cert.Proof.Mlp
end
-- ==== Proof.Mlp.Sums.lean ====
module

public import proofs.«01_k».proof.Proof.Val.Coe
public import Idealize.ShloMosaic.Lib.Pointwise
public import Mathlib.Algebra.BigOperators.Fin

@[expose] public section

/-! # Rows in blocks -/

noncomputable section

namespace Cert.Proof.Mlp

open Idealize.ShloMosaic

/-- Row `k` of row block `s`. -/
def row (s : ℕ) (k : Fin 1024) : Fin 16384 := Fin.ofNat 16384 (1024 * s + k.val)

theorem row_val {s : ℕ} (hs : s < 16) (k : Fin 1024) : (row s k).val = 1024 * s + k.val :=
  Nat.mod_eq_of_lt (by omega)

/-- A sum over all rows, row block by row block. -/
theorem sum_row {β : Type} [AddCommMonoid β] (f : Fin 16384 → β) : ∑ x, f x = ∑ s ∈ Finset.range 16, ∑ k : Fin 1024, f (row s k) := by
  rw [Finset.sum_range, ← Fintype.sum_prod_type' (f := fun (s : Fin 16) (k : Fin 1024) => f (row s.val k))]
  refine (Equiv.sum_comp (finProdFinEquiv (m := 16) (n := 1024)) f).symm.trans ?_
  refine Finset.sum_congr rfl fun x _ => congrArg f (Fin.ext ?_)
  rw [row_val x.1.isLt]
  show x.2.val + 1024 * x.1.val = _
  omega

theorem ix2_eta {n0 n1 : ℕ} (y : (⟨2, ![n0, n1]⟩ : Shape).Idx) : y = ix2 (y 0) (y 1) := by
  funext ax
  fin_cases ax <;> rfl

end Cert.Proof.Mlp
end
-- ==== Proof.Mlp.DownX.lean ====
module

public import proofs.«01_k».proof.Defs
public import proofs.«01_k».proof.Proof.Mlp.Sums
public import proofs.«01_k».proof.Proof.Gen.Kernel2Ideal.Value
public import proofs.«01_k».proof.Proof.Gen.Reference2Ideal.Run
public import proofs.«01_k».proof.Proof.Gen.Reference2Ideal.Read
public import Idealize.ShloMosaic.Lib.Pipeline.ValueKit.Geometry

@[expose] public section

/-! # The gradient of the hidden layer before its activation -/

noncomputable section

namespace Cert.Proof.Mlp.DownX

open Idealize.ShloMosaic Idealize.ShloMosaic.TcCoe Idealize.SL.Sem
open Idealize.ShloMosaic.Pipeline (Window Dat)

local notation "𝕀" => Idealize.ShloMosaic.Ideal

/-- The word of 2 is the number 2. -/
theorem ofBits_two : Ideal.ofBits .f32 0x40000000#32 = 2 := by
  have : ((2 : ℝ) : EReal) = 2 := rfl
  rw [← this]
  simp [Ideal.ofBits, Ideal.ieee, -EReal.coe_mul]
  norm_num

/-- The slope of the squared positive part, times `d`: the two forms of it. -/
theorem slope (d u : EReal) : (if 0 < u then max u 0 * d + d * max u 0 else 0) = d * (2 * max u 0) := by
  split
  · rename_i h
    have h2 : (2 : EReal) * u = u + u := by
      rw [← one_add_one_eq_two, EReal.right_distrib_of_nonneg zero_le_one zero_le_one, one_mul]
    rw [max_eq_left h.le, h2, EReal.left_distrib_of_nonneg h.le h.le, mul_comm u d]
  · rename_i h
    rw [max_eq_right (not_lt.mp h), mul_zero, mul_zero]

section Kernel

open Cert.Kernel2Ideal Cert.Kernel2Ideal.Gen Cert.Kernel2Ideal.Value

/-- The positive part of the hidden values. -/
abbrev pos (U : FVec 𝕀 S16384x4096 .f32) : FVec 𝕀 S16384x4096 .f32 := Cert.Reference2Ideal.Read.val_main_v0 (F := 𝕀) U

theorem pos_apply (U : FVec 𝕀 S16384x4096 .f32) (a : Fin 16384) (b : Fin 4096) : pos U (ix2 a b) = max (U (ix2 a b)) 0 := by
  unfold pos Cert.Reference2Ideal.Read.val_main_v0
  pointwise [Cert.Reference2Ideal.Read.val_main_call0_v0, Cert.Reference2Ideal.Read.val_main_call0_cst]

/-- What both programs compute: the incoming gradient through the weight, times the activation's slope. -/
def G (U : FVec 𝕀 S16384x4096 .f32) (W : FVec 𝕀 S4096x1024 .f32) (H : FVec 𝕀 S16384x1024 .f32) : FVec 𝕀 S16384x4096 .bf16 := fun i =>
  (∑ k : Fin 1024, H (ix2 (i 0) k) * W (ix2 (i 1) k)) * (2 * max (U i) 0)

theorem index0 : ∀ t : Fin grid0.N, win0_0.index t = ![t.val / 8, 0] := by decide +kernel
theorem index1 : ∀ t : Fin grid0.N, win0_1.index t = ![t.val % 8, 0] := by decide +kernel
theorem index2 : ∀ t : Fin grid0.N, win0_2.index t = ![t.val / 8, t.val % 8] := by decide +kernel
theorem index3 : ∀ t : Fin grid0.N, win0_3.index t = ![t.val / 8, t.val % 8] := by decide +kernel

theorem pay_apply (x : Vec 𝕀 S2048x1024 .f32) (w : Vec 𝕀 S512x1024 .bf16) (s : Vec 𝕀 S2048x512 .bf16) (a : Fin 2048) (b : Fin 512) :
    k0_pay1 x w s (ix2 a b) = (∑ k : Fin 1024, x (ix2 a k) * w (ix2 b k)) * s (ix2 a b) := by
  unfold k0_pay1
  pointwise

theorem hz : (![0, 0] : Fin 2 → Nat) = fun _ => 0 := funext fun a => by fin_cases a <;> rfl

theorem out_eq (x : Vec 𝕀 S2048x1024 .f32) (w : Vec 𝕀 S512x1024 .bf16) (s : Vec 𝕀 S2048x512 .bf16) : out0_3 x w s = k0_pay1 x w s := by
  unfold out0_3
  rw [View.canon_unit_zero hz, View.ld_unit_zero (S := S2048x1024) hz, View.ld_unit_zero (S := S512x1024) hz, View.ld_unit_zero (S := S2048x512) hz]

/-- Row `a` of row block `p`, and column `b` of column block `q`. -/
def rowB (p : ℕ) (a : Fin 2048) : Fin 16384 := Fin.ofNat 16384 (2048 * p + a.val)
@[inherit_doc rowB] def colB (q : ℕ) (b : Fin 512) : Fin 4096 := Fin.ofNat 4096 (512 * q + b.val)

theorem rowB_val {p : ℕ} (hp : p < 8) (a : Fin 2048) : (rowB p a).val = 2048 * p + a.val :=
  Nat.mod_eq_of_lt (by omega)
theorem colB_val {q : ℕ} (hq : q < 8) (b : Fin 512) : (colB q b).val = 512 * q + b.val :=
  Nat.mod_eq_of_lt (by omega)

theorem point_lt (t : Fin grid0.N) : t.val < 64 := by
  have hN : grid0.N = 64 := N_0
  have ht := t.isLt
  omega

theorem read0 (Y : Vec 𝕀 S16384x1024 .f32) (t : Fin grid0.N) (a : Fin 2048) (k : Fin 1024) :
    (((cfg0.win 0).blk t).view.read (Elt 𝕀) Y : Vec 𝕀 S2048x1024 .f32) (ix2 a k) = Y (ix2 (rowB (t.val / 8) a) k) := by
  show Y ((win0_0.rect t).emb (ix2 (n0 := 2048) (n1 := 1024) a k)) = _
  refine congrArg Y (funext fun ax => Fin.ext ?_)
  have ht := point_lt t
  rw [Window.rect_emb_val win0_0, index0]
  fin_cases ax
  · show t.val / 8 * 2048 + a.val = (rowB (t.val / 8) a).val
    rw [rowB_val (by omega)]; omega
  · show 0 * 1024 + k.val = k.val; omega

theorem read1 (Y : Vec 𝕀 S4096x1024 .bf16) (t : Fin grid0.N) (b : Fin 512) (k : Fin 1024) :
    (((cfg0.win 1).blk t).view.read (Elt 𝕀) Y : Vec 𝕀 S512x1024 .bf16) (ix2 b k) = Y (ix2 (colB (t.val % 8) b) k) := by
  show Y ((win0_1.rect t).emb (ix2 (n0 := 512) (n1 := 1024) b k)) = _
  refine congrArg Y (funext fun ax => Fin.ext ?_)
  rw [Window.rect_emb_val win0_1, index1]
  fin_cases ax
  · show t.val % 8 * 512 + b.val = (colB (t.val % 8) b).val
    rw [colB_val (by omega)]; omega
  · show 0 * 1024 + k.val = k.val; omega

theorem emb2 (t : Fin grid0.N) (a : Fin 2048) (b : Fin 512) :
    ((win0_2.rect t).emb (ix2 (n0 := 2048) (n1 := 512) a b) : S16384x4096.Idx) = ix2 (rowB (t.val / 8) a) (colB (t.val % 8) b) := by
  refine funext fun ax => Fin.ext ?_
  have ht := point_lt t
  rw [Window.rect_emb_val win0_2, index2]
  fin_cases ax
  · show t.val / 8 * 2048 + a.val = (rowB (t.val / 8) a).val
    rw [rowB_val (by omega)]; omega
  · show t.val % 8 * 512 + b.val = (colB (t.val % 8) b).val
    rw [colB_val (by omega)]; omega

theorem emb3 (t : Fin grid0.N) (a : Fin 2048) (b : Fin 512) :
    ((win0_3.rect t).emb (ix2 (n0 := 2048) (n1 := 512) a b) : S16384x4096.Idx) = ix2 (rowB (t.val / 8) a) (colB (t.val % 8) b) := by
  refine funext fun ax => Fin.ext ?_
  have ht := point_lt t
  rw [Window.rect_emb_val win0_3, index3]
  fin_cases ax
  · show t.val / 8 * 2048 + a.val = (rowB (t.val / 8) a).val
    rw [rowB_val (by omega)]; omega
  · show t.val % 8 * 512 + b.val = (colB (t.val % 8) b).val
    rw [colB_val (by omega)]; omega

theorem read2 (Y : Vec 𝕀 S16384x4096 .bf16) (t : Fin grid0.N) (a : Fin 2048) (b : Fin 512) :
    (((cfg0.win 2).blk t).view.read (Elt 𝕀) Y : Vec 𝕀 S2048x512 .bf16) (ix2 a b) = Y (ix2 (rowB (t.val / 8) a) (colB (t.val % 8) b)) :=
  congrArg Y (emb2 t a b)

variable (m : (ℓ : Loc nD τ sig) → Buf (Elt 𝕀) ℓ) (c : Dev nD)

abbrev a0 : FVec 𝕀 S16384x4096 .f32 := m ((c : Thread nD τ).loc main_arg0)
abbrev a1 : FVec 𝕀 S4096x1024 .f32 := m ((c : Thread nD τ).loc main_arg1)
abbrev a2 : FVec 𝕀 S16384x1024 .f32 := m ((c : Thread nD τ).loc main_arg2)

theorem V_4 : V m c main_v4 = truncf .bf16 (mulf (broadcastInDim S16384x4096 ![] bcast_S_S16384x4096 (constant S_ .f32 0x40000000#32)) (pos (a0 m c))) bitsLt_bf16_f32 := by
  unfold V
  simp only [hostOps0, List.flatten_cons, List.flatten_nil, List.append_nil, List.cons_append, List.nil_append]
  after_results_simp <;> rfl

theorem V_5 : V m c main_v5 = truncf .bf16 (a1 m c) bitsLt_bf16_f32 := by
  unfold V
  simp only [hostOps0, List.flatten_cons, List.flatten_nil, List.append_nil, List.cons_append, List.nil_append]
  after_results_simp <;> rfl

theorem iblk0 (t : Fin grid0.N) (a : Fin 2048) (k : Fin 1024) :
    (iblk m c 0 t : Vec 𝕀 S2048x1024 .f32) (ix2 a k) = a2 m c (ix2 (rowB (t.val / 8) a) k) :=
  (read0 (V m c main_arg2) t a k).trans (by rw [V_main_arg2])

theorem iblk1 (t : Fin grid0.N) (b : Fin 512) (k : Fin 1024) :
    (iblk m c 1 t : Vec 𝕀 S512x1024 .bf16) (ix2 b k) = a1 m c (ix2 (colB (t.val % 8) b) k) :=
  (read1 (V m c main_v5) t b k).trans (by rw [V_5]; rfl)

theorem two_pos (U : FVec 𝕀 S16384x4096 .f32) (a : Fin 16384) (b : Fin 4096) :
    (truncf .bf16 (mulf (broadcastInDim S16384x4096 ![] bcast_S_S16384x4096 (constant S_ .f32 0x40000000#32)) (pos U)) bitsLt_bf16_f32 : FVec 𝕀 S16384x4096 .bf16) (ix2 a b)
      = 2 * max (U (ix2 a b)) 0 := by
  rw [← pos_apply, ← ofBits_two]
  generalize pos U = y
  pointwise

theorem iblk2 (t : Fin grid0.N) (a : Fin 2048) (b : Fin 512) :
    (iblk m c 2 t : Vec 𝕀 S2048x512 .bf16) (ix2 a b) = 2 * max (a0 m c (ix2 (rowB (t.val / 8) a) (colB (t.val % 8) b))) 0 :=
  (read2 (V m c main_v4) t a b).trans (by rw [V_4]; exact two_pos _ _ _)

theorem after_apply (t : Fin grid0.N) (a : Fin 2048) (b : Fin 512) :
    ((dats m 0 c).after 3 t : Vec 𝕀 S2048x512 .bf16) (ix2 a b)
      = G (a0 m c) (a1 m c) (a2 m c) (ix2 (rowB (t.val / 8) a) (colB (t.val % 8) b)) := by
  rw [after0_3, out_eq, pay_apply]
  simp only [iblk0, iblk1, iblk2]
  rfl

/-- If a block holds `G`'s values, it is that block of the array. -/
theorem read3 (Y : Vec 𝕀 S2048x512 .bf16) (Z : FVec 𝕀 S16384x4096 .bf16) (t : Fin grid0.N)
    (h : ∀ a b, Y (ix2 a b) = Z (ix2 (rowB (t.val / 8) a) (colB (t.val % 8) b))) (y : S2048x512.Idx) :
    Y y = Z ((win0_3.rect t).emb y) := by
  obtain ⟨a, b, rfl⟩ : ∃ a b, y = ix2 (n0 := 2048) (n1 := 512) a b := ⟨_, _, ix2_eta y⟩
  rw [h, congrArg Z (emb3 t a b)]

theorem covers3 : win0_3.Covers := by decide +kernel

theorem final3 : (dats m 0 c).arrAt 3 cfg0.N = G (a0 m c) (a1 m c) (a2 m c) := by
  refine (dats m 0 c).arrAt_eq_of_covers 3 _ covers3 fun t _ y => ?_
  have e := read3 ((dats m 0 c).after 3 t) (G (a0 m c) (a1 m c) (a2 m c)) t (after_apply m c t)
  exact e y

end Kernel

section Reference

open Cert.Reference2Ideal Cert.Reference2Ideal.Read

theorem ref_dot (W : FVec 𝕀 S4096x1024 .f32) (H : FVec 𝕀 S16384x1024 .f32) (a : Fin 16384) (b : Fin 4096) :
    val_main_v6 (F := 𝕀) W H (ix2 a b) = ∑ k : Fin 1024, H (ix2 a k) * W (ix2 b k) := by
  rw [val_main_v6_apply]
  refine Finset.sum_congr rfl fun k _ => ?_
  congr 1 <;> refine congrArg _ (funext fun ax => ?_) <;> fin_cases ax <;> rfl

theorem ref_eq (U : FVec 𝕀 S16384x4096 .f32) (W : FVec 𝕀 S4096x1024 .f32) (H : FVec 𝕀 S16384x1024 .f32) :
    val_main_v12 (F := 𝕀) U W H = G U W H := by
  funext i
  obtain ⟨a, b, rfl⟩ : ∃ a b, i = ix2 (n0 := 16384) (n1 := 4096) a b := ⟨_, _, ix2_eta i⟩
  have e : G U W H (ix2 a b) = if 0 < U (ix2 a b) then pos U (ix2 a b) * val_main_v6 (F := 𝕀) W H (ix2 a b) + val_main_v6 (F := 𝕀) W H (ix2 a b) * pos U (ix2 a b) else 0 := by
    rw [pos_apply, slope, ref_dot]
    rfl
  rw [e]
  unfold pos val_main_v12 val_main_v11 val_main_v9 val_main_v8 val_main_v7
  generalize val_main_v6 (F := 𝕀) W H = D
  generalize val_main_v0 (F := 𝕀) U = y
  unfold val_main_v2
  pointwise [val_main_v1, val_main_cst, val_main_v10, val_main_cst_1]

end Reference

attribute [local instance] Cert.Kernel2Ideal.Gen.facts Cert.Reference2Ideal.Gen.facts

/-- The two programs end with the same array. -/
theorem algebraic : Cert.algebraic_Kernel2Ideal_Reference2Ideal := fun m g m' g' _ hargs =>
  ⟨fun c => G (a0 m c) (a1 m c) (a2 m c),
    (θ_run Cert.Kernel2Ideal.defs _ _).mono (fun _ h c => ⟨(h c).1.trans (final3 m c), (h c).2⟩) (Cert.Kernel2Ideal.Value.run_blocks (F := 𝕀) m g),
    (θ_run Cert.Reference2Ideal.defs _ _).mono (fun _ h c => ⟨((h c).1.trans (Cert.Reference2Ideal.Read.val_main_v12_eq _ _ _)).trans (by
        rw [(hargs c).1, (hargs c).2.1, (hargs c).2.2]; exact ref_eq _ _ _), (h c).2⟩) (Cert.Reference2Ideal.Value.run (F := 𝕀) m' g')⟩

end Cert.Proof.Mlp.DownX
end
-- ==== Proof.Mlp.DownW.lean ====
module

public import proofs.«01_k».proof.Defs
public import proofs.«01_k».proof.Proof.Mlp.Sums
public import proofs.«01_k».proof.Proof.Gen.Kernel3Ideal.Value
public import proofs.«01_k».proof.Proof.Gen.Reference3Ideal.Run
public import proofs.«01_k».proof.Proof.Gen.Reference3Ideal.Read
public import Idealize.ShloMosaic.Lib.Pipeline.ValueKit.Geometry

@[expose] public section

/-! # The gradient of the weight that narrows: one product over all rows -/

noncomputable section

namespace Cert.Proof.Mlp.DownW

open Idealize.ShloMosaic Idealize.ShloMosaic.TcCoe Idealize.SL.Sem
open Idealize.ShloMosaic.Pipeline (Window Dat)

local notation "𝕀" => Idealize.ShloMosaic.Ideal

section Kernel

open Cert.Kernel3Ideal Cert.Kernel3Ideal.Gen Cert.Kernel3Ideal.Value

/-- The activation: the squared hidden values, kept where positive. -/
abbrev act (U : FVec 𝕀 S16384x4096 .f32) : FVec 𝕀 S16384x4096 .f32 := Cert.Reference3Ideal.Read.val_main_v2 (F := 𝕀) U

/-- What both programs compute: entry `(a, b)` sums over the rows. -/
def G (U : FVec 𝕀 S16384x4096 .f32) (H : FVec 𝕀 S16384x1024 .f32) : FVec 𝕀 S4096x1024 .f32 := fun i =>
  ∑ k : Fin 16384, act U (ix2 k (i 0)) * H (ix2 k (i 1))

theorem index0 : ∀ t : Fin grid0.N, win0_0.index t = ![t.val % 16, t.val / 16] := by decide +kernel
theorem index1 : ∀ t : Fin grid0.N, win0_1.index t = ![t.val % 16, 0] := by decide +kernel

theorem pay_apply (acc : Vec 𝕀 S2048x1024 .f32) (x : Vec 𝕀 S1024x2048 .bf16) (y : Vec 𝕀 S1024x1024 .f32) (a : Fin 2048) (b : Fin 1024) :
    k0_pay2 acc x y (ix2 a b) = acc (ix2 a b) + ∑ k : Fin 1024, x (ix2 k a) * y (ix2 k b) := by
  unfold k0_pay2
  pointwise

theorem pay_zero (a : Fin 2048) (b : Fin 1024) : k0_pay1 (F := 𝕀) (ix2 a b) = 0 := by
  unfold k0_pay1
  pointwise

/-- Column `b` of column block `q`. -/
def col (q : ℕ) (b : Fin 2048) : Fin 4096 := Fin.ofNat 4096 (2048 * q + b.val)

theorem col_val {q : ℕ} (hq : q < 2) (b : Fin 2048) : (col q b).val = 2048 * q + b.val :=
  Nat.mod_eq_of_lt (by omega)

theorem read0 (Y : Vec 𝕀 S16384x4096 .bf16) (t : Fin grid0.N) (k : Fin 1024) (a : Fin 2048) :
    (((cfg0.win 0).blk t).view.read (Elt 𝕀) Y : Vec 𝕀 S1024x2048 .bf16) (ix2 k a) = Y (ix2 (row (t.val % 16) k) (col (t.val / 16) a)) := by
  show Y ((win0_0.rect t).emb (ix2 (n0 := 1024) (n1 := 2048) k a)) = _
  refine congrArg Y (funext fun ax => Fin.ext ?_)
  have hN : grid0.N = 32 := N_0
  have ht := t.isLt
  rw [Window.rect_emb_val win0_0, index0]
  fin_cases ax
  · show t.val % 16 * 1024 + k.val = (row (t.val % 16) k).val
    rw [row_val (Nat.mod_lt _ (by norm_num))]; omega
  · show t.val / 16 * 2048 + a.val = (col (t.val / 16) a).val
    rw [col_val (by omega)]; omega

theorem read1 (Y : Vec 𝕀 S16384x1024 .f32) (t : Fin grid0.N) (k b : Fin 1024) :
    (((cfg0.win 1).blk t).view.read (Elt 𝕀) Y : Vec 𝕀 S1024x1024 .f32) (ix2 k b) = Y (ix2 (row (t.val % 16) k) b) := by
  show Y ((win0_1.rect t).emb (ix2 (n0 := 1024) (n1 := 1024) k b)) = _
  refine congrArg Y (funext fun ax => Fin.ext ?_)
  rw [Window.rect_emb_val win0_1, index1]
  fin_cases ax
  · show t.val % 16 * 1024 + k.val = (row (t.val % 16) k).val
    rw [row_val (Nat.mod_lt _ (by norm_num))]; omega
  · show 0 * 1024 + b.val = b.val; omega

variable (m : (ℓ : Loc nD τ sig) → Buf (Elt 𝕀) ℓ) (c : Dev nD)

abbrev a0 : FVec 𝕀 S16384x4096 .f32 := m ((c : Thread nD τ).loc main_arg0)
abbrev a1 : FVec 𝕀 S16384x1024 .f32 := m ((c : Thread nD τ).loc main_arg1)

theorem V_0 : V m c main_v3 = truncf .bf16 (act (a0 m c)) bitsLt_bf16_f32 := by
  unfold V
  simp only [hostOps0, List.flatten_cons, List.flatten_nil, List.append_nil, List.cons_append, List.nil_append]
  after_results_simp <;> rfl

theorem iblk0 (t : Fin grid0.N) (k : Fin 1024) (a : Fin 2048) :
    (iblk m c 0 t : Vec 𝕀 S1024x2048 .bf16) (ix2 k a) = act (a0 m c) (ix2 (row (t.val % 16) k) (col (t.val / 16) a)) :=
  (read0 (V m c main_v3) t k a).trans (by rw [V_0]; generalize act (a0 m c) = y; rfl)

theorem iblk1 (t : Fin grid0.N) (k b : Fin 1024) :
    (iblk m c 1 t : Vec 𝕀 S1024x1024 .f32) (ix2 k b) = a1 m c (ix2 (row (t.val % 16) k) b) :=
  (read1 (V m c main_arg1) t k b).trans (by rw [V_main_arg1])

/-- What grid point `n` adds. -/
def term (n : ℕ) (y : S2048x1024.Idx) : EReal :=
  ∑ k : Fin 1024, act (a0 m c) (ix2 (row (n % 16) k) (col (n / 16) (y 0))) * a1 m c (ix2 (row (n % 16) k) (y 1))

theorem step_apply (n : ℕ) (h : n < cfg0.N) (acc : Vec 𝕀 S2048x1024 .f32) (y : S2048x1024.Idx) :
    step2 m c n h acc y = acc y + term m c n y := by
  obtain ⟨a, b, rfl⟩ : ∃ a b, y = ix2 (n0 := 2048) (n1 := 1024) a b := ⟨_, _, ix2_eta y⟩
  unfold step2
  rw [pay_apply]
  simp only [iblk0, iblk1]
  rfl

theorem reset_apply (n : ℕ) (h : n < cfg0.N) (y : S2048x1024.Idx) :
    reset2 m c n h y = 0 + term m c n y := by
  obtain ⟨a, b, rfl⟩ : ∃ a b, y = ix2 (n0 := 2048) (n1 := 1024) a b := ⟨_, _, ix2_eta y⟩
  unfold reset2
  rw [pay_apply, pay_zero]
  simp only [iblk0, iblk1]
  rfl

theorem G_eq : G2 m c = G (a0 m c) (a1 m c) := by
  funext i
  have h0 : (i 0).val < 4096 := (i 0).isLt
  have h1 : (i 1).val < 1024 := (i 1).isLt
  have hN : cfg0.N = 32 := N_0
  have hr : run2Of i = (i 0).val / 2048 := by show 1 * ((i 0).val / 2048 - 0) + 1 * ((i 1).val / 1024 - 0) = _; omega
  unfold G2
  rw [dif_pos (by rw [hr, hN]; omega)]
  refine (Pipeline.accAt_add_apply (β := EReal) (ι := S2048x1024.Idx) (reset2 m c) (step2 m c) (fun _ => 0) (term m c) (16 * run2Of i) 15
    (fun h y => reset_apply m c _ h y) (fun n h acc y _ _ => step_apply m c n h acc y) 15 le_rfl _ _).trans ?_
  unfold G
  rw [sum_row, zero_add]
  refine Finset.sum_congr rfl fun s hs => ?_
  have hs' := Finset.mem_range.mp hs
  unfold term
  have e1 : (16 * run2Of i + s) % 16 = s := by omega
  have e2 : (16 * run2Of i + s) / 16 = (i 0).val / 2048 := by omega
  have e3 : (loc2Of i 1 : Fin 1024) = i 1 := Fin.ext (Nat.mod_eq_of_lt h1)
  have e4 : col ((i 0).val / 2048) (loc2Of i 0) = i 0 := Fin.ext ((col_val (by omega) _).trans (by
    show 2048 * ((i 0).val / 2048) + (i 0).val % 2048 = _; omega))
  rw [e1, e2, e3, e4]

end Kernel

section Reference

open Cert.Reference3Ideal Cert.Reference3Ideal.Read

theorem ref_eq (U : FVec 𝕀 S16384x4096 .f32) (H : FVec 𝕀 S16384x1024 .f32) : val_main_v5 (F := 𝕀) U H = G U H := by
  funext i
  obtain ⟨a, b, rfl⟩ : ∃ a b, i = ix2 (n0 := 4096) (n1 := 1024) a b := ⟨_, _, ix2_eta i⟩
  rw [val_main_v5_apply, val_main_v4_apply]
  unfold G act
  generalize val_main_v2 (F := 𝕀) U = y
  refine Finset.sum_congr rfl fun k _ => ?_
  rw [mul_comm]
  congr 1 <;> refine congrArg _ (funext fun ax => ?_) <;> fin_cases ax <;> rfl

end Reference

attribute [local instance] Cert.Kernel3Ideal.Gen.facts Cert.Reference3Ideal.Gen.facts

/-- The two programs end with the same array. -/
theorem algebraic : Cert.algebraic_Kernel3Ideal_Reference3Ideal := fun m g m' g' _ hargs =>
  ⟨fun c => G (a0 m c) (a1 m c),
    (θ_run Cert.Kernel3Ideal.defs _ _).mono (fun _ h c => ⟨(h c).1.trans (G_eq m c), (h c).2⟩) (Cert.Kernel3Ideal.Value.run (F := 𝕀) m g),
    (θ_run Cert.Reference3Ideal.defs _ _).mono (fun _ h c => ⟨((h c).1.trans (Cert.Reference3Ideal.Read.val_main_v5_eq _ _)).trans (by
        rw [(hargs c).1, (hargs c).2]; exact ref_eq _ _), (h c).2⟩) (Cert.Reference3Ideal.Value.run (F := 𝕀) m' g')⟩

end Cert.Proof.Mlp.DownW
end
-- ==== Proof.Mlp.Up.lean ====
module

public import proofs.«01_k».proof.Defs
public import proofs.«01_k».proof.Proof.Mlp.Sums
public import proofs.«01_k».proof.Proof.Gen.Kernel4Ideal.Value
public import proofs.«01_k».proof.Proof.Gen.Reference4Ideal.Run
public import proofs.«01_k».proof.Proof.Gen.Reference4Ideal.Read
public import Idealize.ShloMosaic.Lib.Pipeline.ValueKit.Geometry

@[expose] public section

/-! # The gradient of the weight that widens: one product over all rows -/

noncomputable section

namespace Cert.Proof.Mlp.Up

open Idealize.ShloMosaic Idealize.ShloMosaic.TcCoe Idealize.SL.Sem
open Idealize.ShloMosaic.Pipeline (Window Dat)

local notation "𝕀" => Idealize.ShloMosaic.Ideal

section Kernel

open Cert.Kernel4Ideal Cert.Kernel4Ideal.Gen Cert.Kernel4Ideal.Value

/-- What both programs compute: entry `(a, b)` sums over the rows. -/
def G (X : FVec 𝕀 S16384x1024 .f32) (U : FVec 𝕀 S16384x4096 .f32) : FVec 𝕀 S1024x4096 .f32 := fun i =>
  ∑ k : Fin 16384, X (ix2 k (i 0)) * U (ix2 k (i 1))

theorem index0 : ∀ t : Fin grid0.N, win0_0.index t = ![t.val % 16, 0] := by decide +kernel
theorem index1 : ∀ t : Fin grid0.N, win0_1.index t = ![t.val % 16, t.val / 16] := by decide +kernel

theorem pay_apply (acc : Vec 𝕀 S1024x1024 .f32) (x y : Vec 𝕀 S1024x1024 .bf16) (a b : Fin 1024) :
    k0_pay2 acc x y (ix2 a b) = acc (ix2 a b) + ∑ k : Fin 1024, x (ix2 k a) * y (ix2 k b) := by
  unfold k0_pay2
  pointwise

theorem pay_zero (a b : Fin 1024) : k0_pay1 (F := 𝕀) (ix2 a b) = 0 := by
  unfold k0_pay1
  pointwise

/-- Column `b` of column block `q`. -/
def col (q : ℕ) (b : Fin 1024) : Fin 4096 := Fin.ofNat 4096 (1024 * q + b.val)

theorem col_val {q : ℕ} (hq : q < 4) (b : Fin 1024) : (col q b).val = 1024 * q + b.val :=
  Nat.mod_eq_of_lt (by omega)

theorem read0 (Y : Vec 𝕀 S16384x1024 .bf16) (t : Fin grid0.N) (k a : Fin 1024) :
    (((cfg0.win 0).blk t).view.read (Elt 𝕀) Y : Vec 𝕀 S1024x1024 .bf16) (ix2 k a) = Y (ix2 (row (t.val % 16) k) a) := by
  show Y ((win0_0.rect t).emb (ix2 (n0 := 1024) (n1 := 1024) k a)) = _
  refine congrArg Y (funext fun ax => Fin.ext ?_)
  rw [Window.rect_emb_val win0_0, index0]
  fin_cases ax
  · show t.val % 16 * 1024 + k.val = (row (t.val % 16) k).val
    rw [row_val (Nat.mod_lt _ (by norm_num))]; omega
  · show 0 * 1024 + a.val = a.val; omega

theorem read1 (Y : Vec 𝕀 S16384x4096 .bf16) (t : Fin grid0.N) (k b : Fin 1024) :
    (((cfg0.win 1).blk t).view.read (Elt 𝕀) Y : Vec 𝕀 S1024x1024 .bf16) (ix2 k b) = Y (ix2 (row (t.val % 16) k) (col (t.val / 16) b)) := by
  show Y ((win0_1.rect t).emb (ix2 (n0 := 1024) (n1 := 1024) k b)) = _
  refine congrArg Y (funext fun ax => Fin.ext ?_)
  have hN : grid0.N = 64 := N_0
  have ht := t.isLt
  rw [Window.rect_emb_val win0_1, index1]
  fin_cases ax
  · show t.val % 16 * 1024 + k.val = (row (t.val % 16) k).val
    rw [row_val (Nat.mod_lt _ (by norm_num))]; omega
  · show t.val / 16 * 1024 + b.val = (col (t.val / 16) b).val
    rw [col_val (by omega)]; omega

variable (m : (ℓ : Loc nD τ sig) → Buf (Elt 𝕀) ℓ) (c : Dev nD)

abbrev a0 : FVec 𝕀 S16384x1024 .f32 := m ((c : Thread nD τ).loc main_arg0)
abbrev a1 : FVec 𝕀 S16384x4096 .f32 := m ((c : Thread nD τ).loc main_arg1)

theorem V_0 : V m c main_v0 = truncf .bf16 (a0 m c) bitsLt_bf16_f32 := by
  unfold V
  simp only [hostOps0, List.flatten_cons, List.flatten_nil, List.append_nil, List.cons_append, List.nil_append]
  after_results_simp <;> rfl

theorem V_1 : V m c main_v1 = truncf .bf16 (a1 m c) bitsLt_bf16_f32 := by
  unfold V
  simp only [hostOps0, List.flatten_cons, List.flatten_nil, List.append_nil, List.cons_append, List.nil_append]
  after_results_simp <;> rfl

theorem iblk0 (t : Fin grid0.N) (k a : Fin 1024) :
    (iblk m c 0 t : Vec 𝕀 S1024x1024 .bf16) (ix2 k a) = a0 m c (ix2 (row (t.val % 16) k) a) :=
  (read0 (V m c main_v0) t k a).trans (by rw [V_0]; rfl)

theorem iblk1 (t : Fin grid0.N) (k b : Fin 1024) :
    (iblk m c 1 t : Vec 𝕀 S1024x1024 .bf16) (ix2 k b) = a1 m c (ix2 (row (t.val % 16) k) (col (t.val / 16) b)) :=
  (read1 (V m c main_v1) t k b).trans (by rw [V_1]; rfl)

/-- What grid point `n` adds. -/
def term (n : ℕ) (y : S1024x1024.Idx) : EReal :=
  ∑ k : Fin 1024, a0 m c (ix2 (row (n % 16) k) (y 0)) * a1 m c (ix2 (row (n % 16) k) (col (n / 16) (y 1)))

theorem step_apply (n : ℕ) (h : n < cfg0.N) (acc : Vec 𝕀 S1024x1024 .f32) (y : S1024x1024.Idx) :
    step2 m c n h acc y = acc y + term m c n y := by
  obtain ⟨a, b, rfl⟩ : ∃ a b, y = ix2 (n0 := 1024) (n1 := 1024) a b := ⟨_, _, ix2_eta y⟩
  unfold step2
  rw [pay_apply]
  simp only [iblk0, iblk1]
  rfl

theorem reset_apply (n : ℕ) (h : n < cfg0.N) (y : S1024x1024.Idx) :
    reset2 m c n h y = 0 + term m c n y := by
  obtain ⟨a, b, rfl⟩ : ∃ a b, y = ix2 (n0 := 1024) (n1 := 1024) a b := ⟨_, _, ix2_eta y⟩
  unfold reset2
  rw [pay_apply, pay_zero]
  simp only [iblk0, iblk1]
  rfl

theorem G_eq : G2 m c = G (a0 m c) (a1 m c) := by
  funext i
  have h0 : (i 0).val < 1024 := (i 0).isLt
  have h1 : (i 1).val < 4096 := (i 1).isLt
  have hN : cfg0.N = 64 := N_0
  have hr : run2Of i = (i 1).val / 1024 := by show 4 * ((i 0).val / 1024 - 0) + 1 * ((i 1).val / 1024 - 0) = _; omega
  unfold G2
  rw [dif_pos (by rw [hr, hN]; omega)]
  refine (Pipeline.accAt_add_apply (β := EReal) (ι := S1024x1024.Idx) (reset2 m c) (step2 m c) (fun _ => 0) (term m c) (16 * run2Of i) 15
    (fun h y => reset_apply m c _ h y) (fun n h acc y _ _ => step_apply m c n h acc y) 15 le_rfl _ _).trans ?_
  unfold G
  rw [sum_row, zero_add]
  refine Finset.sum_congr rfl fun s hs => ?_
  have hs' := Finset.mem_range.mp hs
  unfold term
  have e1 : (16 * run2Of i + s) % 16 = s := by omega
  have e2 : (16 * run2Of i + s) / 16 = (i 1).val / 1024 := by omega
  have e3 : (loc2Of i 0 : Fin 1024) = i 0 := Fin.ext (Nat.mod_eq_of_lt h0)
  have e4 : col ((i 1).val / 1024) (loc2Of i 1) = i 1 := Fin.ext ((col_val (by omega) _).trans (by
    show 1024 * ((i 1).val / 1024) + (i 1).val % 1024 = _; omega))
  rw [e1, e2, e3, e4]

end Kernel

section Reference

open Cert.Reference4Ideal Cert.Reference4Ideal.Read

theorem ref_eq (X : FVec 𝕀 S16384x1024 .f32) (U : FVec 𝕀 S16384x4096 .f32) : val_main_v3 (F := 𝕀) X U = G X U := by
  funext i
  obtain ⟨a, b, rfl⟩ : ∃ a b, i = ix2 (n0 := 1024) (n1 := 4096) a b := ⟨_, _, ix2_eta i⟩
  rw [val_main_v3_apply, val_main_v2_apply]
  unfold G
  refine Finset.sum_congr rfl fun k _ => ?_
  rw [mul_comm]
  congr 1 <;> refine congrArg _ (funext fun ax => ?_) <;> fin_cases ax <;> rfl

end Reference

attribute [local instance] Cert.Kernel4Ideal.Gen.facts Cert.Reference4Ideal.Gen.facts

/-- The two programs end with the same array. -/
theorem algebraic : Cert.algebraic_Kernel4Ideal_Reference4Ideal := fun m g m' g' _ hargs =>
  ⟨fun c => G (a0 m c) (a1 m c),
    (θ_run Cert.Kernel4Ideal.defs _ _).mono (fun _ h c => ⟨(h c).1.trans (G_eq m c), (h c).2⟩) (Cert.Kernel4Ideal.Value.run (F := 𝕀) m g),
    (θ_run Cert.Reference4Ideal.defs _ _).mono (fun _ h c => ⟨((h c).1.trans (Cert.Reference4Ideal.Read.val_main_v3_eq _ _)).trans (by
        rw [(hargs c).1, (hargs c).2]; exact ref_eq _ _), (h c).2⟩) (Cert.Reference4Ideal.Value.run (F := 𝕀) m' g')⟩

end Cert.Proof.Mlp.Up
end
-- ==== Proof.Norm.Row.lean ====
module

public import proofs.«01_k».proof.Proof.Val.Coe
public import proofs.«01_k».proof.Proof.Mlp.Sums

@[expose] public section

/-! # The gradient of one row's norm

A row `x` is divided by the root of its mean square plus a small number. The gradient that comes back to it, in the form in
which the kernel computes it and in the form in which differentiation step by step leaves it, is the same extended real for
every row and every incoming gradient: where the mean square is infinite both are zero. -/

noncomputable section

namespace Cert.Proof.Norm

open Idealize.ShloMosaic

/-- The words of the row's length and of the small number. -/
abbrev wLen : EReal := Ideal.ofBits .f32 0x44800000#32
@[inherit_doc wLen] abbrev wEps : EReal := Ideal.ofBits .f32 0x358637BD#32
/-- The word of minus one half. -/
abbrev wHalf : EReal := Ideal.ofBits .f32 0xBF000000#32

theorem wLen_eq : wLen = ((1024 : ℝ) : EReal) := by
  simp [wLen, Ideal.ofBits, Ideal.ieee, -EReal.coe_mul]
  norm_num

theorem wHalf_eq : wHalf = ((-(1 / 2) : ℝ) : EReal) := by
  simp [wHalf, Ideal.ofBits, Ideal.ieee, -EReal.coe_mul]
  norm_num

theorem wEps_pos : ∃ e : ℝ, 0 < e ∧ wEps = ((e : ℝ) : EReal) := by
  refine ⟨(8796093 : ℝ) * (2 : ℝ) ^ (-43 : ℤ), by positivity, ?_⟩
  simp [wEps, Ideal.ofBits, Ideal.ieee, -EReal.coe_mul]

/-- The mean square of a row, with the small number. -/
def ms (x : Fin 1024 → EReal) : EReal := Ideal.div (∑ k, x k * x k) wLen + wEps

/-- One over its root. -/
def invRoot (x : Fin 1024 → EReal) : EReal := Ideal.rsqrt (ms x)

/-- The kernel's form, `t` being the incoming gradient times the gain and `d` the residual's. -/
def kernelRow (x t : Fin 1024 → EReal) (d : EReal) (j : Fin 1024) : EReal :=
  invRoot x * (t j - x j * invRoot x * Ideal.div (∑ k, t k * (x k * invRoot x)) wLen) + d

/-- The coefficient of the row in the gradient. -/
def coef (x t : Fin 1024 → EReal) : EReal := Ideal.div ((∑ k, x k * t k) * (wHalf * Ideal.div (invRoot x) (ms x))) wLen

/-- Differentiation's form. -/
def refRow (x t : Fin 1024 → EReal) (d : EReal) (j : Fin 1024) : EReal :=
  d + t j * invRoot x + x j * coef x t + coef x t * x j

theorem wLen_ne : wLen ≠ 0 := by
  rw [wLen_eq]
  exact_mod_cast (by norm_num : (1024 : ℝ) ≠ 0)

theorem div_eq {a b : EReal} (h : b ≠ 0) : Ideal.div a b = a / b := by
  unfold Ideal.div
  rw [if_neg h, EReal.div_eq_inv_mul, mul_comm]

theorem mul_self_nonneg (a : EReal) : 0 ≤ a * a := by
  induction a with
  | bot => simp
  | top => simp
  | coe r => rw [← EReal.coe_mul]; exact_mod_cast _root_.mul_self_nonneg r

/-- The mean square is infinite, or a positive real. -/
theorem ms_cases (x : Fin 1024 → EReal) : ms x = ⊤ ∨ ∃ v : ℝ, 0 < v ∧ ms x = ((v : ℝ) : EReal) := by
  obtain ⟨e, he, hE⟩ := wEps_pos
  have hS : 0 ≤ ∑ k, x k * x k := Finset.sum_nonneg fun k _ => mul_self_nonneg _
  unfold ms
  rw [div_eq wLen_ne, hE, wLen_eq]
  generalize ∑ k, x k * x k = S at hS
  induction S with
  | bot => simp at hS
  | top => left; rw [EReal.top_div_of_pos_ne_top (by norm_num) (by simp)]; exact EReal.top_add_coe e
  | coe s =>
    right
    have hs : 0 ≤ s := by exact_mod_cast hS
    exact ⟨s / 1024 + e, by positivity, by rw [← EReal.coe_div, ← EReal.coe_add]⟩

theorem coe_mul_sum {ι : Type} (s : Finset ι) (r : ℝ) (hr : 0 ≤ r) (f : ι → EReal) : ((r : ℝ) : EReal) * ∑ k ∈ s, f k = ∑ k ∈ s, ((r : ℝ) : EReal) * f k := by
  classical
  induction s using Finset.induction_on with
  | empty => simp
  | insert a s ha ih =>
    rw [Finset.sum_insert ha, Finset.sum_insert ha, EReal.left_distrib_of_nonneg_of_ne_top (by exact_mod_cast hr) (EReal.coe_ne_top r), ih]

theorem two_mul_eq (a : EReal) : a + a = ((2 : ℝ) : EReal) * a := by
  have : ((2 : ℝ) : EReal) = 1 + 1 := by rw [← EReal.coe_one, ← EReal.coe_add]; norm_num
  rw [this, EReal.right_distrib_of_nonneg zero_le_one zero_le_one, one_mul]

theorem row_eq (x t : Fin 1024 → EReal) (d : EReal) (j : Fin 1024) : kernelRow x t d j = refRow x t d j := by
  have hms : ms x ≠ 0 := by
    rcases ms_cases x with h | ⟨v, hv, h⟩
    · rw [h]; exact EReal.top_ne_zero
    · rw [h]; exact_mod_cast hv.ne'
  unfold kernelRow refRow coef invRoot
  rw [div_eq wLen_ne, div_eq wLen_ne, div_eq hms]
  rcases ms_cases x with h | ⟨v, hv, h⟩
  · rw [h]; simp
  · have hr : Ideal.rsqrt (ms x) = (((Real.sqrt v)⁻¹ : ℝ) : EReal) := by
      rw [h, Ideal.rsqrt_coe, if_neg hv.le.not_gt, if_neg hv.ne']
    set ρ : ℝ := (Real.sqrt v)⁻¹ with hρ
    have hρ0 : 0 < ρ := inv_pos.mpr (Real.sqrt_pos.mpr hv)
    have hv' : ρ / v = ρ * ρ * ρ := by
      have h2 : Real.sqrt v * Real.sqrt v = v := Real.mul_self_sqrt hv.le
      have h3 : Real.sqrt v ≠ 0 := (Real.sqrt_pos.mpr hv).ne'
      rw [hρ]; field_simp; nlinarith [h2]
    have hs : ∑ k, t k * (x k * ((ρ : ℝ) : EReal)) = ((ρ : ℝ) : EReal) * ∑ k, x k * t k := by
      rw [coe_mul_sum _ _ hρ0.le]
      exact Finset.sum_congr rfl fun k _ => by rw [mul_comm (x k) (t k), mul_comm ((ρ : ℝ) : EReal), mul_assoc]
    rw [hr, h, hs, wLen_eq, wHalf_eq, ← EReal.coe_div, hv', ← EReal.coe_mul]
    generalize ∑ k, x k * t k = s
    generalize x j = a
    generalize t j = b
    have hd : ∀ y : EReal, y / ((1024 : ℝ) : EReal) = y * (((1024 : ℝ)⁻¹ : ℝ) : EReal) := fun y => by
      rw [EReal.div_eq_inv_mul, mul_comm, EReal.coe_inv]
    rw [hd, hd]
    have e : a * (s * ((-(1 / 2) * (ρ * ρ * ρ) : ℝ) : EReal) * (((1024 : ℝ)⁻¹ : ℝ) : EReal)) + s * ((-(1 / 2) * (ρ * ρ * ρ) : ℝ) : EReal) * (((1024 : ℝ)⁻¹ : ℝ) : EReal) * a
        = -(((ρ : ℝ) : EReal) * (a * ((ρ : ℝ) : EReal) * (((ρ : ℝ) : EReal) * s * (((1024 : ℝ)⁻¹ : ℝ) : EReal)))) := by
      have p1 : a * (s * ((-(1 / 2) * (ρ * ρ * ρ) : ℝ) : EReal) * (((1024 : ℝ)⁻¹ : ℝ) : EReal)) = ((-(1 / 2) * (ρ * ρ * ρ) * (1024 : ℝ)⁻¹ : ℝ) : EReal) * (a * s) := by
        rw [EReal.coe_mul _ ((1024 : ℝ)⁻¹)]; ac_rfl
      have p2 : s * ((-(1 / 2) * (ρ * ρ * ρ) : ℝ) : EReal) * (((1024 : ℝ)⁻¹ : ℝ) : EReal) * a = ((-(1 / 2) * (ρ * ρ * ρ) * (1024 : ℝ)⁻¹ : ℝ) : EReal) * (a * s) := by
        rw [EReal.coe_mul _ ((1024 : ℝ)⁻¹)]; ac_rfl
      have p3 : ((ρ : ℝ) : EReal) * (a * ((ρ : ℝ) : EReal) * (((ρ : ℝ) : EReal) * s * (((1024 : ℝ)⁻¹ : ℝ) : EReal))) = ((ρ * ρ * ρ * (1024 : ℝ)⁻¹ : ℝ) : EReal) * (a * s) := by
        rw [EReal.coe_mul _ ((1024 : ℝ)⁻¹), EReal.coe_mul _ ρ, EReal.coe_mul ρ ρ]; ac_rfl
      rw [p1, p2, p3, two_mul_eq, ← mul_assoc, ← EReal.coe_mul, ← EReal.neg_mul, ← EReal.coe_neg]
      congr 2; ring
    rw [add_assoc (d + _), e, sub_eq_add_neg, EReal.left_distrib_of_nonneg_of_ne_top (by exact_mod_cast hρ0.le) (EReal.coe_ne_top ρ), mul_neg,
      mul_comm ((ρ : ℝ) : EReal) b]
    generalize -(_ : EReal) = z
    ac_rfl

/-- Row `a` of row block `p`, of 512 rows. -/
def rowB (p : ℕ) (a : Fin 512) : Fin 16384 := Fin.ofNat 16384 (512 * p + a.val)

theorem rowB_val {p : ℕ} (hp : p < 32) (a : Fin 512) : (rowB p a).val = 512 * p + a.val :=
  Nat.mod_eq_of_lt (by omega)

/-- A sum over all rows, row block by row block. -/
theorem sum_rowB {β : Type} [AddCommMonoid β] (f : Fin 16384 → β) : ∑ x, f x = ∑ s ∈ Finset.range 32, ∑ k : Fin 512, f (rowB s k) := by
  rw [Finset.sum_range, ← Fintype.sum_prod_type' (f := fun (s : Fin 32) (k : Fin 512) => f (rowB s.val k))]
  refine (Equiv.sum_comp (finProdFinEquiv (m := 32) (n := 512)) f).symm.trans ?_
  refine Finset.sum_congr rfl fun x _ => congrArg f (Fin.ext ?_)
  rw [rowB_val x.1.isLt]
  show x.2.val + 512 * x.1.val = _
  omega

end Cert.Proof.Norm
end
-- ==== Proof.Mlp.UpX.lean ====
module

public import proofs.«01_k».proof.Defs
public import proofs.«01_k».proof.Proof.Mlp.Sums
public import proofs.«01_k».proof.Proof.Norm.Row
public import proofs.«01_k».proof.Proof.Gen.Kernel5Ideal.Value
public import proofs.«01_k».proof.Proof.Gen.Reference5Ideal.Run
public import proofs.«01_k».proof.Proof.Gen.Reference5Ideal.Read
public import Idealize.ShloMosaic.Lib.Pipeline.ValueKit.Geometry

@[expose] public section

/-! # The gradients of the second half's input and of its norm's gain -/

noncomputable section

namespace Cert.Proof.Mlp.UpX

open Idealize.ShloMosaic Idealize.ShloMosaic.TcCoe Idealize.SL.Sem
open Idealize.ShloMosaic.Pipeline (Window Dat)
open Cert.Proof.Norm

local notation "𝕀" => Idealize.ShloMosaic.Ideal

section Kernel

open Cert.Kernel5Ideal Cert.Kernel5Ideal.Gen Cert.Kernel5Ideal.Value

theorem hz : (![0, 0] : Fin 2 → Nat) = fun _ => 0 := funext fun a => by fin_cases a <;> rfl

theorem pay2_apply (x : Vec 𝕀 S512x4096 .bf16) (w : Vec 𝕀 S1024x4096 .bf16) (a : Fin 512) (b : Fin 1024) :
    k0_pay2 x w (ix2 a b) = ∑ k : Fin 4096, x (ix2 a k) * w (ix2 b k) := by
  unfold k0_pay2
  pointwise

theorem pay4_apply (h : Vec 𝕀 S512x1024 .f32) (a : Fin 512) :
    k0_pay4 h (ix2 a 0) = invRoot fun k => h (ix2 a k) := by
  unfold k0_pay4 invRoot ms
  pointwise

theorem pay5_apply (h : Vec 𝕀 S512x1024 .f32) (a : Fin 512) (b : Fin 1024) :
    k0_pay5 h (ix2 a b) = h (ix2 a b) * invRoot fun k => h (ix2 a k) := by
  rw [← pay4_apply]
  unfold k0_pay5
  generalize k0_pay4 h = y
  pointwise

theorem pay7_apply (x : Vec 𝕀 S512x4096 .bf16) (w : Vec 𝕀 S1024x4096 .bf16) (g : Vec 𝕀 S1x1024 .f32) (a : Fin 512) (b : Fin 1024) :
    k0_pay7 x w g (ix2 a b) = k0_pay2 x w (ix2 a b) * g (ix2 0 b) := by
  unfold k0_pay7
  generalize k0_pay2 x w = y
  pointwise

theorem pay8_apply (x : Vec 𝕀 S512x4096 .bf16) (w : Vec 𝕀 S1024x4096 .bf16) (h : Vec 𝕀 S512x1024 .f32) (g : Vec 𝕀 S1x1024 .f32) (a : Fin 512) :
    k0_pay8 x w h g (ix2 a 0) = Ideal.div (∑ k : Fin 1024, k0_pay7 x w g (ix2 a k) * k0_pay5 h (ix2 a k)) wLen := by
  unfold k0_pay8
  generalize k0_pay7 x w g = y
  generalize k0_pay5 h = z
  pointwise

theorem pay6_apply (x : Vec 𝕀 S512x4096 .bf16) (w : Vec 𝕀 S1024x4096 .bf16) (h : Vec 𝕀 S512x1024 .f32) (acc : Vec 𝕀 S1x1024 .f32) (b : Fin 1024) :
    k0_pay6 x w h acc (ix2 0 b) = acc (ix2 0 b) + ∑ k : Fin 512, k0_pay2 x w (ix2 k b) * k0_pay5 h (ix2 k b) := by
  unfold k0_pay6
  generalize k0_pay2 x w = y
  generalize k0_pay5 h = z
  pointwise

theorem pay3_apply (b : Fin 1024) : k0_pay3 (F := 𝕀) (ix2 0 b) = 0 := by
  unfold k0_pay3
  pointwise

theorem pay1_apply (p q : FVec 𝕀 S512x1 .f32) (u v d : FVec 𝕀 S512x1024 .f32) (a : Fin 512) (b : Fin 1024) :
    k0_pay1 p u v q d (ix2 a b) = p (ix2 a 0) * (v (ix2 a b) - u (ix2 a b) * q (ix2 a 0)) + d (ix2 a b) := by
  unfold k0_pay1
  pointwise

/-- What a row block's point writes to its block of the input's gradient. -/
abbrev dxB {F : FTy → Type} [FloatOps F] (x0 : Vec F S512x4096 .bf16) (x1 : Vec F S1024x4096 .bf16) (x2 : Vec F S512x1024 .f32) (x3 : Vec F S1x1024 .f32) (x4 : Vec F S512x1024 .f32) : Vec F S512x1024 .f32 :=
  k0_pay1 (k0_pay4 x2) (k0_pay5 x2) (k0_pay7 x0 x1 x3) (k0_pay8 x0 x1 x2 x3) x4

section Bodies

variable {F : FTy → Type} [FloatOps F]

variable (c : Dev nD) (i : grid0.Coords)
  (arg2 : Memref sig .tc .vmem S512x4096 .bf16) (harg2 : arg2.IsWhole)
  (arg3 : Memref sig .tc .vmem S1024x4096 .bf16) (harg3 : arg3.IsWhole)
  (arg4 : Memref sig .tc .vmem S512x1024 .f32) (harg4 : arg4.IsWhole)
  (arg5 : Memref sig .tc .vmem S1x1024 .f32) (harg5 : arg5.IsWhole)
  (arg6 : Memref sig .tc .vmem S512x1024 .f32) (harg6 : arg6.IsWhole)
  (arg7 : Memref sig .tc .vmem S512x1024 .f32) (harg7 : arg7.IsWhole)
  (arg8 : Memref sig .tc .vmem S1x1024 .f32) (harg8 : arg8.IsWhole)
  (x0 : Vec F S512x4096 .bf16) (x1 : Vec F S1024x4096 .bf16) (x2 : Vec F S512x1024 .f32) (x3 : Vec F S1x1024 .f32) (x4 : Vec F S512x1024 .f32) (xo6 : Vec F S1x1024 .f32)

theorem out_A_5 (hc0 : cond0_0 i) : out0_A_5 c i arg2 harg2 arg3 harg3 arg4 harg4 arg5 harg5 arg6 harg6 arg7 harg7 arg8 harg8 hc0 x0 x1 x2 x3 x4 = dxB x0 x1 x2 x3 x4 := by
  unfold out0_A_5
  rw [View.read_writes_eq_canon _ _ _ (cover0_A_5 c i arg2 harg2 arg3 harg3 arg4 harg4 arg5 harg5 arg6 harg6 arg7 harg7 arg8 harg8 hc0 x0 x1 x2 x3 x4)]
  unfold kernelRun0_A
  dsimp only
  try sl_unfold_words
  rw [View.canon_unit_zero hz]
  simp only [View.readAt_eq_ld, harg2.read_unread, harg3.read_unread, harg4.read_unread, harg5.read_unread, harg6.read_unread, harg7.read_unread, harg8.read_unread,
    View.ld_unit_zero (S := S512x4096) hz, View.ld_unit_zero (S := S1024x4096) hz, View.ld_unit_zero (S := S512x1024) hz, View.ld_unit_zero (S := S1x1024) hz, shapeCast_self]

theorem out_B_5 (hc0 : ¬cond0_0 i) : out0_B_5 c i arg2 harg2 arg3 harg3 arg4 harg4 arg5 harg5 arg6 harg6 arg7 harg7 arg8 harg8 hc0 x0 x1 x2 x3 x4 xo6 = dxB x0 x1 x2 x3 x4 := by
  unfold out0_B_5
  rw [View.read_writes_eq_canon _ _ _ (cover0_B_5 c i arg2 harg2 arg3 harg3 arg4 harg4 arg5 harg5 arg6 harg6 arg7 harg7 arg8 harg8 hc0 x0 x1 x2 x3 x4 xo6)]
  unfold kernelRun0_B
  dsimp only
  try sl_unfold_words
  rw [View.canon_unit_zero hz]
  simp only [View.readAt_eq_ld, harg2.read_unread, harg3.read_unread, harg4.read_unread, harg5.read_unread, harg6.read_unread, harg7.read_unread, harg8.read_unread,
    View.ld_unit_zero (S := S512x4096) hz, View.ld_unit_zero (S := S1024x4096) hz, View.ld_unit_zero (S := S512x1024) hz, View.ld_unit_zero (S := S1x1024) hz, shapeCast_self]

theorem out_A_6 (hc0 : cond0_0 i) : out0_A_6 c i arg2 harg2 arg3 harg3 arg4 harg4 arg5 harg5 arg6 harg6 arg7 harg7 arg8 harg8 hc0 x0 x1 x2 x3 x4 = k0_pay6 x0 x1 x2 (k0_pay3 (F := F)) := by
  unfold out0_A_6
  rw [View.read_writes_eq_canon _ _ _ (cover0_A_6 c i arg2 harg2 arg3 harg3 arg4 harg4 arg5 harg5 arg6 harg6 arg7 harg7 arg8 harg8 hc0 x0 x1 x2 x3 x4)]
  unfold kernelRun0_A
  dsimp only
  try sl_unfold_words
  rw [View.canon_cons_unit_zero (S := S1x1024) hz, View.readCov_unit_zero (S := S1x1024) _ hz]
  simp only [View.readAt_eq_ld, harg2.read_unread, harg3.read_unread, harg4.read_unread, harg5.read_unread, harg6.read_unread, harg7.read_unread, harg8.read_unread,
    View.ld_unit_zero (S := S512x4096) hz, View.ld_unit_zero (S := S1024x4096) hz, View.ld_unit_zero (S := S512x1024) hz, View.ld_unit_zero (S := S1x1024) hz, shapeCast_self]

theorem out_B_6 (hc0 : ¬cond0_0 i) : out0_B_6 c i arg2 harg2 arg3 harg3 arg4 harg4 arg5 harg5 arg6 harg6 arg7 harg7 arg8 harg8 hc0 x0 x1 x2 x3 x4 xo6 = k0_pay6 x0 x1 x2 xo6 := by
  unfold out0_B_6
  rw [View.read_writes_eq_canon _ _ _ (cover0_B_6 c i arg2 harg2 arg3 harg3 arg4 harg4 arg5 harg5 arg6 harg6 arg7 harg7 arg8 harg8 hc0 x0 x1 x2 x3 x4 xo6)]
  unfold kernelRun0_B
  dsimp only
  try sl_unfold_words
  rw [View.canon_unit_zero hz]
  simp only [View.readAt_eq_ld, harg2.read_unread, harg3.read_unread, harg4.read_unread, harg5.read_unread, harg6.read_unread, harg7.read_unread, harg8.read_unread,
    View.ld_unit_zero (S := S512x4096) hz, View.ld_unit_zero (S := S1024x4096) hz, View.ld_unit_zero (S := S512x1024) hz, View.ld_unit_zero (S := S1x1024) hz, shapeCast_self]

end Bodies

section Outs

variable {F : FTy → Type} [FloatOps F] (m : (ℓ : Loc nD τ sig) → Buf (Elt F) ℓ) (c : Dev nD)

theorem outs5 (t : Fin cfg0.N) : (outsAt0 m c t.val t.isLt).1 = dxB (iblk m c 0 t) (iblk m c 1 t) (iblk m c 2 t) (iblk m c 3 t) (iblk m c 4 t) := by
  by_cases h0 : t.val % 32 = 0
  · rw [outsAt0_A m c t h0]; dsimp only; rw [out_A_5]
  · rw [outsAt0_B m c t h0]; dsimp only; rw [out_B_5]

/-- What the first point leaves of the gain's gradient, and what every later one makes of what it finds. -/
def reset (n : ℕ) (h : n < cfg0.N) : Vec F S1x1024 .f32 :=
  k0_pay6 (iblk m c 0 ⟨n, h⟩) (iblk m c 1 ⟨n, h⟩) (iblk m c 2 ⟨n, h⟩) (k0_pay3 (F := F))
@[inherit_doc reset] def step (n : ℕ) (h : n < cfg0.N) (acc : Vec F S1x1024 .f32) : Vec F S1x1024 .f32 :=
  k0_pay6 (iblk m c 0 ⟨n, h⟩) (iblk m c 1 ⟨n, h⟩) (iblk m c 2 ⟨n, h⟩) acc

theorem outs6 (t : Fin cfg0.N) :
    (outsAt0 m c t.val t.isLt).2 = Pipeline.accAt (reset m c) (step m c) (32 * (t.val / 32)) (t.val % 32)
      (by have h1 := t.isLt; have h2 := Nat.div_add_mod t.val 32; omega) :=
  Pipeline.eq_accAt_of_mod (fun n h => (outsAt0 m c n h).2) 32 (reset m c) (step m c)
    (fun n h hn => by
      rw [outsAt0_A m c ⟨n, h⟩ hn]; dsimp only; rw [out_A_6]; rfl)
    (fun n h hn => by
      rw [outsAt0_B m c ⟨n + 1, h⟩ hn]; dsimp only; rw [out_B_6]; rfl)
    (by decide) t.val t.isLt _

end Outs

theorem index0 : ∀ t : Fin grid0.N, win0_0.index t = ![t.val, 0] := by decide +kernel
theorem index1 : ∀ t : Fin grid0.N, win0_1.index t = ![0, 0] := by decide +kernel
theorem index2 : ∀ t : Fin grid0.N, win0_2.index t = ![t.val, 0] := by decide +kernel
theorem index3 : ∀ t : Fin grid0.N, win0_3.index t = ![0, 0] := by decide +kernel
theorem index4 : ∀ t : Fin grid0.N, win0_4.index t = ![t.val, 0] := by decide +kernel
theorem index5 : ∀ t : Fin grid0.N, win0_5.index t = ![t.val, 0] := by decide +kernel
theorem index6 : ∀ t : Fin grid0.N, win0_6.index t = ![0, 0] := by decide +kernel

theorem point_lt (t : Fin grid0.N) : t.val < 32 := by
  have hN : grid0.N = 32 := N_0
  have ht := t.isLt
  omega

theorem row_at (t : Fin grid0.N) (a : Fin 512) : t.val * 512 + a.val = (rowB t.val a).val := by
  rw [rowB_val (point_lt t)]; omega

theorem col_at {n : ℕ} (b : Fin n) : 0 * n + b.val = b.val := by omega

theorem emb0 (t : Fin grid0.N) (a : Fin 512) (k : Fin 4096) :
    ((win0_0.rect t).emb (ix2 (n0 := 512) (n1 := 4096) a k) : S16384x4096.Idx) = ix2 (rowB t.val a) k := by
  refine funext fun ax => Fin.ext ?_
  rw [Window.rect_emb_val win0_0, index0]
  fin_cases ax
  · exact row_at t a
  · exact col_at k

theorem emb1 (t : Fin grid0.N) (b : Fin 1024) (k : Fin 4096) :
    ((win0_1.rect t).emb (ix2 (n0 := 1024) (n1 := 4096) b k) : S1024x4096.Idx) = ix2 b k := by
  refine funext fun ax => Fin.ext ?_
  rw [Window.rect_emb_val win0_1, index1]
  fin_cases ax
  · exact col_at b
  · exact col_at k

theorem emb2 (t : Fin grid0.N) (a : Fin 512) (b : Fin 1024) :
    ((win0_2.rect t).emb (ix2 (n0 := 512) (n1 := 1024) a b) : S16384x1024.Idx) = ix2 (rowB t.val a) b := by
  refine funext fun ax => Fin.ext ?_
  rw [Window.rect_emb_val win0_2, index2]
  fin_cases ax
  · exact row_at t a
  · exact col_at b

theorem emb3 (t : Fin grid0.N) (b : Fin 1024) :
    ((win0_3.rect t).emb (ix2 (n0 := 1) (n1 := 1024) 0 b) : S1x1024.Idx) = ix2 0 b := by
  refine funext fun ax => Fin.ext ?_
  rw [Window.rect_emb_val win0_3, index3]
  fin_cases ax
  · exact col_at (0 : Fin 1)
  · exact col_at b

theorem emb4 (t : Fin grid0.N) (a : Fin 512) (b : Fin 1024) :
    ((win0_4.rect t).emb (ix2 (n0 := 512) (n1 := 1024) a b) : S16384x1024.Idx) = ix2 (rowB t.val a) b := by
  refine funext fun ax => Fin.ext ?_
  rw [Window.rect_emb_val win0_4, index4]
  fin_cases ax
  · exact row_at t a
  · exact col_at b

theorem emb5 (t : Fin grid0.N) (a : Fin 512) (b : Fin 1024) :
    ((win0_5.rect t).emb (ix2 (n0 := 512) (n1 := 1024) a b) : S16384x1024.Idx) = ix2 (rowB t.val a) b := by
  refine funext fun ax => Fin.ext ?_
  rw [Window.rect_emb_val win0_5, index5]
  fin_cases ax
  · exact row_at t a
  · exact col_at b

theorem emb6 (t : Fin grid0.N) (b : Fin 1024) :
    ((win0_6.rect t).emb (ix2 (n0 := 1) (n1 := 1024) 0 b) : S1x1024.Idx) = ix2 0 b := by
  refine funext fun ax => Fin.ext ?_
  rw [Window.rect_emb_val win0_6, index6]
  fin_cases ax
  · exact col_at (0 : Fin 1)
  · exact col_at b

/-- The incoming gradient through the weight, which has `n` columns. -/
def D {n : ℕ} (W : FVec 𝕀 ⟨2, ![1024, n]⟩ .f32) (U : FVec 𝕀 ⟨2, ![16384, n]⟩ .f32) (r : Fin 16384) (k : Fin 1024) : EReal :=
  ∑ l : Fin n, U (ix2 r l) * W (ix2 k l)

/-- A row of the input. -/
abbrev rowOf (X : FVec 𝕀 S16384x1024 .f32) (r : Fin 16384) : Fin 1024 → EReal := fun k => X (ix2 r k)

/-- What both programs compute: the gradient of the norm's input, and of its gain. -/
def GX {n : ℕ} (X : FVec 𝕀 S16384x1024 .f32) (g : FVec 𝕀 S1024 .f32) (W : FVec 𝕀 ⟨2, ![1024, n]⟩ .f32) (U : FVec 𝕀 ⟨2, ![16384, n]⟩ .f32) (H : FVec 𝕀 S16384x1024 .f32) : FVec 𝕀 S16384x1024 .f32 := fun i =>
  kernelRow (rowOf X (i 0)) (fun k => D W U (i 0) k * g (ix1 k)) (H i) (i 1)
@[inherit_doc GX] def GG {n : ℕ} (X : FVec 𝕀 S16384x1024 .f32) (W : FVec 𝕀 ⟨2, ![1024, n]⟩ .f32) (U : FVec 𝕀 ⟨2, ![16384, n]⟩ .f32) : FVec 𝕀 S1x1024 .f32 := fun i =>
  ∑ r : Fin 16384, D W U r (i 1) * (X (ix2 r (i 1)) * invRoot (rowOf X r))

variable (m : (ℓ : Loc nD τ sig) → Buf (Elt 𝕀) ℓ) (c : Dev nD)

abbrev a0 : FVec 𝕀 S16384x1024 .f32 := m ((c : Thread nD τ).loc main_arg0)
abbrev a1 : FVec 𝕀 S1024 .f32 := m ((c : Thread nD τ).loc main_arg1)
abbrev a2 : FVec 𝕀 S1024x4096 .f32 := m ((c : Thread nD τ).loc main_arg2)
abbrev a3 : FVec 𝕀 S16384x4096 .f32 := m ((c : Thread nD τ).loc main_arg3)
abbrev a4 : FVec 𝕀 S16384x1024 .f32 := m ((c : Thread nD τ).loc main_arg4)

theorem V_0 : V m c main_v0 = truncf .bf16 (a3 m c) bitsLt_bf16_f32 := by
  unfold V
  simp only [hostOps0, List.flatten_cons, List.flatten_nil, List.append_nil, List.cons_append, List.nil_append]
  after_results_simp <;> rfl

theorem V_1 : V m c main_v1 = truncf .bf16 (a2 m c) bitsLt_bf16_f32 := by
  unfold V
  simp only [hostOps0, List.flatten_cons, List.flatten_nil, List.append_nil, List.cons_append, List.nil_append]
  after_results_simp <;> rfl

theorem V_2 : V m c main_v2 = shapeCast _ (a1 m c) shapeCasts_S1024_S1x1024 := by
  unfold V
  simp only [hostOps0, List.flatten_cons, List.flatten_nil, List.append_nil, List.cons_append, List.nil_append]
  after_results_simp <;> rfl

theorem gain_apply (g : FVec 𝕀 S1024 .f32) (b : Fin 1024) :
    (shapeCast _ g shapeCasts_S1024_S1x1024 : FVec 𝕀 S1x1024 .f32) (ix2 0 b) = g (ix1 b) := by
  pointwise

theorem iblk0 (t : Fin grid0.N) (a : Fin 512) (k : Fin 4096) :
    (iblk m c 0 t : Vec 𝕀 S512x4096 .bf16) (ix2 a k) = a3 m c (ix2 (rowB t.val a) k) :=
  (congrArg (V m c main_v0 : Vec 𝕀 S16384x4096 .bf16) (emb0 t a k)).trans (by rw [V_0]; rfl)

theorem iblk1 (t : Fin grid0.N) (b : Fin 1024) (k : Fin 4096) :
    (iblk m c 1 t : Vec 𝕀 S1024x4096 .bf16) (ix2 b k) = a2 m c (ix2 b k) :=
  (congrArg (V m c main_v1 : Vec 𝕀 S1024x4096 .bf16) (emb1 t b k)).trans (by rw [V_1]; rfl)

theorem iblk2 (t : Fin grid0.N) (a : Fin 512) (b : Fin 1024) :
    (iblk m c 2 t : Vec 𝕀 S512x1024 .f32) (ix2 a b) = a0 m c (ix2 (rowB t.val a) b) :=
  (congrArg (V m c main_arg0 : Vec 𝕀 S16384x1024 .f32) (emb2 t a b)).trans (by rw [V_main_arg0])

theorem iblk3 (t : Fin grid0.N) (b : Fin 1024) :
    (iblk m c 3 t : Vec 𝕀 S1x1024 .f32) (ix2 0 b) = a1 m c (ix1 b) :=
  (congrArg (V m c main_v2 : Vec 𝕀 S1x1024 .f32) (emb3 t b)).trans (by rw [V_2]; exact gain_apply _ _)

theorem iblk4 (t : Fin grid0.N) (a : Fin 512) (b : Fin 1024) :
    (iblk m c 4 t : Vec 𝕀 S512x1024 .f32) (ix2 a b) = a4 m c (ix2 (rowB t.val a) b) :=
  (congrArg (V m c main_arg4 : Vec 𝕀 S16384x1024 .f32) (emb4 t a b)).trans (by rw [V_main_arg4])

theorem dx_apply (t : Fin grid0.N) (a : Fin 512) (b : Fin 1024) :
    dxB (iblk m c 0 t) (iblk m c 1 t) (iblk m c 2 t) (iblk m c 3 t) (iblk m c 4 t) (ix2 a b)
      = GX (a0 m c) (a1 m c) (a2 m c) (a3 m c) (a4 m c) (ix2 (rowB t.val a) b) := by
  unfold dxB
  rw [pay1_apply, pay4_apply, pay5_apply, pay8_apply]
  simp only [pay7_apply, pay5_apply, pay2_apply, iblk0, iblk1, iblk2, iblk3, iblk4]
  rfl

theorem after5 (t : Fin cfg0.N) :
    ((dats m 0 c).after 5 t : Vec 𝕀 S512x1024 .f32) = dxB (iblk m c 0 t) (iblk m c 1 t) (iblk m c 2 t) (iblk m c 3 t) (iblk m c 4 t) :=
  (after0_5 m c t).trans (outs5 m c t)

/-- If a block holds `Z`'s values, it is that block of the array. -/
theorem rows5 (Y : Vec 𝕀 S512x1024 .f32) (Z : FVec 𝕀 S16384x1024 .f32) (t : Fin grid0.N)
    (h : ∀ a b, Y (ix2 a b) = Z (ix2 (rowB t.val a) b)) (y : S512x1024.Idx) : Y y = Z ((win0_5.rect t).emb y) := by
  obtain ⟨a, b, rfl⟩ : ∃ a b, y = ix2 (n0 := 512) (n1 := 1024) a b := ⟨_, _, ix2_eta y⟩
  rw [h, congrArg Z (emb5 t a b)]

theorem covers5 : win0_5.Covers := by decide +kernel

theorem final5 : (dats m 0 c).arrAt 5 cfg0.N = GX (a0 m c) (a1 m c) (a2 m c) (a3 m c) (a4 m c) := by
  refine (dats m 0 c).arrAt_eq_of_covers 5 _ covers5 fun t _ y => ?_
  have e := rows5 ((dats m 0 c).after 5 t) (GX (a0 m c) (a1 m c) (a2 m c) (a3 m c) (a4 m c)) t (fun a b => by rw [after5]; exact dx_apply m c t a b)
  exact e y

/-- What grid point `n` adds. -/
def term (n : ℕ) (y : S1x1024.Idx) : EReal :=
  ∑ k : Fin 512, D (a2 m c) (a3 m c) (rowB n k) (y 1) * (a0 m c (ix2 (rowB n k) (y 1)) * invRoot (rowOf (a0 m c) (rowB n k)))

theorem step_apply (n : ℕ) (h : n < cfg0.N) (acc : Vec 𝕀 S1x1024 .f32) (y : S1x1024.Idx) : step m c n h acc y = acc y + term m c n y := by
  obtain ⟨b, rfl⟩ : ∃ b, y = ix2 (n0 := 1) (n1 := 1024) 0 b := ⟨y 1, (ix2_eta y).trans (congrArg (ix2 · (y 1)) (Subsingleton.elim (α := Fin 1) _ _))⟩
  unfold step
  rw [pay6_apply]
  simp only [pay5_apply, pay2_apply, iblk0, iblk1, iblk2]
  rfl

theorem reset_apply (n : ℕ) (h : n < cfg0.N) (y : S1x1024.Idx) : reset m c n h y = 0 + term m c n y := by
  refine (step_apply m c n h (k0_pay3 (F := 𝕀)) y).trans (congrArg (· + _) ?_)
  rw [ix2_eta y]
  exact (congrArg (fun z => k0_pay3 (F := 𝕀) (ix2 z (y 1))) (Subsingleton.elim (α := Fin 1) (y 0) 0)).trans (pay3_apply _)

theorem acc_eq (s j : ℕ) (hs : s = 0) (hj : j = 31) (h : s + j < cfg0.N) : Pipeline.accAt (reset m c) (step m c) s j h = GG (a0 m c) (a2 m c) (a3 m c) := by
  subst hs hj
  funext y
  refine (Pipeline.accAt_add_apply (β := EReal) (ι := S1x1024.Idx) (reset m c) (step m c) (fun _ => 0) (term m c) 0 31
    (fun h y => reset_apply m c _ h y) (fun n h acc y _ _ => step_apply m c n h acc y) 31 le_rfl _ _).trans ?_
  unfold GG
  rw [sum_rowB, zero_add]
  refine Finset.sum_congr rfl fun s _ => ?_
  rw [zero_add]
  rfl

theorem last6 : ∀ t : Fin grid0.N, win0_6.flush t = true → t.val = 31 := by decide +kernel

theorem after6 (t : Fin cfg0.N) (h : t.val = 31) : ((dats m 0 c).after 6 t : Vec 𝕀 S1x1024 .f32) = GG (a0 m c) (a2 m c) (a3 m c) :=
  (after0_6 m c t).trans ((outs6 m c t).trans (acc_eq m c _ _ (by omega) (by omega) _))

theorem rows6 (Y Z : FVec 𝕀 S1x1024 .f32) (t : Fin grid0.N) (h : Y = Z) (y : S1x1024.Idx) : Y y = Z ((win0_6.rect t).emb y) := by
  obtain ⟨b, rfl⟩ : ∃ b, y = ix2 (n0 := 1) (n1 := 1024) 0 b := ⟨y 1, (ix2_eta y).trans (congrArg (ix2 · (y 1)) (Subsingleton.elim (α := Fin 1) _ _))⟩
  rw [h, congrArg Z (emb6 t b)]

theorem covers6 : win0_6.Covers := by decide +kernel

theorem final6 : (dats m 0 c).arrAt 6 cfg0.N = GG (a0 m c) (a2 m c) (a3 m c) := by
  refine (dats m 0 c).arrAt_eq_of_covers 6 _ covers6 fun t hf y => ?_
  have e := rows6 ((dats m 0 c).after 6 t) (GG (a0 m c) (a2 m c) (a3 m c)) t (after6 m c t (last6 t hf))
  exact e y

end Kernel

section Reference

open Cert.Reference5Ideal Cert.Reference5Ideal.Read

variable (X : FVec 𝕀 S16384x1024 .f32) (g : FVec 𝕀 S1024 .f32) (W : FVec 𝕀 S1024x4096 .f32) (U : FVec 𝕀 S16384x4096 .f32) (H : FVec 𝕀 S16384x1024 .f32)

theorem ref_dot (a : Fin 16384) (b : Fin 1024) : val_main_v17 (F := 𝕀) W U (ix2 a b) = D W U a b := by
  rw [val_main_v17_apply]
  refine Finset.sum_congr rfl fun k _ => ?_
  congr 1 <;> refine congrArg _ (funext fun ax => ?_) <;> fin_cases ax <;> rfl

theorem ref_ms (a : Fin 16384) : val_main_v6 (F := 𝕀) X (ix2 a 0) = ms (rowOf X a) := by
  unfold val_main_v6 val_main_v4 ms
  pointwise [val_main_v2, val_main_v1, val_main_v0, val_main_v3, val_main_v5, val_main_cst, val_main_cst_0, val_main_cst_1]

theorem ref_inv (a : Fin 16384) : val_main_v7 (F := 𝕀) X (ix2 a 0) = invRoot (rowOf X a) := by
  unfold val_main_v7 invRoot
  rw [← ref_ms]
  rfl

theorem ref_up (a : Fin 16384) (b : Fin 1024) : val_main_v22 (F := 𝕀) g W U (ix2 a b) = D W U a b * g (ix1 b) := by
  rw [← ref_dot]
  unfold val_main_v22
  generalize val_main_v17 (F := 𝕀) W U = y
  pointwise [val_main_v21, val_main_v13]

theorem ref_coef (a : Fin 16384) (b : Fin 1024) :
    val_main_v34 (F := 𝕀) X g W U (ix2 a b) = coef (rowOf X a) (fun k => D W U a k * g (ix1 k)) := by
  unfold coef
  simp only [← ref_up, ← ref_inv, ← ref_ms]
  unfold val_main_v34 val_main_v33 val_main_v32 val_main_v30 val_main_v26 val_main_v25 val_main_v24 val_main_v10 val_main_v8
  generalize val_main_v22 (F := 𝕀) g W U = y
  generalize val_main_v7 (F := 𝕀) X = z
  generalize val_main_v6 (F := 𝕀) X = w
  pointwise [val_main_v9, val_main_v31, val_main_cst_2, val_main_cst_5, val_main_cst_6, val_main_cst_7]
  rw [Fin.sum_univ_one]

theorem ref_dx : val_main_v38 (F := 𝕀) X g W U H = GX X g W U H := by
  funext i
  obtain ⟨a, b, rfl⟩ : ∃ a b, i = ix2 (n0 := 16384) (n1 := 1024) a b := ⟨_, _, ix2_eta i⟩
  refine Eq.trans ?_ (row_eq (rowOf X a) (fun k => D W U a k * g (ix1 k)) (H (ix2 a b)) b).symm
  show _ = H (ix2 a b) + D W U a b * g (ix1 b) * invRoot (rowOf X a) + X (ix2 a b) * coef (rowOf X a) (fun k => D W U a k * g (ix1 k))
    + coef (rowOf X a) (fun k => D W U a k * g (ix1 k)) * X (ix2 a b)
  rw [← ref_coef X g W U a b, ← ref_up, ← ref_inv]
  unfold val_main_v38 val_main_v37 val_main_v36 val_main_v35 val_main_v29 val_main_v28
  generalize val_main_v34 (F := 𝕀) X g W U = y
  generalize val_main_v22 (F := 𝕀) g W U = z
  unfold val_main_v27
  generalize val_main_v7 (F := 𝕀) X = w
  pointwise

theorem ref_dg : val_main_v39 (F := 𝕀) X W U = GG X W U := by
  funext i
  obtain ⟨b, rfl⟩ : ∃ b, i = ix2 (n0 := 1) (n1 := 1024) 0 b := ⟨i 1, (ix2_eta i).trans (congrArg (ix2 · (i 1)) (Subsingleton.elim (α := Fin 1) _ _))⟩
  show _ = ∑ r : Fin 16384, D W U r b * (X (ix2 r b) * invRoot (rowOf X r))
  simp only [← ref_dot, ← ref_inv]
  unfold val_main_v39 val_main_v23 val_main_v20 val_main_v19 val_main_v18 val_main_v12 val_main_v11
  generalize val_main_v17 (F := 𝕀) W U = y
  generalize val_main_v7 (F := 𝕀) X = z
  simp only [mul_comm (y _)]
  pointwise [val_main_cst_3, val_main_cst_4]
  rw [Fin.sum_univ_one]

end Reference

attribute [local instance] Cert.Kernel5Ideal.Gen.facts Cert.Reference5Ideal.Gen.facts

/-- The two programs end with the same two arrays. -/
theorem algebraic : Cert.algebraic_Kernel5Ideal_Reference5Ideal := fun m g m' g' _ hargs =>
  ⟨fun c => GX (a0 m c) (a1 m c) (a2 m c) (a3 m c) (a4 m c), fun c => GG (a0 m c) (a2 m c) (a3 m c),
    (θ_run Cert.Kernel5Ideal.defs _ _).mono (fun _ h c => ⟨(h c).1.trans (final5 m c), (h c).2.1.trans (final6 m c), (h c).2.2⟩) (Cert.Kernel5Ideal.Value.run_blocks (F := 𝕀) m g),
    (θ_run Cert.Reference5Ideal.defs _ _).mono (fun _ h c => ⟨((h c).1.trans (Cert.Reference5Ideal.Read.val_main_v38_eq _ _)).trans (by
        rw [(hargs c).1, (hargs c).2.1, (hargs c).2.2.1, (hargs c).2.2.2.1, (hargs c).2.2.2.2]; exact ref_dx _ _ _ _ _),
      ((h c).2.1.trans (Cert.Reference5Ideal.Read.val_main_v39_eq _ _ _)).trans (by
        rw [(hargs c).1, (hargs c).2.2.1, (hargs c).2.2.2.1]; exact ref_dg _ _ _), (h c).2.2⟩) (Cert.Reference5Ideal.Value.run (F := 𝕀) m' g')⟩

end Cert.Proof.Mlp.UpX
end
-- ==== Proof.Mlp.UpFwd.lean ====
module

public import proofs.«01_k».proof.Defs
public import proofs.«01_k».proof.Proof.Mlp.DownX
public import proofs.«01_k».proof.Proof.Val.Consts
public import proofs.«01_k».proof.Proof.Gen.Kernel6Ideal.Value
public import proofs.«01_k».proof.Proof.Gen.Reference6Ideal.Run
public import proofs.«01_k».proof.Proof.Gen.Reference6Ideal.Read
public import Idealize.ShloMosaic.Lib.Pipeline.ValueKit.Geometry

@[expose] public section

/-! # The MLP's first product, with its activation and the activation's slope -/

noncomputable section

namespace Cert.Proof.Mlp.UpFwd

open Idealize.ShloMosaic Idealize.ShloMosaic.TcCoe Idealize.SL.Sem
open Idealize.ShloMosaic.Pipeline (Window Dat)
open DownX (rowB colB rowB_val colB_val slope ofBits_two hz)

local notation "𝕀" => Idealize.ShloMosaic.Ideal

section Kernel

open Cert.Kernel6Ideal Cert.Kernel6Ideal.Gen Cert.Kernel6Ideal.Value

/-- The hidden values before the activation. -/
def U (X : FVec 𝕀 S16384x1024 .f32) (W : FVec 𝕀 S1024x4096 .f32) (a : Fin 16384) (b : Fin 4096) : EReal :=
  ∑ k : Fin 1024, X (ix2 a k) * W (ix2 k b)

/-- What both programs compute first: the activation. -/
def GA (X : FVec 𝕀 S16384x1024 .f32) (W : FVec 𝕀 S1024x4096 .f32) : FVec 𝕀 S16384x4096 .bf16 := fun i =>
  max (U X W (i 0) (i 1)) 0 * max (U X W (i 0) (i 1)) 0

/-- What both programs compute second: the activation's slope. -/
def GS (X : FVec 𝕀 S16384x1024 .f32) (W : FVec 𝕀 S1024x4096 .f32) : FVec 𝕀 S16384x4096 .bf16 := fun i =>
  2 * max (U X W (i 0) (i 1)) 0

theorem index0 : ∀ t : Fin grid0.N, win0_0.index t = ![t.val / 8, 0] := by decide +kernel
theorem index1 : ∀ t : Fin grid0.N, win0_1.index t = ![0, t.val % 8] := by decide +kernel
theorem index2 : ∀ t : Fin grid0.N, win0_2.index t = ![t.val / 8, t.val % 8] := by decide +kernel
theorem index3 : ∀ t : Fin grid0.N, win0_3.index t = ![t.val / 8, t.val % 8] := by decide +kernel

theorem pay_pos (x : Vec 𝕀 S2048x1024 .bf16) (w : Vec 𝕀 S1024x512 .bf16) (a : Fin 2048) (b : Fin 512) :
    k0_pay1 x w (ix2 a b) = max (∑ k : Fin 1024, x (ix2 a k) * w (ix2 k b)) 0 := by
  unfold k0_pay1
  pointwise

theorem pay_slope (x : Vec 𝕀 S2048x1024 .bf16) (w : Vec 𝕀 S1024x512 .bf16) (a : Fin 2048) (b : Fin 512) :
    k0_pay2 x w (ix2 a b) = 2 * max (∑ k : Fin 1024, x (ix2 a k) * w (ix2 k b)) 0 := by
  rw [← pay_pos, ← ofBits_two]
  unfold k0_pay2
  generalize k0_pay1 x w = y
  pointwise

theorem pay_act (x : Vec 𝕀 S2048x1024 .bf16) (w : Vec 𝕀 S1024x512 .bf16) (a : Fin 2048) (b : Fin 512) :
    k0_pay3 x w (ix2 a b) = max (∑ k : Fin 1024, x (ix2 a k) * w (ix2 k b)) 0 * max (∑ k : Fin 1024, x (ix2 a k) * w (ix2 k b)) 0 := by
  rw [← pay_pos]
  unfold k0_pay3
  generalize k0_pay1 x w = y
  pointwise

theorem out_act (x : Vec 𝕀 S2048x1024 .bf16) (w : Vec 𝕀 S1024x512 .bf16) : out0_2 x w = k0_pay3 x w := by
  unfold out0_2
  rw [View.canon_unit_zero hz, View.ld_unit_zero (S := S2048x1024) hz, View.ld_unit_zero (S := S1024x512) hz]

theorem out_slope (x : Vec 𝕀 S2048x1024 .bf16) (w : Vec 𝕀 S1024x512 .bf16) : out0_3 x w = k0_pay2 x w := by
  unfold out0_3
  rw [View.canon_unit_zero hz, View.ld_unit_zero (S := S2048x1024) hz, View.ld_unit_zero (S := S1024x512) hz]

theorem point_lt (t : Fin grid0.N) : t.val < 64 := by
  have hN : grid0.N = 64 := N_0
  have ht := t.isLt
  omega

theorem read0 (Y : Vec 𝕀 S16384x1024 .bf16) (t : Fin grid0.N) (a : Fin 2048) (k : Fin 1024) :
    (((cfg0.win 0).blk t).view.read (Elt 𝕀) Y : Vec 𝕀 S2048x1024 .bf16) (ix2 a k) = Y (ix2 (rowB (t.val / 8) a) k) := by
  show Y ((win0_0.rect t).emb (ix2 (n0 := 2048) (n1 := 1024) a k)) = _
  refine congrArg Y (funext fun ax => Fin.ext ?_)
  have ht := point_lt t
  rw [Window.rect_emb_val win0_0, index0]
  fin_cases ax
  · show t.val / 8 * 2048 + a.val = (rowB (t.val / 8) a).val
    rw [rowB_val (by omega)]; omega
  · show 0 * 1024 + k.val = k.val; omega

theorem read1 (Y : Vec 𝕀 S1024x4096 .bf16) (t : Fin grid0.N) (k : Fin 1024) (b : Fin 512) :
    (((cfg0.win 1).blk t).view.read (Elt 𝕀) Y : Vec 𝕀 S1024x512 .bf16) (ix2 k b) = Y (ix2 k (colB (t.val % 8) b)) := by
  show Y ((win0_1.rect t).emb (ix2 (n0 := 1024) (n1 := 512) k b)) = _
  refine congrArg Y (funext fun ax => Fin.ext ?_)
  rw [Window.rect_emb_val win0_1, index1]
  fin_cases ax
  · show 0 * 1024 + k.val = k.val; omega
  · show t.val % 8 * 512 + b.val = (colB (t.val % 8) b).val
    rw [colB_val (by omega)]; omega

theorem emb2 (t : Fin grid0.N) (a : Fin 2048) (b : Fin 512) :
    ((win0_2.rect t).emb (ix2 (n0 := 2048) (n1 := 512) a b) : S16384x4096.Idx) = ix2 (rowB (t.val / 8) a) (colB (t.val % 8) b) := by
  refine funext fun ax => Fin.ext ?_
  have ht := point_lt t
  rw [Window.rect_emb_val win0_2, index2]
  fin_cases ax
  · show t.val / 8 * 2048 + a.val = (rowB (t.val / 8) a).val
    rw [rowB_val (by omega)]; omega
  · show t.val % 8 * 512 + b.val = (colB (t.val % 8) b).val
    rw [colB_val (by omega)]; omega

theorem emb3 (t : Fin grid0.N) (a : Fin 2048) (b : Fin 512) :
    ((win0_3.rect t).emb (ix2 (n0 := 2048) (n1 := 512) a b) : S16384x4096.Idx) = ix2 (rowB (t.val / 8) a) (colB (t.val % 8) b) :=
  emb2 t a b

variable (m : (ℓ : Loc nD τ sig) → Buf (Elt 𝕀) ℓ) (c : Dev nD)

abbrev a0 : FVec 𝕀 S16384x1024 .f32 := m ((c : Thread nD τ).loc main_arg0)
abbrev a1 : FVec 𝕀 S1024x4096 .f32 := m ((c : Thread nD τ).loc main_arg1)

theorem V_0 : V m c main_v0 = truncf .bf16 (a0 m c) bitsLt_bf16_f32 := by
  unfold V
  simp only [hostOps0, List.flatten_cons, List.flatten_nil, List.append_nil, List.cons_append, List.nil_append]
  after_results_simp <;> rfl

theorem V_1 : V m c main_v1 = truncf .bf16 (a1 m c) bitsLt_bf16_f32 := by
  unfold V
  simp only [hostOps0, List.flatten_cons, List.flatten_nil, List.append_nil, List.cons_append, List.nil_append]
  after_results_simp <;> rfl

theorem iblk0 (t : Fin grid0.N) (a : Fin 2048) (k : Fin 1024) :
    (iblk m c 0 t : Vec 𝕀 S2048x1024 .bf16) (ix2 a k) = a0 m c (ix2 (rowB (t.val / 8) a) k) :=
  (read0 (V m c main_v0) t a k).trans (by rw [V_0]; rfl)

theorem iblk1 (t : Fin grid0.N) (k : Fin 1024) (b : Fin 512) :
    (iblk m c 1 t : Vec 𝕀 S1024x512 .bf16) (ix2 k b) = a1 m c (ix2 k (colB (t.val % 8) b)) :=
  (read1 (V m c main_v1) t k b).trans (by rw [V_1]; rfl)

theorem after_act (t : Fin grid0.N) (a : Fin 2048) (b : Fin 512) :
    ((dats m 0 c).after 2 t : Vec 𝕀 S2048x512 .bf16) (ix2 a b) = GA (a0 m c) (a1 m c) (ix2 (rowB (t.val / 8) a) (colB (t.val % 8) b)) := by
  rw [after0_2, out_act, pay_act]
  simp only [iblk0, iblk1]
  rfl

theorem after_slope (t : Fin grid0.N) (a : Fin 2048) (b : Fin 512) :
    ((dats m 0 c).after 3 t : Vec 𝕀 S2048x512 .bf16) (ix2 a b) = GS (a0 m c) (a1 m c) (ix2 (rowB (t.val / 8) a) (colB (t.val % 8) b)) := by
  rw [after0_3, out_slope, pay_slope]
  simp only [iblk0, iblk1]
  rfl

/-- If a block holds an array's values, it is that block of the array. -/
theorem block_eq (Y : Vec 𝕀 S2048x512 .bf16) (Z : FVec 𝕀 S16384x4096 .bf16) (t : Fin grid0.N)
    (h : ∀ a b, Y (ix2 a b) = Z (ix2 (rowB (t.val / 8) a) (colB (t.val % 8) b))) (y : S2048x512.Idx) :
    Y y = Z ((win0_2.rect t).emb y) ∧ Y y = Z ((win0_3.rect t).emb y) := by
  obtain ⟨a, b, rfl⟩ : ∃ a b, y = ix2 (n0 := 2048) (n1 := 512) a b := ⟨_, _, ix2_eta y⟩
  exact ⟨(h a b).trans (congrArg Z (emb2 t a b)).symm, (h a b).trans (congrArg Z (emb3 t a b)).symm⟩

theorem covers2 : win0_2.Covers := by decide +kernel
theorem covers3 : win0_3.Covers := by decide +kernel

theorem final2 : (dats m 0 c).arrAt 2 cfg0.N = GA (a0 m c) (a1 m c) := by
  refine (dats m 0 c).arrAt_eq_of_covers 2 _ covers2 fun t _ y => ?_
  have e := block_eq ((dats m 0 c).after 2 t) (GA (a0 m c) (a1 m c)) t (after_act m c t)
  exact (e y).1

theorem final3 : (dats m 0 c).arrAt 3 cfg0.N = GS (a0 m c) (a1 m c) := by
  refine (dats m 0 c).arrAt_eq_of_covers 3 _ covers3 fun t _ y => ?_
  have e := block_eq ((dats m 0 c).after 3 t) (GS (a0 m c) (a1 m c)) t (after_slope m c t)
  exact (e y).2

end Kernel

section Reference

open Cert.Reference6Ideal Cert.Reference6Ideal.Read

theorem ref_dot (X : FVec 𝕀 S16384x1024 .f32) (W : FVec 𝕀 S1024x4096 .f32) (a : Fin 16384) (b : Fin 4096) :
    val_main_v0 (F := 𝕀) X W (ix2 a b) = U X W a b := by
  rw [val_main_v0_apply]
  refine Finset.sum_congr rfl fun k _ => ?_
  congr 1 <;> refine congrArg _ (funext fun ax => ?_) <;> fin_cases ax <;> rfl

theorem ref_pos (X : FVec 𝕀 S16384x1024 .f32) (W : FVec 𝕀 S1024x4096 .f32) (a : Fin 16384) (b : Fin 4096) :
    val_main_v1 (F := 𝕀) X W (ix2 a b) = max (U X W a b) 0 := by
  rw [← ref_dot]
  unfold val_main_v1
  generalize val_main_v0 (F := 𝕀) X W = u
  pointwise [val_main_call0_v0, val_main_call0_cst]

theorem ref_act (X : FVec 𝕀 S16384x1024 .f32) (W : FVec 𝕀 S1024x4096 .f32) : val_main_v6 (F := 𝕀) X W = GA X W := by
  funext i
  obtain ⟨a, b, rfl⟩ : ∃ a b, i = ix2 (n0 := 16384) (n1 := 4096) a b := ⟨_, _, ix2_eta i⟩
  show _ = max (U X W a b) 0 * max (U X W a b) 0
  rw [← ref_pos]
  unfold val_main_v6 val_main_v5
  generalize val_main_v1 (F := 𝕀) X W = y
  pointwise

theorem ref_slope (X : FVec 𝕀 S16384x1024 .f32) (W : FVec 𝕀 S1024x4096 .f32) : val_main_v13 (F := 𝕀) X W = GS X W := by
  funext i
  obtain ⟨a, b, rfl⟩ : ∃ a b, i = ix2 (n0 := 16384) (n1 := 4096) a b := ⟨_, _, ix2_eta i⟩
  have h1 : Ideal.ofBits .f32 0x3F800000#32 = (1 : EReal) := Val.ofBits_one
  refine Eq.trans ?_ ((slope 1 (U X W a b)).trans (one_mul _))
  rw [← ref_pos, ← ref_dot, ← h1]
  unfold val_main_v13 val_main_v12 val_main_v10 val_main_v9 val_main_v8 val_main_v3
  generalize val_main_v1 (F := 𝕀) X W = y
  generalize val_main_v0 (F := 𝕀) X W = u
  pointwise [val_main_v2, val_main_cst, val_main_v7, val_main_cst_1, val_main_v11, val_main_cst_2]

end Reference

attribute [local instance] Cert.Kernel6Ideal.Gen.facts Cert.Reference6Ideal.Gen.facts

/-- The two programs end with the same two arrays. -/
theorem algebraic : Cert.algebraic_Kernel6Ideal_Reference6Ideal := fun m g m' g' _ hargs =>
  ⟨fun c => GA (a0 m c) (a1 m c), fun c => GS (a0 m c) (a1 m c),
    (θ_run Cert.Kernel6Ideal.defs _ _).mono (fun _ h c => ⟨(h c).1.trans (final2 m c), (h c).2.1.trans (final3 m c), (h c).2.2⟩) (Cert.Kernel6Ideal.Value.run_blocks (F := 𝕀) m g),
    (θ_run Cert.Reference6Ideal.defs _ _).mono (fun _ h c => ⟨((h c).1.trans (Cert.Reference6Ideal.Read.val_main_v6_eq _ _)).trans (by
        rw [(hargs c).1, (hargs c).2]; exact ref_act _ _),
      ((h c).2.1.trans (Cert.Reference6Ideal.Read.val_main_v13_eq _ _)).trans (by
        rw [(hargs c).1, (hargs c).2]; exact ref_slope _ _), (h c).2.2⟩) (Cert.Reference6Ideal.Value.run (F := 𝕀) m' g')⟩

end Cert.Proof.Mlp.UpFwd
end
-- ==== Proof.Mlp.DownFwd.lean ====
module

public import proofs.«01_k».proof.Defs
public import proofs.«01_k».proof.Proof.Mlp.Sums
public import proofs.«01_k».proof.Proof.Gen.Kernel7Ideal.Value
public import proofs.«01_k».proof.Proof.Gen.Reference7Ideal.Run
public import proofs.«01_k».proof.Proof.Gen.Reference7Ideal.Read
public import Idealize.ShloMosaic.Lib.Pipeline.ValueKit.Geometry

@[expose] public section

/-! # The MLP's second product, with the residual -/

noncomputable section

namespace Cert.Proof.Mlp.DownFwd

open Idealize.ShloMosaic Idealize.ShloMosaic.TcCoe Idealize.SL.Sem
open Idealize.ShloMosaic.Pipeline (Window Dat)

local notation "𝕀" => Idealize.ShloMosaic.Ideal

section Kernel

open Cert.Kernel7Ideal Cert.Kernel7Ideal.Gen Cert.Kernel7Ideal.Value

/-- The activation: the square of the positive part of the hidden values. -/
abbrev act (U : FVec 𝕀 S16384x4096 .f32) : FVec 𝕀 S16384x4096 .f32 := Cert.Reference7Ideal.Read.val_main_v1 (F := 𝕀) U

/-- What both programs compute: the residual and the activation through the weight. -/
def G (U : FVec 𝕀 S16384x4096 .f32) (W : FVec 𝕀 S4096x1024 .f32) (H : FVec 𝕀 S16384x1024 .f32) : FVec 𝕀 S16384x1024 .f32 := fun i =>
  H i + ∑ k : Fin 4096, act U (ix2 (i 0) k) * W (ix2 k (i 1))

theorem index0 : ∀ t : Fin grid0.N, win0_0.index t = ![t.val / 2, 0] := by decide +kernel
theorem index1 : ∀ t : Fin grid0.N, win0_1.index t = ![0, t.val % 2] := by decide +kernel
theorem index2 : ∀ t : Fin grid0.N, win0_2.index t = ![t.val / 2, t.val % 2] := by decide +kernel
theorem index3 : ∀ t : Fin grid0.N, win0_3.index t = ![t.val / 2, t.val % 2] := by decide +kernel

theorem pay_apply (x : Vec 𝕀 S1024x4096 .bf16) (w : Vec 𝕀 S4096x512 .bf16) (h : Vec 𝕀 S1024x512 .f32) (a : Fin 1024) (b : Fin 512) :
    k0_pay1 x w h (ix2 a b) = (∑ k : Fin 4096, x (ix2 a k) * w (ix2 k b)) + h (ix2 a b) := by
  unfold k0_pay1
  pointwise

theorem hz : (![0, 0] : Fin 2 → Nat) = fun _ => 0 := funext fun a => by fin_cases a <;> rfl

theorem out_eq (x : Vec 𝕀 S1024x4096 .bf16) (w : Vec 𝕀 S4096x512 .bf16) (h : Vec 𝕀 S1024x512 .f32) : out0_3 x w h = k0_pay1 x w h := by
  unfold out0_3
  rw [View.canon_unit_zero hz, View.ld_unit_zero (S := S1024x4096) hz, View.ld_unit_zero (S := S4096x512) hz, View.ld_unit_zero (S := S1024x512) hz]

/-- Column `b` of column block `q`. -/
def colB (q : ℕ) (b : Fin 512) : Fin 1024 := Fin.ofNat 1024 (512 * q + b.val)

theorem colB_val {q : ℕ} (hq : q < 2) (b : Fin 512) : (colB q b).val = 512 * q + b.val :=
  Nat.mod_eq_of_lt (by omega)

theorem point_lt (t : Fin grid0.N) : t.val < 32 := by
  have hN : grid0.N = 32 := N_0
  have ht := t.isLt
  omega

theorem read0 (Y : Vec 𝕀 S16384x4096 .bf16) (t : Fin grid0.N) (a : Fin 1024) (k : Fin 4096) :
    (((cfg0.win 0).blk t).view.read (Elt 𝕀) Y : Vec 𝕀 S1024x4096 .bf16) (ix2 a k) = Y (ix2 (row (t.val / 2) a) k) := by
  show Y ((win0_0.rect t).emb (ix2 (n0 := 1024) (n1 := 4096) a k)) = _
  refine congrArg Y (funext fun ax => Fin.ext ?_)
  have ht := point_lt t
  rw [Window.rect_emb_val win0_0, index0]
  fin_cases ax
  · show t.val / 2 * 1024 + a.val = (row (t.val / 2) a).val
    rw [row_val (by omega)]; omega
  · show 0 * 4096 + k.val = k.val; omega

theorem read1 (Y : Vec 𝕀 S4096x1024 .bf16) (t : Fin grid0.N) (k : Fin 4096) (b : Fin 512) :
    (((cfg0.win 1).blk t).view.read (Elt 𝕀) Y : Vec 𝕀 S4096x512 .bf16) (ix2 k b) = Y (ix2 k (colB (t.val % 2) b)) := by
  show Y ((win0_1.rect t).emb (ix2 (n0 := 4096) (n1 := 512) k b)) = _
  refine congrArg Y (funext fun ax => Fin.ext ?_)
  rw [Window.rect_emb_val win0_1, index1]
  fin_cases ax
  · show 0 * 4096 + k.val = k.val; omega
  · show t.val % 2 * 512 + b.val = (colB (t.val % 2) b).val
    rw [colB_val (by omega)]; omega

theorem emb2 (t : Fin grid0.N) (a : Fin 1024) (b : Fin 512) :
    ((win0_2.rect t).emb (ix2 (n0 := 1024) (n1 := 512) a b) : S16384x1024.Idx) = ix2 (row (t.val / 2) a) (colB (t.val % 2) b) := by
  refine funext fun ax => Fin.ext ?_
  have ht := point_lt t
  rw [Window.rect_emb_val win0_2, index2]
  fin_cases ax
  · show t.val / 2 * 1024 + a.val = (row (t.val / 2) a).val
    rw [row_val (by omega)]; omega
  · show t.val % 2 * 512 + b.val = (colB (t.val % 2) b).val
    rw [colB_val (by omega)]; omega

theorem emb3 (t : Fin grid0.N) (a : Fin 1024) (b : Fin 512) :
    ((win0_3.rect t).emb (ix2 (n0 := 1024) (n1 := 512) a b) : S16384x1024.Idx) = ix2 (row (t.val / 2) a) (colB (t.val % 2) b) :=
  emb2 t a b

theorem read2 (Y : Vec 𝕀 S16384x1024 .f32) (t : Fin grid0.N) (a : Fin 1024) (b : Fin 512) :
    (((cfg0.win 2).blk t).view.read (Elt 𝕀) Y : Vec 𝕀 S1024x512 .f32) (ix2 a b) = Y (ix2 (row (t.val / 2) a) (colB (t.val % 2) b)) :=
  congrArg Y (emb2 t a b)

variable (m : (ℓ : Loc nD τ sig) → Buf (Elt 𝕀) ℓ) (c : Dev nD)

abbrev a0 : FVec 𝕀 S16384x4096 .f32 := m ((c : Thread nD τ).loc main_arg0)
abbrev a1 : FVec 𝕀 S4096x1024 .f32 := m ((c : Thread nD τ).loc main_arg1)
abbrev a2 : FVec 𝕀 S16384x1024 .f32 := m ((c : Thread nD τ).loc main_arg2)

theorem V_3 : V m c main_v3 = truncf .bf16 (act (a0 m c)) bitsLt_bf16_f32 := by
  unfold V
  simp only [hostOps0, List.flatten_cons, List.flatten_nil, List.append_nil, List.cons_append, List.nil_append]
  after_results_simp <;> rfl

theorem V_4 : V m c main_v4 = truncf .bf16 (a1 m c) bitsLt_bf16_f32 := by
  unfold V
  simp only [hostOps0, List.flatten_cons, List.flatten_nil, List.append_nil, List.cons_append, List.nil_append]
  after_results_simp <;> rfl

theorem iblk0 (t : Fin grid0.N) (a : Fin 1024) (k : Fin 4096) :
    (iblk m c 0 t : Vec 𝕀 S1024x4096 .bf16) (ix2 a k) = act (a0 m c) (ix2 (row (t.val / 2) a) k) :=
  (read0 (V m c main_v3) t a k).trans (by rw [V_3]; rfl)

theorem iblk1 (t : Fin grid0.N) (k : Fin 4096) (b : Fin 512) :
    (iblk m c 1 t : Vec 𝕀 S4096x512 .bf16) (ix2 k b) = a1 m c (ix2 k (colB (t.val % 2) b)) :=
  (read1 (V m c main_v4) t k b).trans (by rw [V_4]; rfl)

theorem iblk2 (t : Fin grid0.N) (a : Fin 1024) (b : Fin 512) :
    (iblk m c 2 t : Vec 𝕀 S1024x512 .f32) (ix2 a b) = a2 m c (ix2 (row (t.val / 2) a) (colB (t.val % 2) b)) :=
  (read2 (V m c main_arg2) t a b).trans (by rw [V_main_arg2])

theorem after_apply (t : Fin grid0.N) (a : Fin 1024) (b : Fin 512) :
    ((dats m 0 c).after 3 t : Vec 𝕀 S1024x512 .f32) (ix2 a b)
      = G (a0 m c) (a1 m c) (a2 m c) (ix2 (row (t.val / 2) a) (colB (t.val % 2) b)) := by
  rw [after0_3, out_eq, pay_apply]
  simp only [iblk0, iblk1, iblk2]
  exact add_comm (G := EReal) _ _

/-- If a block holds an array's values, it is that block of the array. -/
theorem read3 (Y : Vec 𝕀 S1024x512 .f32) (Z : FVec 𝕀 S16384x1024 .f32) (t : Fin grid0.N)
    (h : ∀ a b, Y (ix2 a b) = Z (ix2 (row (t.val / 2) a) (colB (t.val % 2) b))) (y : S1024x512.Idx) :
    Y y = Z ((win0_3.rect t).emb y) := by
  obtain ⟨a, b, rfl⟩ : ∃ a b, y = ix2 (n0 := 1024) (n1 := 512) a b := ⟨_, _, ix2_eta y⟩
  rw [h, congrArg Z (emb3 t a b)]

theorem covers3 : win0_3.Covers := by decide +kernel

theorem final3 : (dats m 0 c).arrAt 3 cfg0.N = G (a0 m c) (a1 m c) (a2 m c) := by
  refine (dats m 0 c).arrAt_eq_of_covers 3 _ covers3 fun t _ y => ?_
  have e := read3 ((dats m 0 c).after 3 t) (G (a0 m c) (a1 m c) (a2 m c)) t (after_apply m c t)
  exact e y

end Kernel

section Reference

open Cert.Reference7Ideal Cert.Reference7Ideal.Read

theorem ref_eq (U : FVec 𝕀 S16384x4096 .f32) (W : FVec 𝕀 S4096x1024 .f32) (H : FVec 𝕀 S16384x1024 .f32) :
    val_main_v3 (F := 𝕀) U W H = G U W H := by
  funext i
  obtain ⟨a, b, rfl⟩ : ∃ a b, i = ix2 (n0 := 16384) (n1 := 1024) a b := ⟨_, _, ix2_eta i⟩
  refine congrArg (H (ix2 a b) + ·) ((val_main_v2_apply U W _).trans (Finset.sum_congr rfl fun k _ => ?_))
  congr 1 <;> refine congrArg _ (funext fun ax => ?_) <;> fin_cases ax <;> rfl

end Reference

attribute [local instance] Cert.Kernel7Ideal.Gen.facts Cert.Reference7Ideal.Gen.facts

/-- The two programs end with the same array. -/
theorem algebraic : Cert.algebraic_Kernel7Ideal_Reference7Ideal := fun m g m' g' _ hargs =>
  ⟨fun c => G (a0 m c) (a1 m c) (a2 m c),
    (θ_run Cert.Kernel7Ideal.defs _ _).mono (fun _ h c => ⟨(h c).1.trans (final3 m c), (h c).2⟩) (Cert.Kernel7Ideal.Value.run_blocks (F := 𝕀) m g),
    (θ_run Cert.Reference7Ideal.defs _ _).mono (fun _ h c => ⟨((h c).1.trans (Cert.Reference7Ideal.Read.val_main_v3_eq _ _ _)).trans (by
        rw [(hargs c).1, (hargs c).2.1, (hargs c).2.2]; exact ref_eq _ _ _), (h c).2⟩) (Cert.Reference7Ideal.Value.run (F := 𝕀) m' g')⟩

end Cert.Proof.Mlp.DownFwd
end
-- ==== Proof.Even.Frames.lean ====
module

public import proofs.«01_k».proof.Defs
public import proofs.«01_k».proof.Proof.Gen.Kernel8
public import proofs.«01_k».proof.Proof.Gen.Kernel8Ideal.Frame
public import proofs.«01_k».proof.Proof.Gen.Reference8Ideal.Run
public import proofs.«01_k».proof.Proof.Gen.Kernel9
public import proofs.«01_k».proof.Proof.Gen.Kernel9Ideal.Frame
public import proofs.«01_k».proof.Proof.Gen.Reference9Ideal.Run
public import proofs.«01_k».proof.Proof.Gen.Kernel10
public import proofs.«01_k».proof.Proof.Gen.Kernel10Ideal.Frame
public import proofs.«01_k».proof.Proof.Gen.Reference10Ideal.Run
public import proofs.«01_k».proof.Proof.Gen.Kernel11
public import proofs.«01_k».proof.Proof.Gen.Kernel11Ideal.Frame
public import proofs.«01_k».proof.Proof.Gen.Reference11Ideal.Run
public import proofs.«01_k».proof.Proof.Gen.Kernel12
public import proofs.«01_k».proof.Proof.Gen.Kernel12Ideal.Frame
public import proofs.«01_k».proof.Proof.Gen.Reference12Ideal.Run

@[expose] public section

/-! # The frames of an even layer's products

The ideal pass rewrote nothing in these programs, so one run serves the printed program and the ideal one. -/

noncomputable section

namespace Cert.Proof.Even

open Idealize.ShloMosaic Idealize.ShloMosaic.TcCoe Idealize.SL.Sem

section

attribute [local instance] Cert.Kernel8.Gen.facts Cert.Kernel8Ideal.Gen.facts

/-- For the gradients of an even layer's input: the ideal program's frame. -/
theorem frame_ideal8 : Cert.quiescent_Kernel8Ideal := fun m ρ _ => Cert.Kernel8Ideal.Gen.frame (F := Ideal) m ρ

theorem same_main8 : Cert.Kernel8.main (F := Bits) = Cert.Kernel8Ideal.main (F := Bits) := by
  unfold Cert.Kernel8.main Cert.Kernel8Ideal.main
  rfl

theorem same_body8 : Cert.Kernel8.defs₀ (F := Bits) = Cert.Kernel8Ideal.defs₀ (F := Bits) := by
  funext p ℓ a
  cases p with
  | tc =>
    match ℓ, a with
    | 0, (t, s) => exact rfl
  | scScalar _ => exact rfl
  | scVector _ _ => exact rfl

theorem same_defs8 : Cert.Kernel8.defs (F := Bits) = Cert.Kernel8Ideal.defs (F := Bits) :=
  congrArg (Idealize.ShloMosaic.Pipeline.defs (Cert.Kernel8Ideal.pcfgs (F := Bits))) same_body8

/-- The printed program's frame. -/
theorem frame_kernel8 : Cert.quiescent_Kernel8 := fun m ρ _ => by
  rw [same_main8, same_defs8]
  exact Cert.Kernel8Ideal.Gen.frame (F := Bits) m ρ

end

/-- The reference's frame. -/
theorem frame_reference8 : Cert.quiescent_Reference8Ideal (hReference8Ideal := Cert.Reference8Ideal.Gen.facts) := fun m ρ _ =>
  (θ_run Cert.Reference8Ideal.defs _ _).mono
    (fun r h => ⟨fun c => (h c).2.2, Idealize.ShloMosaic.sem_eq_zero_of_no_sems (by decide) r.2⟩)
    (Cert.Reference8Ideal.Value.run (F := Ideal) m ρ)

section

attribute [local instance] Cert.Kernel9.Gen.facts Cert.Kernel9Ideal.Gen.facts

/-- For the first weight's gradient: the ideal program's frame. -/
theorem frame_ideal9 : Cert.quiescent_Kernel9Ideal := fun m ρ _ => Cert.Kernel9Ideal.Gen.frame (F := Ideal) m ρ

theorem same_main9 : Cert.Kernel9.main (F := Bits) = Cert.Kernel9Ideal.main (F := Bits) := by
  unfold Cert.Kernel9.main Cert.Kernel9Ideal.main
  rfl

theorem same_body9 : Cert.Kernel9.defs₀ (F := Bits) = Cert.Kernel9Ideal.defs₀ (F := Bits) := by
  funext p ℓ a
  cases p with
  | tc =>
    match ℓ, a with
    | 0, (t, s) => exact rfl
  | scScalar _ => exact rfl
  | scVector _ _ => exact rfl

theorem same_defs9 : Cert.Kernel9.defs (F := Bits) = Cert.Kernel9Ideal.defs (F := Bits) :=
  congrArg (Idealize.ShloMosaic.Pipeline.defs (Cert.Kernel9Ideal.pcfgs (F := Bits))) same_body9

/-- The printed program's frame. -/
theorem frame_kernel9 : Cert.quiescent_Kernel9 := fun m ρ _ => by
  rw [same_main9, same_defs9]
  exact Cert.Kernel9Ideal.Gen.frame (F := Bits) m ρ

end

/-- The reference's frame. -/
theorem frame_reference9 : Cert.quiescent_Reference9Ideal (hReference9Ideal := Cert.Reference9Ideal.Gen.facts) := fun m ρ _ =>
  (θ_run Cert.Reference9Ideal.defs _ _).mono
    (fun r h => ⟨fun c => (h c).2, Idealize.ShloMosaic.sem_eq_zero_of_no_sems (by decide) r.2⟩)
    (Cert.Reference9Ideal.Value.run (F := Ideal) m ρ)

section

attribute [local instance] Cert.Kernel10.Gen.facts Cert.Kernel10Ideal.Gen.facts

/-- For the attention outputs' gradient: the ideal program's frame. -/
theorem frame_ideal10 : Cert.quiescent_Kernel10Ideal := fun m ρ _ => Cert.Kernel10Ideal.Gen.frame (F := Ideal) m ρ

theorem same_main10 : Cert.Kernel10.main (F := Bits) = Cert.Kernel10Ideal.main (F := Bits) := by
  unfold Cert.Kernel10.main Cert.Kernel10Ideal.main
  rfl

theorem same_body10 : Cert.Kernel10.defs₀ (F := Bits) = Cert.Kernel10Ideal.defs₀ (F := Bits) := by
  funext p ℓ a
  cases p with
  | tc =>
    match ℓ, a with
    | 0, (t, s) => exact rfl
  | scScalar _ => exact rfl
  | scVector _ _ => exact rfl

theorem same_defs10 : Cert.Kernel10.defs (F := Bits) = Cert.Kernel10Ideal.defs (F := Bits) :=
  congrArg (Idealize.ShloMosaic.Pipeline.defs (Cert.Kernel10Ideal.pcfgs (F := Bits))) same_body10

/-- The printed program's frame. -/
theorem frame_kernel10 : Cert.quiescent_Kernel10 := fun m ρ _ => by
  rw [same_main10, same_defs10]
  exact Cert.Kernel10Ideal.Gen.frame (F := Bits) m ρ

end

/-- The reference's frame. -/
theorem frame_reference10 : Cert.quiescent_Reference10Ideal (hReference10Ideal := Cert.Reference10Ideal.Gen.facts) := fun m ρ _ =>
  (θ_run Cert.Reference10Ideal.defs _ _).mono
    (fun r h => ⟨fun c => (h c).2, Idealize.ShloMosaic.sem_eq_zero_of_no_sems (by decide) r.2⟩)
    (Cert.Reference10Ideal.Value.run (F := Ideal) m ρ)

section

attribute [local instance] Cert.Kernel11.Gen.facts Cert.Kernel11Ideal.Gen.facts

/-- For the second weight's gradient: the ideal program's frame. -/
theorem frame_ideal11 : Cert.quiescent_Kernel11Ideal := fun m ρ _ => Cert.Kernel11Ideal.Gen.frame (F := Ideal) m ρ

theorem same_main11 : Cert.Kernel11.main (F := Bits) = Cert.Kernel11Ideal.main (F := Bits) := by
  unfold Cert.Kernel11.main Cert.Kernel11Ideal.main
  rfl

theorem same_body11 : Cert.Kernel11.defs₀ (F := Bits) = Cert.Kernel11Ideal.defs₀ (F := Bits) := by
  funext p ℓ a
  cases p with
  | tc =>
    match ℓ, a with
    | 0, (t, s) => exact rfl
  | scScalar _ => exact rfl
  | scVector _ _ => exact rfl

theorem same_defs11 : Cert.Kernel11.defs (F := Bits) = Cert.Kernel11Ideal.defs (F := Bits) :=
  congrArg (Idealize.ShloMosaic.Pipeline.defs (Cert.Kernel11Ideal.pcfgs (F := Bits))) same_body11

/-- The printed program's frame. -/
theorem frame_kernel11 : Cert.quiescent_Kernel11 := fun m ρ _ => by
  rw [same_main11, same_defs11]
  exact Cert.Kernel11Ideal.Gen.frame (F := Bits) m ρ

end

/-- The reference's frame. -/
theorem frame_reference11 : Cert.quiescent_Reference11Ideal (hReference11Ideal := Cert.Reference11Ideal.Gen.facts) := fun m ρ _ =>
  (θ_run Cert.Reference11Ideal.defs _ _).mono
    (fun r h => ⟨fun c => (h c).2, Idealize.ShloMosaic.sem_eq_zero_of_no_sems (by decide) r.2⟩)
    (Cert.Reference11Ideal.Value.run (F := Ideal) m ρ)

section

attribute [local instance] Cert.Kernel12.Gen.facts Cert.Kernel12Ideal.Gen.facts

/-- For the second product: the ideal program's frame. -/
theorem frame_ideal12 : Cert.quiescent_Kernel12Ideal := fun m ρ _ => Cert.Kernel12Ideal.Gen.frame (F := Ideal) m ρ

theorem same_main12 : Cert.Kernel12.main (F := Bits) = Cert.Kernel12Ideal.main (F := Bits) := by
  unfold Cert.Kernel12.main Cert.Kernel12Ideal.main
  rfl

theorem same_body12 : Cert.Kernel12.defs₀ (F := Bits) = Cert.Kernel12Ideal.defs₀ (F := Bits) := by
  funext p ℓ a
  cases p with
  | tc =>
    match ℓ, a with
    | 0, (t, s) => exact rfl
  | scScalar _ => exact rfl
  | scVector _ _ => exact rfl

theorem same_defs12 : Cert.Kernel12.defs (F := Bits) = Cert.Kernel12Ideal.defs (F := Bits) :=
  congrArg (Idealize.ShloMosaic.Pipeline.defs (Cert.Kernel12Ideal.pcfgs (F := Bits))) same_body12

/-- The printed program's frame. -/
theorem frame_kernel12 : Cert.quiescent_Kernel12 := fun m ρ _ => by
  rw [same_main12, same_defs12]
  exact Cert.Kernel12Ideal.Gen.frame (F := Bits) m ρ

end

/-- The reference's frame. -/
theorem frame_reference12 : Cert.quiescent_Reference12Ideal (hReference12Ideal := Cert.Reference12Ideal.Gen.facts) := fun m ρ _ =>
  (θ_run Cert.Reference12Ideal.defs _ _).mono
    (fun r h => ⟨fun c => (h c).2, Idealize.ShloMosaic.sem_eq_zero_of_no_sems (by decide) r.2⟩)
    (Cert.Reference12Ideal.Value.run (F := Ideal) m ρ)

end Cert.Proof.Even
end
-- ==== Proof.Even.InX.lean ====
module

public import proofs.«01_k».proof.Defs
public import proofs.«01_k».proof.Proof.Mlp.UpX
public import proofs.«01_k».proof.Proof.Gen.Kernel8Ideal.Value
public import proofs.«01_k».proof.Proof.Gen.Reference8Ideal.Run
public import proofs.«01_k».proof.Proof.Gen.Reference8Ideal.Read
public import Idealize.ShloMosaic.Lib.Pipeline.ValueKit.Geometry

@[expose] public section

/-! # The gradients of an even layer's input and of its norm's gain

The row's gradient and what does not see the weight's width are `UpX`'s. -/

noncomputable section

namespace Cert.Proof.Even.InX

open Idealize.ShloMosaic hiding ix2_eta
open Idealize.ShloMosaic.TcCoe Idealize.SL.Sem
open Idealize.ShloMosaic.Pipeline (Window Dat)
open Cert.Proof.Norm Cert.Proof.Mlp
open Cert.Proof.Mlp.UpX (D GX GG rowOf hz col_at)

local notation "𝕀" => Idealize.ShloMosaic.Ideal

section Kernel

open Cert.Kernel8Ideal Cert.Kernel8Ideal.Gen Cert.Kernel8Ideal.Value

theorem pay2_apply (x : Vec 𝕀 S512x3072 .bf16) (w : Vec 𝕀 S1024x3072 .bf16) (a : Fin 512) (b : Fin 1024) :
    k0_pay2 x w (ix2 a b) = ∑ k : Fin 3072, x (ix2 a k) * w (ix2 b k) := by
  unfold k0_pay2
  pointwise

theorem pay4_apply (h : Vec 𝕀 S512x1024 .f32) (a : Fin 512) :
    k0_pay4 h (ix2 a 0) = invRoot fun k => h (ix2 a k) := UpX.pay4_apply h a

theorem pay5_apply (h : Vec 𝕀 S512x1024 .f32) (a : Fin 512) (b : Fin 1024) :
    k0_pay5 h (ix2 a b) = h (ix2 a b) * invRoot fun k => h (ix2 a k) := UpX.pay5_apply h a b

theorem pay7_apply (x : Vec 𝕀 S512x3072 .bf16) (w : Vec 𝕀 S1024x3072 .bf16) (g : Vec 𝕀 S1x1024 .f32) (a : Fin 512) (b : Fin 1024) :
    k0_pay7 x w g (ix2 a b) = k0_pay2 x w (ix2 a b) * g (ix2 0 b) := by
  unfold k0_pay7
  generalize k0_pay2 x w = y
  pointwise

theorem pay8_apply (x : Vec 𝕀 S512x3072 .bf16) (w : Vec 𝕀 S1024x3072 .bf16) (h : Vec 𝕀 S512x1024 .f32) (g : Vec 𝕀 S1x1024 .f32) (a : Fin 512) :
    k0_pay8 x w h g (ix2 a 0) = Ideal.div (∑ k : Fin 1024, k0_pay7 x w g (ix2 a k) * k0_pay5 h (ix2 a k)) wLen := by
  unfold k0_pay8
  generalize k0_pay7 x w g = y
  generalize k0_pay5 h = z
  pointwise

theorem pay6_apply (x : Vec 𝕀 S512x3072 .bf16) (w : Vec 𝕀 S1024x3072 .bf16) (h : Vec 𝕀 S512x1024 .f32) (acc : Vec 𝕀 S1x1024 .f32) (b : Fin 1024) :
    k0_pay6 x w h acc (ix2 0 b) = acc (ix2 0 b) + ∑ k : Fin 512, k0_pay2 x w (ix2 k b) * k0_pay5 h (ix2 k b) := by
  unfold k0_pay6
  generalize k0_pay2 x w = y
  generalize k0_pay5 h = z
  pointwise

theorem pay3_apply (b : Fin 1024) : k0_pay3 (F := 𝕀) (ix2 0 b) = 0 := UpX.pay3_apply b

theorem pay1_apply (p q : FVec 𝕀 S512x1 .f32) (u v d : FVec 𝕀 S512x1024 .f32) (a : Fin 512) (b : Fin 1024) :
    k0_pay1 p u v q d (ix2 a b) = p (ix2 a 0) * (v (ix2 a b) - u (ix2 a b) * q (ix2 a 0)) + d (ix2 a b) := UpX.pay1_apply p q u v d a b

/-- What a row block's point writes to its block of the input's gradient. -/
abbrev dxB {F : FTy → Type} [FloatOps F] (x0 : Vec F S512x3072 .bf16) (x1 : Vec F S1024x3072 .bf16) (x2 : Vec F S512x1024 .f32) (x3 : Vec F S1x1024 .f32) (x4 : Vec F S512x1024 .f32) : Vec F S512x1024 .f32 :=
  k0_pay1 (k0_pay4 x2) (k0_pay5 x2) (k0_pay7 x0 x1 x3) (k0_pay8 x0 x1 x2 x3) x4

section Bodies

variable {F : FTy → Type} [FloatOps F]

variable (c : Dev nD) (i : grid0.Coords)
  (arg2 : Memref sig .tc .vmem S512x3072 .bf16) (harg2 : arg2.IsWhole)
  (arg3 : Memref sig .tc .vmem S1024x3072 .bf16) (harg3 : arg3.IsWhole)
  (arg4 : Memref sig .tc .vmem S512x1024 .f32) (harg4 : arg4.IsWhole)
  (arg5 : Memref sig .tc .vmem S1x1024 .f32) (harg5 : arg5.IsWhole)
  (arg6 : Memref sig .tc .vmem S512x1024 .f32) (harg6 : arg6.IsWhole)
  (arg7 : Memref sig .tc .vmem S512x1024 .f32) (harg7 : arg7.IsWhole)
  (arg8 : Memref sig .tc .vmem S1x1024 .f32) (harg8 : arg8.IsWhole)
  (x0 : Vec F S512x3072 .bf16) (x1 : Vec F S1024x3072 .bf16) (x2 : Vec F S512x1024 .f32) (x3 : Vec F S1x1024 .f32) (x4 : Vec F S512x1024 .f32) (xo6 : Vec F S1x1024 .f32)

theorem out_A_5 (hc0 : cond0_0 i) : out0_A_5 c i arg2 harg2 arg3 harg3 arg4 harg4 arg5 harg5 arg6 harg6 arg7 harg7 arg8 harg8 hc0 x0 x1 x2 x3 x4 = dxB x0 x1 x2 x3 x4 := by
  unfold out0_A_5
  rw [View.read_writes_eq_canon _ _ _ (cover0_A_5 c i arg2 harg2 arg3 harg3 arg4 harg4 arg5 harg5 arg6 harg6 arg7 harg7 arg8 harg8 hc0 x0 x1 x2 x3 x4)]
  unfold kernelRun0_A
  dsimp only
  try sl_unfold_words
  rw [View.canon_unit_zero hz]
  simp only [View.readAt_eq_ld, harg2.read_unread, harg3.read_unread, harg4.read_unread, harg5.read_unread, harg6.read_unread, harg7.read_unread, harg8.read_unread,
    View.ld_unit_zero (S := S512x3072) hz, View.ld_unit_zero (S := S1024x3072) hz, View.ld_unit_zero (S := S512x1024) hz, View.ld_unit_zero (S := S1x1024) hz, shapeCast_self]

theorem out_B_5 (hc0 : ¬cond0_0 i) : out0_B_5 c i arg2 harg2 arg3 harg3 arg4 harg4 arg5 harg5 arg6 harg6 arg7 harg7 arg8 harg8 hc0 x0 x1 x2 x3 x4 xo6 = dxB x0 x1 x2 x3 x4 := by
  unfold out0_B_5
  rw [View.read_writes_eq_canon _ _ _ (cover0_B_5 c i arg2 harg2 arg3 harg3 arg4 harg4 arg5 harg5 arg6 harg6 arg7 harg7 arg8 harg8 hc0 x0 x1 x2 x3 x4 xo6)]
  unfold kernelRun0_B
  dsimp only
  try sl_unfold_words
  rw [View.canon_unit_zero hz]
  simp only [View.readAt_eq_ld, harg2.read_unread, harg3.read_unread, harg4.read_unread, harg5.read_unread, harg6.read_unread, harg7.read_unread, harg8.read_unread,
    View.ld_unit_zero (S := S512x3072) hz, View.ld_unit_zero (S := S1024x3072) hz, View.ld_unit_zero (S := S512x1024) hz, View.ld_unit_zero (S := S1x1024) hz, shapeCast_self]

theorem out_A_6 (hc0 : cond0_0 i) : out0_A_6 c i arg2 harg2 arg3 harg3 arg4 harg4 arg5 harg5 arg6 harg6 arg7 harg7 arg8 harg8 hc0 x0 x1 x2 x3 x4 = k0_pay6 x0 x1 x2 (k0_pay3 (F := F)) := by
  unfold out0_A_6
  rw [View.read_writes_eq_canon _ _ _ (cover0_A_6 c i arg2 harg2 arg3 harg3 arg4 harg4 arg5 harg5 arg6 harg6 arg7 harg7 arg8 harg8 hc0 x0 x1 x2 x3 x4)]
  unfold kernelRun0_A
  dsimp only
  try sl_unfold_words
  rw [View.canon_cons_unit_zero (S := S1x1024) hz, View.readCov_unit_zero (S := S1x1024) _ hz]
  simp only [View.readAt_eq_ld, harg2.read_unread, harg3.read_unread, harg4.read_unread, harg5.read_unread, harg6.read_unread, harg7.read_unread, harg8.read_unread,
    View.ld_unit_zero (S := S512x3072) hz, View.ld_unit_zero (S := S1024x3072) hz, View.ld_unit_zero (S := S512x1024) hz, View.ld_unit_zero (S := S1x1024) hz, shapeCast_self]

theorem out_B_6 (hc0 : ¬cond0_0 i) : out0_B_6 c i arg2 harg2 arg3 harg3 arg4 harg4 arg5 harg5 arg6 harg6 arg7 harg7 arg8 harg8 hc0 x0 x1 x2 x3 x4 xo6 = k0_pay6 x0 x1 x2 xo6 := by
  unfold out0_B_6
  rw [View.read_writes_eq_canon _ _ _ (cover0_B_6 c i arg2 harg2 arg3 harg3 arg4 harg4 arg5 harg5 arg6 harg6 arg7 harg7 arg8 harg8 hc0 x0 x1 x2 x3 x4 xo6)]
  unfold kernelRun0_B
  dsimp only
  try sl_unfold_words
  rw [View.canon_unit_zero hz]
  simp only [View.readAt_eq_ld, harg2.read_unread, harg3.read_unread, harg4.read_unread, harg5.read_unread, harg6.read_unread, harg7.read_unread, harg8.read_unread,
    View.ld_unit_zero (S := S512x3072) hz, View.ld_unit_zero (S := S1024x3072) hz, View.ld_unit_zero (S := S512x1024) hz, View.ld_unit_zero (S := S1x1024) hz, shapeCast_self]

end Bodies

section Outs

variable {F : FTy → Type} [FloatOps F] (m : (ℓ : Loc nD τ sig) → Buf (Elt F) ℓ) (c : Dev nD)

theorem outs5 (t : Fin cfg0.N) : (outsAt0 m c t.val t.isLt).1 = dxB (iblk m c 0 t) (iblk m c 1 t) (iblk m c 2 t) (iblk m c 3 t) (iblk m c 4 t) := by
  by_cases h0 : t.val % 32 = 0
  · rw [outsAt0_A m c t h0]; dsimp only; rw [out_A_5]
  · rw [outsAt0_B m c t h0]; dsimp only; rw [out_B_5]

/-- What the first point leaves of the gain's gradient, and what every later one makes of what it finds. -/
def reset (n : ℕ) (h : n < cfg0.N) : Vec F S1x1024 .f32 :=
  k0_pay6 (iblk m c 0 ⟨n, h⟩) (iblk m c 1 ⟨n, h⟩) (iblk m c 2 ⟨n, h⟩) (k0_pay3 (F := F))
@[inherit_doc reset] def step (n : ℕ) (h : n < cfg0.N) (acc : Vec F S1x1024 .f32) : Vec F S1x1024 .f32 :=
  k0_pay6 (iblk m c 0 ⟨n, h⟩) (iblk m c 1 ⟨n, h⟩) (iblk m c 2 ⟨n, h⟩) acc

theorem outs6 (t : Fin cfg0.N) :
    (outsAt0 m c t.val t.isLt).2 = Pipeline.accAt (reset m c) (step m c) (32 * (t.val / 32)) (t.val % 32)
      (by have h1 := t.isLt; have h2 := Nat.div_add_mod t.val 32; omega) :=
  Pipeline.eq_accAt_of_mod (fun n h => (outsAt0 m c n h).2) 32 (reset m c) (step m c)
    (fun n h hn => by
      rw [outsAt0_A m c ⟨n, h⟩ hn]; dsimp only; rw [out_A_6]; rfl)
    (fun n h hn => by
      rw [outsAt0_B m c ⟨n + 1, h⟩ hn]; dsimp only; rw [out_B_6]; rfl)
    (by decide) t.val t.isLt _

end Outs

theorem index0 : ∀ t : Fin grid0.N, win0_0.index t = ![t.val, 0] := by decide +kernel
theorem index1 : ∀ t : Fin grid0.N, win0_1.index t = ![0, 0] := by decide +kernel
theorem index2 : ∀ t : Fin grid0.N, win0_2.index t = ![t.val, 0] := by decide +kernel
theorem index3 : ∀ t : Fin grid0.N, win0_3.index t = ![0, 0] := by decide +kernel
theorem index4 : ∀ t : Fin grid0.N, win0_4.index t = ![t.val, 0] := by decide +kernel
theorem index5 : ∀ t : Fin grid0.N, win0_5.index t = ![t.val, 0] := by decide +kernel
theorem index6 : ∀ t : Fin grid0.N, win0_6.index t = ![0, 0] := by decide +kernel

theorem point_lt (t : Fin grid0.N) : t.val < 32 := by
  have hN : grid0.N = 32 := N_0
  have ht := t.isLt
  omega

theorem row_at (t : Fin grid0.N) (a : Fin 512) : t.val * 512 + a.val = (rowB t.val a).val := by
  rw [rowB_val (point_lt t)]; omega

theorem emb0 (t : Fin grid0.N) (a : Fin 512) (k : Fin 3072) :
    ((win0_0.rect t).emb (ix2 (n0 := 512) (n1 := 3072) a k) : S16384x3072.Idx) = ix2 (rowB t.val a) k := by
  refine funext fun ax => Fin.ext ?_
  rw [Window.rect_emb_val win0_0, index0]
  fin_cases ax
  · exact row_at t a
  · exact col_at k

theorem emb1 (t : Fin grid0.N) (b : Fin 1024) (k : Fin 3072) :
    ((win0_1.rect t).emb (ix2 (n0 := 1024) (n1 := 3072) b k) : S1024x3072.Idx) = ix2 b k := by
  refine funext fun ax => Fin.ext ?_
  rw [Window.rect_emb_val win0_1, index1]
  fin_cases ax
  · exact col_at b
  · exact col_at k

theorem emb2 (t : Fin grid0.N) (a : Fin 512) (b : Fin 1024) :
    ((win0_2.rect t).emb (ix2 (n0 := 512) (n1 := 1024) a b) : S16384x1024.Idx) = ix2 (rowB t.val a) b := by
  refine funext fun ax => Fin.ext ?_
  rw [Window.rect_emb_val win0_2, index2]
  fin_cases ax
  · exact row_at t a
  · exact col_at b

theorem emb3 (t : Fin grid0.N) (b : Fin 1024) :
    ((win0_3.rect t).emb (ix2 (n0 := 1) (n1 := 1024) 0 b) : S1x1024.Idx) = ix2 0 b := by
  refine funext fun ax => Fin.ext ?_
  rw [Window.rect_emb_val win0_3, index3]
  fin_cases ax
  · exact col_at (0 : Fin 1)
  · exact col_at b

theorem emb4 (t : Fin grid0.N) (a : Fin 512) (b : Fin 1024) :
    ((win0_4.rect t).emb (ix2 (n0 := 512) (n1 := 1024) a b) : S16384x1024.Idx) = ix2 (rowB t.val a) b := by
  refine funext fun ax => Fin.ext ?_
  rw [Window.rect_emb_val win0_4, index4]
  fin_cases ax
  · exact row_at t a
  · exact col_at b

theorem emb5 (t : Fin grid0.N) (a : Fin 512) (b : Fin 1024) :
    ((win0_5.rect t).emb (ix2 (n0 := 512) (n1 := 1024) a b) : S16384x1024.Idx) = ix2 (rowB t.val a) b := by
  refine funext fun ax => Fin.ext ?_
  rw [Window.rect_emb_val win0_5, index5]
  fin_cases ax
  · exact row_at t a
  · exact col_at b

theorem emb6 (t : Fin grid0.N) (b : Fin 1024) :
    ((win0_6.rect t).emb (ix2 (n0 := 1) (n1 := 1024) 0 b) : S1x1024.Idx) = ix2 0 b := by
  refine funext fun ax => Fin.ext ?_
  rw [Window.rect_emb_val win0_6, index6]
  fin_cases ax
  · exact col_at (0 : Fin 1)
  · exact col_at b

variable (m : (ℓ : Loc nD τ sig) → Buf (Elt 𝕀) ℓ) (c : Dev nD)

abbrev a0 : FVec 𝕀 S16384x1024 .f32 := m ((c : Thread nD τ).loc main_arg0)
abbrev a1 : FVec 𝕀 S1024 .f32 := m ((c : Thread nD τ).loc main_arg1)
abbrev a2 : FVec 𝕀 S1024x3072 .f32 := m ((c : Thread nD τ).loc main_arg2)
abbrev a3 : FVec 𝕀 S16384x3072 .f32 := m ((c : Thread nD τ).loc main_arg3)
abbrev a4 : FVec 𝕀 S16384x1024 .f32 := m ((c : Thread nD τ).loc main_arg4)

theorem V_0 : V m c main_v0 = truncf .bf16 (a3 m c) bitsLt_bf16_f32 := by
  unfold V
  simp only [hostOps0, List.flatten_cons, List.flatten_nil, List.append_nil, List.cons_append, List.nil_append]
  after_results_simp <;> rfl

theorem V_1 : V m c main_v1 = truncf .bf16 (a2 m c) bitsLt_bf16_f32 := by
  unfold V
  simp only [hostOps0, List.flatten_cons, List.flatten_nil, List.append_nil, List.cons_append, List.nil_append]
  after_results_simp <;> rfl

theorem V_2 : V m c main_v2 = shapeCast _ (a1 m c) shapeCasts_S1024_S1x1024 := by
  unfold V
  simp only [hostOps0, List.flatten_cons, List.flatten_nil, List.append_nil, List.cons_append, List.nil_append]
  after_results_simp <;> rfl

theorem gain_apply (g : FVec 𝕀 S1024 .f32) (b : Fin 1024) :
    (shapeCast _ g shapeCasts_S1024_S1x1024 : FVec 𝕀 S1x1024 .f32) (ix2 0 b) = g (ix1 b) := by
  pointwise

theorem iblk0 (t : Fin grid0.N) (a : Fin 512) (k : Fin 3072) :
    (iblk m c 0 t : Vec 𝕀 S512x3072 .bf16) (ix2 a k) = a3 m c (ix2 (rowB t.val a) k) :=
  (congrArg (V m c main_v0 : Vec 𝕀 S16384x3072 .bf16) (emb0 t a k)).trans (by rw [V_0]; rfl)

theorem iblk1 (t : Fin grid0.N) (b : Fin 1024) (k : Fin 3072) :
    (iblk m c 1 t : Vec 𝕀 S1024x3072 .bf16) (ix2 b k) = a2 m c (ix2 b k) :=
  (congrArg (V m c main_v1 : Vec 𝕀 S1024x3072 .bf16) (emb1 t b k)).trans (by rw [V_1]; rfl)

theorem iblk2 (t : Fin grid0.N) (a : Fin 512) (b : Fin 1024) :
    (iblk m c 2 t : Vec 𝕀 S512x1024 .f32) (ix2 a b) = a0 m c (ix2 (rowB t.val a) b) :=
  (congrArg (V m c main_arg0 : Vec 𝕀 S16384x1024 .f32) (emb2 t a b)).trans (by rw [V_main_arg0])

theorem iblk3 (t : Fin grid0.N) (b : Fin 1024) :
    (iblk m c 3 t : Vec 𝕀 S1x1024 .f32) (ix2 0 b) = a1 m c (ix1 b) :=
  (congrArg (V m c main_v2 : Vec 𝕀 S1x1024 .f32) (emb3 t b)).trans (by rw [V_2]; exact gain_apply _ _)

theorem iblk4 (t : Fin grid0.N) (a : Fin 512) (b : Fin 1024) :
    (iblk m c 4 t : Vec 𝕀 S512x1024 .f32) (ix2 a b) = a4 m c (ix2 (rowB t.val a) b) :=
  (congrArg (V m c main_arg4 : Vec 𝕀 S16384x1024 .f32) (emb4 t a b)).trans (by rw [V_main_arg4])

theorem dx_apply (t : Fin grid0.N) (a : Fin 512) (b : Fin 1024) :
    dxB (iblk m c 0 t) (iblk m c 1 t) (iblk m c 2 t) (iblk m c 3 t) (iblk m c 4 t) (ix2 a b)
      = GX (a0 m c) (a1 m c) (a2 m c) (a3 m c) (a4 m c) (ix2 (rowB t.val a) b) := by
  unfold dxB
  rw [pay1_apply, pay4_apply, pay5_apply, pay8_apply]
  simp only [pay7_apply, pay5_apply, pay2_apply, iblk0, iblk1, iblk2, iblk3, iblk4]
  rfl

theorem after5 (t : Fin cfg0.N) :
    ((dats m 0 c).after 5 t : Vec 𝕀 S512x1024 .f32) = dxB (iblk m c 0 t) (iblk m c 1 t) (iblk m c 2 t) (iblk m c 3 t) (iblk m c 4 t) :=
  (after0_5 m c t).trans (outs5 m c t)

/-- If a block holds `Z`'s values, it is that block of the array. -/
theorem rows5 (Y : Vec 𝕀 S512x1024 .f32) (Z : FVec 𝕀 S16384x1024 .f32) (t : Fin grid0.N)
    (h : ∀ a b, Y (ix2 a b) = Z (ix2 (rowB t.val a) b)) (y : S512x1024.Idx) : Y y = Z ((win0_5.rect t).emb y) := by
  obtain ⟨a, b, rfl⟩ : ∃ a b, y = ix2 (n0 := 512) (n1 := 1024) a b := ⟨_, _, ix2_eta y⟩
  rw [h, congrArg Z (emb5 t a b)]

theorem covers5 : win0_5.Covers := by decide +kernel

theorem final5 : (dats m 0 c).arrAt 5 cfg0.N = GX (a0 m c) (a1 m c) (a2 m c) (a3 m c) (a4 m c) := by
  refine (dats m 0 c).arrAt_eq_of_covers 5 _ covers5 fun t _ y => ?_
  have e := rows5 ((dats m 0 c).after 5 t) (GX (a0 m c) (a1 m c) (a2 m c) (a3 m c) (a4 m c)) t (fun a b => by rw [after5]; exact dx_apply m c t a b)
  exact e y

/-- What grid point `n` adds. -/
def term (n : ℕ) (y : S1x1024.Idx) : EReal :=
  ∑ k : Fin 512, D (a2 m c) (a3 m c) (rowB n k) (y 1) * (a0 m c (ix2 (rowB n k) (y 1)) * invRoot (rowOf (a0 m c) (rowB n k)))

theorem step_apply (n : ℕ) (h : n < cfg0.N) (acc : Vec 𝕀 S1x1024 .f32) (y : S1x1024.Idx) : step m c n h acc y = acc y + term m c n y := by
  obtain ⟨b, rfl⟩ : ∃ b, y = ix2 (n0 := 1) (n1 := 1024) 0 b := ⟨y 1, (ix2_eta y).trans (congrArg (ix2 · (y 1)) (Subsingleton.elim (α := Fin 1) _ _))⟩
  unfold step
  rw [pay6_apply]
  simp only [pay5_apply, pay2_apply, iblk0, iblk1, iblk2]
  rfl

theorem reset_apply (n : ℕ) (h : n < cfg0.N) (y : S1x1024.Idx) : reset m c n h y = 0 + term m c n y := by
  refine (step_apply m c n h (k0_pay3 (F := 𝕀)) y).trans (congrArg (· + _) ?_)
  rw [ix2_eta y]
  exact (congrArg (fun z => k0_pay3 (F := 𝕀) (ix2 z (y 1))) (Subsingleton.elim (α := Fin 1) (y 0) 0)).trans (pay3_apply _)

theorem acc_eq (s j : ℕ) (hs : s = 0) (hj : j = 31) (h : s + j < cfg0.N) : Pipeline.accAt (reset m c) (step m c) s j h = GG (a0 m c) (a2 m c) (a3 m c) := by
  subst hs hj
  funext y
  refine (Pipeline.accAt_add_apply (β := EReal) (ι := S1x1024.Idx) (reset m c) (step m c) (fun _ => 0) (term m c) 0 31
    (fun h y => reset_apply m c _ h y) (fun n h acc y _ _ => step_apply m c n h acc y) 31 le_rfl _ _).trans ?_
  unfold GG
  rw [sum_rowB, zero_add]
  refine Finset.sum_congr rfl fun s _ => ?_
  rw [zero_add]
  rfl

theorem last6 : ∀ t : Fin grid0.N, win0_6.flush t = true → t.val = 31 := by decide +kernel

theorem after6 (t : Fin cfg0.N) (h : t.val = 31) : ((dats m 0 c).after 6 t : Vec 𝕀 S1x1024 .f32) = GG (a0 m c) (a2 m c) (a3 m c) :=
  (after0_6 m c t).trans ((outs6 m c t).trans (acc_eq m c _ _ (by omega) (by omega) _))

theorem rows6 (Y Z : FVec 𝕀 S1x1024 .f32) (t : Fin grid0.N) (h : Y = Z) (y : S1x1024.Idx) : Y y = Z ((win0_6.rect t).emb y) := by
  obtain ⟨b, rfl⟩ : ∃ b, y = ix2 (n0 := 1) (n1 := 1024) 0 b := ⟨y 1, (ix2_eta y).trans (congrArg (ix2 · (y 1)) (Subsingleton.elim (α := Fin 1) _ _))⟩
  rw [h, congrArg Z (emb6 t b)]

theorem covers6 : win0_6.Covers := by decide +kernel

theorem final6 : (dats m 0 c).arrAt 6 cfg0.N = GG (a0 m c) (a2 m c) (a3 m c) := by
  refine (dats m 0 c).arrAt_eq_of_covers 6 _ covers6 fun t hf y => ?_
  have e := rows6 ((dats m 0 c).after 6 t) (GG (a0 m c) (a2 m c) (a3 m c)) t (after6 m c t (last6 t hf))
  exact e y

end Kernel

section Reference

open Cert.Reference8Ideal Cert.Reference8Ideal.Read

variable (X : FVec 𝕀 S16384x1024 .f32) (g : FVec 𝕀 S1024 .f32) (W : FVec 𝕀 S1024x3072 .f32) (U : FVec 𝕀 S16384x3072 .f32) (H : FVec 𝕀 S16384x1024 .f32)

theorem ref_dot (a : Fin 16384) (b : Fin 1024) : val_main_v17 (F := 𝕀) W U (ix2 a b) = D W U a b := by
  rw [val_main_v17_apply]
  refine Finset.sum_congr rfl fun k _ => ?_
  congr 1 <;> refine congrArg _ (funext fun ax => ?_) <;> fin_cases ax <;> rfl

theorem ref_ms (a : Fin 16384) : val_main_v6 (F := 𝕀) X (ix2 a 0) = ms (rowOf X a) := UpX.ref_ms X a

theorem ref_inv (a : Fin 16384) : val_main_v7 (F := 𝕀) X (ix2 a 0) = invRoot (rowOf X a) := UpX.ref_inv X a

theorem ref_up (a : Fin 16384) (b : Fin 1024) : val_main_v22 (F := 𝕀) g W U (ix2 a b) = D W U a b * g (ix1 b) := by
  rw [← ref_dot]
  unfold val_main_v22
  generalize val_main_v17 (F := 𝕀) W U = y
  pointwise [val_main_v21, val_main_v13]

theorem ref_coef (a : Fin 16384) (b : Fin 1024) :
    val_main_v34 (F := 𝕀) X g W U (ix2 a b) = coef (rowOf X a) (fun k => D W U a k * g (ix1 k)) := by
  unfold coef
  simp only [← ref_up, ← ref_inv, ← ref_ms]
  unfold val_main_v34 val_main_v33 val_main_v32 val_main_v30 val_main_v26 val_main_v25 val_main_v24 val_main_v10 val_main_v8
  generalize val_main_v22 (F := 𝕀) g W U = y
  generalize val_main_v7 (F := 𝕀) X = z
  generalize val_main_v6 (F := 𝕀) X = w
  pointwise [val_main_v9, val_main_v31, val_main_cst_2, val_main_cst_5, val_main_cst_6, val_main_cst_7]
  rw [Fin.sum_univ_one]

theorem ref_dx : val_main_v38 (F := 𝕀) X g W U H = GX X g W U H := by
  funext i
  obtain ⟨a, b, rfl⟩ : ∃ a b, i = ix2 (n0 := 16384) (n1 := 1024) a b := ⟨_, _, ix2_eta i⟩
  refine Eq.trans ?_ (row_eq (rowOf X a) (fun k => D W U a k * g (ix1 k)) (H (ix2 a b)) b).symm
  show _ = H (ix2 a b) + D W U a b * g (ix1 b) * invRoot (rowOf X a) + X (ix2 a b) * coef (rowOf X a) (fun k => D W U a k * g (ix1 k))
    + coef (rowOf X a) (fun k => D W U a k * g (ix1 k)) * X (ix2 a b)
  rw [← ref_coef X g W U a b, ← ref_up, ← ref_inv]
  unfold val_main_v38 val_main_v37 val_main_v36 val_main_v35 val_main_v29 val_main_v28
  generalize val_main_v34 (F := 𝕀) X g W U = y
  generalize val_main_v22 (F := 𝕀) g W U = z
  unfold val_main_v27
  generalize val_main_v7 (F := 𝕀) X = w
  pointwise

theorem ref_dg : val_main_v39 (F := 𝕀) X W U = GG X W U := by
  funext i
  obtain ⟨b, rfl⟩ : ∃ b, i = ix2 (n0 := 1) (n1 := 1024) 0 b := ⟨i 1, (ix2_eta i).trans (congrArg (ix2 · (i 1)) (Subsingleton.elim (α := Fin 1) _ _))⟩
  show _ = ∑ r : Fin 16384, D W U r b * (X (ix2 r b) * invRoot (rowOf X r))
  simp only [← ref_dot, ← ref_inv]
  unfold val_main_v39 val_main_v23 val_main_v20 val_main_v19 val_main_v18 val_main_v12 val_main_v11
  generalize val_main_v17 (F := 𝕀) W U = y
  generalize val_main_v7 (F := 𝕀) X = z
  simp only [mul_comm (y _)]
  pointwise [val_main_cst_3, val_main_cst_4]
  rw [Fin.sum_univ_one]

end Reference

attribute [local instance] Cert.Kernel8Ideal.Gen.facts Cert.Reference8Ideal.Gen.facts

/-- The two programs end with the same two arrays. -/
theorem algebraic : Cert.algebraic_Kernel8Ideal_Reference8Ideal := fun m g m' g' _ hargs =>
  ⟨fun c => GX (a0 m c) (a1 m c) (a2 m c) (a3 m c) (a4 m c), fun c => GG (a0 m c) (a2 m c) (a3 m c),
    (θ_run Cert.Kernel8Ideal.defs _ _).mono (fun _ h c => ⟨(h c).1.trans (final5 m c), (h c).2.1.trans (final6 m c), (h c).2.2⟩) (Cert.Kernel8Ideal.Value.run_blocks (F := 𝕀) m g),
    (θ_run Cert.Reference8Ideal.defs _ _).mono (fun _ h c => ⟨((h c).1.trans (Cert.Reference8Ideal.Read.val_main_v38_eq _ _)).trans (by
        rw [(hargs c).1, (hargs c).2.1, (hargs c).2.2.1, (hargs c).2.2.2.1, (hargs c).2.2.2.2]; exact ref_dx _ _ _ _ _),
      ((h c).2.1.trans (Cert.Reference8Ideal.Read.val_main_v39_eq _ _ _)).trans (by
        rw [(hargs c).1, (hargs c).2.2.1, (hargs c).2.2.2.1]; exact ref_dg _ _ _), (h c).2.2⟩) (Cert.Reference8Ideal.Value.run (F := 𝕀) m' g')⟩

end Cert.Proof.Even.InX
end
-- ==== Proof.Even.InW.lean ====
module

public import proofs.«01_k».proof.Defs
public import proofs.«01_k».proof.Proof.Mlp.Up
public import proofs.«01_k».proof.Proof.Gen.Kernel9Ideal.Value
public import proofs.«01_k».proof.Proof.Gen.Reference9Ideal.Run
public import proofs.«01_k».proof.Proof.Gen.Reference9Ideal.Read
public import Idealize.ShloMosaic.Lib.Pipeline.ValueKit.Geometry

@[expose] public section

/-! # The gradient of an even layer's first weight: one product over all rows -/

noncomputable section

namespace Cert.Proof.Even.InW

open Idealize.ShloMosaic Idealize.ShloMosaic.TcCoe Idealize.SL.Sem
open Idealize.ShloMosaic.Pipeline (Window Dat)
open Cert.Proof.Mlp

local notation "𝕀" => Idealize.ShloMosaic.Ideal

section Kernel

open Cert.Kernel9Ideal Cert.Kernel9Ideal.Gen Cert.Kernel9Ideal.Value

/-- What both programs compute: entry `(a, b)` sums over the rows. -/
def G (X : FVec 𝕀 S16384x1024 .f32) (U : FVec 𝕀 S16384x3072 .f32) : FVec 𝕀 S1024x3072 .f32 := fun i =>
  ∑ k : Fin 16384, X (ix2 k (i 0)) * U (ix2 k (i 1))

theorem index0 : ∀ t : Fin grid0.N, win0_0.index t = ![t.val % 16, 0] := by decide +kernel
theorem index1 : ∀ t : Fin grid0.N, win0_1.index t = ![t.val % 16, t.val / 16] := by decide +kernel

theorem pay_apply (acc : Vec 𝕀 S1024x1024 .f32) (x y : Vec 𝕀 S1024x1024 .bf16) (a b : Fin 1024) :
    k0_pay2 acc x y (ix2 a b) = acc (ix2 a b) + ∑ k : Fin 1024, x (ix2 k a) * y (ix2 k b) := Up.pay_apply acc x y a b

theorem pay_zero (a b : Fin 1024) : k0_pay1 (F := 𝕀) (ix2 a b) = 0 := Up.pay_zero a b

/-- Column `b` of column block `q`. -/
def col (q : ℕ) (b : Fin 1024) : Fin 3072 := Fin.ofNat 3072 (1024 * q + b.val)

theorem col_val {q : ℕ} (hq : q < 3) (b : Fin 1024) : (col q b).val = 1024 * q + b.val :=
  Nat.mod_eq_of_lt (by omega)

theorem read0 (Y : Vec 𝕀 S16384x1024 .bf16) (t : Fin grid0.N) (k a : Fin 1024) :
    (((cfg0.win 0).blk t).view.read (Elt 𝕀) Y : Vec 𝕀 S1024x1024 .bf16) (ix2 k a) = Y (ix2 (row (t.val % 16) k) a) := by
  show Y ((win0_0.rect t).emb (ix2 (n0 := 1024) (n1 := 1024) k a)) = _
  refine congrArg Y (funext fun ax => Fin.ext ?_)
  rw [Window.rect_emb_val win0_0, index0]
  fin_cases ax
  · show t.val % 16 * 1024 + k.val = (row (t.val % 16) k).val
    rw [row_val (Nat.mod_lt _ (by norm_num))]; omega
  · show 0 * 1024 + a.val = a.val; omega

theorem read1 (Y : Vec 𝕀 S16384x3072 .bf16) (t : Fin grid0.N) (k b : Fin 1024) :
    (((cfg0.win 1).blk t).view.read (Elt 𝕀) Y : Vec 𝕀 S1024x1024 .bf16) (ix2 k b) = Y (ix2 (row (t.val % 16) k) (col (t.val / 16) b)) := by
  show Y ((win0_1.rect t).emb (ix2 (n0 := 1024) (n1 := 1024) k b)) = _
  refine congrArg Y (funext fun ax => Fin.ext ?_)
  have hN : grid0.N = 48 := N_0
  have ht := t.isLt
  rw [Window.rect_emb_val win0_1, index1]
  fin_cases ax
  · show t.val % 16 * 1024 + k.val = (row (t.val % 16) k).val
    rw [row_val (Nat.mod_lt _ (by norm_num))]; omega
  · show t.val / 16 * 1024 + b.val = (col (t.val / 16) b).val
    rw [col_val (by omega)]; omega

variable (m : (ℓ : Loc nD τ sig) → Buf (Elt 𝕀) ℓ) (c : Dev nD)

abbrev a0 : FVec 𝕀 S16384x1024 .f32 := m ((c : Thread nD τ).loc main_arg0)
abbrev a1 : FVec 𝕀 S16384x3072 .f32 := m ((c : Thread nD τ).loc main_arg1)

theorem V_0 : V m c main_v0 = truncf .bf16 (a0 m c) bitsLt_bf16_f32 := by
  unfold V
  simp only [hostOps0, List.flatten_cons, List.flatten_nil, List.append_nil, List.cons_append, List.nil_append]
  after_results_simp <;> rfl

theorem V_1 : V m c main_v1 = truncf .bf16 (a1 m c) bitsLt_bf16_f32 := by
  unfold V
  simp only [hostOps0, List.flatten_cons, List.flatten_nil, List.append_nil, List.cons_append, List.nil_append]
  after_results_simp <;> rfl

theorem iblk0 (t : Fin grid0.N) (k a : Fin 1024) :
    (iblk m c 0 t : Vec 𝕀 S1024x1024 .bf16) (ix2 k a) = a0 m c (ix2 (row (t.val % 16) k) a) :=
  (read0 (V m c main_v0) t k a).trans (by rw [V_0]; rfl)

theorem iblk1 (t : Fin grid0.N) (k b : Fin 1024) :
    (iblk m c 1 t : Vec 𝕀 S1024x1024 .bf16) (ix2 k b) = a1 m c (ix2 (row (t.val % 16) k) (col (t.val / 16) b)) :=
  (read1 (V m c main_v1) t k b).trans (by rw [V_1]; rfl)

/-- What grid point `n` adds. -/
def term (n : ℕ) (y : S1024x1024.Idx) : EReal :=
  ∑ k : Fin 1024, a0 m c (ix2 (row (n % 16) k) (y 0)) * a1 m c (ix2 (row (n % 16) k) (col (n / 16) (y 1)))

theorem step_apply (n : ℕ) (h : n < cfg0.N) (acc : Vec 𝕀 S1024x1024 .f32) (y : S1024x1024.Idx) :
    step2 m c n h acc y = acc y + term m c n y := by
  obtain ⟨a, b, rfl⟩ : ∃ a b, y = ix2 (n0 := 1024) (n1 := 1024) a b := ⟨_, _, ix2_eta y⟩
  unfold step2
  rw [pay_apply]
  simp only [iblk0, iblk1]
  rfl

theorem reset_apply (n : ℕ) (h : n < cfg0.N) (y : S1024x1024.Idx) :
    reset2 m c n h y = 0 + term m c n y := by
  obtain ⟨a, b, rfl⟩ : ∃ a b, y = ix2 (n0 := 1024) (n1 := 1024) a b := ⟨_, _, ix2_eta y⟩
  unfold reset2
  rw [pay_apply, pay_zero]
  simp only [iblk0, iblk1]
  rfl

theorem G_eq : G2 m c = G (a0 m c) (a1 m c) := by
  funext i
  have h0 : (i 0).val < 1024 := (i 0).isLt
  have h1 : (i 1).val < 3072 := (i 1).isLt
  have hN : cfg0.N = 48 := N_0
  have hr : run2Of i = (i 1).val / 1024 := by show 3 * ((i 0).val / 1024 - 0) + 1 * ((i 1).val / 1024 - 0) = _; omega
  unfold G2
  rw [dif_pos (by rw [hr, hN]; omega)]
  refine (Pipeline.accAt_add_apply (β := EReal) (ι := S1024x1024.Idx) (reset2 m c) (step2 m c) (fun _ => 0) (term m c) (16 * run2Of i) 15
    (fun h y => reset_apply m c _ h y) (fun n h acc y _ _ => step_apply m c n h acc y) 15 le_rfl _ _).trans ?_
  unfold G
  rw [sum_row, zero_add]
  refine Finset.sum_congr rfl fun s hs => ?_
  have hs' := Finset.mem_range.mp hs
  unfold term
  have e1 : (16 * run2Of i + s) % 16 = s := by omega
  have e2 : (16 * run2Of i + s) / 16 = (i 1).val / 1024 := by omega
  have e3 : (loc2Of i 0 : Fin 1024) = i 0 := Fin.ext (Nat.mod_eq_of_lt h0)
  have e4 : col ((i 1).val / 1024) (loc2Of i 1) = i 1 := Fin.ext ((col_val (by omega) _).trans (by
    show 1024 * ((i 1).val / 1024) + (i 1).val % 1024 = _; omega))
  rw [e1, e2, e3, e4]

end Kernel

section Reference

open Cert.Reference9Ideal Cert.Reference9Ideal.Read

theorem ref_eq (X : FVec 𝕀 S16384x1024 .f32) (U : FVec 𝕀 S16384x3072 .f32) : val_main_v3 (F := 𝕀) X U = G X U := by
  funext i
  obtain ⟨a, b, rfl⟩ : ∃ a b, i = ix2 (n0 := 1024) (n1 := 3072) a b := ⟨_, _, ix2_eta i⟩
  rw [val_main_v3_apply, val_main_v2_apply]
  unfold G
  refine Finset.sum_congr rfl fun k _ => ?_
  rw [mul_comm]
  congr 1 <;> refine congrArg _ (funext fun ax => ?_) <;> fin_cases ax <;> rfl

end Reference

attribute [local instance] Cert.Kernel9Ideal.Gen.facts Cert.Reference9Ideal.Gen.facts

/-- The two programs end with the same array. -/
theorem algebraic : Cert.algebraic_Kernel9Ideal_Reference9Ideal := fun m g m' g' _ hargs =>
  ⟨fun c => G (a0 m c) (a1 m c),
    (θ_run Cert.Kernel9Ideal.defs _ _).mono (fun _ h c => ⟨(h c).1.trans (G_eq m c), (h c).2⟩) (Cert.Kernel9Ideal.Value.run (F := 𝕀) m g),
    (θ_run Cert.Reference9Ideal.defs _ _).mono (fun _ h c => ⟨((h c).1.trans (Cert.Reference9Ideal.Read.val_main_v3_eq _ _)).trans (by
        rw [(hargs c).1, (hargs c).2]; exact ref_eq _ _), (h c).2⟩) (Cert.Reference9Ideal.Value.run (F := 𝕀) m' g')⟩

end Cert.Proof.Even.InW
end
-- ==== Proof.Even.OutX.lean ====
module

public import proofs.«01_k».proof.Defs
public import proofs.«01_k».proof.Proof.Mlp.DownFwd
public import proofs.«01_k».proof.Proof.Gen.Kernel10Ideal.Value
public import proofs.«01_k».proof.Proof.Gen.Reference10Ideal.Run
public import proofs.«01_k».proof.Proof.Gen.Reference10Ideal.Read
public import Idealize.ShloMosaic.Lib.Pipeline.ValueKit.Geometry

@[expose] public section

/-! # The gradient of an even layer's attention outputs -/

noncomputable section

namespace Cert.Proof.Even.OutX

open Idealize.ShloMosaic Idealize.ShloMosaic.TcCoe Idealize.SL.Sem
open Idealize.ShloMosaic.Pipeline (Window Dat)
open Cert.Proof.Mlp
open Cert.Proof.Mlp.DownFwd (hz)

local notation "𝕀" => Idealize.ShloMosaic.Ideal

section Kernel

open Cert.Kernel10Ideal Cert.Kernel10Ideal.Gen Cert.Kernel10Ideal.Value

/-- What both programs compute: the incoming gradient through the weight. -/
def G (W : FVec 𝕀 S768x1024 .f32) (H : FVec 𝕀 S16384x1024 .f32) : FVec 𝕀 S16384x768 .f32 := fun i =>
  ∑ k : Fin 1024, H (ix2 (i 0) k) * W (ix2 (i 1) k)

theorem index0 : ∀ t : Fin grid0.N, win0_0.index t = ![t.val, 0] := by decide +kernel
theorem index1 : ∀ t : Fin grid0.N, win0_1.index t = ![0, 0] := by decide +kernel
theorem index2 : ∀ t : Fin grid0.N, win0_2.index t = ![t.val, 0] := by decide +kernel

theorem pay_apply (x : Vec 𝕀 S1024x1024 .f32) (w : Vec 𝕀 S768x1024 .bf16) (a : Fin 1024) (b : Fin 768) :
    k0_pay1 x w (ix2 a b) = ∑ k : Fin 1024, x (ix2 a k) * w (ix2 b k) := by
  unfold k0_pay1
  pointwise

theorem out_eq (x : Vec 𝕀 S1024x1024 .f32) (w : Vec 𝕀 S768x1024 .bf16) : out0_2 x w = k0_pay1 x w := by
  unfold out0_2
  rw [View.canon_unit_zero hz, View.ld_unit_zero (S := S1024x1024) hz, View.ld_unit_zero (S := S768x1024) hz]

theorem point_lt (t : Fin grid0.N) : t.val < 16 := by
  have hN : grid0.N = 16 := N_0
  have ht := t.isLt
  omega

theorem row_at (t : Fin grid0.N) (a : Fin 1024) : t.val * 1024 + a.val = (row t.val a).val := by
  rw [row_val (point_lt t)]; omega

theorem col_at {n : ℕ} (b : Fin n) : 0 * n + b.val = b.val := by omega

theorem emb0 (t : Fin grid0.N) (a k : Fin 1024) :
    ((win0_0.rect t).emb (ix2 (n0 := 1024) (n1 := 1024) a k) : S16384x1024.Idx) = ix2 (row t.val a) k := by
  refine funext fun ax => Fin.ext ?_
  rw [Window.rect_emb_val win0_0, index0]
  fin_cases ax
  · exact row_at t a
  · exact col_at k

theorem emb1 (t : Fin grid0.N) (b : Fin 768) (k : Fin 1024) :
    ((win0_1.rect t).emb (ix2 (n0 := 768) (n1 := 1024) b k) : S768x1024.Idx) = ix2 b k := by
  refine funext fun ax => Fin.ext ?_
  rw [Window.rect_emb_val win0_1, index1]
  fin_cases ax
  · exact col_at b
  · exact col_at k

theorem emb2 (t : Fin grid0.N) (a : Fin 1024) (b : Fin 768) :
    ((win0_2.rect t).emb (ix2 (n0 := 1024) (n1 := 768) a b) : S16384x768.Idx) = ix2 (row t.val a) b := by
  refine funext fun ax => Fin.ext ?_
  rw [Window.rect_emb_val win0_2, index2]
  fin_cases ax
  · exact row_at t a
  · exact col_at b

variable (m : (ℓ : Loc nD τ sig) → Buf (Elt 𝕀) ℓ) (c : Dev nD)

abbrev a0 : FVec 𝕀 S768x1024 .f32 := m ((c : Thread nD τ).loc main_arg0)
abbrev a1 : FVec 𝕀 S16384x1024 .f32 := m ((c : Thread nD τ).loc main_arg1)

theorem V_0 : V m c main_v0 = truncf .bf16 (a0 m c) bitsLt_bf16_f32 := by
  unfold V
  simp only [hostOps0, List.flatten_cons, List.flatten_nil, List.append_nil, List.cons_append, List.nil_append]
  after_results_simp <;> rfl

theorem iblk0 (t : Fin grid0.N) (a k : Fin 1024) :
    (iblk m c 0 t : Vec 𝕀 S1024x1024 .f32) (ix2 a k) = a1 m c (ix2 (row t.val a) k) :=
  (congrArg (V m c main_arg1 : Vec 𝕀 S16384x1024 .f32) (emb0 t a k)).trans (by rw [V_main_arg1])

theorem iblk1 (t : Fin grid0.N) (b : Fin 768) (k : Fin 1024) :
    (iblk m c 1 t : Vec 𝕀 S768x1024 .bf16) (ix2 b k) = a0 m c (ix2 b k) :=
  (congrArg (V m c main_v0 : Vec 𝕀 S768x1024 .bf16) (emb1 t b k)).trans (by rw [V_0]; rfl)

theorem after_apply (t : Fin grid0.N) (a : Fin 1024) (b : Fin 768) :
    ((dats m 0 c).after 2 t : Vec 𝕀 S1024x768 .f32) (ix2 a b) = G (a0 m c) (a1 m c) (ix2 (row t.val a) b) := by
  rw [after0_2, out_eq, pay_apply]
  simp only [iblk0, iblk1]
  rfl

/-- If a block holds an array's values, it is that block of the array. -/
theorem read2 (Y : Vec 𝕀 S1024x768 .f32) (Z : FVec 𝕀 S16384x768 .f32) (t : Fin grid0.N)
    (h : ∀ a b, Y (ix2 a b) = Z (ix2 (row t.val a) b)) (y : S1024x768.Idx) : Y y = Z ((win0_2.rect t).emb y) := by
  obtain ⟨a, b, rfl⟩ : ∃ a b, y = ix2 (n0 := 1024) (n1 := 768) a b := ⟨_, _, ix2_eta y⟩
  rw [h, congrArg Z (emb2 t a b)]

theorem covers2 : win0_2.Covers := by decide +kernel

theorem final2 : (dats m 0 c).arrAt 2 cfg0.N = G (a0 m c) (a1 m c) := by
  refine (dats m 0 c).arrAt_eq_of_covers 2 _ covers2 fun t _ y => ?_
  have e := read2 ((dats m 0 c).after 2 t) (G (a0 m c) (a1 m c)) t (after_apply m c t)
  exact e y

end Kernel

section Reference

open Cert.Reference10Ideal Cert.Reference10Ideal.Read

theorem ref_eq (W : FVec 𝕀 S768x1024 .f32) (H : FVec 𝕀 S16384x1024 .f32) : val_main_v2 (F := 𝕀) W H = G W H := by
  funext i
  obtain ⟨a, b, rfl⟩ : ∃ a b, i = ix2 (n0 := 16384) (n1 := 768) a b := ⟨_, _, ix2_eta i⟩
  rw [val_main_v2_apply]
  refine Finset.sum_congr rfl fun k _ => ?_
  congr 1 <;> refine congrArg _ (funext fun ax => ?_) <;> fin_cases ax <;> rfl

end Reference

attribute [local instance] Cert.Kernel10Ideal.Gen.facts Cert.Reference10Ideal.Gen.facts

/-- The two programs end with the same array. -/
theorem algebraic : Cert.algebraic_Kernel10Ideal_Reference10Ideal := fun m g m' g' _ hargs =>
  ⟨fun c => G (a0 m c) (a1 m c),
    (θ_run Cert.Kernel10Ideal.defs _ _).mono (fun _ h c => ⟨(h c).1.trans (final2 m c), (h c).2⟩) (Cert.Kernel10Ideal.Value.run_blocks (F := 𝕀) m g),
    (θ_run Cert.Reference10Ideal.defs _ _).mono (fun _ h c => ⟨((h c).1.trans (Cert.Reference10Ideal.Read.val_main_v2_eq _ _)).trans (by
        rw [(hargs c).1, (hargs c).2]; exact ref_eq _ _), (h c).2⟩) (Cert.Reference10Ideal.Value.run (F := 𝕀) m' g')⟩

end Cert.Proof.Even.OutX
end
-- ==== Proof.Even.OutW.lean ====
module

public import proofs.«01_k».proof.Defs
public import proofs.«01_k».proof.Proof.Mlp.DownFwd
public import proofs.«01_k».proof.Proof.Gen.Kernel11Ideal.Value
public import proofs.«01_k».proof.Proof.Gen.Reference11Ideal.Run
public import proofs.«01_k».proof.Proof.Gen.Reference11Ideal.Read
public import Idealize.ShloMosaic.Lib.Pipeline.ValueKit.Geometry

@[expose] public section

/-! # The gradient of an even layer's second weight: one product over all rows -/

noncomputable section

namespace Cert.Proof.Even.OutW

open Idealize.ShloMosaic Idealize.ShloMosaic.TcCoe Idealize.SL.Sem
open Idealize.ShloMosaic.Pipeline (Window Dat)
open Cert.Proof.Mlp
open Cert.Proof.Mlp.DownFwd (colB colB_val)

local notation "𝕀" => Idealize.ShloMosaic.Ideal

section Kernel

open Cert.Kernel11Ideal Cert.Kernel11Ideal.Gen Cert.Kernel11Ideal.Value

/-- What both programs compute: entry `(a, b)` sums over the rows. -/
def G (A : FVec 𝕀 S16384x768 .f32) (H : FVec 𝕀 S16384x1024 .f32) : FVec 𝕀 S768x1024 .f32 := fun i =>
  ∑ k : Fin 16384, A (ix2 k (i 0)) * H (ix2 k (i 1))

theorem index0 : ∀ t : Fin grid0.N, win0_0.index t = ![t.val % 16, 0] := by decide +kernel
theorem index1 : ∀ t : Fin grid0.N, win0_1.index t = ![t.val % 16, t.val / 16] := by decide +kernel

theorem pay_apply (acc : Vec 𝕀 S768x512 .f32) (x : Vec 𝕀 S1024x768 .bf16) (y : Vec 𝕀 S1024x512 .f32) (a : Fin 768) (b : Fin 512) :
    k0_pay2 acc x y (ix2 a b) = acc (ix2 a b) + ∑ k : Fin 1024, x (ix2 k a) * y (ix2 k b) := by
  unfold k0_pay2
  pointwise

theorem pay_zero (a : Fin 768) (b : Fin 512) : k0_pay1 (F := 𝕀) (ix2 a b) = 0 := by
  unfold k0_pay1
  pointwise

theorem emb0 (t : Fin grid0.N) (k : Fin 1024) (a : Fin 768) :
    ((win0_0.rect t).emb (ix2 (n0 := 1024) (n1 := 768) k a) : S16384x768.Idx) = ix2 (row (t.val % 16) k) a := by
  refine funext fun ax => Fin.ext ?_
  rw [Window.rect_emb_val win0_0, index0]
  fin_cases ax
  · show t.val % 16 * 1024 + k.val = (row (t.val % 16) k).val
    rw [row_val (Nat.mod_lt _ (by norm_num))]; omega
  · show 0 * 768 + a.val = a.val; omega

theorem emb1 (t : Fin grid0.N) (k : Fin 1024) (b : Fin 512) :
    ((win0_1.rect t).emb (ix2 (n0 := 1024) (n1 := 512) k b) : S16384x1024.Idx) = ix2 (row (t.val % 16) k) (colB (t.val / 16) b) := by
  refine funext fun ax => Fin.ext ?_
  have hN : grid0.N = 32 := N_0
  have ht := t.isLt
  rw [Window.rect_emb_val win0_1, index1]
  fin_cases ax
  · show t.val % 16 * 1024 + k.val = (row (t.val % 16) k).val
    rw [row_val (Nat.mod_lt _ (by norm_num))]; omega
  · show t.val / 16 * 512 + b.val = (colB (t.val / 16) b).val
    rw [colB_val (by omega)]; omega

variable (m : (ℓ : Loc nD τ sig) → Buf (Elt 𝕀) ℓ) (c : Dev nD)

abbrev a0 : FVec 𝕀 S16384x768 .f32 := m ((c : Thread nD τ).loc main_arg0)
abbrev a1 : FVec 𝕀 S16384x1024 .f32 := m ((c : Thread nD τ).loc main_arg1)

theorem V_0 : V m c main_v0 = truncf .bf16 (a0 m c) bitsLt_bf16_f32 := by
  unfold V
  simp only [hostOps0, List.flatten_cons, List.flatten_nil, List.append_nil, List.cons_append, List.nil_append]
  after_results_simp <;> rfl

theorem iblk0 (t : Fin grid0.N) (k : Fin 1024) (a : Fin 768) :
    (iblk m c 0 t : Vec 𝕀 S1024x768 .bf16) (ix2 k a) = a0 m c (ix2 (row (t.val % 16) k) a) :=
  (congrArg (V m c main_v0 : Vec 𝕀 S16384x768 .bf16) (emb0 t k a)).trans (by rw [V_0]; rfl)

theorem iblk1 (t : Fin grid0.N) (k : Fin 1024) (b : Fin 512) :
    (iblk m c 1 t : Vec 𝕀 S1024x512 .f32) (ix2 k b) = a1 m c (ix2 (row (t.val % 16) k) (colB (t.val / 16) b)) :=
  (congrArg (V m c main_arg1 : Vec 𝕀 S16384x1024 .f32) (emb1 t k b)).trans (by rw [V_main_arg1])

/-- What grid point `n` adds. -/
def term (n : ℕ) (y : S768x512.Idx) : EReal :=
  ∑ k : Fin 1024, a0 m c (ix2 (row (n % 16) k) (y 0)) * a1 m c (ix2 (row (n % 16) k) (colB (n / 16) (y 1)))

theorem step_apply (n : ℕ) (h : n < cfg0.N) (acc : Vec 𝕀 S768x512 .f32) (y : S768x512.Idx) :
    step2 m c n h acc y = acc y + term m c n y := by
  obtain ⟨a, b, rfl⟩ : ∃ a b, y = ix2 (n0 := 768) (n1 := 512) a b := ⟨_, _, ix2_eta y⟩
  unfold step2
  rw [pay_apply]
  simp only [iblk0, iblk1]
  rfl

theorem reset_apply (n : ℕ) (h : n < cfg0.N) (y : S768x512.Idx) :
    reset2 m c n h y = 0 + term m c n y := by
  obtain ⟨a, b, rfl⟩ : ∃ a b, y = ix2 (n0 := 768) (n1 := 512) a b := ⟨_, _, ix2_eta y⟩
  unfold reset2
  rw [pay_apply, pay_zero]
  simp only [iblk0, iblk1]
  rfl

theorem G_eq : G2 m c = G (a0 m c) (a1 m c) := by
  funext i
  have h0 : (i 0).val < 768 := (i 0).isLt
  have h1 : (i 1).val < 1024 := (i 1).isLt
  have hN : cfg0.N = 32 := N_0
  have hr : run2Of i = (i 1).val / 512 := by show 2 * ((i 0).val / 768 - 0) + 1 * ((i 1).val / 512 - 0) = _; omega
  unfold G2
  rw [dif_pos (by rw [hr, hN]; omega)]
  refine (Pipeline.accAt_add_apply (β := EReal) (ι := S768x512.Idx) (reset2 m c) (step2 m c) (fun _ => 0) (term m c) (16 * run2Of i) 15
    (fun h y => reset_apply m c _ h y) (fun n h acc y _ _ => step_apply m c n h acc y) 15 le_rfl _ _).trans ?_
  unfold G
  rw [sum_row, zero_add]
  refine Finset.sum_congr rfl fun s hs => ?_
  have hs' := Finset.mem_range.mp hs
  unfold term
  have e1 : (16 * run2Of i + s) % 16 = s := by omega
  have e2 : (16 * run2Of i + s) / 16 = (i 1).val / 512 := by omega
  have e3 : (loc2Of i 0 : Fin 768) = i 0 := Fin.ext (Nat.mod_eq_of_lt h0)
  have e4 : colB ((i 1).val / 512) (loc2Of i 1) = i 1 := Fin.ext ((colB_val (by omega) _).trans (by
    show 512 * ((i 1).val / 512) + (i 1).val % 512 = _; omega))
  rw [e1, e2, e3, e4]

end Kernel

section Reference

open Cert.Reference11Ideal Cert.Reference11Ideal.Read

theorem ref_eq (A : FVec 𝕀 S16384x768 .f32) (H : FVec 𝕀 S16384x1024 .f32) : val_main_v3 (F := 𝕀) A H = G A H := by
  funext i
  obtain ⟨a, b, rfl⟩ : ∃ a b, i = ix2 (n0 := 768) (n1 := 1024) a b := ⟨_, _, ix2_eta i⟩
  rw [val_main_v3_apply, val_main_v2_apply]
  unfold G
  refine Finset.sum_congr rfl fun k _ => ?_
  rw [mul_comm]
  congr 1 <;> refine congrArg _ (funext fun ax => ?_) <;> fin_cases ax <;> rfl

end Reference

attribute [local instance] Cert.Kernel11Ideal.Gen.facts Cert.Reference11Ideal.Gen.facts

/-- The two programs end with the same array. -/
theorem algebraic : Cert.algebraic_Kernel11Ideal_Reference11Ideal := fun m g m' g' _ hargs =>
  ⟨fun c => G (a0 m c) (a1 m c),
    (θ_run Cert.Kernel11Ideal.defs _ _).mono (fun _ h c => ⟨(h c).1.trans (G_eq m c), (h c).2⟩) (Cert.Kernel11Ideal.Value.run (F := 𝕀) m g),
    (θ_run Cert.Reference11Ideal.defs _ _).mono (fun _ h c => ⟨((h c).1.trans (Cert.Reference11Ideal.Read.val_main_v3_eq _ _)).trans (by
        rw [(hargs c).1, (hargs c).2]; exact ref_eq _ _), (h c).2⟩) (Cert.Reference11Ideal.Value.run (F := 𝕀) m' g')⟩

end Cert.Proof.Even.OutW
end
-- ==== Proof.Even.OutFwd.lean ====
module

public import proofs.«01_k».proof.Defs
public import proofs.«01_k».proof.Proof.Mlp.DownFwd
public import proofs.«01_k».proof.Proof.Gen.Kernel12Ideal.Value
public import proofs.«01_k».proof.Proof.Gen.Reference12Ideal.Run
public import proofs.«01_k».proof.Proof.Gen.Reference12Ideal.Read
public import Idealize.ShloMosaic.Lib.Pipeline.ValueKit.Geometry

@[expose] public section

/-! # An even layer's second product, with the residual

The blocks of rows and columns are `DownFwd`'s. -/

noncomputable section

namespace Cert.Proof.Even.OutFwd

open Idealize.ShloMosaic Idealize.ShloMosaic.TcCoe Idealize.SL.Sem
open Idealize.ShloMosaic.Pipeline (Window Dat)
open Cert.Proof.Mlp
open Cert.Proof.Mlp.DownFwd (colB colB_val hz)

local notation "𝕀" => Idealize.ShloMosaic.Ideal

section Kernel

open Cert.Kernel12Ideal Cert.Kernel12Ideal.Gen Cert.Kernel12Ideal.Value

/-- What both programs compute: the residual and the attention outputs through the weight. -/
def G (U : FVec 𝕀 S16384x768 .f32) (W : FVec 𝕀 S768x1024 .f32) (H : FVec 𝕀 S16384x1024 .f32) : FVec 𝕀 S16384x1024 .f32 := fun i =>
  H i + ∑ k : Fin 768, U (ix2 (i 0) k) * W (ix2 k (i 1))

theorem index0 : ∀ t : Fin grid0.N, win0_0.index t = ![t.val / 2, 0] := by decide +kernel
theorem index1 : ∀ t : Fin grid0.N, win0_1.index t = ![0, t.val % 2] := by decide +kernel
theorem index2 : ∀ t : Fin grid0.N, win0_2.index t = ![t.val / 2, t.val % 2] := by decide +kernel
theorem index3 : ∀ t : Fin grid0.N, win0_3.index t = ![t.val / 2, t.val % 2] := by decide +kernel

theorem pay_apply (x : Vec 𝕀 S1024x768 .bf16) (w : Vec 𝕀 S768x512 .bf16) (h : Vec 𝕀 S1024x512 .f32) (a : Fin 1024) (b : Fin 512) :
    k0_pay1 x w h (ix2 a b) = (∑ k : Fin 768, x (ix2 a k) * w (ix2 k b)) + h (ix2 a b) := by
  unfold k0_pay1
  pointwise

theorem out_eq (x : Vec 𝕀 S1024x768 .bf16) (w : Vec 𝕀 S768x512 .bf16) (h : Vec 𝕀 S1024x512 .f32) : out0_3 x w h = k0_pay1 x w h := by
  unfold out0_3
  rw [View.canon_unit_zero hz, View.ld_unit_zero (S := S1024x768) hz, View.ld_unit_zero (S := S768x512) hz, View.ld_unit_zero (S := S1024x512) hz]

theorem point_lt (t : Fin grid0.N) : t.val < 32 := by
  have hN : grid0.N = 32 := N_0
  have ht := t.isLt
  omega

theorem read0 (Y : Vec 𝕀 S16384x768 .bf16) (t : Fin grid0.N) (a : Fin 1024) (k : Fin 768) :
    (((cfg0.win 0).blk t).view.read (Elt 𝕀) Y : Vec 𝕀 S1024x768 .bf16) (ix2 a k) = Y (ix2 (row (t.val / 2) a) k) := by
  show Y ((win0_0.rect t).emb (ix2 (n0 := 1024) (n1 := 768) a k)) = _
  refine congrArg Y (funext fun ax => Fin.ext ?_)
  have ht := point_lt t
  rw [Window.rect_emb_val win0_0, index0]
  fin_cases ax
  · show t.val / 2 * 1024 + a.val = (row (t.val / 2) a).val
    rw [row_val (by omega)]; omega
  · show 0 * 768 + k.val = k.val; omega

theorem read1 (Y : Vec 𝕀 S768x1024 .bf16) (t : Fin grid0.N) (k : Fin 768) (b : Fin 512) :
    (((cfg0.win 1).blk t).view.read (Elt 𝕀) Y : Vec 𝕀 S768x512 .bf16) (ix2 k b) = Y (ix2 k (colB (t.val % 2) b)) := by
  show Y ((win0_1.rect t).emb (ix2 (n0 := 768) (n1 := 512) k b)) = _
  refine congrArg Y (funext fun ax => Fin.ext ?_)
  rw [Window.rect_emb_val win0_1, index1]
  fin_cases ax
  · show 0 * 768 + k.val = k.val; omega
  · show t.val % 2 * 512 + b.val = (colB (t.val % 2) b).val
    rw [colB_val (by omega)]; omega

theorem emb2 (t : Fin grid0.N) (a : Fin 1024) (b : Fin 512) :
    ((win0_2.rect t).emb (ix2 (n0 := 1024) (n1 := 512) a b) : S16384x1024.Idx) = ix2 (row (t.val / 2) a) (colB (t.val % 2) b) := by
  refine funext fun ax => Fin.ext ?_
  have ht := point_lt t
  rw [Window.rect_emb_val win0_2, index2]
  fin_cases ax
  · show t.val / 2 * 1024 + a.val = (row (t.val / 2) a).val
    rw [row_val (by omega)]; omega
  · show t.val % 2 * 512 + b.val = (colB (t.val % 2) b).val
    rw [colB_val (by omega)]; omega

theorem emb3 (t : Fin grid0.N) (a : Fin 1024) (b : Fin 512) :
    ((win0_3.rect t).emb (ix2 (n0 := 1024) (n1 := 512) a b) : S16384x1024.Idx) = ix2 (row (t.val / 2) a) (colB (t.val % 2) b) :=
  emb2 t a b

theorem read2 (Y : Vec 𝕀 S16384x1024 .f32) (t : Fin grid0.N) (a : Fin 1024) (b : Fin 512) :
    (((cfg0.win 2).blk t).view.read (Elt 𝕀) Y : Vec 𝕀 S1024x512 .f32) (ix2 a b) = Y (ix2 (row (t.val / 2) a) (colB (t.val % 2) b)) :=
  congrArg Y (emb2 t a b)

variable (m : (ℓ : Loc nD τ sig) → Buf (Elt 𝕀) ℓ) (c : Dev nD)

abbrev a0 : FVec 𝕀 S16384x768 .f32 := m ((c : Thread nD τ).loc main_arg0)
abbrev a1 : FVec 𝕀 S768x1024 .f32 := m ((c : Thread nD τ).loc main_arg1)
abbrev a2 : FVec 𝕀 S16384x1024 .f32 := m ((c : Thread nD τ).loc main_arg2)

theorem V_0 : V m c main_v0 = truncf .bf16 (a0 m c) bitsLt_bf16_f32 := by
  unfold V
  simp only [hostOps0, List.flatten_cons, List.flatten_nil, List.append_nil, List.cons_append, List.nil_append]
  after_results_simp <;> rfl

theorem V_1 : V m c main_v1 = truncf .bf16 (a1 m c) bitsLt_bf16_f32 := by
  unfold V
  simp only [hostOps0, List.flatten_cons, List.flatten_nil, List.append_nil, List.cons_append, List.nil_append]
  after_results_simp <;> rfl

theorem iblk0 (t : Fin grid0.N) (a : Fin 1024) (k : Fin 768) :
    (iblk m c 0 t : Vec 𝕀 S1024x768 .bf16) (ix2 a k) = a0 m c (ix2 (row (t.val / 2) a) k) :=
  (read0 (V m c main_v0) t a k).trans (by rw [V_0]; rfl)

theorem iblk1 (t : Fin grid0.N) (k : Fin 768) (b : Fin 512) :
    (iblk m c 1 t : Vec 𝕀 S768x512 .bf16) (ix2 k b) = a1 m c (ix2 k (colB (t.val % 2) b)) :=
  (read1 (V m c main_v1) t k b).trans (by rw [V_1]; rfl)

theorem iblk2 (t : Fin grid0.N) (a : Fin 1024) (b : Fin 512) :
    (iblk m c 2 t : Vec 𝕀 S1024x512 .f32) (ix2 a b) = a2 m c (ix2 (row (t.val / 2) a) (colB (t.val % 2) b)) :=
  (read2 (V m c main_arg2) t a b).trans (by rw [V_main_arg2])

theorem after_apply (t : Fin grid0.N) (a : Fin 1024) (b : Fin 512) :
    ((dats m 0 c).after 3 t : Vec 𝕀 S1024x512 .f32) (ix2 a b)
      = G (a0 m c) (a1 m c) (a2 m c) (ix2 (row (t.val / 2) a) (colB (t.val % 2) b)) := by
  rw [after0_3, out_eq, pay_apply]
  simp only [iblk0, iblk1, iblk2]
  exact add_comm (G := EReal) _ _

/-- If a block holds an array's values, it is that block of the array. -/
theorem read3 (Y : Vec 𝕀 S1024x512 .f32) (Z : FVec 𝕀 S16384x1024 .f32) (t : Fin grid0.N)
    (h : ∀ a b, Y (ix2 a b) = Z (ix2 (row (t.val / 2) a) (colB (t.val % 2) b))) (y : S1024x512.Idx) :
    Y y = Z ((win0_3.rect t).emb y) := by
  obtain ⟨a, b, rfl⟩ : ∃ a b, y = ix2 (n0 := 1024) (n1 := 512) a b := ⟨_, _, ix2_eta y⟩
  rw [h, congrArg Z (emb3 t a b)]

theorem covers3 : win0_3.Covers := by decide +kernel

theorem final3 : (dats m 0 c).arrAt 3 cfg0.N = G (a0 m c) (a1 m c) (a2 m c) := by
  refine (dats m 0 c).arrAt_eq_of_covers 3 _ covers3 fun t _ y => ?_
  have e := read3 ((dats m 0 c).after 3 t) (G (a0 m c) (a1 m c) (a2 m c)) t (after_apply m c t)
  exact e y

end Kernel

section Reference

open Cert.Reference12Ideal Cert.Reference12Ideal.Read

theorem ref_eq (U : FVec 𝕀 S16384x768 .f32) (W : FVec 𝕀 S768x1024 .f32) (H : FVec 𝕀 S16384x1024 .f32) :
    val_main_v1 (F := 𝕀) U W H = G U W H := by
  funext i
  obtain ⟨a, b, rfl⟩ : ∃ a b, i = ix2 (n0 := 16384) (n1 := 1024) a b := ⟨_, _, ix2_eta i⟩
  refine congrArg (H (ix2 a b) + ·) ((val_main_v0_apply U W _).trans (Finset.sum_congr rfl fun k _ => ?_))
  congr 1 <;> refine congrArg _ (funext fun ax => ?_) <;> fin_cases ax <;> rfl

end Reference

attribute [local instance] Cert.Kernel12Ideal.Gen.facts Cert.Reference12Ideal.Gen.facts

/-- The two programs end with the same array. -/
theorem algebraic : Cert.algebraic_Kernel12Ideal_Reference12Ideal := fun m g m' g' _ hargs =>
  ⟨fun c => G (a0 m c) (a1 m c) (a2 m c),
    (θ_run Cert.Kernel12Ideal.defs _ _).mono (fun _ h c => ⟨(h c).1.trans (final3 m c), (h c).2⟩) (Cert.Kernel12Ideal.Value.run_blocks (F := 𝕀) m g),
    (θ_run Cert.Reference12Ideal.defs _ _).mono (fun _ h c => ⟨((h c).1.trans (Cert.Reference12Ideal.Read.val_main_v1_eq _ _ _)).trans (by
        rw [(hargs c).1, (hargs c).2.1, (hargs c).2.2]; exact ref_eq _ _ _), (h c).2⟩) (Cert.Reference12Ideal.Value.run (F := 𝕀) m' g')⟩

end Cert.Proof.Even.OutFwd
end
-- ==== Proof.Mla.Frames.lean ====
module

public import proofs.«01_k».proof.Defs
public import proofs.«01_k».proof.Proof.Gen.Kernel13
public import proofs.«01_k».proof.Proof.Gen.Kernel13Ideal.Frame
public import proofs.«01_k».proof.Proof.Gen.Reference13Ideal.Run
public import proofs.«01_k».proof.Proof.Gen.Kernel14
public import proofs.«01_k».proof.Proof.Gen.Kernel14Ideal.Frame
public import proofs.«01_k».proof.Proof.Gen.Reference14Ideal.Run
public import proofs.«01_k».proof.Proof.Gen.Kernel15
public import proofs.«01_k».proof.Proof.Gen.Kernel15Ideal.Frame
public import proofs.«01_k».proof.Proof.Gen.Reference15Ideal.Run
public import proofs.«01_k».proof.Proof.Gen.Kernel16
public import proofs.«01_k».proof.Proof.Gen.Kernel16Ideal.Frame
public import proofs.«01_k».proof.Proof.Gen.Reference16Ideal.Run

@[expose] public section

/-! # The frames of the latent attention's first product, of its gradients and of an even layer's first product

The ideal pass rewrote nothing in these programs, so one run serves the printed program and the ideal one. -/

noncomputable section

namespace Cert.Proof.Mla

open Idealize.ShloMosaic Idealize.ShloMosaic.TcCoe Idealize.SL.Sem

section

attribute [local instance] Cert.Kernel13.Gen.facts Cert.Kernel13Ideal.Gen.facts

/-- For the first product: the ideal program's frame. -/
theorem frame_ideal13 : Cert.quiescent_Kernel13Ideal := fun m ρ _ => Cert.Kernel13Ideal.Gen.frame (F := Ideal) m ρ

theorem same_main13 : Cert.Kernel13.main (F := Bits) = Cert.Kernel13Ideal.main (F := Bits) := by
  unfold Cert.Kernel13.main Cert.Kernel13Ideal.main
  rfl

theorem same_body13 : Cert.Kernel13.defs₀ (F := Bits) = Cert.Kernel13Ideal.defs₀ (F := Bits) := by
  funext p ℓ a
  cases p with
  | tc =>
    match ℓ, a with
    | 0, (t, s) => exact rfl
  | scScalar _ => exact rfl
  | scVector _ _ => exact rfl

theorem same_defs13 : Cert.Kernel13.defs (F := Bits) = Cert.Kernel13Ideal.defs (F := Bits) :=
  congrArg (Idealize.ShloMosaic.Pipeline.defs (Cert.Kernel13Ideal.pcfgs (F := Bits))) same_body13

/-- The printed program's frame. -/
theorem frame_kernel13 : Cert.quiescent_Kernel13 := fun m ρ _ => by
  rw [same_main13, same_defs13]
  exact Cert.Kernel13Ideal.Gen.frame (F := Bits) m ρ

end

/-- The reference's frame. -/
theorem frame_reference13 : Cert.quiescent_Reference13Ideal (hReference13Ideal := Cert.Reference13Ideal.Gen.facts) := fun m ρ _ =>
  (θ_run Cert.Reference13Ideal.defs _ _).mono
    (fun r h => ⟨fun c => (h c).2, Idealize.ShloMosaic.sem_eq_zero_of_no_sems (by decide) r.2⟩)
    (Cert.Reference13Ideal.Value.run (F := Ideal) m ρ)

section

attribute [local instance] Cert.Kernel14.Gen.facts Cert.Kernel14Ideal.Gen.facts

/-- For the first weight's gradient: the ideal program's frame. -/
theorem frame_ideal14 : Cert.quiescent_Kernel14Ideal := fun m ρ _ => Cert.Kernel14Ideal.Gen.frame (F := Ideal) m ρ

theorem same_main14 : Cert.Kernel14.main (F := Bits) = Cert.Kernel14Ideal.main (F := Bits) := by
  unfold Cert.Kernel14.main Cert.Kernel14Ideal.main
  rfl

theorem same_body14 : Cert.Kernel14.defs₀ (F := Bits) = Cert.Kernel14Ideal.defs₀ (F := Bits) := by
  funext p ℓ a
  cases p with
  | tc =>
    match ℓ, a with
    | 0, (t, s) => exact rfl
  | scScalar _ => exact rfl
  | scVector _ _ => exact rfl

theorem same_defs14 : Cert.Kernel14.defs (F := Bits) = Cert.Kernel14Ideal.defs (F := Bits) :=
  congrArg (Idealize.ShloMosaic.Pipeline.defs (Cert.Kernel14Ideal.pcfgs (F := Bits))) same_body14

/-- The printed program's frame. -/
theorem frame_kernel14 : Cert.quiescent_Kernel14 := fun m ρ _ => by
  rw [same_main14, same_defs14]
  exact Cert.Kernel14Ideal.Gen.frame (F := Bits) m ρ

end

/-- The reference's frame. -/
theorem frame_reference14 : Cert.quiescent_Reference14Ideal (hReference14Ideal := Cert.Reference14Ideal.Gen.facts) := fun m ρ _ =>
  (θ_run Cert.Reference14Ideal.defs _ _).mono
    (fun r h => ⟨fun c => (h c).2, Idealize.ShloMosaic.sem_eq_zero_of_no_sems (by decide) r.2⟩)
    (Cert.Reference14Ideal.Value.run (F := Ideal) m ρ)

section

attribute [local instance] Cert.Kernel15.Gen.facts Cert.Kernel15Ideal.Gen.facts

/-- For the gradients of the input: the ideal program's frame. -/
theorem frame_ideal15 : Cert.quiescent_Kernel15Ideal := fun m ρ _ => Cert.Kernel15Ideal.Gen.frame (F := Ideal) m ρ

theorem same_main15 : Cert.Kernel15.main (F := Bits) = Cert.Kernel15Ideal.main (F := Bits) := by
  unfold Cert.Kernel15.main Cert.Kernel15Ideal.main
  rfl

theorem same_body15 : Cert.Kernel15.defs₀ (F := Bits) = Cert.Kernel15Ideal.defs₀ (F := Bits) := by
  funext p ℓ a
  cases p with
  | tc =>
    match ℓ, a with
    | 0, (t, s) => exact rfl
  | scScalar _ => exact rfl
  | scVector _ _ => exact rfl

theorem same_defs15 : Cert.Kernel15.defs (F := Bits) = Cert.Kernel15Ideal.defs (F := Bits) :=
  congrArg (Idealize.ShloMosaic.Pipeline.defs (Cert.Kernel15Ideal.pcfgs (F := Bits))) same_body15

/-- The printed program's frame. -/
theorem frame_kernel15 : Cert.quiescent_Kernel15 := fun m ρ _ => by
  rw [same_main15, same_defs15]
  exact Cert.Kernel15Ideal.Gen.frame (F := Bits) m ρ

end

/-- The reference's frame. -/
theorem frame_reference15 : Cert.quiescent_Reference15Ideal (hReference15Ideal := Cert.Reference15Ideal.Gen.facts) := fun m ρ _ =>
  (θ_run Cert.Reference15Ideal.defs _ _).mono
    (fun r h => ⟨fun c => (h c).2.2, Idealize.ShloMosaic.sem_eq_zero_of_no_sems (by decide) r.2⟩)
    (Cert.Reference15Ideal.Value.run (F := Ideal) m ρ)

section

attribute [local instance] Cert.Kernel16.Gen.facts Cert.Kernel16Ideal.Gen.facts

/-- For the even layer's first product: the ideal program's frame. -/
theorem frame_ideal16 : Cert.quiescent_Kernel16Ideal := fun m ρ _ => Cert.Kernel16Ideal.Gen.frame (F := Ideal) m ρ

theorem same_main16 : Cert.Kernel16.main (F := Bits) = Cert.Kernel16Ideal.main (F := Bits) := by
  unfold Cert.Kernel16.main Cert.Kernel16Ideal.main
  rfl

theorem same_body16 : Cert.Kernel16.defs₀ (F := Bits) = Cert.Kernel16Ideal.defs₀ (F := Bits) := by
  funext p ℓ a
  cases p with
  | tc =>
    match ℓ, a with
    | 0, (t, s) => exact rfl
  | scScalar _ => exact rfl
  | scVector _ _ => exact rfl

theorem same_defs16 : Cert.Kernel16.defs (F := Bits) = Cert.Kernel16Ideal.defs (F := Bits) :=
  congrArg (Idealize.ShloMosaic.Pipeline.defs (Cert.Kernel16Ideal.pcfgs (F := Bits))) same_body16

/-- The printed program's frame. -/
theorem frame_kernel16 : Cert.quiescent_Kernel16 := fun m ρ _ => by
  rw [same_main16, same_defs16]
  exact Cert.Kernel16Ideal.Gen.frame (F := Bits) m ρ

end

/-- The reference's frame. -/
theorem frame_reference16 : Cert.quiescent_Reference16Ideal (hReference16Ideal := Cert.Reference16Ideal.Gen.facts) := fun m ρ _ =>
  (θ_run Cert.Reference16Ideal.defs _ _).mono
    (fun r h => ⟨fun c => (h c).2, Idealize.ShloMosaic.sem_eq_zero_of_no_sems (by decide) r.2⟩)
    (Cert.Reference16Ideal.Value.run (F := Ideal) m ρ)

end Cert.Proof.Mla
end
-- ==== Proof.Mla.Down.lean ====
module

public import proofs.«01_k».proof.Defs
public import proofs.«01_k».proof.Proof.Mlp.DownFwd
public import proofs.«01_k».proof.Proof.Gen.Kernel13Ideal.Value
public import proofs.«01_k».proof.Proof.Gen.Reference13Ideal.Run
public import proofs.«01_k».proof.Proof.Gen.Reference13Ideal.Read
public import Idealize.ShloMosaic.Lib.Pipeline.ValueKit.Geometry

@[expose] public section

/-! # The latent attention's first product -/

noncomputable section

namespace Cert.Proof.Mla.Down

open Idealize.ShloMosaic Idealize.ShloMosaic.TcCoe Idealize.SL.Sem
open Idealize.ShloMosaic.Pipeline (Window Dat)
open Cert.Proof.Mlp
open Cert.Proof.Mlp.DownFwd (hz)

local notation "𝕀" => Idealize.ShloMosaic.Ideal

section Kernel

open Cert.Kernel13Ideal Cert.Kernel13Ideal.Gen Cert.Kernel13Ideal.Value

/-- What both programs compute: the rows through the weight. -/
def G (X : FVec 𝕀 S16384x1024 .f32) (W : FVec 𝕀 S1024x768 .f32) : FVec 𝕀 S16384x768 .f32 := fun i =>
  ∑ k : Fin 1024, X (ix2 (i 0) k) * W (ix2 k (i 1))

theorem index0 : ∀ t : Fin grid0.N, win0_0.index t = ![t.val, 0] := by decide +kernel
theorem index1 : ∀ t : Fin grid0.N, win0_1.index t = ![0, 0] := by decide +kernel
theorem index2 : ∀ t : Fin grid0.N, win0_2.index t = ![t.val, 0] := by decide +kernel

theorem pay_apply (x : Vec 𝕀 S1024x1024 .bf16) (w : Vec 𝕀 S1024x768 .bf16) (a : Fin 1024) (b : Fin 768) :
    k0_pay1 x w (ix2 a b) = ∑ k : Fin 1024, x (ix2 a k) * w (ix2 k b) := by
  unfold k0_pay1
  pointwise

theorem out_eq (x : Vec 𝕀 S1024x1024 .bf16) (w : Vec 𝕀 S1024x768 .bf16) : out0_2 x w = k0_pay1 x w := by
  unfold out0_2
  rw [View.canon_unit_zero hz, View.ld_unit_zero (S := S1024x1024) hz, View.ld_unit_zero (S := S1024x768) hz]

theorem point_lt (t : Fin grid0.N) : t.val < 16 := by
  have hN : grid0.N = 16 := N_0
  have ht := t.isLt
  omega

theorem row_at (t : Fin grid0.N) (a : Fin 1024) : t.val * 1024 + a.val = (row t.val a).val := by
  rw [row_val (point_lt t)]; omega

theorem col_at {n : ℕ} (b : Fin n) : 0 * n + b.val = b.val := by omega

theorem emb0 (t : Fin grid0.N) (a k : Fin 1024) :
    ((win0_0.rect t).emb (ix2 (n0 := 1024) (n1 := 1024) a k) : S16384x1024.Idx) = ix2 (row t.val a) k := by
  refine funext fun ax => Fin.ext ?_
  rw [Window.rect_emb_val win0_0, index0]
  fin_cases ax
  · exact row_at t a
  · exact col_at k

theorem emb1 (t : Fin grid0.N) (k : Fin 1024) (b : Fin 768) :
    ((win0_1.rect t).emb (ix2 (n0 := 1024) (n1 := 768) k b) : S1024x768.Idx) = ix2 k b := by
  refine funext fun ax => Fin.ext ?_
  rw [Window.rect_emb_val win0_1, index1]
  fin_cases ax
  · exact col_at k
  · exact col_at b

theorem emb2 (t : Fin grid0.N) (a : Fin 1024) (b : Fin 768) :
    ((win0_2.rect t).emb (ix2 (n0 := 1024) (n1 := 768) a b) : S16384x768.Idx) = ix2 (row t.val a) b := by
  refine funext fun ax => Fin.ext ?_
  rw [Window.rect_emb_val win0_2, index2]
  fin_cases ax
  · exact row_at t a
  · exact col_at b

variable (m : (ℓ : Loc nD τ sig) → Buf (Elt 𝕀) ℓ) (c : Dev nD)

abbrev a0 : FVec 𝕀 S16384x1024 .f32 := m ((c : Thread nD τ).loc main_arg0)
abbrev a1 : FVec 𝕀 S1024x768 .f32 := m ((c : Thread nD τ).loc main_arg1)

theorem V_0 : V m c main_v0 = truncf .bf16 (a0 m c) bitsLt_bf16_f32 := by
  unfold V
  simp only [hostOps0, List.flatten_cons, List.flatten_nil, List.append_nil, List.cons_append, List.nil_append]
  after_results_simp <;> rfl

theorem V_1 : V m c main_v1 = truncf .bf16 (a1 m c) bitsLt_bf16_f32 := by
  unfold V
  simp only [hostOps0, List.flatten_cons, List.flatten_nil, List.append_nil, List.cons_append, List.nil_append]
  after_results_simp <;> rfl

theorem iblk0 (t : Fin grid0.N) (a k : Fin 1024) :
    (iblk m c 0 t : Vec 𝕀 S1024x1024 .bf16) (ix2 a k) = a0 m c (ix2 (row t.val a) k) :=
  (congrArg (V m c main_v0 : Vec 𝕀 S16384x1024 .bf16) (emb0 t a k)).trans (by rw [V_0]; rfl)

theorem iblk1 (t : Fin grid0.N) (k : Fin 1024) (b : Fin 768) :
    (iblk m c 1 t : Vec 𝕀 S1024x768 .bf16) (ix2 k b) = a1 m c (ix2 k b) :=
  (congrArg (V m c main_v1 : Vec 𝕀 S1024x768 .bf16) (emb1 t k b)).trans (by rw [V_1]; rfl)

theorem after_apply (t : Fin grid0.N) (a : Fin 1024) (b : Fin 768) :
    ((dats m 0 c).after 2 t : Vec 𝕀 S1024x768 .f32) (ix2 a b) = G (a0 m c) (a1 m c) (ix2 (row t.val a) b) := by
  rw [after0_2, out_eq, pay_apply]
  simp only [iblk0, iblk1]
  rfl

/-- If a block holds an array's values, it is that block of the array. -/
theorem read2 (Y : Vec 𝕀 S1024x768 .f32) (Z : FVec 𝕀 S16384x768 .f32) (t : Fin grid0.N)
    (h : ∀ a b, Y (ix2 a b) = Z (ix2 (row t.val a) b)) (y : S1024x768.Idx) : Y y = Z ((win0_2.rect t).emb y) := by
  obtain ⟨a, b, rfl⟩ : ∃ a b, y = ix2 (n0 := 1024) (n1 := 768) a b := ⟨_, _, ix2_eta y⟩
  rw [h, congrArg Z (emb2 t a b)]

theorem covers2 : win0_2.Covers := by decide +kernel

theorem final2 : (dats m 0 c).arrAt 2 cfg0.N = G (a0 m c) (a1 m c) := by
  refine (dats m 0 c).arrAt_eq_of_covers 2 _ covers2 fun t _ y => ?_
  have e := read2 ((dats m 0 c).after 2 t) (G (a0 m c) (a1 m c)) t (after_apply m c t)
  exact e y

end Kernel

section Reference

open Cert.Reference13Ideal Cert.Reference13Ideal.Read

theorem ref_eq (X : FVec 𝕀 S16384x1024 .f32) (W : FVec 𝕀 S1024x768 .f32) : val_main_v0 (F := 𝕀) X W = G X W := by
  funext i
  obtain ⟨a, b, rfl⟩ : ∃ a b, i = ix2 (n0 := 16384) (n1 := 768) a b := ⟨_, _, ix2_eta i⟩
  rw [val_main_v0_apply]
  refine Finset.sum_congr rfl fun k _ => ?_
  congr 1 <;> refine congrArg _ (funext fun ax => ?_) <;> fin_cases ax <;> rfl

end Reference

attribute [local instance] Cert.Kernel13Ideal.Gen.facts Cert.Reference13Ideal.Gen.facts

/-- The two programs end with the same array. -/
theorem algebraic : Cert.algebraic_Kernel13Ideal_Reference13Ideal := fun m g m' g' _ hargs =>
  ⟨fun c => G (a0 m c) (a1 m c),
    (θ_run Cert.Kernel13Ideal.defs _ _).mono (fun _ h c => ⟨(h c).1.trans (final2 m c), (h c).2⟩) (Cert.Kernel13Ideal.Value.run_blocks (F := 𝕀) m g),
    (θ_run Cert.Reference13Ideal.defs _ _).mono (fun _ h c => ⟨((h c).1.trans (Cert.Reference13Ideal.Read.val_main_v0_eq _ _)).trans (by
        rw [(hargs c).1, (hargs c).2]; exact ref_eq _ _), (h c).2⟩) (Cert.Reference13Ideal.Value.run (F := 𝕀) m' g')⟩

end Cert.Proof.Mla.Down
end
-- ==== Proof.Mla.DownW.lean ====
module

public import proofs.«01_k».proof.Defs
public import proofs.«01_k».proof.Proof.Mlp.DownFwd
public import proofs.«01_k».proof.Proof.Gen.Kernel14Ideal.Value
public import proofs.«01_k».proof.Proof.Gen.Reference14Ideal.Run
public import proofs.«01_k».proof.Proof.Gen.Reference14Ideal.Read
public import Idealize.ShloMosaic.Lib.Pipeline.ValueKit.Geometry

@[expose] public section

/-! # The gradient of the latent attention's first weight: one product over all rows -/

noncomputable section

namespace Cert.Proof.Mla.DownW

open Idealize.ShloMosaic Idealize.ShloMosaic.TcCoe Idealize.SL.Sem
open Idealize.ShloMosaic.Pipeline (Window Dat)
open Cert.Proof.Mlp
open Cert.Proof.Mlp.DownFwd (colB colB_val)

local notation "𝕀" => Idealize.ShloMosaic.Ideal

section Kernel

open Cert.Kernel14Ideal Cert.Kernel14Ideal.Gen Cert.Kernel14Ideal.Value

/-- What both programs compute: entry `(a, b)` sums over the rows. -/
def G (X : FVec 𝕀 S16384x1024 .f32) (U : FVec 𝕀 S16384x768 .f32) : FVec 𝕀 S1024x768 .f32 := fun i =>
  ∑ k : Fin 16384, X (ix2 k (i 0)) * U (ix2 k (i 1))

theorem index0 : ∀ t : Fin grid0.N, win0_0.index t = ![t.val % 16, t.val / 16] := by decide +kernel
theorem index1 : ∀ t : Fin grid0.N, win0_1.index t = ![t.val % 16, 0] := by decide +kernel

theorem pay_apply (acc : Vec 𝕀 S512x768 .f32) (x : Vec 𝕀 S1024x512 .bf16) (y : Vec 𝕀 S1024x768 .bf16) (a : Fin 512) (b : Fin 768) :
    k0_pay2 acc x y (ix2 a b) = acc (ix2 a b) + ∑ k : Fin 1024, x (ix2 k a) * y (ix2 k b) := by
  unfold k0_pay2
  pointwise

theorem pay_zero (a : Fin 512) (b : Fin 768) : k0_pay1 (F := 𝕀) (ix2 a b) = 0 := by
  unfold k0_pay1
  pointwise

theorem read0 (Y : Vec 𝕀 S16384x1024 .bf16) (t : Fin grid0.N) (k : Fin 1024) (a : Fin 512) :
    (((cfg0.win 0).blk t).view.read (Elt 𝕀) Y : Vec 𝕀 S1024x512 .bf16) (ix2 k a) = Y (ix2 (row (t.val % 16) k) (colB (t.val / 16) a)) := by
  show Y ((win0_0.rect t).emb (ix2 (n0 := 1024) (n1 := 512) k a)) = _
  refine congrArg Y (funext fun ax => Fin.ext ?_)
  have hN : grid0.N = 32 := N_0
  have ht := t.isLt
  rw [Window.rect_emb_val win0_0, index0]
  fin_cases ax
  · show t.val % 16 * 1024 + k.val = (row (t.val % 16) k).val
    rw [row_val (Nat.mod_lt _ (by norm_num))]; omega
  · show t.val / 16 * 512 + a.val = (colB (t.val / 16) a).val
    rw [colB_val (by omega)]; omega

theorem read1 (Y : Vec 𝕀 S16384x768 .bf16) (t : Fin grid0.N) (k : Fin 1024) (b : Fin 768) :
    (((cfg0.win 1).blk t).view.read (Elt 𝕀) Y : Vec 𝕀 S1024x768 .bf16) (ix2 k b) = Y (ix2 (row (t.val % 16) k) b) := by
  show Y ((win0_1.rect t).emb (ix2 (n0 := 1024) (n1 := 768) k b)) = _
  refine congrArg Y (funext fun ax => Fin.ext ?_)
  rw [Window.rect_emb_val win0_1, index1]
  fin_cases ax
  · show t.val % 16 * 1024 + k.val = (row (t.val % 16) k).val
    rw [row_val (Nat.mod_lt _ (by norm_num))]; omega
  · show 0 * 768 + b.val = b.val; omega

variable (m : (ℓ : Loc nD τ sig) → Buf (Elt 𝕀) ℓ) (c : Dev nD)

abbrev a0 : FVec 𝕀 S16384x1024 .f32 := m ((c : Thread nD τ).loc main_arg0)
abbrev a1 : FVec 𝕀 S16384x768 .f32 := m ((c : Thread nD τ).loc main_arg1)

theorem V_0 : V m c main_v0 = truncf .bf16 (a0 m c) bitsLt_bf16_f32 := by
  unfold V
  simp only [hostOps0, List.flatten_cons, List.flatten_nil, List.append_nil, List.cons_append, List.nil_append]
  after_results_simp <;> rfl

theorem V_1 : V m c main_v1 = truncf .bf16 (a1 m c) bitsLt_bf16_f32 := by
  unfold V
  simp only [hostOps0, List.flatten_cons, List.flatten_nil, List.append_nil, List.cons_append, List.nil_append]
  after_results_simp <;> rfl

theorem iblk0 (t : Fin grid0.N) (k : Fin 1024) (a : Fin 512) :
    (iblk m c 0 t : Vec 𝕀 S1024x512 .bf16) (ix2 k a) = a0 m c (ix2 (row (t.val % 16) k) (colB (t.val / 16) a)) :=
  (read0 (V m c main_v0) t k a).trans (by rw [V_0]; rfl)

theorem iblk1 (t : Fin grid0.N) (k : Fin 1024) (b : Fin 768) :
    (iblk m c 1 t : Vec 𝕀 S1024x768 .bf16) (ix2 k b) = a1 m c (ix2 (row (t.val % 16) k) b) :=
  (read1 (V m c main_v1) t k b).trans (by rw [V_1]; rfl)

/-- What grid point `n` adds. -/
def term (n : ℕ) (y : S512x768.Idx) : EReal :=
  ∑ k : Fin 1024, a0 m c (ix2 (row (n % 16) k) (colB (n / 16) (y 0))) * a1 m c (ix2 (row (n % 16) k) (y 1))

theorem step_apply (n : ℕ) (h : n < cfg0.N) (acc : Vec 𝕀 S512x768 .f32) (y : S512x768.Idx) :
    step2 m c n h acc y = acc y + term m c n y := by
  obtain ⟨a, b, rfl⟩ : ∃ a b, y = ix2 (n0 := 512) (n1 := 768) a b := ⟨_, _, ix2_eta y⟩
  unfold step2
  rw [pay_apply]
  simp only [iblk0, iblk1]
  rfl

theorem reset_apply (n : ℕ) (h : n < cfg0.N) (y : S512x768.Idx) :
    reset2 m c n h y = 0 + term m c n y := by
  obtain ⟨a, b, rfl⟩ : ∃ a b, y = ix2 (n0 := 512) (n1 := 768) a b := ⟨_, _, ix2_eta y⟩
  unfold reset2
  rw [pay_apply, pay_zero]
  simp only [iblk0, iblk1]
  rfl

theorem G_eq : G2 m c = G (a0 m c) (a1 m c) := by
  funext i
  have h0 : (i 0).val < 1024 := (i 0).isLt
  have h1 : (i 1).val < 768 := (i 1).isLt
  have hN : cfg0.N = 32 := N_0
  have hr : run2Of i = (i 0).val / 512 := by show 1 * ((i 0).val / 512 - 0) + 1 * ((i 1).val / 768 - 0) = _; omega
  unfold G2
  rw [dif_pos (by rw [hr, hN]; omega)]
  refine (Pipeline.accAt_add_apply (β := EReal) (ι := S512x768.Idx) (reset2 m c) (step2 m c) (fun _ => 0) (term m c) (16 * run2Of i) 15
    (fun h y => reset_apply m c _ h y) (fun n h acc y _ _ => step_apply m c n h acc y) 15 le_rfl _ _).trans ?_
  unfold G
  rw [sum_row, zero_add]
  refine Finset.sum_congr rfl fun s hs => ?_
  have hs' := Finset.mem_range.mp hs
  unfold term
  have e1 : (16 * run2Of i + s) % 16 = s := by omega
  have e2 : (16 * run2Of i + s) / 16 = (i 0).val / 512 := by omega
  have e3 : colB ((i 0).val / 512) (loc2Of i 0) = i 0 := Fin.ext ((colB_val (by omega) _).trans (by
    show 512 * ((i 0).val / 512) + (i 0).val % 512 = _; omega))
  have e4 : (loc2Of i 1 : Fin 768) = i 1 := Fin.ext (Nat.mod_eq_of_lt h1)
  rw [e1, e2, e3, e4]

end Kernel

section Reference

open Cert.Reference14Ideal Cert.Reference14Ideal.Read

theorem ref_eq (X : FVec 𝕀 S16384x1024 .f32) (U : FVec 𝕀 S16384x768 .f32) : val_main_v3 (F := 𝕀) X U = G X U := by
  funext i
  obtain ⟨a, b, rfl⟩ : ∃ a b, i = ix2 (n0 := 1024) (n1 := 768) a b := ⟨_, _, ix2_eta i⟩
  rw [val_main_v3_apply, val_main_v2_apply]
  unfold G
  refine Finset.sum_congr rfl fun k _ => ?_
  rw [mul_comm]
  congr 1 <;> refine congrArg _ (funext fun ax => ?_) <;> fin_cases ax <;> rfl

end Reference

attribute [local instance] Cert.Kernel14Ideal.Gen.facts Cert.Reference14Ideal.Gen.facts

/-- The two programs end with the same array. -/
theorem algebraic : Cert.algebraic_Kernel14Ideal_Reference14Ideal := fun m g m' g' _ hargs =>
  ⟨fun c => G (a0 m c) (a1 m c),
    (θ_run Cert.Kernel14Ideal.defs _ _).mono (fun _ h c => ⟨(h c).1.trans (G_eq m c), (h c).2⟩) (Cert.Kernel14Ideal.Value.run (F := 𝕀) m g),
    (θ_run Cert.Reference14Ideal.defs _ _).mono (fun _ h c => ⟨((h c).1.trans (Cert.Reference14Ideal.Read.val_main_v3_eq _ _)).trans (by
        rw [(hargs c).1, (hargs c).2]; exact ref_eq _ _), (h c).2⟩) (Cert.Reference14Ideal.Value.run (F := 𝕀) m' g')⟩

end Cert.Proof.Mla.DownW
end
-- ==== Proof.Mla.DownX.lean ====
module

public import proofs.«01_k».proof.Defs
public import proofs.«01_k».proof.Proof.Mlp.UpX
public import proofs.«01_k».proof.Proof.Gen.Kernel15Ideal.Value
public import proofs.«01_k».proof.Proof.Gen.Reference15Ideal.Run
public import proofs.«01_k».proof.Proof.Gen.Reference15Ideal.Read
public import Idealize.ShloMosaic.Lib.Pipeline.ValueKit.Geometry

@[expose] public section

/-! # The gradients of the latent attention's input and of its norm's gain

The row's gradient and what does not see the weight's width are `UpX`'s. -/

noncomputable section

namespace Cert.Proof.Mla.DownX

open Idealize.ShloMosaic hiding ix2_eta
open Idealize.ShloMosaic.TcCoe Idealize.SL.Sem
open Idealize.ShloMosaic.Pipeline (Window Dat)
open Cert.Proof.Norm Cert.Proof.Mlp
open Cert.Proof.Mlp.UpX (D GX GG rowOf hz col_at)

local notation "𝕀" => Idealize.ShloMosaic.Ideal

section Kernel

open Cert.Kernel15Ideal Cert.Kernel15Ideal.Gen Cert.Kernel15Ideal.Value

theorem pay2_apply (x : Vec 𝕀 S512x768 .bf16) (w : Vec 𝕀 S1024x768 .bf16) (a : Fin 512) (b : Fin 1024) :
    k0_pay2 x w (ix2 a b) = ∑ k : Fin 768, x (ix2 a k) * w (ix2 b k) := by
  unfold k0_pay2
  pointwise

theorem pay4_apply (h : Vec 𝕀 S512x1024 .f32) (a : Fin 512) :
    k0_pay4 h (ix2 a 0) = invRoot fun k => h (ix2 a k) := UpX.pay4_apply h a

theorem pay5_apply (h : Vec 𝕀 S512x1024 .f32) (a : Fin 512) (b : Fin 1024) :
    k0_pay5 h (ix2 a b) = h (ix2 a b) * invRoot fun k => h (ix2 a k) := UpX.pay5_apply h a b

theorem pay7_apply (x : Vec 𝕀 S512x768 .bf16) (w : Vec 𝕀 S1024x768 .bf16) (g : Vec 𝕀 S1x1024 .f32) (a : Fin 512) (b : Fin 1024) :
    k0_pay7 x w g (ix2 a b) = k0_pay2 x w (ix2 a b) * g (ix2 0 b) := by
  unfold k0_pay7
  generalize k0_pay2 x w = y
  pointwise

theorem pay8_apply (x : Vec 𝕀 S512x768 .bf16) (w : Vec 𝕀 S1024x768 .bf16) (h : Vec 𝕀 S512x1024 .f32) (g : Vec 𝕀 S1x1024 .f32) (a : Fin 512) :
    k0_pay8 x w h g (ix2 a 0) = Ideal.div (∑ k : Fin 1024, k0_pay7 x w g (ix2 a k) * k0_pay5 h (ix2 a k)) wLen := by
  unfold k0_pay8
  generalize k0_pay7 x w g = y
  generalize k0_pay5 h = z
  pointwise

theorem pay6_apply (x : Vec 𝕀 S512x768 .bf16) (w : Vec 𝕀 S1024x768 .bf16) (h : Vec 𝕀 S512x1024 .f32) (acc : Vec 𝕀 S1x1024 .f32) (b : Fin 1024) :
    k0_pay6 x w h acc (ix2 0 b) = acc (ix2 0 b) + ∑ k : Fin 512, k0_pay2 x w (ix2 k b) * k0_pay5 h (ix2 k b) := by
  unfold k0_pay6
  generalize k0_pay2 x w = y
  generalize k0_pay5 h = z
  pointwise

theorem pay3_apply (b : Fin 1024) : k0_pay3 (F := 𝕀) (ix2 0 b) = 0 := UpX.pay3_apply b

theorem pay1_apply (p q : FVec 𝕀 S512x1 .f32) (u v d : FVec 𝕀 S512x1024 .f32) (a : Fin 512) (b : Fin 1024) :
    k0_pay1 p u v q d (ix2 a b) = p (ix2 a 0) * (v (ix2 a b) - u (ix2 a b) * q (ix2 a 0)) + d (ix2 a b) := UpX.pay1_apply p q u v d a b

/-- What a row block's point writes to its block of the input's gradient. -/
abbrev dxB {F : FTy → Type} [FloatOps F] (x0 : Vec F S512x768 .bf16) (x1 : Vec F S1024x768 .bf16) (x2 : Vec F S512x1024 .f32) (x3 : Vec F S1x1024 .f32) (x4 : Vec F S512x1024 .f32) : Vec F S512x1024 .f32 :=
  k0_pay1 (k0_pay4 x2) (k0_pay5 x2) (k0_pay7 x0 x1 x3) (k0_pay8 x0 x1 x2 x3) x4

section Bodies

variable {F : FTy → Type} [FloatOps F]

variable (c : Dev nD) (i : grid0.Coords)
  (arg2 : Memref sig .tc .vmem S512x768 .bf16) (harg2 : arg2.IsWhole)
  (arg3 : Memref sig .tc .vmem S1024x768 .bf16) (harg3 : arg3.IsWhole)
  (arg4 : Memref sig .tc .vmem S512x1024 .f32) (harg4 : arg4.IsWhole)
  (arg5 : Memref sig .tc .vmem S1x1024 .f32) (harg5 : arg5.IsWhole)
  (arg6 : Memref sig .tc .vmem S512x1024 .f32) (harg6 : arg6.IsWhole)
  (arg7 : Memref sig .tc .vmem S512x1024 .f32) (harg7 : arg7.IsWhole)
  (arg8 : Memref sig .tc .vmem S1x1024 .f32) (harg8 : arg8.IsWhole)
  (x0 : Vec F S512x768 .bf16) (x1 : Vec F S1024x768 .bf16) (x2 : Vec F S512x1024 .f32) (x3 : Vec F S1x1024 .f32) (x4 : Vec F S512x1024 .f32) (xo6 : Vec F S1x1024 .f32)

theorem out_A_5 (hc0 : cond0_0 i) : out0_A_5 c i arg2 harg2 arg3 harg3 arg4 harg4 arg5 harg5 arg6 harg6 arg7 harg7 arg8 harg8 hc0 x0 x1 x2 x3 x4 = dxB x0 x1 x2 x3 x4 := by
  unfold out0_A_5
  rw [View.read_writes_eq_canon _ _ _ (cover0_A_5 c i arg2 harg2 arg3 harg3 arg4 harg4 arg5 harg5 arg6 harg6 arg7 harg7 arg8 harg8 hc0 x0 x1 x2 x3 x4)]
  unfold kernelRun0_A
  dsimp only
  try sl_unfold_words
  rw [View.canon_unit_zero hz]
  simp only [View.readAt_eq_ld, harg2.read_unread, harg3.read_unread, harg4.read_unread, harg5.read_unread, harg6.read_unread, harg7.read_unread, harg8.read_unread,
    View.ld_unit_zero (S := S512x768) hz, View.ld_unit_zero (S := S1024x768) hz, View.ld_unit_zero (S := S512x1024) hz, View.ld_unit_zero (S := S1x1024) hz, shapeCast_self]

theorem out_B_5 (hc0 : ¬cond0_0 i) : out0_B_5 c i arg2 harg2 arg3 harg3 arg4 harg4 arg5 harg5 arg6 harg6 arg7 harg7 arg8 harg8 hc0 x0 x1 x2 x3 x4 xo6 = dxB x0 x1 x2 x3 x4 := by
  unfold out0_B_5
  rw [View.read_writes_eq_canon _ _ _ (cover0_B_5 c i arg2 harg2 arg3 harg3 arg4 harg4 arg5 harg5 arg6 harg6 arg7 harg7 arg8 harg8 hc0 x0 x1 x2 x3 x4 xo6)]
  unfold kernelRun0_B
  dsimp only
  try sl_unfold_words
  rw [View.canon_unit_zero hz]
  simp only [View.readAt_eq_ld, harg2.read_unread, harg3.read_unread, harg4.read_unread, harg5.read_unread, harg6.read_unread, harg7.read_unread, harg8.read_unread,
    View.ld_unit_zero (S := S512x768) hz, View.ld_unit_zero (S := S1024x768) hz, View.ld_unit_zero (S := S512x1024) hz, View.ld_unit_zero (S := S1x1024) hz, shapeCast_self]

theorem out_A_6 (hc0 : cond0_0 i) : out0_A_6 c i arg2 harg2 arg3 harg3 arg4 harg4 arg5 harg5 arg6 harg6 arg7 harg7 arg8 harg8 hc0 x0 x1 x2 x3 x4 = k0_pay6 x0 x1 x2 (k0_pay3 (F := F)) := by
  unfold out0_A_6
  rw [View.read_writes_eq_canon _ _ _ (cover0_A_6 c i arg2 harg2 arg3 harg3 arg4 harg4 arg5 harg5 arg6 harg6 arg7 harg7 arg8 harg8 hc0 x0 x1 x2 x3 x4)]
  unfold kernelRun0_A
  dsimp only
  try sl_unfold_words
  rw [View.canon_cons_unit_zero (S := S1x1024) hz, View.readCov_unit_zero (S := S1x1024) _ hz]
  simp only [View.readAt_eq_ld, harg2.read_unread, harg3.read_unread, harg4.read_unread, harg5.read_unread, harg6.read_unread, harg7.read_unread, harg8.read_unread,
    View.ld_unit_zero (S := S512x768) hz, View.ld_unit_zero (S := S1024x768) hz, View.ld_unit_zero (S := S512x1024) hz, View.ld_unit_zero (S := S1x1024) hz, shapeCast_self]

theorem out_B_6 (hc0 : ¬cond0_0 i) : out0_B_6 c i arg2 harg2 arg3 harg3 arg4 harg4 arg5 harg5 arg6 harg6 arg7 harg7 arg8 harg8 hc0 x0 x1 x2 x3 x4 xo6 = k0_pay6 x0 x1 x2 xo6 := by
  unfold out0_B_6
  rw [View.read_writes_eq_canon _ _ _ (cover0_B_6 c i arg2 harg2 arg3 harg3 arg4 harg4 arg5 harg5 arg6 harg6 arg7 harg7 arg8 harg8 hc0 x0 x1 x2 x3 x4 xo6)]
  unfold kernelRun0_B
  dsimp only
  try sl_unfold_words
  rw [View.canon_unit_zero hz]
  simp only [View.readAt_eq_ld, harg2.read_unread, harg3.read_unread, harg4.read_unread, harg5.read_unread, harg6.read_unread, harg7.read_unread, harg8.read_unread,
    View.ld_unit_zero (S := S512x768) hz, View.ld_unit_zero (S := S1024x768) hz, View.ld_unit_zero (S := S512x1024) hz, View.ld_unit_zero (S := S1x1024) hz, shapeCast_self]

end Bodies

section Outs

variable {F : FTy → Type} [FloatOps F] (m : (ℓ : Loc nD τ sig) → Buf (Elt F) ℓ) (c : Dev nD)

theorem outs5 (t : Fin cfg0.N) : (outsAt0 m c t.val t.isLt).1 = dxB (iblk m c 0 t) (iblk m c 1 t) (iblk m c 2 t) (iblk m c 3 t) (iblk m c 4 t) := by
  by_cases h0 : t.val % 32 = 0
  · rw [outsAt0_A m c t h0]; dsimp only; rw [out_A_5]
  · rw [outsAt0_B m c t h0]; dsimp only; rw [out_B_5]

/-- What the first point leaves of the gain's gradient, and what every later one makes of what it finds. -/
def reset (n : ℕ) (h : n < cfg0.N) : Vec F S1x1024 .f32 :=
  k0_pay6 (iblk m c 0 ⟨n, h⟩) (iblk m c 1 ⟨n, h⟩) (iblk m c 2 ⟨n, h⟩) (k0_pay3 (F := F))
@[inherit_doc reset] def step (n : ℕ) (h : n < cfg0.N) (acc : Vec F S1x1024 .f32) : Vec F S1x1024 .f32 :=
  k0_pay6 (iblk m c 0 ⟨n, h⟩) (iblk m c 1 ⟨n, h⟩) (iblk m c 2 ⟨n, h⟩) acc

theorem outs6 (t : Fin cfg0.N) :
    (outsAt0 m c t.val t.isLt).2 = Pipeline.accAt (reset m c) (step m c) (32 * (t.val / 32)) (t.val % 32)
      (by have h1 := t.isLt; have h2 := Nat.div_add_mod t.val 32; omega) :=
  Pipeline.eq_accAt_of_mod (fun n h => (outsAt0 m c n h).2) 32 (reset m c) (step m c)
    (fun n h hn => by
      rw [outsAt0_A m c ⟨n, h⟩ hn]; dsimp only; rw [out_A_6]; rfl)
    (fun n h hn => by
      rw [outsAt0_B m c ⟨n + 1, h⟩ hn]; dsimp only; rw [out_B_6]; rfl)
    (by decide) t.val t.isLt _

end Outs

theorem index0 : ∀ t : Fin grid0.N, win0_0.index t = ![t.val, 0] := by decide +kernel
theorem index1 : ∀ t : Fin grid0.N, win0_1.index t = ![0, 0] := by decide +kernel
theorem index2 : ∀ t : Fin grid0.N, win0_2.index t = ![t.val, 0] := by decide +kernel
theorem index3 : ∀ t : Fin grid0.N, win0_3.index t = ![0, 0] := by decide +kernel
theorem index4 : ∀ t : Fin grid0.N, win0_4.index t = ![t.val, 0] := by decide +kernel
theorem index5 : ∀ t : Fin grid0.N, win0_5.index t = ![t.val, 0] := by decide +kernel
theorem index6 : ∀ t : Fin grid0.N, win0_6.index t = ![0, 0] := by decide +kernel

theorem point_lt (t : Fin grid0.N) : t.val < 32 := by
  have hN : grid0.N = 32 := N_0
  have ht := t.isLt
  omega

theorem row_at (t : Fin grid0.N) (a : Fin 512) : t.val * 512 + a.val = (rowB t.val a).val := by
  rw [rowB_val (point_lt t)]; omega

theorem emb0 (t : Fin grid0.N) (a : Fin 512) (k : Fin 768) :
    ((win0_0.rect t).emb (ix2 (n0 := 512) (n1 := 768) a k) : S16384x768.Idx) = ix2 (rowB t.val a) k := by
  refine funext fun ax => Fin.ext ?_
  rw [Window.rect_emb_val win0_0, index0]
  fin_cases ax
  · exact row_at t a
  · exact col_at k

theorem emb1 (t : Fin grid0.N) (b : Fin 1024) (k : Fin 768) :
    ((win0_1.rect t).emb (ix2 (n0 := 1024) (n1 := 768) b k) : S1024x768.Idx) = ix2 b k := by
  refine funext fun ax => Fin.ext ?_
  rw [Window.rect_emb_val win0_1, index1]
  fin_cases ax
  · exact col_at b
  · exact col_at k

theorem emb2 (t : Fin grid0.N) (a : Fin 512) (b : Fin 1024) :
    ((win0_2.rect t).emb (ix2 (n0 := 512) (n1 := 1024) a b) : S16384x1024.Idx) = ix2 (rowB t.val a) b := by
  refine funext fun ax => Fin.ext ?_
  rw [Window.rect_emb_val win0_2, index2]
  fin_cases ax
  · exact row_at t a
  · exact col_at b

theorem emb3 (t : Fin grid0.N) (b : Fin 1024) :
    ((win0_3.rect t).emb (ix2 (n0 := 1) (n1 := 1024) 0 b) : S1x1024.Idx) = ix2 0 b := by
  refine funext fun ax => Fin.ext ?_
  rw [Window.rect_emb_val win0_3, index3]
  fin_cases ax
  · exact col_at (0 : Fin 1)
  · exact col_at b

theorem emb4 (t : Fin grid0.N) (a : Fin 512) (b : Fin 1024) :
    ((win0_4.rect t).emb (ix2 (n0 := 512) (n1 := 1024) a b) : S16384x1024.Idx) = ix2 (rowB t.val a) b := by
  refine funext fun ax => Fin.ext ?_
  rw [Window.rect_emb_val win0_4, index4]
  fin_cases ax
  · exact row_at t a
  · exact col_at b

theorem emb5 (t : Fin grid0.N) (a : Fin 512) (b : Fin 1024) :
    ((win0_5.rect t).emb (ix2 (n0 := 512) (n1 := 1024) a b) : S16384x1024.Idx) = ix2 (rowB t.val a) b := by
  refine funext fun ax => Fin.ext ?_
  rw [Window.rect_emb_val win0_5, index5]
  fin_cases ax
  · exact row_at t a
  · exact col_at b

theorem emb6 (t : Fin grid0.N) (b : Fin 1024) :
    ((win0_6.rect t).emb (ix2 (n0 := 1) (n1 := 1024) 0 b) : S1x1024.Idx) = ix2 0 b := by
  refine funext fun ax => Fin.ext ?_
  rw [Window.rect_emb_val win0_6, index6]
  fin_cases ax
  · exact col_at (0 : Fin 1)
  · exact col_at b

variable (m : (ℓ : Loc nD τ sig) → Buf (Elt 𝕀) ℓ) (c : Dev nD)

abbrev a0 : FVec 𝕀 S16384x1024 .f32 := m ((c : Thread nD τ).loc main_arg0)
abbrev a1 : FVec 𝕀 S1024 .f32 := m ((c : Thread nD τ).loc main_arg1)
abbrev a2 : FVec 𝕀 S1024x768 .f32 := m ((c : Thread nD τ).loc main_arg2)
abbrev a3 : FVec 𝕀 S16384x768 .f32 := m ((c : Thread nD τ).loc main_arg3)
abbrev a4 : FVec 𝕀 S16384x1024 .f32 := m ((c : Thread nD τ).loc main_arg4)

theorem V_0 : V m c main_v0 = truncf .bf16 (a3 m c) bitsLt_bf16_f32 := by
  unfold V
  simp only [hostOps0, List.flatten_cons, List.flatten_nil, List.append_nil, List.cons_append, List.nil_append]
  after_results_simp <;> rfl

theorem V_1 : V m c main_v1 = truncf .bf16 (a2 m c) bitsLt_bf16_f32 := by
  unfold V
  simp only [hostOps0, List.flatten_cons, List.flatten_nil, List.append_nil, List.cons_append, List.nil_append]
  after_results_simp <;> rfl

theorem V_2 : V m c main_v2 = shapeCast _ (a1 m c) shapeCasts_S1024_S1x1024 := by
  unfold V
  simp only [hostOps0, List.flatten_cons, List.flatten_nil, List.append_nil, List.cons_append, List.nil_append]
  after_results_simp <;> rfl

theorem gain_apply (g : FVec 𝕀 S1024 .f32) (b : Fin 1024) :
    (shapeCast _ g shapeCasts_S1024_S1x1024 : FVec 𝕀 S1x1024 .f32) (ix2 0 b) = g (ix1 b) := by
  pointwise

theorem iblk0 (t : Fin grid0.N) (a : Fin 512) (k : Fin 768) :
    (iblk m c 0 t : Vec 𝕀 S512x768 .bf16) (ix2 a k) = a3 m c (ix2 (rowB t.val a) k) :=
  (congrArg (V m c main_v0 : Vec 𝕀 S16384x768 .bf16) (emb0 t a k)).trans (by rw [V_0]; rfl)

theorem iblk1 (t : Fin grid0.N) (b : Fin 1024) (k : Fin 768) :
    (iblk m c 1 t : Vec 𝕀 S1024x768 .bf16) (ix2 b k) = a2 m c (ix2 b k) :=
  (congrArg (V m c main_v1 : Vec 𝕀 S1024x768 .bf16) (emb1 t b k)).trans (by rw [V_1]; rfl)

theorem iblk2 (t : Fin grid0.N) (a : Fin 512) (b : Fin 1024) :
    (iblk m c 2 t : Vec 𝕀 S512x1024 .f32) (ix2 a b) = a0 m c (ix2 (rowB t.val a) b) :=
  (congrArg (V m c main_arg0 : Vec 𝕀 S16384x1024 .f32) (emb2 t a b)).trans (by rw [V_main_arg0])

theorem iblk3 (t : Fin grid0.N) (b : Fin 1024) :
    (iblk m c 3 t : Vec 𝕀 S1x1024 .f32) (ix2 0 b) = a1 m c (ix1 b) :=
  (congrArg (V m c main_v2 : Vec 𝕀 S1x1024 .f32) (emb3 t b)).trans (by rw [V_2]; exact gain_apply _ _)

theorem iblk4 (t : Fin grid0.N) (a : Fin 512) (b : Fin 1024) :
    (iblk m c 4 t : Vec 𝕀 S512x1024 .f32) (ix2 a b) = a4 m c (ix2 (rowB t.val a) b) :=
  (congrArg (V m c main_arg4 : Vec 𝕀 S16384x1024 .f32) (emb4 t a b)).trans (by rw [V_main_arg4])

theorem dx_apply (t : Fin grid0.N) (a : Fin 512) (b : Fin 1024) :
    dxB (iblk m c 0 t) (iblk m c 1 t) (iblk m c 2 t) (iblk m c 3 t) (iblk m c 4 t) (ix2 a b)
      = GX (a0 m c) (a1 m c) (a2 m c) (a3 m c) (a4 m c) (ix2 (rowB t.val a) b) := by
  unfold dxB
  rw [pay1_apply, pay4_apply, pay5_apply, pay8_apply]
  simp only [pay7_apply, pay5_apply, pay2_apply, iblk0, iblk1, iblk2, iblk3, iblk4]
  rfl

theorem after5 (t : Fin cfg0.N) :
    ((dats m 0 c).after 5 t : Vec 𝕀 S512x1024 .f32) = dxB (iblk m c 0 t) (iblk m c 1 t) (iblk m c 2 t) (iblk m c 3 t) (iblk m c 4 t) :=
  (after0_5 m c t).trans (outs5 m c t)

/-- If a block holds `Z`'s values, it is that block of the array. -/
theorem rows5 (Y : Vec 𝕀 S512x1024 .f32) (Z : FVec 𝕀 S16384x1024 .f32) (t : Fin grid0.N)
    (h : ∀ a b, Y (ix2 a b) = Z (ix2 (rowB t.val a) b)) (y : S512x1024.Idx) : Y y = Z ((win0_5.rect t).emb y) := by
  obtain ⟨a, b, rfl⟩ : ∃ a b, y = ix2 (n0 := 512) (n1 := 1024) a b := ⟨_, _, ix2_eta y⟩
  rw [h, congrArg Z (emb5 t a b)]

theorem covers5 : win0_5.Covers := by decide +kernel

theorem final5 : (dats m 0 c).arrAt 5 cfg0.N = GX (a0 m c) (a1 m c) (a2 m c) (a3 m c) (a4 m c) := by
  refine (dats m 0 c).arrAt_eq_of_covers 5 _ covers5 fun t _ y => ?_
  have e := rows5 ((dats m 0 c).after 5 t) (GX (a0 m c) (a1 m c) (a2 m c) (a3 m c) (a4 m c)) t (fun a b => by rw [after5]; exact dx_apply m c t a b)
  exact e y

/-- What grid point `n` adds. -/
def term (n : ℕ) (y : S1x1024.Idx) : EReal :=
  ∑ k : Fin 512, D (a2 m c) (a3 m c) (rowB n k) (y 1) * (a0 m c (ix2 (rowB n k) (y 1)) * invRoot (rowOf (a0 m c) (rowB n k)))

theorem step_apply (n : ℕ) (h : n < cfg0.N) (acc : Vec 𝕀 S1x1024 .f32) (y : S1x1024.Idx) : step m c n h acc y = acc y + term m c n y := by
  obtain ⟨b, rfl⟩ : ∃ b, y = ix2 (n0 := 1) (n1 := 1024) 0 b := ⟨y 1, (ix2_eta y).trans (congrArg (ix2 · (y 1)) (Subsingleton.elim (α := Fin 1) _ _))⟩
  unfold step
  rw [pay6_apply]
  simp only [pay5_apply, pay2_apply, iblk0, iblk1, iblk2]
  rfl

theorem reset_apply (n : ℕ) (h : n < cfg0.N) (y : S1x1024.Idx) : reset m c n h y = 0 + term m c n y := by
  refine (step_apply m c n h (k0_pay3 (F := 𝕀)) y).trans (congrArg (· + _) ?_)
  rw [ix2_eta y]
  exact (congrArg (fun z => k0_pay3 (F := 𝕀) (ix2 z (y 1))) (Subsingleton.elim (α := Fin 1) (y 0) 0)).trans (pay3_apply _)

theorem acc_eq (s j : ℕ) (hs : s = 0) (hj : j = 31) (h : s + j < cfg0.N) : Pipeline.accAt (reset m c) (step m c) s j h = GG (a0 m c) (a2 m c) (a3 m c) := by
  subst hs hj
  funext y
  refine (Pipeline.accAt_add_apply (β := EReal) (ι := S1x1024.Idx) (reset m c) (step m c) (fun _ => 0) (term m c) 0 31
    (fun h y => reset_apply m c _ h y) (fun n h acc y _ _ => step_apply m c n h acc y) 31 le_rfl _ _).trans ?_
  unfold GG
  rw [sum_rowB, zero_add]
  refine Finset.sum_congr rfl fun s _ => ?_
  rw [zero_add]
  rfl

theorem last6 : ∀ t : Fin grid0.N, win0_6.flush t = true → t.val = 31 := by decide +kernel

theorem after6 (t : Fin cfg0.N) (h : t.val = 31) : ((dats m 0 c).after 6 t : Vec 𝕀 S1x1024 .f32) = GG (a0 m c) (a2 m c) (a3 m c) :=
  (after0_6 m c t).trans ((outs6 m c t).trans (acc_eq m c _ _ (by omega) (by omega) _))

theorem rows6 (Y Z : FVec 𝕀 S1x1024 .f32) (t : Fin grid0.N) (h : Y = Z) (y : S1x1024.Idx) : Y y = Z ((win0_6.rect t).emb y) := by
  obtain ⟨b, rfl⟩ : ∃ b, y = ix2 (n0 := 1) (n1 := 1024) 0 b := ⟨y 1, (ix2_eta y).trans (congrArg (ix2 · (y 1)) (Subsingleton.elim (α := Fin 1) _ _))⟩
  rw [h, congrArg Z (emb6 t b)]

theorem covers6 : win0_6.Covers := by decide +kernel

theorem final6 : (dats m 0 c).arrAt 6 cfg0.N = GG (a0 m c) (a2 m c) (a3 m c) := by
  refine (dats m 0 c).arrAt_eq_of_covers 6 _ covers6 fun t hf y => ?_
  have e := rows6 ((dats m 0 c).after 6 t) (GG (a0 m c) (a2 m c) (a3 m c)) t (after6 m c t (last6 t hf))
  exact e y

end Kernel

section Reference

open Cert.Reference15Ideal Cert.Reference15Ideal.Read

variable (X : FVec 𝕀 S16384x1024 .f32) (g : FVec 𝕀 S1024 .f32) (W : FVec 𝕀 S1024x768 .f32) (U : FVec 𝕀 S16384x768 .f32) (H : FVec 𝕀 S16384x1024 .f32)

theorem ref_dot (a : Fin 16384) (b : Fin 1024) : val_main_v17 (F := 𝕀) W U (ix2 a b) = D W U a b := by
  rw [val_main_v17_apply]
  refine Finset.sum_congr rfl fun k _ => ?_
  congr 1 <;> refine congrArg _ (funext fun ax => ?_) <;> fin_cases ax <;> rfl

theorem ref_ms (a : Fin 16384) : val_main_v6 (F := 𝕀) X (ix2 a 0) = ms (rowOf X a) := UpX.ref_ms X a

theorem ref_inv (a : Fin 16384) : val_main_v7 (F := 𝕀) X (ix2 a 0) = invRoot (rowOf X a) := UpX.ref_inv X a

theorem ref_up (a : Fin 16384) (b : Fin 1024) : val_main_v22 (F := 𝕀) g W U (ix2 a b) = D W U a b * g (ix1 b) := by
  rw [← ref_dot]
  unfold val_main_v22
  generalize val_main_v17 (F := 𝕀) W U = y
  pointwise [val_main_v21, val_main_v13]

theorem ref_coef (a : Fin 16384) (b : Fin 1024) :
    val_main_v34 (F := 𝕀) X g W U (ix2 a b) = coef (rowOf X a) (fun k => D W U a k * g (ix1 k)) := by
  unfold coef
  simp only [← ref_up, ← ref_inv, ← ref_ms]
  unfold val_main_v34 val_main_v33 val_main_v32 val_main_v30 val_main_v26 val_main_v25 val_main_v24 val_main_v10 val_main_v8
  generalize val_main_v22 (F := 𝕀) g W U = y
  generalize val_main_v7 (F := 𝕀) X = z
  generalize val_main_v6 (F := 𝕀) X = w
  pointwise [val_main_v9, val_main_v31, val_main_cst_2, val_main_cst_5, val_main_cst_6, val_main_cst_7]
  rw [Fin.sum_univ_one]

theorem ref_dx : val_main_v38 (F := 𝕀) X g W U H = GX X g W U H := by
  funext i
  obtain ⟨a, b, rfl⟩ : ∃ a b, i = ix2 (n0 := 16384) (n1 := 1024) a b := ⟨_, _, ix2_eta i⟩
  refine Eq.trans ?_ (row_eq (rowOf X a) (fun k => D W U a k * g (ix1 k)) (H (ix2 a b)) b).symm
  show _ = H (ix2 a b) + D W U a b * g (ix1 b) * invRoot (rowOf X a) + X (ix2 a b) * coef (rowOf X a) (fun k => D W U a k * g (ix1 k))
    + coef (rowOf X a) (fun k => D W U a k * g (ix1 k)) * X (ix2 a b)
  rw [← ref_coef X g W U a b, ← ref_up, ← ref_inv]
  unfold val_main_v38 val_main_v37 val_main_v36 val_main_v35 val_main_v29 val_main_v28
  generalize val_main_v34 (F := 𝕀) X g W U = y
  generalize val_main_v22 (F := 𝕀) g W U = z
  unfold val_main_v27
  generalize val_main_v7 (F := 𝕀) X = w
  pointwise

theorem ref_dg : val_main_v39 (F := 𝕀) X W U = GG X W U := by
  funext i
  obtain ⟨b, rfl⟩ : ∃ b, i = ix2 (n0 := 1) (n1 := 1024) 0 b := ⟨i 1, (ix2_eta i).trans (congrArg (ix2 · (i 1)) (Subsingleton.elim (α := Fin 1) _ _))⟩
  show _ = ∑ r : Fin 16384, D W U r b * (X (ix2 r b) * invRoot (rowOf X r))
  simp only [← ref_dot, ← ref_inv]
  unfold val_main_v39 val_main_v23 val_main_v20 val_main_v19 val_main_v18 val_main_v12 val_main_v11
  generalize val_main_v17 (F := 𝕀) W U = y
  generalize val_main_v7 (F := 𝕀) X = z
  simp only [mul_comm (y _)]
  pointwise [val_main_cst_3, val_main_cst_4]
  rw [Fin.sum_univ_one]

end Reference

attribute [local instance] Cert.Kernel15Ideal.Gen.facts Cert.Reference15Ideal.Gen.facts

/-- The two programs end with the same two arrays. -/
theorem algebraic : Cert.algebraic_Kernel15Ideal_Reference15Ideal := fun m g m' g' _ hargs =>
  ⟨fun c => GX (a0 m c) (a1 m c) (a2 m c) (a3 m c) (a4 m c), fun c => GG (a0 m c) (a2 m c) (a3 m c),
    (θ_run Cert.Kernel15Ideal.defs _ _).mono (fun _ h c => ⟨(h c).1.trans (final5 m c), (h c).2.1.trans (final6 m c), (h c).2.2⟩) (Cert.Kernel15Ideal.Value.run_blocks (F := 𝕀) m g),
    (θ_run Cert.Reference15Ideal.defs _ _).mono (fun _ h c => ⟨((h c).1.trans (Cert.Reference15Ideal.Read.val_main_v38_eq _ _)).trans (by
        rw [(hargs c).1, (hargs c).2.1, (hargs c).2.2.1, (hargs c).2.2.2.1, (hargs c).2.2.2.2]; exact ref_dx _ _ _ _ _),
      ((h c).2.1.trans (Cert.Reference15Ideal.Read.val_main_v39_eq _ _ _)).trans (by
        rw [(hargs c).1, (hargs c).2.2.1, (hargs c).2.2.2.1]; exact ref_dg _ _ _), (h c).2.2⟩) (Cert.Reference15Ideal.Value.run (F := 𝕀) m' g')⟩

end Cert.Proof.Mla.DownX
end
-- ==== Proof.Mla.EvenIn.lean ====
module

public import proofs.«01_k».proof.Defs
public import proofs.«01_k».proof.Proof.Mlp.DownFwd
public import proofs.«01_k».proof.Proof.Gen.Kernel16Ideal.Value
public import proofs.«01_k».proof.Proof.Gen.Reference16Ideal.Run
public import proofs.«01_k».proof.Proof.Gen.Reference16Ideal.Read
public import Idealize.ShloMosaic.Lib.Pipeline.ValueKit.Geometry

@[expose] public section

/-! # An even layer's first product -/

noncomputable section

namespace Cert.Proof.Mla.EvenIn

open Idealize.ShloMosaic Idealize.ShloMosaic.TcCoe Idealize.SL.Sem
open Idealize.ShloMosaic.Pipeline (Window Dat)
open Cert.Proof.Mlp
open Cert.Proof.Mlp.DownFwd (hz)

local notation "𝕀" => Idealize.ShloMosaic.Ideal

section Kernel

open Cert.Kernel16Ideal Cert.Kernel16Ideal.Gen Cert.Kernel16Ideal.Value

/-- What both programs compute: the rows through the weight. Changing the width of a float changes no value here. -/
def G (X : FVec 𝕀 S16384x1024 .f32) (W : FVec 𝕀 S1024x1536 .f32) : FVec 𝕀 S16384x1536 .bf16 := fun i =>
  ∑ k : Fin 1024, X (ix2 (i 0) k) * W (ix2 k (i 1))

theorem index0 : ∀ t : Fin grid0.N, win0_0.index t = ![t.val / 3, 0] := by decide +kernel
theorem index1 : ∀ t : Fin grid0.N, win0_1.index t = ![0, t.val % 3] := by decide +kernel
theorem index2 : ∀ t : Fin grid0.N, win0_2.index t = ![t.val / 3, t.val % 3] := by decide +kernel

theorem pay_apply (x : Vec 𝕀 S1024x1024 .bf16) (w : Vec 𝕀 S1024x512 .bf16) (a : Fin 1024) (b : Fin 512) :
    k0_pay1 x w (ix2 a b) = ∑ k : Fin 1024, x (ix2 a k) * w (ix2 k b) := by
  unfold k0_pay1
  pointwise

theorem out_eq (x : Vec 𝕀 S1024x1024 .bf16) (w : Vec 𝕀 S1024x512 .bf16) : out0_2 x w = k0_pay1 x w := by
  unfold out0_2
  rw [View.canon_unit_zero hz, View.ld_unit_zero (S := S1024x1024) hz, View.ld_unit_zero (S := S1024x512) hz]

theorem point_lt (t : Fin grid0.N) : t.val < 48 := by
  have hN : grid0.N = 48 := N_0
  have ht := t.isLt
  omega

/-- Column `b` of column block `q`. -/
def col (q : ℕ) (b : Fin 512) : Fin 1536 := Fin.ofNat 1536 (512 * q + b.val)

theorem col_val {q : ℕ} (hq : q < 3) (b : Fin 512) : (col q b).val = 512 * q + b.val :=
  Nat.mod_eq_of_lt (by omega)

theorem row_at (t : Fin grid0.N) (a : Fin 1024) : t.val / 3 * 1024 + a.val = (row (t.val / 3) a).val := by
  have ht := point_lt t
  rw [row_val (by omega)]; omega

theorem col_at (t : Fin grid0.N) (b : Fin 512) : t.val % 3 * 512 + b.val = (col (t.val % 3) b).val := by
  rw [col_val (by omega)]; omega

theorem all_at (k : Fin 1024) : 0 * 1024 + k.val = k.val := by omega

theorem emb0 (t : Fin grid0.N) (a k : Fin 1024) :
    ((win0_0.rect t).emb (ix2 (n0 := 1024) (n1 := 1024) a k) : S16384x1024.Idx) = ix2 (row (t.val / 3) a) k := by
  refine funext fun ax => Fin.ext ?_
  rw [Window.rect_emb_val win0_0, index0]
  fin_cases ax
  · exact row_at t a
  · exact all_at k

theorem emb1 (t : Fin grid0.N) (k : Fin 1024) (b : Fin 512) :
    ((win0_1.rect t).emb (ix2 (n0 := 1024) (n1 := 512) k b) : S1024x1536.Idx) = ix2 k (col (t.val % 3) b) := by
  refine funext fun ax => Fin.ext ?_
  rw [Window.rect_emb_val win0_1, index1]
  fin_cases ax
  · exact all_at k
  · exact col_at t b

theorem emb2 (t : Fin grid0.N) (a : Fin 1024) (b : Fin 512) :
    ((win0_2.rect t).emb (ix2 (n0 := 1024) (n1 := 512) a b) : S16384x1536.Idx) = ix2 (row (t.val / 3) a) (col (t.val % 3) b) := by
  refine funext fun ax => Fin.ext ?_
  rw [Window.rect_emb_val win0_2, index2]
  fin_cases ax
  · exact row_at t a
  · exact col_at t b

variable (m : (ℓ : Loc nD τ sig) → Buf (Elt 𝕀) ℓ) (c : Dev nD)

abbrev a0 : FVec 𝕀 S16384x1024 .f32 := m ((c : Thread nD τ).loc main_arg0)
abbrev a1 : FVec 𝕀 S1024x1536 .f32 := m ((c : Thread nD τ).loc main_arg1)

theorem V_0 : V m c main_v0 = truncf .bf16 (a0 m c) bitsLt_bf16_f32 := by
  unfold V
  simp only [hostOps0, List.flatten_cons, List.flatten_nil, List.append_nil, List.cons_append, List.nil_append]
  after_results_simp <;> rfl

theorem V_1 : V m c main_v1 = truncf .bf16 (a1 m c) bitsLt_bf16_f32 := by
  unfold V
  simp only [hostOps0, List.flatten_cons, List.flatten_nil, List.append_nil, List.cons_append, List.nil_append]
  after_results_simp <;> rfl

theorem iblk0 (t : Fin grid0.N) (a k : Fin 1024) :
    (iblk m c 0 t : Vec 𝕀 S1024x1024 .bf16) (ix2 a k) = a0 m c (ix2 (row (t.val / 3) a) k) :=
  (congrArg (V m c main_v0 : Vec 𝕀 S16384x1024 .bf16) (emb0 t a k)).trans (by rw [V_0]; rfl)

theorem iblk1 (t : Fin grid0.N) (k : Fin 1024) (b : Fin 512) :
    (iblk m c 1 t : Vec 𝕀 S1024x512 .bf16) (ix2 k b) = a1 m c (ix2 k (col (t.val % 3) b)) :=
  (congrArg (V m c main_v1 : Vec 𝕀 S1024x1536 .bf16) (emb1 t k b)).trans (by rw [V_1]; rfl)

theorem after_apply (t : Fin grid0.N) (a : Fin 1024) (b : Fin 512) :
    ((dats m 0 c).after 2 t : Vec 𝕀 S1024x512 .bf16) (ix2 a b) = G (a0 m c) (a1 m c) (ix2 (row (t.val / 3) a) (col (t.val % 3) b)) := by
  rw [after0_2, out_eq, pay_apply]
  simp only [iblk0, iblk1]
  rfl

/-- If a block holds an array's values, it is that block of the array. -/
theorem read2 (Y : Vec 𝕀 S1024x512 .bf16) (Z : FVec 𝕀 S16384x1536 .bf16) (t : Fin grid0.N)
    (h : ∀ a b, Y (ix2 a b) = Z (ix2 (row (t.val / 3) a) (col (t.val % 3) b))) (y : S1024x512.Idx) : Y y = Z ((win0_2.rect t).emb y) := by
  obtain ⟨a, b, rfl⟩ : ∃ a b, y = ix2 (n0 := 1024) (n1 := 512) a b := ⟨_, _, ix2_eta y⟩
  rw [h, congrArg Z (emb2 t a b)]

theorem covers2 : win0_2.Covers := by decide +kernel

theorem final2 : (dats m 0 c).arrAt 2 cfg0.N = G (a0 m c) (a1 m c) := by
  refine (dats m 0 c).arrAt_eq_of_covers 2 _ covers2 fun t _ y => ?_
  have e := read2 ((dats m 0 c).after 2 t) (G (a0 m c) (a1 m c)) t (after_apply m c t)
  exact e y

end Kernel

section Reference

open Cert.Reference16Ideal Cert.Reference16Ideal.Read

theorem ref_eq (X : FVec 𝕀 S16384x1024 .f32) (W : FVec 𝕀 S1024x1536 .f32) : val_main_v1 (F := 𝕀) X W = G X W := by
  funext i
  obtain ⟨a, b, rfl⟩ : ∃ a b, i = ix2 (n0 := 16384) (n1 := 1536) a b := ⟨_, _, ix2_eta i⟩
  refine (val_main_v0_apply X W _).trans (Finset.sum_congr rfl fun k _ => ?_)
  congr 1 <;> refine congrArg _ (funext fun ax => ?_) <;> fin_cases ax <;> rfl

end Reference

attribute [local instance] Cert.Kernel16Ideal.Gen.facts Cert.Reference16Ideal.Gen.facts

/-- The two programs end with the same array. -/
theorem algebraic : Cert.algebraic_Kernel16Ideal_Reference16Ideal := fun m g m' g' _ hargs =>
  ⟨fun c => G (a0 m c) (a1 m c),
    (θ_run Cert.Kernel16Ideal.defs _ _).mono (fun _ h c => ⟨(h c).1.trans (final2 m c), (h c).2⟩) (Cert.Kernel16Ideal.Value.run_blocks (F := 𝕀) m g),
    (θ_run Cert.Reference16Ideal.defs _ _).mono (fun _ h c => ⟨((h c).1.trans (Cert.Reference16Ideal.Read.val_main_v1_eq _ _)).trans (by
        rw [(hargs c).1, (hargs c).2]; exact ref_eq _ _), (h c).2⟩) (Cert.Reference16Ideal.Value.run (F := 𝕀) m' g')⟩

end Cert.Proof.Mla.EvenIn
end
-- ==== Proof.Fwd.Off.lean ====
module

public import proofs.«01_k».proof.Proof.Gen.Kernel17Ideal
public import proofs.«01_k».proof.Proof.Bwd.ModelIdeal

@[expose] public section

noncomputable section

namespace Cert.Proof.Fwd

open Cert.Kernel17Ideal Cert.Kernel17Ideal.Gen
open Cert.Proof.KernelIdeal (blk readAt_blk readCov_window)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The key tile whose scores the first half of a pair prepares. -/
theorem k0_off1_eq : ∀ i t, k0_off1 i t 1#32 = ![0, 512 * (2 * t.val + 1), 0] := by decide +kernel
/-- The key tile whose scores the second half prepares. -/
theorem k0_off1_eq' : ∀ i t, k0_off1 i t 2#32 = ![0, 512 * (2 * t.val + 2), 0] := by decide +kernel
/-- The value tiles of a pair. -/
theorem k0_off2_eq : ∀ i t, k0_off2 i t = ![0, 2 * t.val, 0, 0] := by decide +kernel
@[inherit_doc k0_off2_eq] theorem k0_off3_eq : ∀ i t, k0_off3 i t = ![0, 2 * t.val + 1, 0, 0] := by decide +kernel
/-- The value tile before the diagonal, where an odd number of tiles lies below it. -/
theorem k0_off9_eq : ∀ i, ∀ h : ¬ (k0_cond1 i = 1#1), k0_off9 i = ![0, (i 1).val - 1, 0, 0] := by decide +kernel
/-- The number of pairs. -/
theorem trips_t1 : ∀ i, (k0_t1_loop i).trips = (i 1).val / 2 := by decide +kernel
/-- The loop over what the pairs leave makes no trip. -/
theorem trips_t2 : ∀ i, (k0_t2_loop i).trips = 0 := by decide +kernel
theorem cond1_even : ∀ i : grid0.Coords, k0_cond1 i = 1#1 → 2 * ((i 1).val / 2) = (i 1).val := by decide +kernel
theorem cond1_odd : ∀ i : grid0.Coords, ¬ (k0_cond1 i = 1#1) → 2 * ((i 1).val / 2) + 1 = (i 1).val := by decide +kernel

end Cert.Proof.Fwd
end
-- ==== Proof.Fwd.Model.lean ====
module

public import proofs.«01_k».proof.Proof.Gen.Kernel17Ideal.Skeleton
public import proofs.«01_k».proof.Proof.Bwd.ModelIdeal

@[expose] public section

/-! # The attention call's body as plain functions of the blocks it reads

At the grid point `(h, i)` the body goes through the key tiles `0, …, i - 1`, then through tile `i`, whose scores it
masks. Each tile moves on the largest score of every column and the sums of the values under the scores' exponentials. -/

noncomputable section

namespace Cert.Proof.Fwd

open Cert.Kernel17Ideal Cert.Kernel17Ideal.Gen
open Cert.Proof.KernelIdeal (blk readAt_blk readCov_window)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- Key tile `n`: 512 consecutive rows of the keys. -/
def rows {α : Type} (x : S1x16384x96.Idx → α) (n : ℕ) : S1x512x96.Idx → α :=
  fun y => x (ValueIdx.ix3 (n0 := 1) (n1 := 16384) (n2 := 96) 0 (Fin.ofNat 16384 (512 * n + (y 1).val)) (y 2))

/-- What the body carries from tile to tile: the largest score of each column so far, and the sums scaled by it. -/
abbrev St (F : FTy → Type) : Type := FVec F S1x512 .f32 × FVec F S80x512 .f32

/-- The raw scores of key tile `n`, keys along the rows. -/
def scoresAt (x2 : Vec F S1x1x96x512 .bf16) (x3 : Vec F S1x16384x96 .bf16) (n : ℕ) : FVec F S512x512 .f32 := k0_pay23 (rows x3 n) x2

/-- One tile below the diagonal. -/
def stepU (sc : Vec F S512x512 .f32) (vt : Vec F S1x1x80x512 .bf16) (s : St F) : St F := (k0_pay14 s.1 sc, k0_pay15 s.1 s.2 sc vt)
/-- The tile on the diagonal, its scores masked. -/
def stepM (sc : Vec F S512x512 .f32) (vt : Vec F S1x1x80x512 .bf16) (s : St F) : St F := (k0_pay5 s.1 sc, k0_pay6 s.1 s.2 sc vt)

/-- The tiles `0, …, n - 1`. -/
def run (x2 : Vec F S1x1x96x512 .bf16) (x3 : Vec F S1x16384x96 .bf16) (x4 : Vec F S1x32x80x512 .bf16) : ℕ → St F
  | 0 => (k0_pay24, k0_pay25)
  | n + 1 => stepU (scoresAt x2 x3 n) (blk x4 n) (run x2 x3 x4 n)

/-- The whole point `i`: the tiles below the diagonal, then the diagonal one. -/
def point (x2 : Vec F S1x1x96x512 .bf16) (x3 : Vec F S1x16384x96 .bf16) (x4 : Vec F S1x32x80x512 .bf16) (i : ℕ) : St F :=
  stepM (scoresAt x2 x3 i) (blk x4 i) (run x2 x3 x4 i)

theorem stepM_eq (sc : Vec F S512x512 .f32) (vt : Vec F S1x1x80x512 .bf16) (s : St F) : stepM sc vt s = stepU (k0_pay4 sc) vt s := rfl

section Views
variable {sig : RefSig} {κ : Kind} {sp : Space} {e : EltTy} {Val : EltTy → Type}

/-- A load of key tile `n` reads that tile. -/
theorem readAt_rows [∀ e, Nonempty (Val e)] (v : View sig κ sp S1x16384x96 e) (x : S1x16384x96.Idx → Val e)
    {off : Fin 3 → ℕ} (inb : ∀ a, off a + S1x512x96.size a ≤ S1x16384x96.size a) {n : ℕ} (h : off = ![0, 512 * n, 0]) :
    v.readAt Val (Rect.unit (s := S1x16384x96) off S1x512x96.size inb).toLoadRect (v.rep x) = rows x n := by
  subst h
  rw [View.readAt_rep_unit v x inb rfl inb]
  funext y
  have hi : 512 * n + 512 ≤ 16384 := inb 1
  refine congrArg x (funext fun a => Fin.ext ?_)
  have e : ((Rect.unit (s := S1x16384x96) ![0, 512 * n, 0] S1x512x96.size inb).emb y a).val = (![0, 512 * n, 0] : Fin 3 → ℕ) a + 1 * (y a).val := rfl
  rw [e]
  have h0 : (y 0).val < 1 := (y 0).isLt
  have h1 : (y 1).val < 512 := (y 1).isLt
  fin_cases a
  · show 0 + 1 * (y 0).val = 0; omega
  · show 512 * n + 1 * (y 1).val = (512 * n + (y 1).val) % 16384; omega
  · show 0 + 1 * (y 2).val = (y 2).val; omega

/-- A load of a whole square tile of what one whole store left reads the payload. -/
theorem readCov_square [∀ e, Nonempty (Val e)] (v : View sig κ sp S512x512 e)
    (inb : ∀ a, (![0, 0] : Fin 2 → ℕ) a + S512x512.size a ≤ S512x512.size a) (w : S512x512.Idx → Val e) (L : List (View.Piece Val S512x512 e)) :
    v.readCov (⟨Rect.unit ![0, 0] S512x512.size inb, w⟩ :: L) (Rect.unit ![0, 0] S512x512.size inb).toLoadRect = w := by
  refine (readCov_window v inb w L inb).trans (funext fun y => congrArg w (funext fun a => Fin.ext ?_))
  fin_cases a
  · show 0 + 1 * (y 0).val = (y 0).val; omega
  · show 0 + 1 * (y 1).val = (y 1).val; omega

end Views

end Cert.Proof.Fwd
end
-- ==== Proof.Fwd.T1.lean ====
module

public import proofs.«01_k».proof.Proof.Gen.Kernel17Ideal.Frame
public import proofs.«01_k».proof.Proof.Gen.Kernel17Ideal.Loops
public import proofs.«01_k».proof.Proof.Fwd.Off
public import proofs.«01_k».proof.Proof.Fwd.Model
public import Idealize.ShloMosaic.Lib.Tactic.RunNames

@[expose] public section

noncomputable section

namespace Cert.Proof.Fwd

open Cert.Kernel17Ideal Cert.Kernel17Ideal.Gen
open Cert.Proof.KernelIdeal (blk readAt_blk readCov_window)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

abbrev 𝒱₀ : Variants := Variants.none

/-- A buffer whose contents read as `X` holds `X`. -/
theorem rep_intro (c : Thread nD τ) {sp : Space} {s : Shape} {e : EltTy} (M : Memref sig c.2.kind sp s e) (X : Vec F s e) :
    (iprop(∃ g, ⌜M.view.read (Elt F) g = X⌝ ∗ (M.view.loc c ↦[M.view.set]{fullShare} g)) : sProp 𝕄)
      ⊢ M.view.loc c ↦[M.view.set]{fullShare} M.view.rep X := by
  iintro ⟨%g, %h, H⟩
  iapply pointsTo_rep_of_read c M g fullShare X h
  iexact H

variable (c : Dev nD) (i : grid0.Coords) (arg2 : Memref sig .tc .vmem S1x1x96x512 .bf16) (harg2 : arg2.IsWhole) (arg3 : Memref sig .tc .vmem S1x16384x96 .bf16) (harg3 : arg3.IsWhole) (arg4 : Memref sig .tc .vmem S1x32x80x512 .bf16) (harg4 : arg4.IsWhole) (arg5 : Memref sig .tc .vmem S1x1x64x512 .f32) (harg5 : arg5.IsWhole) (arg6 : Memref sig .tc .vmem S1x1x1x512 .f32) (harg6 : arg6.IsWhole) (arg7 : Memref sig .tc .vmem S512x512 .f32) (harg7 : arg7.IsWhole) (arg8 : Memref sig .tc .vmem S512x512 .f32) (harg8 : arg8.IsWhole)
  (x2 : Vec F S1x1x96x512 .bf16) (x3 : Vec F S1x16384x96 .bf16) (x4 : Vec F S1x32x80x512 .bf16)

/-- What the body holds before pair `k` of key tiles. -/
abbrev invAt (k : ℕ) (acc : FVec F S1x512 .f32 × FVec F S80x512 .f32) : sProp 𝕄 :=
  iprop((arg2.view.loc (c : Thread nD τ) ↦[arg2.view.set]{fullShare} arg2.view.rep x2) ∗ (arg3.view.loc (c : Thread nD τ) ↦[arg3.view.set]{fullShare} arg3.view.rep x3) ∗ (arg4.view.loc (c : Thread nD τ) ↦[arg4.view.set]{fullShare} arg4.view.rep x4)
    ∗ (arg7.view.loc (c : Thread nD τ) ↦[arg7.view.set]{fullShare} arg7.view.rep (scoresAt x2 x3 (2 * k))) ∗ (∃ f, arg8.view.loc (c : Thread nD τ) ↦[arg8.view.set]{fullShare} f)
    ∗ ⌜acc = run x2 x3 x4 (2 * k)⌝)

set_option maxHeartbeats 4000000 in
/-- One pair of key tiles. -/
theorem pair_step (k : Fin (k0_t1_loop i).trips) (acc : FVec F S1x512 .f32 × FVec F S80x512 .f32) :
    invAt c arg2 arg3 arg4 arg7 arg8 x2 x3 x4 k.val acc
    ⊢ wp (M := 𝕄) frame (wpE (defs₀ (F := F)) 𝒱₀ c none) Set.univ (k0_t1_body (F := F) i arg2 harg2 arg3 harg3 arg4 harg4 arg5 harg5 arg6 harg6 arg7 harg7 arg8 harg8 k acc)
      (invAt c arg2 arg3 arg4 arg7 arg8 x2 x3 x4 (k.val + 1)) := by
  have hk : k.val < (i 1).val / 2 := lt_of_lt_of_eq k.isLt (trips_t1 i)
  have hi : (i 1).val < 32 := (i 1).isLt
  unfold invAt
  generalize hs : run x2 x3 x4 (2 * k.val) = s
  have hs' : run x2 x3 x4 (2 * (k.val + 1))
      = stepU (scoresAt x2 x3 (2 * k.val + 1)) (blk x4 (2 * k.val + 1)) (stepU (scoresAt x2 x3 (2 * k.val)) (blk x4 (2 * k.val)) s) := by
    subst hs
    rfl
  rw [hs']
  obtain ⟨sm, sacc⟩ := s
  unfold k0_t1_body
  iintro ⟨H2, H3, H4, H7, ⟨%f8, H8⟩, %hacc⟩
  subst hacc
  sl_exec
  sl_step
  have L3a := readAt_rows (Val := Elt F) arg3.view x3 (off := k0_off1 i k 1#32) (show ∀ a, k0_off1 i k 1#32 a + S1x512x96.size a ≤ S1x16384x96.size a from k0_off1_inb i k 0) (k0_off1_eq i k)
  have L3b := readAt_rows (Val := Elt F) arg3.view x3 (off := k0_off1 i k 2#32) (show ∀ a, k0_off1 i k 2#32 a + S1x512x96.size a ≤ S1x16384x96.size a from k0_off1_inb i k 1) (k0_off1_eq' i k)
  have L4a := readAt_blk (Val := Elt F) arg4.view x4 (k0_off2_inb i k) (k0_off2_eq i k)
  have L4b := readAt_blk (Val := Elt F) arg4.view x4 (k0_off3_inb i k) (k0_off3_eq i k)
  have L2 := View.readAt_rep_full (Val := Elt F) arg2.view x2 inb_S1x1x96x512_S1x1x96x512_0_0_0_0
  have L7 := View.readAt_rep_full (Val := Elt F) arg7.view (scoresAt x2 x3 (2 * k.val)) inb_S512x512_S512x512_0_0
  have L8 := fun w => readCov_square (Val := Elt F) arg8.view inb_S512x512_S512x512_0_0 w []
  isplitl [H2]; · iexact H2
  isplitl [H3]; · iexact H3
  isplitl [H4]; · iexact H4
  isplitl [H7]
  · iapply rep_intro
    iexists _
    isplitr
    rotate_left
    · iexact H7
    · ipureintro
      rw [View.read_writes_full]
      sl_unfold_run_values
      simp only [L2, L3b]
      rfl
  isplitl [H8]; · iexists _; iexact H8
  ipureintro
  sl_unfold_run_values
  unfold pair_step.sl.H8_1
  sl_unfold_run_values
  simp only [L2, L3a, L4a, L4b, L7, L8]
  rfl

end Cert.Proof.Fwd
end
-- ==== Proof.Fwd.T2.lean ====
module

public import proofs.«01_k».proof.Proof.Fwd.T1

@[expose] public section

noncomputable section

namespace Cert.Proof.Fwd

open Cert.Kernel17Ideal Cert.Kernel17Ideal.Gen
open Cert.Proof.KernelIdeal (blk readAt_blk readCov_window)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (c : Dev nD) (i : grid0.Coords) (arg2 : Memref sig .tc .vmem S1x1x96x512 .bf16) (harg2 : arg2.IsWhole) (arg3 : Memref sig .tc .vmem S1x16384x96 .bf16) (harg3 : arg3.IsWhole) (arg4 : Memref sig .tc .vmem S1x32x80x512 .bf16) (harg4 : arg4.IsWhole) (arg5 : Memref sig .tc .vmem S1x1x64x512 .f32) (harg5 : arg5.IsWhole) (arg6 : Memref sig .tc .vmem S1x1x1x512 .f32) (harg6 : arg6.IsWhole) (arg7 : Memref sig .tc .vmem S512x512 .f32) (harg7 : arg7.IsWhole) (arg8 : Memref sig .tc .vmem S512x512 .f32) (harg8 : arg8.IsWhole)
  (x2 : Vec F S1x1x96x512 .bf16) (x3 : Vec F S1x16384x96 .bf16) (x4 : Vec F S1x32x80x512 .bf16)

/-- The loop over the pairs of key tiles. -/
@[instance_reducible] def pairs (init : FVec F S1x512 .f32 × FVec F S80x512 .f32) :
    LoopInvTy_k0_t1 (F := F) Unit ℕ (UR sig nD τ) ℕ 𝒱₀ c none Set.univ i arg2 harg2 arg3 harg3 arg4 harg4 arg5 harg5 arg6 harg6 arg7 harg7 arg8 harg8 init where
  inv k acc := invAt c arg2 arg3 arg4 arg7 arg8 x2 x3 x4 k acc
  step k acc := pair_step c i arg2 harg2 arg3 harg3 arg4 harg4 arg5 harg5 arg6 harg6 arg7 harg7 arg8 harg8 x2 x3 x4 k acc

/-- The loop over what the pairs leave. -/
@[instance_reducible] def no_rest (v33 : BitVec 32) (init : FVec F S1x512 .f32 × FVec F S80x512 .f32) :
    LoopInvTy_k0_t2 (F := F) Unit ℕ (UR sig nD τ) ℕ 𝒱₀ c none Set.univ i arg2 harg2 arg3 harg3 arg4 harg4 arg5 harg5 arg6 harg6 arg7 harg7 arg8 harg8 v33 init where
  inv _ acc := iprop(⌜acc = init⌝)
  step k _ := absurd k.isLt (by have := trips_t2 i; exact fun h => Nat.not_lt_zero _ (lt_of_lt_of_eq h this))

/-- The loop over the pairs, run: from the invariant before it to the invariant after all its trips. -/
theorem pairs_run {β : Type} {kk : FVec F S1x512 .f32 × FVec F S80x512 .f32 → Prog (TpuEff nD τ sig (Elt F) Λ₀ .tc) β} {Q : β → sProp 𝕄} :
    invAt c arg2 arg3 arg4 arg7 arg8 x2 x3 x4 0 (k0_pay24, k0_pay25) ⊢
      iprop((∀ acc, invAt c arg2 arg3 arg4 arg7 arg8 x2 x3 x4 ((i 1).val / 2) acc -∗ wp (M := 𝕄) frame (wpE (defs₀ (F := F)) 𝒱₀ c none) Set.univ (kk acc) Q)
        -∗ wp (M := 𝕄) frame (wpE (defs₀ (F := F)) 𝒱₀ c none) Set.univ (Scf.for (k0_t1_loop i).lb (k0_t1_loop i).ub (k0_t1_loop i).st (k0_t1_ok i) (k0_pay24, k0_pay25) (k0_t1_body (F := F) i arg2 harg2 arg3 harg3 arg4 harg4 arg5 harg5 arg6 harg6 arg7 harg7 arg8 harg8) >>= kk) Q) := by
  have e := exec_loop frame (wpE (defs₀ (F := F)) 𝒱₀ c none) Set.univ _ _ _ _ _ _ (pairs c i arg2 harg2 arg3 harg3 arg4 harg4 arg5 harg5 arg6 harg6 arg7 harg7 arg8 harg8 x2 x3 x4 (k0_pay24, k0_pay25)) (kk := kk) (Q := Q)
  rw [show Scf.trips (k0_t1_loop i).lb (k0_t1_loop i).ub (k0_t1_loop i).st = (i 1).val / 2 from trips_t1 i] at e
  exact e

set_option maxHeartbeats 4000000 in
/-- The first tile's scores, and the loop over the pairs. -/
theorem head_step (K : (Σ' (arg1 : BitVec 32) (v33 : BitVec 32) (v34_0 : FVec F S1x512 .f32), FVec F S80x512 .f32) → sProp 𝕄) :
    iprop((arg2.view.loc (c : Thread nD τ) ↦[arg2.view.set]{fullShare} arg2.view.rep x2) ∗ (arg3.view.loc (c : Thread nD τ) ↦[arg3.view.set]{fullShare} arg3.view.rep x3) ∗ (arg4.view.loc (c : Thread nD τ) ↦[arg4.view.set]{fullShare} arg4.view.rep x4) ∗ (∃ f, arg7.view.loc (c : Thread nD τ) ↦[arg7.view.set]{fullShare} f) ∗ (∃ f, arg8.view.loc (c : Thread nD τ) ↦[arg8.view.set]{fullShare} f)
      ∗ (∀ a, ∀ b, iprop((arg2.view.loc (c : Thread nD τ) ↦[arg2.view.set]{fullShare} arg2.view.rep x2) ∗ (arg3.view.loc (c : Thread nD τ) ↦[arg3.view.set]{fullShare} arg3.view.rep x3) ∗ (arg4.view.loc (c : Thread nD τ) ↦[arg4.view.set]{fullShare} arg4.view.rep x4) ∗ (arg7.view.loc (c : Thread nD τ) ↦[arg7.view.set]{fullShare} arg7.view.rep (scoresAt x2 x3 (2 * ((i 1).val / 2)))) ∗ (∃ f, arg8.view.loc (c : Thread nD τ) ↦[arg8.view.set]{fullShare} f))
        -∗ K ⟨a, b, (run x2 x3 x4 (2 * ((i 1).val / 2))).1, (run x2 x3 x4 (2 * ((i 1).val / 2))).2⟩))
    ⊢ wp (M := 𝕄) frame (wpE (defs₀ (F := F)) 𝒱₀ c none) Set.univ (k0_part4 (F := F) i arg2 harg2 arg3 harg3 arg4 harg4 arg5 harg5 arg6 harg6 arg7 harg7 arg8 harg8) K := by
  have hT : Scf.trips (k0_t1_loop i).lb (k0_t1_loop i).ub (k0_t1_loop i).st = (i 1).val / 2 := trips_t1 i
  have L2 := View.readAt_rep_full (Val := Elt F) arg2.view x2 inb_S1x1x96x512_S1x1x96x512_0_0_0_0
  have L3 := readAt_rows (Val := Elt F) arg3.view x3 inb_S1x16384x96_S1x512x96_0_0_0 (n := 0) rfl
  iintro ⟨H2, H3, H4, ⟨%f7, H7⟩, ⟨%f8, H8⟩, Hk⟩
  rw [k0_part4_eq_skeleton]
  unfold k0_part4_skel
  simp only [Prog.lift, Prog.bind_op, Prog.bind_ret, Prog.pure_eq_ret]
  sl_step
  sl_step
  sl_step
  sl_step
  iapply (pairs_run c i arg2 harg2 arg3 harg3 arg4 harg4 arg5 harg5 arg6 harg6 arg7 harg7 arg8 harg8 x2 x3 x4) $$ [H2 H3 H4 H7 H8]
  · unfold invAt
    isplitl [H2]; · iexact H2
    isplitl [H3]; · iexact H3
    isplitl [H4]; · iexact H4
    isplitl [H7]
    · iapply rep_intro
      iexists _
      isplitr
      rotate_left
      · iexact H7
      · ipureintro
        refine (View.read_writes_full (Val := Elt F) arg7.view f7 inb_S512x512_S512x512_0_0 _ []).trans ?_
        simp only [L2, L3]
        rfl
    isplitl [H8]; · iexists _; iexact H8
    ipureintro
    rfl
  unfold invAt
  iintro %acc ⟨H2, H3, H4, H7, ⟨%f8', H8⟩, %hacc⟩
  subst hacc
  sl_step
  iapply Hk
  isplitl [H2]; · iexact H2
  isplitl [H3]; · iexact H3
  isplitl [H4]; · iexact H4
  isplitl [H7]; · iexact H7
  iexists _; iexact H8

end Cert.Proof.Fwd
end
-- ==== Proof.Fwd.T3.lean ====
module

public import proofs.«01_k».proof.Proof.Fwd.T2

@[expose] public section

noncomputable section

namespace Cert.Proof.Fwd

open Cert.Kernel17Ideal Cert.Kernel17Ideal.Gen
open Cert.Proof.KernelIdeal (blk readAt_blk readCov_window)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The last tile below the diagonal, when their number is odd, is a tile like any other, and the diagonal one follows it. -/
theorem point_odd (x2 : Vec F S1x1x96x512 .bf16) (x3 : Vec F S1x16384x96 .bf16) (x4 : Vec F S1x32x80x512 .bf16) (n p : ℕ) (h : n + 1 = p) :
    point x2 x3 x4 p = stepM (scoresAt x2 x3 p) (blk x4 p) (stepU (scoresAt x2 x3 n) (blk x4 n) (run x2 x3 x4 n)) := by
  subst h
  rfl

variable (c : Dev nD) (i : grid0.Coords) (arg2 : Memref sig .tc .vmem S1x1x96x512 .bf16) (harg2 : arg2.IsWhole) (arg3 : Memref sig .tc .vmem S1x16384x96 .bf16) (harg3 : arg3.IsWhole) (arg4 : Memref sig .tc .vmem S1x32x80x512 .bf16) (harg4 : arg4.IsWhole) (arg5 : Memref sig .tc .vmem S1x1x64x512 .f32) (harg5 : arg5.IsWhole) (arg6 : Memref sig .tc .vmem S1x1x1x512 .f32) (harg6 : arg6.IsWhole) (arg7 : Memref sig .tc .vmem S512x512 .f32) (harg7 : arg7.IsWhole) (arg8 : Memref sig .tc .vmem S512x512 .f32) (harg8 : arg8.IsWhole)
  (x2 : Vec F S1x1x96x512 .bf16) (x3 : Vec F S1x16384x96 .bf16) (x4 : Vec F S1x32x80x512 .bf16)

set_option maxHeartbeats 4000000 in
/-- The whole body at one grid point. -/
theorem body_sound (K : PUnit → sProp 𝕄) :
    iprop((arg2.view.loc (c : Thread nD τ) ↦[arg2.view.set]{fullShare} arg2.view.rep x2) ∗ (arg3.view.loc (c : Thread nD τ) ↦[arg3.view.set]{fullShare} arg3.view.rep x3) ∗ (arg4.view.loc (c : Thread nD τ) ↦[arg4.view.set]{fullShare} arg4.view.rep x4) ∗ (∃ f, arg5.view.loc (c : Thread nD τ) ↦[arg5.view.set]{fullShare} f) ∗ (∃ f, arg6.view.loc (c : Thread nD τ) ↦[arg6.view.set]{fullShare} f) ∗ (∃ f, arg7.view.loc (c : Thread nD τ) ↦[arg7.view.set]{fullShare} f) ∗ (∃ f, arg8.view.loc (c : Thread nD τ) ↦[arg8.view.set]{fullShare} f)
      ∗ (iprop((arg2.view.loc (c : Thread nD τ) ↦[arg2.view.set]{fullShare} arg2.view.rep x2) ∗ (arg3.view.loc (c : Thread nD τ) ↦[arg3.view.set]{fullShare} arg3.view.rep x3) ∗ (arg4.view.loc (c : Thread nD τ) ↦[arg4.view.set]{fullShare} arg4.view.rep x4) ∗ (arg5.view.loc (c : Thread nD τ) ↦[arg5.view.set]{fullShare} arg5.view.rep (k0_pay11 (point x2 x3 x4 (i 1).val).2)) ∗ (arg6.view.loc (c : Thread nD τ) ↦[arg6.view.set]{fullShare} arg6.view.rep (k0_pay12 (point x2 x3 x4 (i 1).val).1 (point x2 x3 x4 (i 1).val).2))
        ∗ (∃ f, arg7.view.loc (c : Thread nD τ) ↦[arg7.view.set]{fullShare} f) ∗ (∃ f, arg8.view.loc (c : Thread nD τ) ↦[arg8.view.set]{fullShare} f)) -∗ K ⟨⟩))
    ⊢ wp (M := 𝕄) frame (wpE (defs₀ (F := F)) 𝒱₀ c none) Set.univ (cc0_flash_fwd (F := F) i arg2 harg2 arg3 harg3 arg4 harg4 arg5 harg5 arg6 harg6 arg7 harg7 arg8 harg8) K := by
  rw [cc0_flash_fwd_eq_skeleton]
  unfold cc0_flash_fwd_skel
  rw [wp_bind]
  iintro ⟨H2, H3, H4, ⟨%f5, H5⟩, ⟨%f6, H6⟩, H7, H8, Hk⟩
  iapply head_step c i arg2 harg2 arg3 harg3 arg4 harg4 arg5 harg5 arg6 harg6 arg7 harg7 arg8 harg8 x2 x3 x4
  isplitl [H2]; · iexact H2
  isplitl [H3]; · iexact H3
  isplitl [H4]; · iexact H4
  isplitl [H7]; · iexact H7
  isplitl [H8]; · iexact H8
  iintro %a %b ⟨H2, H3, H4, H7, ⟨%f8, H8⟩⟩
  dsimp only
  have L2 := View.readAt_rep_full (Val := Elt F) arg2.view x2 inb_S1x1x96x512_S1x1x96x512_0_0_0_0
  have L7 := View.readAt_rep_full (Val := Elt F) arg7.view (scoresAt x2 x3 (2 * ((i 1).val / 2))) inb_S512x512_S512x512_0_0
  have L8 := fun w => readCov_square (Val := Elt F) arg8.view inb_S512x512_S512x512_0_0 w []
  let L := no_rest c i arg2 harg2 arg3 harg3 arg4 harg4 arg5 harg5 arg6 harg6 arg7 harg7 arg8 harg8 b ((run x2 x3 x4 (2 * ((i 1).val / 2))).1, (run x2 x3 x4 (2 * ((i 1).val / 2))).2)
  by_cases hc : k0_cond1 i = 1#1
  · have hp : point x2 x3 x4 (i 1).val = stepM (scoresAt x2 x3 (2 * ((i 1).val / 2))) (blk x4 (i 1).val) (run x2 x3 x4 (2 * ((i 1).val / 2))) := by
      rw [cond1_even i hc]; rfl
    have L4 := readAt_blk (Val := Elt F) arg4.view x4 (k0_off7_inb i hc) (k0_off7_eq i)
    sl_exec (disch := sl_exact hc)
    sl_step
    iapply Hk
    rw [hp]
    isplitl [H2]; · iexact H2
    isplitl [H3]; · iexact H3
    isplitl [H4]; · iexact H4
    isplitl [H5]
    · iapply rep_intro
      iexists _
      isplitr
      rotate_left
      · iexact H5
      · ipureintro
        rw [View.read_writes_full]
        sl_unfold_run_values
        simp only [L4, L7]
        rfl
    isplitl [H6]
    · iapply rep_intro
      iexists _
      isplitr
      rotate_left
      · iexact H6
      · ipureintro
        rw [View.read_writes_full]
        sl_unfold_run_values
        simp only [L4, L7]
        rfl
    isplitl [H7]; · iexists _; iexact H7
    iexists _; iexact H8
  · have he := cond1_odd i hc
    have hp := point_odd x2 x3 x4 _ _ he
    have L3 := readAt_rows (Val := Elt F) arg3.view x3 (k0_off8_inb i hc) (k0_off8_eq i)
    have L4a := readAt_blk (Val := Elt F) arg4.view x4 (k0_off9_inb i hc) (i := 2 * ((i 1).val / 2)) ((k0_off9_eq i hc).trans (by rw [show (i 1).val - 1 = 2 * ((i 1).val / 2) by omega]))
    have L4b := readAt_blk (Val := Elt F) arg4.view x4 (k0_off10_inb i hc) (k0_off10_eq i)
    sl_exec (disch := sl_exact hc)
    sl_step
    iapply Hk
    rw [hp]
    isplitl [H2]; · iexact H2
    isplitl [H3]; · iexact H3
    isplitl [H4]; · iexact H4
    isplitl [H5]
    · iapply rep_intro
      iexists _
      isplitr
      rotate_left
      · iexact H5
      · ipureintro
        rw [View.read_writes_full]
        sl_unfold_run_values
        simp only [L2, L3, L4a, L4b, L7, L8]
        rfl
    isplitl [H6]
    · iapply rep_intro
      iexists _
      isplitr
      rotate_left
      · iexact H6
      · ipureintro
        rw [View.read_writes_full]
        sl_unfold_run_values
        simp only [L2, L3, L4a, L4b, L7, L8]
        rfl
    isplitl [H7]; · iexists _; iexact H7
    iexists _; iexact H8

end Cert.Proof.Fwd
end
-- ==== Proof.Fwd.T4.lean ====
module

public import proofs.«01_k».proof.Proof.Fwd.T3
public import Idealize.ShloMosaic.Lib.Pipeline.TableIdle

@[expose] public section

noncomputable section

namespace Cert.Proof.Fwd

open Cert.Kernel17Ideal Cert.Kernel17Ideal.Gen
open Cert.Proof.KernelIdeal (blk readAt_blk readCov_window)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the body computes at point `t` from the blocks it reads there. -/
def ptAt (c : Dev nD) (t : Fin cfg0.N) : St F :=
  point (iblk m c 0 t) (iblk m c 1 t) (iblk m c 2 t) ((grid0.coords t) 1).val

/-- The arrays as the region finds them; after the body each input's buffer at its block, the two outputs at the point's
    values. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay11 (ptAt m c t).2
    | ⟨4, _⟩ => k0_pay12 (ptAt m c t).1 (ptAt m c t).2
  Φ _ := Pipeline.ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = k0_pay11 (ptAt m c t).2 := by dsimp only [dats]
theorem after0_4 (c : Dev nD) (t : Fin cfg0.N) : (dats m 0 c).after 4 t = k0_pay12 (ptAt m c t).1 (ptAt m c t).2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

theorem body_row (t : Fin cfg0.N) : defs₀ (F := F) .tc cfg0.body (cfg0.bodyArgs t (cfg0.slots t)) = bodyAt0 t := by
  unfold defs₀
  rw [Defs.onTc_tc]

set_option maxHeartbeats 1000000 in
/-- The body at every point: from the buffers as the pipeline hands them over to the contents named in `dats`. -/
theorem body_obligation (c : Dev nD) : BodyObligation (dats (F := F) m 0 c) (defs₀ (F := F)) 𝒱₀ () Set.univ := fun t => by
  rw [bigSep_W0, bigSep_W0, body_row]
  simp only [before0_0, before0_1, before0_2]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, after0_0, after0_1, after0_2, after0_3, after0_4]
  unfold Pipeline.ΦA
  rw [scopedRest0_eq]
  simp only [owns_eq_rep]
  iintro ⟨⟨⟨⟨%f7, H7⟩, ⟨%f8, H8⟩⟩, Hr⟩, Ho, ⟨%d0, H0⟩, ⟨%d1, H1⟩, ⟨%d2, H2⟩, ⟨%d3, H3⟩, ⟨%d4, H4⟩⟩
  iapply body_sound c (grid0.coords t) _ _ _ _ _ _ _ _ _ _ _ _ _ _ (iblk m c 0 t) (iblk m c 1 t) (iblk m c 2 t)
  isplitl [H0]; · iexact H0
  isplitl [H1]; · iexact H1
  isplitl [H2]; · iexact H2
  isplitl [H3]; · iexists _; iexact H3
  isplitl [H4]; · iexists _; iexact H4
  simp only [Memref.view_whole, View.set_whole]
  isplitl [H7]; · iexists _; iexact H7
  isplitl [H8]; · iexists _; iexact H8
  iintro ⟨H0, H1, H2, H3, H4, H7, H8⟩
  isplitl [Hr H7 H8]
  · isplitr [Hr]
    · isplitl [H7]; · iexact H7
      iexact H8
    · iexact Hr
  isplitl [Ho]; · iexact Ho
  isplitl [H0]; · iexact H0
  isplitl [H1]; · iexact H1
  isplitl [H2]; · iexact H2
  isplitl [H3]; · iexact H3
  iexact H4

set_option backward.isDefEq.respectTransparency.types false in
/-- From any memory with zero counters every fair execution of the program ends, every array of the pipeline then at
    what the proof data compute and every counter at zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := fun _ _ => rfl) (hΦ := fun _ _ => rfl)

end Cert.Proof.Fwd
end
-- ==== Proof.Fwd.Frames.lean ====
module

public import proofs.«01_k».proof.Proof.Fwd.T4
public import proofs.«01_k».proof.Proof.Bwd.Frames
public import proofs.«01_k».proof.Proof.Gen.Kernel17
public import proofs.«01_k».proof.Proof.Gen.Reference17Ideal.Run
public import proofs.«01_k».proof.Defs

@[expose] public section

noncomputable section

namespace Cert.Proof.Fwd

open Idealize.ShloMosaic Idealize.ShloMosaic.TcCoe Idealize.SL.Sem

/-- The frame of the ideal program: the run with the values dropped. -/
theorem frame_ideal17 : Cert.quiescent_Kernel17Ideal (hKernel17Ideal := Cert.Kernel17Ideal.Gen.facts) := fun m ρ _ =>
  θ_run_with_sems (Cert.Kernel17Ideal.Gen.frame_of m ρ (Fwd.dats m) fun _ _ => rfl) (Fwd.run_main (F := Ideal) m ρ)

attribute [local instance] printedConsts Cert.Kernel17.Gen.facts Cert.Kernel17Ideal.Gen.facts

set_option maxHeartbeats 8000000 in
/-- The printed kernel and the ideal one have the same host program once the names are read as words. -/
theorem same_main17 : Cert.Kernel17.main (F := Bits) = Cert.Kernel17Ideal.main (F := Bits) := by
  unfold Cert.Kernel17.main Cert.Kernel17Ideal.main
  rfl

set_option maxHeartbeats 8000000 in
/-- The same for the kernel body. -/
theorem same_body17 : Cert.Kernel17.defs₀ (F := Bits) = Cert.Kernel17Ideal.defs₀ (F := Bits) := by
  funext p ℓ a
  cases p with
  | tc =>
    match ℓ, a with
    | 0, (t, s) => exact rfl
  | scScalar _ => exact rfl
  | scVector _ _ => exact rfl

set_option maxHeartbeats 8000000 in
/-- The same for the table of calls. -/
theorem same_defs17 : Cert.Kernel17.defs (F := Bits) = Cert.Kernel17Ideal.defs (F := Bits) :=
  congrArg (Idealize.ShloMosaic.Pipeline.defs (Cert.Kernel17Ideal.pcfgs (F := Bits))) same_body17

/-- The frame of the kernel as printed, from the same run. -/
theorem frame_kernel17 : Cert.quiescent_Kernel17 (hKernel17 := Cert.Kernel17.Gen.facts) := fun m ρ _ => by
  rw [same_main17, same_defs17]
  exact θ_run_with_sems (Cert.Kernel17Ideal.Gen.frame_of m ρ (Fwd.dats m) fun _ _ => rfl) (Fwd.run_main (F := Bits) m ρ)

/-- The frame of the reference: its generated run read at the arguments. It declares no counter. -/
theorem frame_reference17 : Cert.quiescent_Reference17Ideal (hReference17Ideal := Cert.Reference17Ideal.Gen.facts) := fun m ρ _ =>
  (θ_run Cert.Reference17Ideal.defs _ _).mono
    (fun r h => ⟨fun c => (h c).2.2, Idealize.ShloMosaic.sem_eq_zero_of_no_sems (by decide) r.2⟩)
    (Cert.Reference17Ideal.Value.run (F := Ideal) m ρ)

/-- Each named constant is what its name says. -/
theorem preserves_kernel17 : Cert.preserves_Kernel17_Kernel17Ideal :=
  ⟨IdealRules.named_const.statement Cert.Kernel17Ideal.κ "mask" .f32 0xF149F2CA#32 _ rfl,
   IdealRules.named_const.statement Cert.Kernel17Ideal.κ "scale_log2e" .f32 0x3E16C740#32 _ rfl,
   IdealRules.named_const.statement Cert.Kernel17Ideal.κ "scale" .f32 0x3DD105EC#32 _ rfl⟩

end Cert.Proof.Fwd
end
-- ==== Proof.Fwd.Payload.lean ====
module

public import proofs.«01_k».proof.Proof.Fwd.Model
public import proofs.«01_k».proof.Proof.Val.HostReal
public import proofs.«01_k».proof.Proof.Val.Ref
public import proofs.«01_k».proof.Proof.Val.Blocks
public import Idealize.ShloMosaic.Lib.Pointwise

@[expose] public section

/-! # The attention call's payloads at an entry -/

noncomputable section

namespace Cert.Proof.Fwd

open Cert.Kernel17Ideal Cert.Kernel17Ideal.Gen Cert.Proof.Val
open Cert.Proof.KernelIdeal (blk)
open Idealize.ShloMosaic Idealize.ShloMosaic.TcCoe

local notation "𝕀" => Idealize.ShloMosaic.Ideal

theorem named_scale : Named.named (F := Ideal) Cert.Kernel17Ideal.κ "scale" (φ := .f32) 0x3DD105EC#32 = ((s0 : ℝ) : EReal) :=
  (IdealRules.named_const.ideal_named_scalar _ _ _ _ rfl).trans (by unfold s0; rfl)

theorem named_scale_log2e : Named.named (F := Ideal) Cert.Kernel17Ideal.κ "scale_log2e" (φ := .f32) 0x3E16C740#32 = ((s0 * (Real.log 2)⁻¹ : ℝ) : EReal) :=
  (IdealRules.named_const.ideal_named_scalar _ _ _ _ rfl).trans (by unfold s0; rfl)

theorem named_mask : Named.named (F := Ideal) Cert.Kernel17Ideal.κ "mask" (φ := .f32) 0xF149F2CA#32 = (⊥ : EReal) :=
  (IdealRules.named_const.ideal_named_scalar _ _ _ _ rfl)

/-- The power of two of a scaled difference is the exponential of the difference times the scale. -/
theorem exp2_diff (a b : ℝ) :
    Ideal.exp2 ((((a : ℝ) : EReal) - ((b : ℝ) : EReal)) * ((s0 * (Real.log 2)⁻¹ : ℝ) : EReal)) = ((Real.exp (a * s0 - b * s0) : ℝ) : EReal) := by
  rw [← EReal.coe_sub, ← EReal.coe_mul, Ideal.exp2_coe]
  congr 1
  have h2 : Real.log 2 ≠ 0 := (Real.log_pos (by norm_num)).ne'
  show (2 : ℝ) ^ (_ : ℝ) = _
  rw [Real.rpow_def_of_pos (by norm_num)]
  congr 1
  field_simp

theorem exp2_bot (b : ℝ) : Ideal.exp2 (((⊥ : EReal) - ((b : ℝ) : EReal)) * ((s0 * (Real.log 2)⁻¹ : ℝ) : EReal)) = 0 := by
  have hp : 0 < s0 * (Real.log 2)⁻¹ := mul_pos (by norm_num [s0]) (inv_pos.mpr (Real.log_pos (by norm_num)))
  rw [EReal.bot_sub, EReal.bot_mul_coe_of_pos hp, Ideal.exp2_bot]

theorem scores_real {x3 : Vec 𝕀 S1x512x96 .bf16} {qb : Vec 𝕀 S1x1x96x512 .bf16} {K : Fin 512 → Fin 96 → ℝ} {Q : Fin 96 → Fin 512 → ℝ}
    (hk : ∀ k a, x3 (ix3 0 k a) = ((K k a : ℝ) : EReal)) (hq : ∀ a t, qb (ix4 0 0 a t) = ((Q a t : ℝ) : EReal)) (k t : Fin 512) :
    k0_pay23 x3 qb (ix2 k t) = ((∑ a, K k a * Q a t : ℝ) : EReal) := by
  rw [← sum_eq_coe (f := fun a => x3 (ix3 0 k a) * qb (ix4 0 0 a t)) (fun a => by rw [hk, hq]; push_cast; rfl)]
  pointwise [k0_pay23]

theorem mask_apply (r : Vec 𝕀 S512x512 .f32) (k t : Fin 512) :
    k0_pay4 r (ix2 k t) = if k.val ≤ t.val then r (ix2 k t) else ⊥ := by
  rw [← select_sle (a := k.val) (b := t.val) (by omega) (by omega), ← named_mask]
  pointwise [k0_pay4]

theorem max_apply (mx : Vec 𝕀 S1x512 .f32) (sc : Vec 𝕀 S512x512 .f32) (t : Fin 512) :
    k0_pay14 mx sc (ix2 0 t) = max (mx (ix2 0 t)) ((Finset.univ : Finset (Fin 512)).fold max (Ideal.ofBits .f32 0xFF800000#32) fun k => sc (ix2 k t)) := by
  pointwise [k0_pay14]

theorem acc_apply (mx : Vec 𝕀 S1x512 .f32) (acc : Vec 𝕀 S80x512 .f32) (sc : Vec 𝕀 S512x512 .f32) (vt : Vec 𝕀 S1x1x80x512 .bf16) (d : Fin 80) (t : Fin 512) :
    k0_pay15 mx acc sc vt (ix2 d t) =
      acc (ix2 d t) * Ideal.exp2 ((mx (ix2 0 t) - k0_pay14 mx sc (ix2 0 t)) * ((s0 * (Real.log 2)⁻¹ : ℝ) : EReal))
        + ∑ k, vt (ix4 0 0 d k) * Ideal.exp2 ((sc (ix2 k t) - k0_pay14 mx sc (ix2 0 t)) * ((s0 * (Real.log 2)⁻¹ : ℝ) : EReal)) := by
  unfold k0_pay15
  rw [← named_scale_log2e]
  generalize k0_pay14 mx sc = m'
  pointwise []
  rfl

theorem start_max (i : S1x512.Idx) : (k0_pay24 : FVec 𝕀 S1x512 .f32) i = ⊥ := by
  rw [← named_mask]
  pointwise [k0_pay24]

theorem start_acc (i : S80x512.Idx) : (k0_pay25 : FVec 𝕀 S80x512 .f32) i = 0 := by
  pointwise [k0_pay25]

/-- Row `a` of the sums, and the row after the values' 64. -/
def lowRow (a : Fin 64) : Fin 80 := ⟨a.val, by omega⟩
def sumRow : Fin 80 := ⟨64, by omega⟩

theorem out_apply (acc : FVec 𝕀 S80x512 .f32) (a : Fin 64) (t : Fin 512) :
    k0_pay11 acc (ix4 0 0 a t) = Ideal.div (acc (ix2 (lowRow a) t)) (acc (ix2 sumRow t)) := by
  pointwise [k0_pay11, k0_pay10]
  rfl

theorem lse_apply (mx : FVec 𝕀 S1x512 .f32) (acc : FVec 𝕀 S80x512 .f32) (t : Fin 512) :
    k0_pay12 mx acc (ix4 0 0 0 t) = mx (ix2 0 t) * ((s0 : ℝ) : EReal) + Ideal.log (acc (ix2 sumRow t)) := by
  rw [← named_scale]
  pointwise [k0_pay12, k0_pay10]
  rfl

end Cert.Proof.Fwd
end
-- ==== Proof.Fwd.Point.lean ====
module

public import proofs.«01_k».proof.Proof.Fwd.Payload

@[expose] public section

/-! # The attention call's body at a grid point in real numbers -/

noncomputable section

namespace Cert.Proof.Fwd

open Cert.Kernel17Ideal Cert.Kernel17Ideal.Gen Cert.Proof.Val
open Cert.Proof.KernelIdeal (blk)
open Idealize.ShloMosaic Idealize.ShloMosaic.TcCoe

local notation "𝕀" => Idealize.ShloMosaic.Ideal

/-- The state after some tiles whose weighted exponentials sum to `A`: the columns' largest scores `M`, and the sums with
    the scores less `M`. -/
structure Rep (s : St 𝕀) (A : Fin 80 → Fin 512 → ℝ) (M : Fin 512 → ℝ) : Prop where
  m : ∀ t, s.1 (ix2 0 t) = ((M t : ℝ) : EReal)
  acc : ∀ d t, s.2 (ix2 d t) = ((A d t * Real.exp (-(M t * s0)) : ℝ) : EReal)

/-- The state before any tile. -/
structure Start (s : St 𝕀) (A : Fin 80 → Fin 512 → ℝ) : Prop where
  m : ∀ t, s.1 (ix2 0 t) = ⊥
  acc : ∀ d t, s.2 (ix2 d t) = 0
  none : ∀ d t, A d t = 0

section
variable {s : St 𝕀} {A : Fin 80 → Fin 512 → ℝ} {sc : Vec 𝕀 S512x512 .f32} {S : Fin 512 → Fin 512 → ℝ}
  {keep : Fin 512 → Fin 512 → Prop} [∀ k t, Decidable (keep k t)] {vt : Vec 𝕀 S1x1x80x512 .bf16} {W : Fin 80 → Fin 512 → ℝ}

/-- The columns' largest scores after a tile are real. -/
theorem max_real (G : Start s A ∨ ∃ M, Rep s A M) (hsc : ∀ k t, sc (ix2 k t) = if keep k t then ((S k t : ℝ) : EReal) else ⊥) (hk : ∀ t, ∃ k, keep k t) :
    ∃ M' : Fin 512 → ℝ, ∀ t, k0_pay14 s.1 sc (ix2 0 t) = ((M' t : ℝ) : EReal) := by
  have hex : ∀ t, ∃ M' : ℝ, k0_pay14 s.1 sc (ix2 0 t) = ((M' : ℝ) : EReal) := fun t => by
    obtain ⟨k, hk⟩ := hk t
    obtain ⟨C, hC⟩ := fold_max_real (fun k => sc (ix2 k t)) (fun k => by rw [hsc]; split <;> simp) k (by rw [hsc, if_pos hk]; simp)
    rw [max_apply, ofBits_neg_inf, hC]
    rcases G with G | ⟨M, G⟩
    · exact ⟨C, by rw [G.m]; exact max_eq_right bot_le⟩
    · exact ⟨max (M t) C, by rw [G.m]; exact (EReal.coe_strictMono.monotone.map_max).symm⟩
  exact ⟨fun t => (hex t).choose, fun t => (hex t).choose_spec⟩

/-- One tile. -/
theorem step_rep (G : Start s A ∨ ∃ M, Rep s A M) (hsc : ∀ k t, sc (ix2 k t) = if keep k t then ((S k t : ℝ) : EReal) else ⊥) (hk : ∀ t, ∃ k, keep k t)
    (hv : ∀ d k, vt (ix4 0 0 d k) = ((W d k : ℝ) : EReal)) :
    ∃ M, Rep (stepU sc vt s) (fun d t => A d t + ∑ k, W d k * (if keep k t then Real.exp (S k t * s0) else 0)) M := by
  obtain ⟨M', hM⟩ := max_real G hsc hk
  refine ⟨M', hM, fun d t => ?_⟩
  have e1 : s.2 (ix2 d t) * Ideal.exp2 ((s.1 (ix2 0 t) - ((M' t : ℝ) : EReal)) * ((s0 * (Real.log 2)⁻¹ : ℝ) : EReal))
      = ((A d t * Real.exp (-(M' t * s0)) : ℝ) : EReal) := by
    rcases G with G | ⟨M, G⟩
    · rw [G.acc, G.none]; simp
    · rw [G.acc, G.m, exp2_diff, ← EReal.coe_mul, mul_assoc, ← Real.exp_add]
      congr 4; ring
  have e2 : ∀ k, vt (ix4 0 0 d k) * Ideal.exp2 ((sc (ix2 k t) - ((M' t : ℝ) : EReal)) * ((s0 * (Real.log 2)⁻¹ : ℝ) : EReal))
      = (((W d k * (if keep k t then Real.exp (S k t * s0) else 0)) * Real.exp (-(M' t * s0)) : ℝ) : EReal) := fun k => by
    rw [hv, hsc]
    split
    · rw [exp2_diff, ← EReal.coe_mul, mul_assoc, ← Real.exp_add]
      rfl
    · rw [exp2_bot]; simp
  show k0_pay15 s.1 s.2 sc vt (ix2 d t) = _
  rw [acc_apply, hM, e1, sum_eq_coe e2, ← EReal.coe_add, add_mul, Finset.sum_mul]

end

variable {x2 : Vec 𝕀 S1x1x96x512 .bf16} {x3 : Vec 𝕀 S1x16384x96 .bf16} {x4 : Vec 𝕀 S1x32x80x512 .bf16}
  {S : ℕ → Fin 512 → Fin 512 → ℝ} {W : ℕ → Fin 80 → Fin 512 → ℝ}

/-- The tiles below the diagonal. -/
theorem run_rep (hs : ∀ n < 32, ∀ k t, scoresAt x2 x3 n (ix2 k t) = ((S n k t : ℝ) : EReal))
    (hv : ∀ n < 32, ∀ d k, blk x4 n (ix4 0 0 d k) = ((W n d k : ℝ) : EReal)) : ∀ n, n ≤ 32 →
    Start (run x2 x3 x4 n) (fun d t => ∑ m ∈ Finset.range n, ∑ k, W m d k * Real.exp (S m k t * s0))
      ∨ ∃ M, Rep (run x2 x3 x4 n) (fun d t => ∑ m ∈ Finset.range n, ∑ k, W m d k * Real.exp (S m k t * s0)) M
  | 0, _ => .inl ⟨fun t => start_max (ix2 0 t), fun d t => start_acc (ix2 d t), fun _ _ => Finset.sum_range_zero _⟩
  | n + 1, hn => .inr <| by
    obtain ⟨M, R⟩ := step_rep (keep := fun _ _ => True) (S := S n) (run_rep hs hv n (by omega)) (fun k t => by rw [if_pos trivial]; exact hs n (by omega) k t)
      (fun t => ⟨0, trivial⟩) (hv n (by omega))
    refine ⟨M, R.m, fun d t => (R.acc d t).trans ?_⟩
    simp only [Finset.sum_range_succ, if_true]

/-- The whole point. -/
theorem point_rep (hs : ∀ n < 32, ∀ k t, scoresAt x2 x3 n (ix2 k t) = ((S n k t : ℝ) : EReal))
    (hv : ∀ n < 32, ∀ d k, blk x4 n (ix4 0 0 d k) = ((W n d k : ℝ) : EReal)) {i : ℕ} (hi : i < 32) :
    ∃ M, Rep (point x2 x3 x4 i) (fun d t => ∑ m ∈ Finset.range i, ∑ k, W m d k * Real.exp (S m k t * s0)
      + ∑ k, W i d k * (if k.val ≤ t.val then Real.exp (S i k t * s0) else 0)) M := by
  unfold point
  rw [stepM_eq]
  exact step_rep (keep := fun k t => k.val ≤ t.val) (S := S i) (run_rep hs hv i (by omega)) (fun k t => by rw [mask_apply, hs i hi])
    (fun t => ⟨t, le_rfl⟩) (hv i hi)

/-- What the point writes: the quotients by the last row's sums, and the log-sums. -/
theorem Rep.out {s : St 𝕀} {A : Fin 80 → Fin 512 → ℝ} {M : Fin 512 → ℝ} (R : Rep s A M) {t : Fin 512} (hz : 0 < A sumRow t) (a : Fin 64) :
    k0_pay11 s.2 (ix4 0 0 a t) = ((A (lowRow a) t / A sumRow t : ℝ) : EReal) := by
  have he := Real.exp_pos (-(M t * s0))
  rw [out_apply, R.acc, R.acc, div_real (mul_pos hz he).ne', mul_div_mul_right _ _ he.ne']

theorem Rep.lse {s : St 𝕀} {A : Fin 80 → Fin 512 → ℝ} {M : Fin 512 → ℝ} (R : Rep s A M) {t : Fin 512} (hz : 0 < A sumRow t) :
    k0_pay12 s.1 s.2 (ix4 0 0 0 t) = ((Real.log (A sumRow t) : ℝ) : EReal) := by
  have he := Real.exp_pos (-(M t * s0))
  rw [lse_apply, R.m, R.acc, Ideal.log_coe, if_neg (not_le.mpr (mul_pos hz he)), ← EReal.coe_mul, ← EReal.coe_add,
    Real.log_mul hz.ne' he.ne', Real.log_exp]
  congr 1; ring

end Cert.Proof.Fwd
end
-- ==== Proof.Fwd.Host.lean ====
module

public import proofs.«01_k».proof.Proof.Val.HostReal
public import proofs.«01_k».proof.Proof.Val.Blocks
public import proofs.«01_k».proof.Proof.Gen.Kernel17Ideal.Frame

@[expose] public section

/-! # What the attention call's region finds

The values' tiles carry sixteen more rows: the first holds ones, so that the product with the exponentials gives their
sum as well, and the others hold zeros. -/

noncomputable section

namespace Cert.Proof.Fwd

open Cert.Kernel17Ideal Cert.Kernel17Ideal.Gen
open Cert.Proof.Val hiding a0 a1 a2 a3 V_q V_k V_v index0 index1 index2 index3 index4 read0 read1 read2 read3 read4 iblk0 iblk1 iblk2 iblk3 iblk4
open Idealize.ShloMosaic Idealize.ShloMosaic.TcCoe
open Idealize.ShloMosaic.Pipeline (Window)

local notation "𝕀" => Idealize.ShloMosaic.Ideal

section
variable {F : FTy → Type} [FloatOps F]

/-- The sixteen further rows. -/
def onesRows : FVec F S8x32x16x512 .f32 :=
  select (cmpi .eq (iotaInDim S8x32x16x512 32 2) (broadcastInDim S8x32x16x512 ![] bcast_S_S8x32x16x512 (constantI S_ 32 0#32)))
    (broadcastInDim S8x32x16x512 ![] bcast_S_S8x32x16x512 (constant S_ .f32 0x3F800000#32))
    (broadcastInDim S8x32x16x512 ![] bcast_S_S8x32x16x512 (constant S_ .f32 0x00000000#32))

/-- The values' tiles with the further rows. -/
def withOnes (u : FVec F S8x32x64x512 .f32) : FVec F S8x32x80x512 .f32 :=
  concatenate S8x32x80x512 2 [⟨S8x32x64x512, u⟩, ⟨S8x32x16x512, onesRows⟩] concatenates_S8x32x64x512_S8x32x16x512_S8x32x80x512_d2

variable [Named F] (m : (ℓ : Loc nD τ sig) → Buf (Elt F) ℓ) (c : Dev nD)

/-- The arguments. -/
abbrev a0 : FVec F S16384x8x96 .f32 := m ((c : Thread nD τ).loc main_arg0)
abbrev a1 : FVec F S16384x8x96 .f32 := m ((c : Thread nD τ).loc main_arg1)
abbrev a2 : FVec F S16384x8x64 .f32 := m ((c : Thread nD τ).loc main_arg2)

theorem V_q : V m c main_v11 = truncf .bf16 (hTiles96 (a0 m c)) bitsLt_bf16_f32 := by
  unfold V
  simp only [hostOps0, hostOps0_1, hostOps0_2, List.flatten_cons, List.flatten_nil, List.append_nil, List.cons_append, List.nil_append,
    StableHlo.TRef.unary, StableHlo.TRef.ternary, StableHlo.TRef.toBuf, StableHlo.TRef.ofBuf, cast_eq]
  after_results_simp <;> rfl
theorem V_k : V m c main_v13 = truncf .bf16 (hRows96 (a1 m c)) bitsLt_bf16_f32 := by
  unfold V
  simp only [hostOps0, hostOps0_1, hostOps0_2, List.flatten_cons, List.flatten_nil, List.append_nil, List.cons_append, List.nil_append,
    StableHlo.TRef.unary, StableHlo.TRef.ternary, StableHlo.TRef.toBuf, StableHlo.TRef.ofBuf, cast_eq]
  after_results_simp <;> rfl
theorem V_v : V m c main_v8 = truncf .bf16 (withOnes (hTiles64 (a2 m c))) bitsLt_bf16_f32 := by
  unfold V
  simp only [hostOps0, hostOps0_1, hostOps0_2, List.flatten_cons, List.flatten_nil, List.append_nil, List.cons_append, List.nil_append,
    StableHlo.TRef.unary, StableHlo.TRef.ternary, StableHlo.TRef.toBuf, StableHlo.TRef.ofBuf, cast_eq]
  after_results_simp <;> rfl

end

theorem select_zero (e : Fin 16) (p q : EReal) : Scalar.select (IntOp.cmpi .eq (BitVec.ofNat 32 e.val) 0#32) p q = if e.val = 0 then p else q := by
  have h : ∀ e : Fin 16, IntOp.cmpi .eq (BitVec.ofNat 32 e.val) 0#32 = if e.val = 0 then 1#1 else 0#1 := by decide
  rw [h]; split <;> rfl

theorem onesRows_apply (h : Fin 8) (b : Fin 32) (e : Fin 16) (t : Fin 512) :
    (onesRows : FVec 𝕀 S8x32x16x512 .f32) (ix4 h b e t) = if e.val = 0 then ((1 : ℝ) : EReal) else ((0 : ℝ) : EReal) := by
  rw [← select_zero, ← ofBits_one, ← ofBits_zero]
  pointwise [onesRows]

/-- The weights of position `j`: its values, a one, and zeros. -/
def wt (x : Ins) (h : Fin 8) (j : Fin 16384) (d : Fin 80) : ℝ := if hd : d.val < 64 then x.v j h ⟨d.val, hd⟩ else if d.val = 64 then 1 else 0

theorem withOnes_real {x : Ins} {u : FVec 𝕀 S8x32x64x512 .f32} (hu : ∀ h b a t, u (ix4 h b a t) = ((x.v (pos b.val t) h a : ℝ) : EReal))
    (h : Fin 8) (b : Fin 32) (d : Fin 80) (t : Fin 512) : withOnes u (ix4 h b d t) = ((wt x h (pos b.val t) d : ℝ) : EReal) := by
  have e : withOnes u (ix4 h b d t) = if hd : d.val < 64 then u (ix4 h b ⟨d.val, hd⟩ t)
      else (onesRows : FVec 𝕀 S8x32x16x512 .f32) (ix4 h b ⟨d.val - 64, by omega⟩ t) := by
    unfold withOnes
    generalize (onesRows : FVec 𝕀 S8x32x16x512 .f32) = o
    pointwise []
  rw [e]
  unfold wt
  split
  · rw [hu]
  · rw [onesRows_apply]
    by_cases h64 : d.val = 64
    · rw [if_pos (by show d.val - 64 = 0; omega), if_pos h64]
    · rw [if_neg (by show ¬ d.val - 64 = 0; omega), if_neg h64]

theorem index0 : ∀ t : Fin grid0.N, win0_0.index t = ![t.val / 32, t.val % 32, 0, 0] := by decide +kernel
theorem index1 : ∀ t : Fin grid0.N, win0_1.index t = ![t.val / 32, 0, 0] := by decide +kernel
theorem index2 : ∀ t : Fin grid0.N, win0_2.index t = ![t.val / 32, 0, 0, 0] := by decide +kernel
theorem index3 : ∀ t : Fin grid0.N, win0_3.index t = ![t.val / 32, t.val % 32, 0, 0] := by decide +kernel
theorem index4 : ∀ t : Fin grid0.N, win0_4.index t = ![t.val / 32, t.val % 32, 0, 0] := by decide +kernel

variable (m : (ℓ : Loc nD τ sig) → Buf (Elt 𝕀) ℓ) (c : Dev nD)

theorem read0 (Y : Vec 𝕀 S8x32x96x512 .bf16) (t : Fin grid0.N) (h : Fin 8) (hh : h.val = t.val / 32) (b : Fin 32) (hb : b.val = t.val % 32) (a : Fin 96) (s : Fin 512) :
    (((cfg0.win 0).blk t).view.read (Elt 𝕀) Y : Vec 𝕀 S1x1x96x512 .bf16) (ix4 0 0 a s) = Y (ix4 h b a s) := by
  show Y ((win0_0.rect t).emb (ix4 (n0 := 1) (n1 := 1) (n2 := 96) (n3 := 512) 0 0 a s)) = _
  refine congrArg Y (funext fun ax => Fin.ext ?_)
  rw [Window.rect_emb_val win0_0, index0]
  fin_cases ax
  · show t.val / 32 * 1 + 0 = h.val; omega
  · show t.val % 32 * 1 + 0 = b.val; omega
  · show 0 * 96 + a.val = a.val; omega
  · show 0 * 512 + s.val = s.val; omega

theorem read1 (Y : Vec 𝕀 S8x16384x96 .bf16) (t : Fin grid0.N) (h : Fin 8) (hh : h.val = t.val / 32) (j : Fin 16384) (a : Fin 96) :
    (((cfg0.win 1).blk t).view.read (Elt 𝕀) Y : Vec 𝕀 S1x16384x96 .bf16) (ix3 0 j a) = Y (ix3 h j a) := by
  show Y ((win0_1.rect t).emb (ix3 (n0 := 1) (n1 := 16384) (n2 := 96) 0 j a)) = _
  refine congrArg Y (funext fun ax => Fin.ext ?_)
  rw [Window.rect_emb_val win0_1, index1]
  fin_cases ax
  · show t.val / 32 * 1 + 0 = h.val; omega
  · show 0 * 16384 + j.val = j.val; omega
  · show 0 * 96 + a.val = a.val; omega

theorem read2 (Y : Vec 𝕀 S8x32x80x512 .bf16) (t : Fin grid0.N) (h : Fin 8) (hh : h.val = t.val / 32) (b : Fin 32) (a : Fin 80) (s : Fin 512) :
    (((cfg0.win 2).blk t).view.read (Elt 𝕀) Y : Vec 𝕀 S1x32x80x512 .bf16) (ix4 0 b a s) = Y (ix4 h b a s) := by
  show Y ((win0_2.rect t).emb (ix4 (n0 := 1) (n1 := 32) (n2 := 80) (n3 := 512) 0 b a s)) = _
  refine congrArg Y (funext fun ax => Fin.ext ?_)
  rw [Window.rect_emb_val win0_2, index2]
  fin_cases ax
  · show t.val / 32 * 1 + 0 = h.val; omega
  · show 0 * 32 + b.val = b.val; omega
  · show 0 * 80 + a.val = a.val; omega
  · show 0 * 512 + s.val = s.val; omega

theorem iblk0 (t : Fin grid0.N) (h : Fin 8) (hh : h.val = t.val / 32) (b : Fin 32) (hb : b.val = t.val % 32) (a : Fin 96) (s : Fin 512) :
    (iblk m c 0 t : Vec 𝕀 S1x1x96x512 .bf16) (ix4 0 0 a s) = (V m c main_v11 : Vec 𝕀 S8x32x96x512 .bf16) (ix4 h b a s) :=
  read0 (V m c main_v11) t h hh b hb a s

theorem iblk1 (t : Fin grid0.N) (h : Fin 8) (hh : h.val = t.val / 32) (j : Fin 16384) (a : Fin 96) :
    (iblk m c 1 t : Vec 𝕀 S1x16384x96 .bf16) (ix3 0 j a) = (V m c main_v13 : Vec 𝕀 S8x16384x96 .bf16) (ix3 h j a) :=
  read1 (V m c main_v13) t h hh j a

theorem iblk2 (t : Fin grid0.N) (h : Fin 8) (hh : h.val = t.val / 32) (b : Fin 32) (a : Fin 80) (s : Fin 512) :
    (iblk m c 2 t : Vec 𝕀 S1x32x80x512 .bf16) (ix4 0 b a s) = (V m c main_v8 : Vec 𝕀 S8x32x80x512 .bf16) (ix4 h b a s) :=
  read2 (V m c main_v8) t h hh b a s

end Cert.Proof.Fwd
end
-- ==== Proof.Fwd.Sums.lean ====
module

public import proofs.«01_k».proof.Proof.Fwd.Point
public import proofs.«01_k».proof.Proof.Fwd.Host

@[expose] public section

/-! # The sums over the tiles up to the diagonal are sums over all positions -/

noncomputable section

namespace Cert.Proof.Fwd

open Cert.Proof.Val hiding named_scale named_scale_log2e named_mask scores_real a0 a1 a2 a3 V_q V_k V_v index0 index1 index2 index3 index4 read0 read1 read2 read3 read4 iblk0 iblk1 iblk2 iblk3 iblk4 point_rep

theorem sum_upto {f : ℕ → ℝ} {i : ℕ} (hi : i < 32) (h0 : ∀ n, i < n → n < 32 → f n = 0) :
    ∑ m ∈ Finset.range i, f m + f i = ∑ n : Fin 32, f n := by
  rw [← Finset.sum_range f, show 32 = (i + 1) + (31 - i) by omega, Finset.sum_range_add, Finset.sum_range_succ,
    Finset.sum_eq_zero fun n hn => h0 (i + 1 + n) (by omega) (by have := Finset.mem_range.mp hn; omega), add_zero]

variable {x : Ins} {h : Fin 8}

/-- The attention's output. -/
def O (x : Ins) (h : Fin 8) (i : Fin 16384) (a : Fin 64) : ℝ := ∑ j, x.v j h a * x.P h i j

/-- Key `k` of tile `n` against row `t` of row block `i`: the raw score. -/
def raw (x : Ins) (h : Fin 8) (i n : ℕ) (k t : Fin 512) : ℝ := ∑ a, x.k (pos n k) h a * x.q (pos i t) h a

theorem raw_scaled (i n : ℕ) (k t : Fin 512) : raw x h i n k t * s0 = x.L h (pos i t) (pos n k) := by
  unfold raw Ins.L
  simp only [mul_comm]

theorem point_sum {i : ℕ} (hi : i < 32) (d : Fin 80) (t : Fin 512) :
    ∑ m ∈ Finset.range i, ∑ k, wt x h (pos m k) d * Real.exp (raw x h i m k t * s0)
      + ∑ k, wt x h (pos i k) d * (if k.val ≤ t.val then Real.exp (raw x h i i k t * s0) else 0)
      = ∑ j, wt x h j d * x.E h (pos i t) j := by
  have hp := pos_val hi t
  rw [sum_pos, ← sum_upto hi (f := fun n => ∑ k, wt x h (pos n k) d * x.E h (pos i t) (pos n k)) fun n hn hn32 => by
    refine Finset.sum_eq_zero fun k _ => ?_
    have hk := pos_val hn32 k
    rw [Ins.E, if_neg (by omega), mul_zero]]
  congr 1
  · refine Finset.sum_congr rfl fun m hm => Finset.sum_congr rfl fun k _ => ?_
    have hmi := Finset.mem_range.mp hm
    have hk := pos_val (show m < 32 by omega) k
    rw [Ins.E, if_pos (by omega), raw_scaled]
  · refine Finset.sum_congr rfl fun k _ => ?_
    have hk := pos_val hi k
    rw [raw_scaled, Ins.E]
    by_cases hkt : k.val ≤ t.val
    · rw [if_pos hkt, if_pos (by omega)]
    · rw [if_neg hkt, if_neg (by omega)]

theorem sum_lowRow (i : Fin 16384) (a : Fin 64) : ∑ j, wt x h j (lowRow a) * x.E h i j = ∑ j, x.v j h a * x.E h i j :=
  Finset.sum_congr rfl fun j _ => by rw [wt, dif_pos (show (lowRow a).val < 64 from a.isLt)]; rfl

theorem sum_sumRow (i : Fin 16384) : ∑ j, wt x h j sumRow * x.E h i j = x.Z h i :=
  Finset.sum_congr rfl fun j _ => by
    rw [wt, dif_neg (show ¬ sumRow.val < 64 from lt_irrefl 64), if_pos (show sumRow.val = 64 from rfl), one_mul]

theorem out_eq (i : Fin 16384) (a : Fin 64) : (∑ j, x.v j h a * x.E h i j) / x.Z h i = O x h i a := by
  rw [O, Finset.sum_div]
  exact Finset.sum_congr rfl fun j _ => by rw [Ins.P, mul_div_assoc]

end Cert.Proof.Fwd
end
-- ==== Proof.Fwd.Arrays.lean ====
module

public import proofs.«01_k».proof.Proof.Fwd.Sums
public import proofs.«01_k».proof.Proof.Fwd.T4
public import Idealize.ShloMosaic.Lib.Pipeline.ValueKit.Geometry

@[expose] public section

/-! # The attention call's two result arrays -/

noncomputable section

namespace Cert.Proof.Fwd

open Cert.Kernel17Ideal Cert.Kernel17Ideal.Gen
open Cert.Proof.Val (Ins Args pos pos_mk s0 hTiles96 hTiles64 hRows96 hTiles96_apply hTiles64_apply hRows96_apply truncf_at blk_eq)
open Cert.Proof.KernelIdeal (blk)
open Idealize.ShloMosaic Idealize.ShloMosaic.TcCoe
open Idealize.ShloMosaic.Pipeline (Window Dat)

local notation "𝕀" => Idealize.ShloMosaic.Ideal

variable (m : (ℓ : Loc nD τ sig) → Buf (Elt 𝕀) ℓ) (c : Dev nD)

variable {x : Ins} {x3 : FVec 𝕀 S16384x8x64 .f32}

theorem head_val (t : Fin grid0.N) : (Fin.ofNat 8 (t.val / 32)).val = t.val / 32 := by
  have h : t.val < 256 := t.isLt
  show t.val / 32 % 8 = _
  omega

theorem coord_one : ∀ t : Fin grid0.N, ((grid0.coords t) 1).val = t.val % 32 := by decide +kernel

/-- The scores of key tile `n` at a point. -/
theorem scores_at (A : Args x (a0 m c) (a1 m c) (a2 m c) x3) (t : Fin grid0.N) (n : ℕ) (k s : Fin 512) :
    scoresAt (iblk m c 0 t) (iblk m c 1 t) n (ix2 k s) = ((raw x (Fin.ofNat 8 (t.val / 32)) (t.val % 32) n k s : ℝ) : EReal) := by
  have hh := head_val t
  refine scores_real (K := fun k a => x.k (pos n k) (Fin.ofNat 8 (t.val / 32)) a) (Q := fun a s => x.q (pos (t.val % 32) s) (Fin.ofNat 8 (t.val / 32)) a)
    (fun k a => ?_) (fun a s => ?_) k s
  · have e := iblk1 m c t _ hh (pos n k) a
    rw [V_k, truncf_at, hRows96_apply, A.k] at e
    exact e
  · have e := iblk0 m c t _ hh ⟨t.val % 32, Nat.mod_lt _ (by norm_num)⟩ rfl a s
    rw [V_q, truncf_at, hTiles96_apply, A.q] at e
    exact e

/-- The weights of key tile `n` at a point. -/
theorem weights_at (A : Args x (a0 m c) (a1 m c) (a2 m c) x3) (t : Fin grid0.N) (n : ℕ) (hn : n < 32) (d : Fin 80) (k : Fin 512) :
    blk (iblk m c 2 t : Vec 𝕀 S1x32x80x512 .bf16) n (ix4 0 0 d k) = ((wt x (Fin.ofNat 8 (t.val / 32)) (pos n k) d : ℝ) : EReal) := by
  have e := iblk2 m c t _ (head_val t) ⟨n, hn⟩ d k
  rw [V_v, truncf_at, withOnes_real (x := x) (fun h b a s => by rw [hTiles64_apply, A.v])] at e
  rw [blk_eq _ hn]
  exact e

/-- What the body computes at every point. -/
theorem pt_rep (A : Args x (a0 m c) (a1 m c) (a2 m c) x3) (t : Fin grid0.N) :
    ∃ M, Rep (ptAt m c t) (fun d s => ∑ j, wt x (Fin.ofNat 8 (t.val / 32)) j d * x.E (Fin.ofNat 8 (t.val / 32)) (pos (t.val % 32) s) j) M := by
  have hi : t.val % 32 < 32 := Nat.mod_lt _ (by norm_num)
  obtain ⟨M, R⟩ := point_rep (fun n _ => scores_at m c A t n) (weights_at m c A t) hi
  unfold ptAt
  rw [coord_one]
  exact ⟨M, R.m, fun d s => by rw [R.acc d s, point_sum hi]⟩

theorem after_out (A : Args x (a0 m c) (a1 m c) (a2 m c) x3) (t : Fin grid0.N) (a : Fin 64) (s : Fin 512) :
    k0_pay11 (ptAt m c t).2 (ix4 0 0 a s) = ((O x (Fin.ofNat 8 (t.val / 32)) (pos (t.val % 32) s) a : ℝ) : EReal) := by
  obtain ⟨M, R⟩ := pt_rep m c A t
  rw [R.out (by rw [sum_sumRow]; exact Ins.Z_pos) a, sum_lowRow, sum_sumRow, out_eq]

theorem after_lse (A : Args x (a0 m c) (a1 m c) (a2 m c) x3) (t : Fin grid0.N) (s : Fin 512) :
    k0_pay12 (ptAt m c t).1 (ptAt m c t).2 (ix4 0 0 0 s) = ((Real.log (x.Z (Fin.ofNat 8 (t.val / 32)) (pos (t.val % 32) s)) : ℝ) : EReal) := by
  obtain ⟨M, R⟩ := pt_rep m c A t
  rw [R.lse (by rw [sum_sumRow]; exact Ins.Z_pos), sum_sumRow]

/-- The arrays that hold the output and the log-sums. -/
def GO (x : Ins) : Vec 𝕀 S8x32x64x512 .f32 := fun y => ((O x (y 0) (pos (y 1).val (y 3)) (y 2) : ℝ) : EReal)
@[inherit_doc GO] def GLse (x : Ins) : Vec 𝕀 S8x32x1x512 .f32 := fun y => ((Real.log (x.Z (y 0) (pos (y 1).val (y 3))) : ℝ) : EReal)

theorem ix4_eta {n0 n1 n2 n3 : ℕ} (y : (⟨4, ![n0, n1, n2, n3]⟩ : Shape).Idx) : y = ix4 (y 0) (y 1) (y 2) (y 3) := by
  funext ax
  fin_cases ax <;> rfl

theorem emb3 (t : Fin grid0.N) (b : Fin 32) (hb : b.val = t.val % 32) (a : Fin 64) (s : Fin 512) :
    ((win0_3.rect t).emb (ix4 (n0 := 1) (n1 := 1) (n2 := 64) (n3 := 512) 0 0 a s) : S8x32x64x512.Idx) = ix4 (Fin.ofNat 8 (t.val / 32)) b a s := by
  have hh := head_val t
  refine funext fun ax => Fin.ext ?_
  rw [Window.rect_emb_val win0_3, index3]
  fin_cases ax
  · show t.val / 32 * 1 + 0 = (Fin.ofNat 8 (t.val / 32)).val; omega
  · show t.val % 32 * 1 + 0 = b.val; omega
  · show 0 * 64 + a.val = a.val; omega
  · show 0 * 512 + s.val = s.val; omega

theorem emb4 (t : Fin grid0.N) (b : Fin 32) (hb : b.val = t.val % 32) (s : Fin 512) :
    ((win0_4.rect t).emb (ix4 (n0 := 1) (n1 := 1) (n2 := 1) (n3 := 512) 0 0 0 s) : S8x32x1x512.Idx) = ix4 (Fin.ofNat 8 (t.val / 32)) b 0 s := by
  have hh := head_val t
  refine funext fun ax => Fin.ext ?_
  rw [Window.rect_emb_val win0_4, index4]
  fin_cases ax
  · show t.val / 32 * 1 + 0 = (Fin.ofNat 8 (t.val / 32)).val; omega
  · show t.val % 32 * 1 + 0 = b.val; omega
  · show 0 * 1 + 0 = 0; omega
  · show 0 * 512 + s.val = s.val; omega

theorem read3 (Y : Vec 𝕀 S1x1x64x512 .f32) (t : Fin grid0.N)
    (h : ∀ a s, Y (ix4 0 0 a s) = ((O x (Fin.ofNat 8 (t.val / 32)) (pos (t.val % 32) s) a : ℝ) : EReal)) (y : S1x1x64x512.Idx) :
    Y y = GO x ((win0_3.rect t).emb y) := by
  obtain ⟨z, b, a, s, rfl⟩ : ∃ z b a s, y = ix4 (n0 := 1) (n1 := 1) (n2 := 64) (n3 := 512) z b a s := ⟨_, _, _, _, ix4_eta y⟩
  obtain rfl : z = 0 := Subsingleton.elim _ _
  obtain rfl : b = 0 := Subsingleton.elim _ _
  rw [h, congrArg (GO x) (emb3 t ⟨t.val % 32, Nat.mod_lt _ (by norm_num)⟩ rfl a s)]
  rfl

theorem read4 (Y : Vec 𝕀 S1x1x1x512 .f32) (t : Fin grid0.N)
    (h : ∀ s, Y (ix4 0 0 0 s) = ((Real.log (x.Z (Fin.ofNat 8 (t.val / 32)) (pos (t.val % 32) s)) : ℝ) : EReal)) (y : S1x1x1x512.Idx) :
    Y y = GLse x ((win0_4.rect t).emb y) := by
  obtain ⟨z, b, a, s, rfl⟩ : ∃ z b a s, y = ix4 (n0 := 1) (n1 := 1) (n2 := 1) (n3 := 512) z b a s := ⟨_, _, _, _, ix4_eta y⟩
  obtain rfl : z = 0 := Subsingleton.elim _ _
  obtain rfl : b = 0 := Subsingleton.elim _ _
  obtain rfl : a = 0 := Subsingleton.elim _ _
  rw [h, congrArg (GLse x) (emb4 t ⟨t.val % 32, Nat.mod_lt _ (by norm_num)⟩ rfl s)]
  rfl

theorem covers3 : win0_3.Covers := by decide +kernel
theorem covers4 : win0_4.Covers := by decide +kernel

theorem final3 (A : Args x (a0 m c) (a1 m c) (a2 m c) x3) : (dats m 0 c).arrAt 3 cfg0.N = GO x := by
  refine (dats m 0 c).arrAt_eq_of_covers 3 _ covers3 fun t hf y => ?_
  have e := read3 (x := x) ((dats m 0 c).after 3 t) t (fun a s => by
    rw [after0_3]
    exact after_out m c A t a s)
  exact e y

theorem final4 (A : Args x (a0 m c) (a1 m c) (a2 m c) x3) : (dats m 0 c).arrAt 4 cfg0.N = GLse x := by
  refine (dats m 0 c).arrAt_eq_of_covers 4 _ covers4 fun t hf y => ?_
  have e := read4 (x := x) ((dats m 0 c).after 4 t) t (fun s => by
    rw [after0_4]
    exact after_lse m c A t s)
  exact e y

end Cert.Proof.Fwd
end
-- ==== Proof.Fwd.Ref.lean ====
module

public import proofs.«01_k».proof.Proof.Val.HostReal
public import proofs.«01_k».proof.Proof.Val.Ref
public import proofs.«01_k».proof.Proof.Fwd.Sums
public import proofs.«01_k».proof.Proof.Gen.Reference17Ideal.Read

@[expose] public section

/-! # The attention's reference in real numbers -/

noncomputable section

namespace Cert.Proof.Fwd

open Cert.Reference17Ideal Cert.Reference17Ideal.Gen Cert.Reference17Ideal.Read
open Cert.Proof.Val (Ins Args pos pos_mk mS exp_mS s0 hS hM hLse hRow hS_real hM_real hLse_real hRow_apply fold_v10 max_v17 fold_max_real ofBits_neg_inf sum_eq_coe div_real)
open Idealize.ShloMosaic Idealize.ShloMosaic.TcCoe

local notation "𝕀" => Idealize.ShloMosaic.Ideal

variable {x : Ins} {x0 x1 : FVec 𝕀 S16384x8x96 .f32} {x2 x3 : FVec 𝕀 S16384x8x64 .f32}

section
variable {F : FTy → Type} [FloatOps F] [Named F] (y0 y1 : FVec F S16384x8x96 .f32)

theorem v28_eq : val_main_v28 (F := F) y0 y1 = hS y0 y1 := rfl
theorem v29_eq : val_main_v29 (F := F) y0 y1 = hM (val_main_v28 (F := F) y0 y1) := rfl
theorem v44_eq : val_main_v44 (F := F) y0 y1 = hRow (hLse (hS y0 y1) (hM (hS y0 y1))) := rfl

end

theorem ref_lse (A : Args x x0 x1 x2 x3) (h : Fin 8) (b : Fin 32) (t : Fin 512) :
    val_main_v44 (F := 𝕀) x0 x1 (ix4 h b 0 t) = ((Real.log (x.Z h (pos b.val t)) : ℝ) : EReal) := by
  obtain ⟨M, hM⟩ := hM_real (s := hS x0 x1) (hS_real A)
  rw [v44_eq, hRow_apply, hLse_real (hS_real A) hM]

theorem ref_s (A : Args x x0 x1 x2 x3) (h : Fin 8) (i j : Fin 16384) : val_main_v28 (F := 𝕀) x0 x1 (ix3 h i j) = mS x h i j := by
  rw [v28_eq, hS_real A]

theorem ref_m (A : Args x x0 x1 x2 x3) : ∃ M : Fin 8 → Fin 16384 → ℝ, ∀ h i, val_main_v31 (F := 𝕀) x0 x1 (ix2 h i) = ((M h i : ℝ) : EReal) := by
  obtain ⟨M, hM⟩ := hM_real (s := hS x0 x1) (hS_real A)
  refine ⟨M, fun h i => ?_⟩
  have e : val_main_v31 (F := 𝕀) x0 x1 (ix2 h i) = max (Ideal.ofBits .f32 0xFF800000#32) (val_main_v29 (F := 𝕀) x0 x1 (ix2 h i)) := by
    unfold val_main_v31 val_main_v30
    generalize val_main_v29 (F := 𝕀) x0 x1 = s
    exact max_v17 _ h i
  rw [e, v29_eq, v28_eq, hM, ofBits_neg_inf]
  exact max_eq_right bot_le

theorem ref_e (A : Args x x0 x1 x2 x3) {M : Fin 8 → Fin 16384 → ℝ} (hM : ∀ h i, val_main_v31 (F := 𝕀) x0 x1 (ix2 h i) = ((M h i : ℝ) : EReal))
    (h : Fin 8) (i j : Fin 16384) : val_main_v35 (F := 𝕀) x0 x1 (ix3 h i j) = ((x.EM h i j (M h i) : ℝ) : EReal) := by
  have e : val_main_v35 (F := 𝕀) x0 x1 (ix3 h i j) = Ideal.exp (val_main_v28 (F := 𝕀) x0 x1 (ix3 h i j) - val_main_v31 (F := 𝕀) x0 x1 (ix2 h i)) := by
    unfold val_main_v35 val_main_v34 val_main_v33 val_main_v32
    generalize val_main_v28 (F := 𝕀) x0 x1 = s
    generalize val_main_v31 (F := 𝕀) x0 x1 = mx
    pointwise []
  rw [e, ref_s A, hM, exp_mS]

theorem ref_l {M : Fin 8 → Fin 16384 → ℝ} (he : ∀ h i j, val_main_v35 (F := 𝕀) x0 x1 (ix3 h i j) = ((x.EM h i j (M h i) : ℝ) : EReal))
    (h : Fin 8) (i : Fin 16384) : val_main_v36 (F := 𝕀) x0 x1 (ix2 h i) = ((x.ZM h i (M h i) : ℝ) : EReal) := by
  have e : val_main_v36 (F := 𝕀) x0 x1 (ix2 h i) = ∑ j, val_main_v35 (F := 𝕀) x0 x1 (ix3 h i j) := by
    unfold val_main_v36
    generalize val_main_v35 (F := 𝕀) x0 x1 = s
    pointwise [val_main_cst_7]
  rw [e, sum_eq_coe (fun j => he h i j)]; rfl

theorem ref_p {M : Fin 8 → Fin 16384 → ℝ} (he : ∀ h i j, val_main_v35 (F := 𝕀) x0 x1 (ix3 h i j) = ((x.EM h i j (M h i) : ℝ) : EReal))
    (h : Fin 8) (i j : Fin 16384) : val_main_v39 (F := 𝕀) x0 x1 (ix3 h i j) = ((x.P h i j : ℝ) : EReal) := by
  have hl := ref_l he
  have e : val_main_v39 (F := 𝕀) x0 x1 (ix3 h i j) = Ideal.div (val_main_v35 (F := 𝕀) x0 x1 (ix3 h i j)) (val_main_v36 (F := 𝕀) x0 x1 (ix2 h i)) := by
    unfold val_main_v39 val_main_v38 val_main_v37
    generalize val_main_v35 (F := 𝕀) x0 x1 = s
    generalize val_main_v36 (F := 𝕀) x0 x1 = l
    pointwise []
  rw [e, he, hl, div_real (Ins.ZM_pos _).ne', Ins.EM_div]

theorem ref_out (A : Args x x0 x1 x2 x3) (h : Fin 8) (b : Fin 32) (a : Fin 64) (t : Fin 512) :
    val_main_v43 (F := 𝕀) x0 x1 x2 (ix4 h b a t) = ((O x h (pos b.val t) a : ℝ) : EReal) := by
  obtain ⟨M, hM⟩ := ref_m A
  have hp := ref_p (ref_e A hM)
  have e : ∀ i, val_main_v40 (F := 𝕀) x0 x1 x2 (ix3 h a i) = ((O x h i a : ℝ) : EReal) := fun i => by
    have e : val_main_v40 (F := 𝕀) x0 x1 x2 (ix3 h a i) = ∑ j, x2 (ix3 j h a) * val_main_v39 (F := 𝕀) x0 x1 (ix3 h i j) := by
      unfold val_main_v40
      generalize val_main_v39 (F := 𝕀) x0 x1 = s
      pointwise []
    rw [e, sum_eq_coe (fun j => by rw [A.v, hp, ← EReal.coe_mul])]; rfl
  rw [← e]
  unfold val_main_v43 val_main_v42 val_main_v41
  generalize val_main_v40 (F := 𝕀) x0 x1 x2 = s
  pointwise []
  rw [pos_mk]

end Cert.Proof.Fwd
end
-- ==== Proof.Fwd.Pre.lean ====
module

public import proofs.«01_k».proof.Proof.Val.Pre
public import proofs.«01_k».proof.Pre_finite17

@[expose] public section

/-! # The attention's precondition read -/

noncomputable section

namespace Cert.Proof.Fwd

open Cert.Pre_finite17
open Cert.Proof.Val (Ins Args real_of_lt)
open Idealize.ShloMosaic Idealize.ShloMosaic.TcCoe

local notation "𝕀" => Idealize.ShloMosaic.Ideal

instance pre_facts : Cert.Pre_finite17.Facts where
  bcast_S_S16384x8x96 := by decide
  reducesTo_S16384x8x96_S_d0_1_2 := by decide
  h_S_ := by decide
  bcast_S_S16384x8x64 := by decide
  reducesTo_S16384x8x64_S_d0_1_2 := by decide
  bcast_S_S1 := by decide
  concatenates_S1_S1_S1_S3_d0 := by decide

/-- Three bits in a row. -/
def three (p q r : IVec S_ 1) : IVec S3 1 :=
  concatenate S3 0 [⟨S1, broadcastInDim S1 ![] Facts.bcast_S_S1 p⟩, ⟨S1, broadcastInDim S1 ![] Facts.bcast_S_S1 q⟩,
    ⟨S1, broadcastInDim S1 ![] Facts.bcast_S_S1 r⟩] Facts.concatenates_S1_S1_S1_S3_d0

theorem parts (p q r : IVec S_ 1) (h : three p q r = fun _ => 1#1) : p ix0 = 1#1 ∧ q ix0 = 1#1 ∧ r ix0 = 1#1 := by
  have e0 : three p q r (ix1 0) = p ix0 := by
    pointwise [three]
  have e1 : three p q r (ix1 1) = q ix0 := by
    pointwise [three]
  have e2 : three p q r (ix1 2) = r ix0 := by
    pointwise [three]
  rw [← e0, ← e1, ← e2, h]
  exact ⟨rfl, rfl, rfl⟩

/-- The reals that the arguments hold. -/
theorem args_of_finite (x0 x1 : FVec 𝕀 S16384x8x96 .f32) (x2 : FVec 𝕀 S16384x8x64 .f32) (h : fn x0 x1 x2 = fun _ => 1#1) :
    ∃ x : Ins, Args x x0 x1 x2 (fun _ => ((0 : ℝ) : EReal)) := by
  obtain ⟨h0, h1, h2⟩ := parts _ _ _ h
  exact ⟨⟨fun i h a => EReal.toReal (x0 (ix3 i h a)), fun i h a => EReal.toReal (x1 (ix3 i h a)),
    fun i h a => EReal.toReal (x2 (ix3 i h a)), fun _ _ _ => 0⟩,
    ⟨fun i h a => Cert.Proof.Val.real96 x0 _ h0 _, fun i h a => Cert.Proof.Val.real96 x1 _ h1 _, fun i h a => Cert.Proof.Val.real64 x2 _ h2 _, fun _ _ _ => rfl⟩⟩

end Cert.Proof.Fwd
end
-- ==== Proof.Fwd.Algebraic.lean ====
module

public import proofs.«01_k».proof.Defs
public import proofs.«01_k».proof.Proof.Fwd.Frames
public import proofs.«01_k».proof.Proof.Fwd.Arrays
public import proofs.«01_k».proof.Proof.Fwd.Ref
public import proofs.«01_k».proof.Proof.Fwd.Pre

@[expose] public section

/-! # The attention call's results are the reference's -/

noncomputable section

namespace Cert.Proof.Fwd

open Cert.Proof.Val (Ins Args)
open Idealize.ShloMosaic Idealize.ShloMosaic.TcCoe Idealize.SL.Sem

local notation "𝕀" => Idealize.ShloMosaic.Ideal

/-- An output gradient of zeros: the attention's forward call has none. -/
abbrev zeros : FVec 𝕀 Cert.Kernel17Ideal.S16384x8x64 .f32 := fun _ => ((0 : ℝ) : EReal)

section Kernel

open Cert.Kernel17Ideal Cert.Kernel17Ideal.Gen

/-- The kernel's run: the two arrays and the arguments at its end. -/
theorem kernel_run (m : (ℓ : Loc nD τ sig) → Buf (Elt 𝕀) ℓ) (ρ : Dev nD → PrngReg) (x : Dev nD → Ins)
    (A : ∀ c, Args (x c) (a0 m c) (a1 m c) (a2 m c) zeros) :
    θ_run (defs (F := 𝕀)) (onTc (τ := τ) (main (F := 𝕀))) ⟨m, fun _ => 0, ρ⟩ (fun r => ∀ c : Dev nD,
      r.2.mem ((c.tc : Thread nD τ).loc main_v14_0) = GO (x c)
      ∧ r.2.mem ((c.tc : Thread nD τ).loc main_v14_1) = GLse (x c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1 c).1 3).trans (final3 m c (A c)), ((h.1 c).1 4).trans (final4 m c (A c)),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩)
    (run_main (F := 𝕀) m ρ)

end Kernel

section Reference

open Cert.Reference17Ideal Cert.Reference17Ideal.Read

variable {x : Ins} {x0 x1 : FVec 𝕀 S16384x8x96 .f32} {x2 x3 : FVec 𝕀 S16384x8x64 .f32}

theorem ref_GO (A : Args x x0 x1 x2 x3) : val_main_v43 (F := 𝕀) x0 x1 x2 = GO x := funext fun y => by
  obtain ⟨h, b, a, s, rfl⟩ : ∃ h b a s, y = ix4 (n0 := 8) (n1 := 32) (n2 := 64) (n3 := 512) h b a s := ⟨_, _, _, _, ix4_eta y⟩
  rw [ref_out A]
  rfl

theorem ref_GLse (A : Args x x0 x1 x2 x3) : val_main_v44 (F := 𝕀) x0 x1 = GLse x := funext fun y => by
  obtain ⟨h, b, a, s, rfl⟩ : ∃ h b a s, y = ix4 (n0 := 8) (n1 := 32) (n2 := 1) (n3 := 512) h b a s := ⟨_, _, _, _, ix4_eta y⟩
  obtain rfl : a = 0 := Subsingleton.elim _ _
  rw [ref_lse A]
  rfl

/-- The reference's run, read at the same reals. -/
theorem reference_run (m : (ℓ : Loc nD τ sig) → Buf (Elt 𝕀) ℓ) (ρ : Dev nD → PrngReg) (x : Dev nD → Ins)
    (A : ∀ c : Dev nD, Args (x c) (m ((c.tc : Thread nD τ).loc main_arg0)) (m ((c.tc : Thread nD τ).loc main_arg1))
      (m ((c.tc : Thread nD τ).loc main_arg2)) zeros) :
    θ_run (defs (F := 𝕀)) (onTc (τ := τ) (main (F := 𝕀))) ⟨m, fun _ => 0, ρ⟩ (fun r => ∀ c : Dev nD,
      r.2.mem ((c.tc : Thread nD τ).loc main_v43) = GO (x c)
      ∧ r.2.mem ((c.tc : Thread nD τ).loc main_v44) = GLse (x c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1.trans (val_main_v43_eq m c)).trans (ref_GO (A c)),
      ((h c).2.1.trans (val_main_v44_eq _ _)).trans (ref_GLse (A c)), (h c).2.2⟩)
    (Cert.Reference17Ideal.Value.run (F := 𝕀) m ρ)

end Reference

attribute [local instance] Cert.Kernel17Ideal.Gen.facts Cert.Reference17Ideal.Gen.facts

/-- The two programs end with the same two arrays. -/
theorem algebraic : Cert.algebraic_Kernel17Ideal_Reference17Ideal_pre_finite17 := fun m g m' g' hpre hargs => by
  have hx : ∀ c : Dev Cert.Kernel17Ideal.nD, ∃ x : Ins, Args x (a0 m c) (a1 m c) (a2 m c) zeros :=
    fun c => args_of_finite _ _ _ (hpre c)
  obtain ⟨x, A⟩ := Classical.skolem.mp hx
  refine ⟨fun c => GO (x c), fun c => GLse (x c), kernel_run m g x A, reference_run m' g' x fun c => ?_⟩
  obtain ⟨h0, h1, h2⟩ := hargs c
  rw [h0, h1, h2]
  exact A c

end Cert.Proof.Fwd
end
-- ==== Proof.lean ====
module

public import proofs.«01_k».proof.Defs
public import proofs.«01_k».proof.Proof.Bwd.Frames
public import proofs.«01_k».proof.Proof.Val.Algebraic
public import proofs.«01_k».proof.Proof.Mlp.Frames
public import proofs.«01_k».proof.Proof.Mlp.DownX
public import proofs.«01_k».proof.Proof.Mlp.DownW
public import proofs.«01_k».proof.Proof.Mlp.Up
public import proofs.«01_k».proof.Proof.Mlp.UpX
public import proofs.«01_k».proof.Proof.Mlp.UpFwd
public import proofs.«01_k».proof.Proof.Mlp.DownFwd
public import proofs.«01_k».proof.Proof.Even.Frames
public import proofs.«01_k».proof.Proof.Even.InX
public import proofs.«01_k».proof.Proof.Even.InW
public import proofs.«01_k».proof.Proof.Even.OutX
public import proofs.«01_k».proof.Proof.Even.OutW
public import proofs.«01_k».proof.Proof.Even.OutFwd
public import proofs.«01_k».proof.Proof.Mla.Frames
public import proofs.«01_k».proof.Proof.Mla.Down
public import proofs.«01_k».proof.Proof.Mla.DownW
public import proofs.«01_k».proof.Proof.Mla.DownX
public import proofs.«01_k».proof.Proof.Mla.EvenIn
public import proofs.«01_k».proof.Proof.Fwd.Algebraic
public import proofs.«01_k».proof.Proof.Gen.Kernel17
public import proofs.«01_k».proof.Proof.Gen.Kernel17Ideal.Frame
public import proofs.«01_k».proof.Proof.Gen.Kernel17Ideal.Skeleton
public import proofs.«01_k».proof.Proof.Gen.Kernel17Ideal.Loops
public import proofs.«01_k».proof.Proof.Gen.Reference17Ideal.Run
public import proofs.«01_k».proof.Proof.Gen.Reference17Ideal.Read

@[expose] public section

namespace Cert.Proof

/-- The claims: the frames of every program, the named constants, and each kernel's values against its reference's. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts, Val.pre_facts, Fwd.pre_facts,
    frame_kernel, frame_ideal, fun m ρ _ => frame_ideal m ρ trivial, frame_reference, fun m ρ _ => frame_reference m ρ trivial,
    Mlp.frame_kernel2, Mlp.frame_ideal2, Mlp.frame_reference2,
    Mlp.frame_kernel3, Mlp.frame_ideal3, Mlp.frame_reference3,
    Mlp.frame_kernel4, Mlp.frame_ideal4, Mlp.frame_reference4,
    Mlp.frame_kernel5, Mlp.frame_ideal5, Mlp.frame_reference5,
    Mlp.frame_kernel6, Mlp.frame_ideal6, Mlp.frame_reference6,
    Mlp.frame_kernel7, Mlp.frame_ideal7, Mlp.frame_reference7,
    Even.frame_kernel8, Even.frame_ideal8, Even.frame_reference8,
    Even.frame_kernel9, Even.frame_ideal9, Even.frame_reference9,
    Even.frame_kernel10, Even.frame_ideal10, Even.frame_reference10,
    Even.frame_kernel11, Even.frame_ideal11, Even.frame_reference11,
    Even.frame_kernel12, Even.frame_ideal12, Even.frame_reference12,
    Mla.frame_kernel13, Mla.frame_ideal13, Mla.frame_reference13,
    Mla.frame_kernel14, Mla.frame_ideal14, Mla.frame_reference14,
    Mla.frame_kernel15, Mla.frame_ideal15, Mla.frame_reference15,
    Mla.frame_kernel16, Mla.frame_ideal16, Mla.frame_reference16,
    Fwd.frame_kernel17, Fwd.frame_ideal17, fun m ρ _ => Fwd.frame_ideal17 m ρ trivial,
    Fwd.frame_reference17, fun m ρ _ => Fwd.frame_reference17 m ρ trivial,
    preserves_kernel, Val.algebraic,
    trivial, Mlp.DownX.algebraic, trivial, Mlp.DownW.algebraic, trivial, Mlp.Up.algebraic, trivial, Mlp.UpX.algebraic,
    trivial, Mlp.UpFwd.algebraic, trivial, Mlp.DownFwd.algebraic,
    trivial, Even.InX.algebraic, trivial, Even.InW.algebraic, trivial, Even.OutX.algebraic, trivial, Even.OutW.algebraic, trivial, Even.OutFwd.algebraic,
    trivial, Mla.Down.algebraic, trivial, Mla.DownW.algebraic, trivial, Mla.DownX.algebraic, trivial, Mla.EvenIn.algebraic,
    Fwd.preserves_kernel17, Fwd.algebraic⟩

end Cert.Proof
